-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite2 [hPre_finite2 : Cert.Pre_finite2.Facts] (m : (ℓ : Loc Cert.FfnIdeal.nD Cert.FfnIdeal.τ Cert.FfnIdeal.sig) → Buf (Elt Ideal) ℓ) : Prop :=
  ∀ c : Dev Cert.FfnIdeal.nD,
    (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).1 = (fun _ => 1#1)
    ∧ (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.1 = (fun _ => 1#1)
    ∧ (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.1 = (fun _ => 1#1)
    ∧ (Cert.Pre_finite2.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.1 = (fun _ => 1#1)
    ∧ (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))).2.2.2 = (fun _ => 1#1)

def Pre_FfnInput (m : (ℓ : Loc Cert.FfnInput.nD Cert.FfnInput.τ Cert.FfnInput.sig) → Buf (Elt Bits) ℓ) : Prop :=
  True

def Pre_FfnInputIdeal (m : (ℓ : Loc Cert.FfnInputIdeal.nD Cert.FfnInputIdeal.τ Cert.FfnInputIdeal.sig) → Buf (Elt Ideal) ℓ) : Prop :=
  True

def Pre_FfnInputReferenceIdeal (m : (ℓ : Loc Cert.FfnInputReferenceIdeal.nD Cert.FfnInputReferenceIdeal.τ Cert.FfnInputReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_InAReferenceIdeal (m : (ℓ : Loc Cert.InAReferenceIdeal.nD Cert.InAReferenceIdeal.τ Cert.InAReferenceIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_InBReferenceIdeal (m : (ℓ : Loc Cert.InBReferenceIdeal.nD Cert.InBReferenceIdeal.τ Cert.InBReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite7 [hPre_finite7 : Cert.Pre_finite7.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite7.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite7.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite7 [hPre_finite7 : Cert.Pre_finite7.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite7.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))).1 = (fun _ => 1#1)
    ∧ (Cert.Pre_finite7.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))).2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_finite2 [hFfnIdeal : Cert.FfnIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite2 m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnInput [hFfnInput : Cert.FfnInput.Facts] : Prop :=
  ∀ (m : (ℓ : Loc Cert.FfnInput.nD Cert.FfnInput.τ Cert.FfnInput.sig) → Buf (Elt Bits) ℓ) (g : Dev Cert.FfnInput.nD → PrngReg), Pre_FfnInput m →
    θ_run (Cert.FfnInput.defs (F := Bits)) (onTc (τ := Cert.FfnInput.τ) (Cert.FfnInput.main (F := Bits))) ⟨m, fun _ => 0, g⟩ (fun r => (∀ c : Dev Cert.FfnInput.nD,
      r.2.mem ((c.tc : Thread Cert.FfnInput.nD Cert.FfnInput.τ).loc Cert.FfnInput.main_arg0) = m ((c.tc : Thread Cert.FfnInput.nD Cert.FfnInput.τ).loc Cert.FfnInput.main_arg0)
      ∧ r.2.mem ((c.tc : Thread Cert.FfnInput.nD Cert.FfnInput.τ).loc Cert.FfnInput.main_arg1) = m ((c.tc : Thread Cert.FfnInput.nD Cert.FfnInput.τ).loc Cert.FfnInput.main_arg1)
      ∧ r.2.mem ((c.tc : Thread Cert.FfnInput.nD Cert.FfnInput.τ).loc Cert.FfnInput.main_arg2) = m ((c.tc : Thread Cert.FfnInput.nD Cert.FfnInput.τ).loc Cert.FfnInput.main_arg2))
      ∧ r.2.sem = fun _ => 0)

def quiescent_FfnInputIdeal [hFfnInputIdeal : Cert.FfnInputIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg), Pre_FfnInputIdeal m →
    θ_run (Cert.FfnInputIdeal.defs (F := Ideal)) (onTc (τ := Cert.FfnInputIdeal.τ) (Cert.FfnInputIdeal.main (F := Ideal))) ⟨m, fun _ => 0, g⟩ (fun r => (∀ c : Dev Cert.FfnInputIdeal.nD,
      r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
      ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
      ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2))
      ∧ r.2.sem = fun _ => 0)

def quiescent_FfnInputReferenceIdeal [hFfnInputReferenceIdeal : Cert.FfnInputReferenceIdeal.Facts] : Prop :=
  ∀ (m : (ℓ : Loc Cert.FfnInputReferenceIdeal.nD Cert.FfnInputReferenceIdeal.τ Cert.FfnInputReferenceIdeal.sig) → Buf (Elt Ideal) ℓ) (g : Dev Cert.FfnInputReferenceIdeal.nD → PrngReg), Pre_FfnInputReferenceIdeal m →
    θ_run (Cert.FfnInputReferenceIdeal.defs (F := Ideal)) (onTc (τ := Cert.FfnInputReferenceIdeal.τ) (Cert.FfnInputReferenceIdeal.main (F := Ideal))) ⟨m, fun _ => 0, g⟩ (fun r => (∀ c : Dev Cert.FfnInputReferenceIdeal.nD,
      r.2.mem ((c.tc : Thread Cert.FfnInputReferenceIdeal.nD Cert.FfnInputReferenceIdeal.τ).loc Cert.FfnInputReferenceIdeal.main_arg0) = m ((c.tc : Thread Cert.FfnInputReferenceIdeal.nD Cert.FfnInputReferenceIdeal.τ).loc Cert.FfnInputReferenceIdeal.main_arg0)
      ∧ r.2.mem ((c.tc : Thread Cert.FfnInputReferenceIdeal.nD Cert.FfnInputReferenceIdeal.τ).loc Cert.FfnInputReferenceIdeal.main_arg1) = m ((c.tc : Thread Cert.FfnInputReferenceIdeal.nD Cert.FfnInputReferenceIdeal.τ).loc Cert.FfnInputReferenceIdeal.main_arg1)
      ∧ r.2.mem ((c.tc : Thread Cert.FfnInputReferenceIdeal.nD Cert.FfnInputReferenceIdeal.τ).loc Cert.FfnInputReferenceIdeal.main_arg2) = m ((c.tc : Thread Cert.FfnInputReferenceIdeal.nD Cert.FfnInputReferenceIdeal.τ).loc Cert.FfnInputReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1)
      ∧ r.2.mem ((c.tc : Thread Cert.InA.nD Cert.InA.τ).loc Cert.InA.main_arg2) = m ((c.tc : Thread Cert.InA.nD Cert.InA.τ).loc Cert.InA.main_arg2))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
      ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ r.2.sem = fun _ => 0)

def quiescent_InAReferenceIdeal [hInAReferenceIdeal : Cert.InAReferenceIdeal.Facts] : Prop :=
  ∀ (m : (ℓ : Loc Cert.InAReferenceIdeal.nD Cert.InAReferenceIdeal.τ Cert.InAReferenceIdeal.sig) → Buf (Elt Ideal) ℓ) (g : Dev Cert.InAReferenceIdeal.nD → PrngReg), Pre_InAReferenceIdeal m →
    θ_run (Cert.InAReferenceIdeal.defs (F := Ideal)) (onTc (τ := Cert.InAReferenceIdeal.τ) (Cert.InAReferenceIdeal.main (F := Ideal))) ⟨m, fun _ => 0, g⟩ (fun r => (∀ c : Dev Cert.InAReferenceIdeal.nD,
      r.2.mem ((c.tc : Thread Cert.InAReferenceIdeal.nD Cert.InAReferenceIdeal.τ).loc Cert.InAReferenceIdeal.main_arg0) = m ((c.tc : Thread Cert.InAReferenceIdeal.nD Cert.InAReferenceIdeal.τ).loc Cert.InAReferenceIdeal.main_arg0)
      ∧ r.2.mem ((c.tc : Thread Cert.InAReferenceIdeal.nD Cert.InAReferenceIdeal.τ).loc Cert.InAReferenceIdeal.main_arg1) = m ((c.tc : Thread Cert.InAReferenceIdeal.nD Cert.InAReferenceIdeal.τ).loc Cert.InAReferenceIdeal.main_arg1)
      ∧ r.2.mem ((c.tc : Thread Cert.InAReferenceIdeal.nD Cert.InAReferenceIdeal.τ).loc Cert.InAReferenceIdeal.main_arg2) = m ((c.tc : Thread Cert.InAReferenceIdeal.nD Cert.InAReferenceIdeal.τ).loc Cert.InAReferenceIdeal.main_arg2))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1)
      ∧ r.2.mem ((c.tc : Thread Cert.InB.nD Cert.InB.τ).loc Cert.InB.main_arg2) = m ((c.tc : Thread Cert.InB.nD Cert.InB.τ).loc Cert.InB.main_arg2))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
      ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ r.2.sem = fun _ => 0)

def quiescent_InBReferenceIdeal [hInBReferenceIdeal : Cert.InBReferenceIdeal.Facts] : Prop :=
  ∀ (m : (ℓ : Loc Cert.InBReferenceIdeal.nD Cert.InBReferenceIdeal.τ Cert.InBReferenceIdeal.sig) → Buf (Elt Ideal) ℓ) (g : Dev Cert.InBReferenceIdeal.nD → PrngReg), Pre_InBReferenceIdeal m →
    θ_run (Cert.InBReferenceIdeal.defs (F := Ideal)) (onTc (τ := Cert.InBReferenceIdeal.τ) (Cert.InBReferenceIdeal.main (F := Ideal))) ⟨m, fun _ => 0, g⟩ (fun r => (∀ c : Dev Cert.InBReferenceIdeal.nD,
      r.2.mem ((c.tc : Thread Cert.InBReferenceIdeal.nD Cert.InBReferenceIdeal.τ).loc Cert.InBReferenceIdeal.main_arg0) = m ((c.tc : Thread Cert.InBReferenceIdeal.nD Cert.InBReferenceIdeal.τ).loc Cert.InBReferenceIdeal.main_arg0)
      ∧ r.2.mem ((c.tc : Thread Cert.InBReferenceIdeal.nD Cert.InBReferenceIdeal.τ).loc Cert.InBReferenceIdeal.main_arg1) = m ((c.tc : Thread Cert.InBReferenceIdeal.nD Cert.InBReferenceIdeal.τ).loc Cert.InBReferenceIdeal.main_arg1)
      ∧ r.2.mem ((c.tc : Thread Cert.InBReferenceIdeal.nD Cert.InBReferenceIdeal.τ).loc Cert.InBReferenceIdeal.main_arg2) = m ((c.tc : Thread Cert.InBReferenceIdeal.nD Cert.InBReferenceIdeal.τ).loc Cert.InBReferenceIdeal.main_arg2))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite7 [hAttnFwdIdeal : Cert.AttnFwdIdeal.Facts] [hPre_finite7 : Cert.Pre_finite7.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite7 m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite7 [hAttnFwdReferenceIdeal : Cert.AttnFwdReferenceIdeal.Facts] [hPre_finite7 : Cert.Pre_finite7.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite7 m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2)
      ∧ r.2.mem ((c.tc : Thread Cert.NormReferenceIdeal.nD Cert.NormReferenceIdeal.τ).loc Cert.NormReferenceIdeal.main_arg3) = m ((c.tc : Thread Cert.NormReferenceIdeal.nD Cert.NormReferenceIdeal.τ).loc Cert.NormReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_on_written_pre_finite [hKernelIdeal : Cert.KernelIdeal.Facts] [hReferenceIdeal : Cert.ReferenceIdeal.Facts] [hPre_finite : Cert.Pre_finite.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1536]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v29_0) i = v0 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v29_1) i = v1 c i)
          ∧ (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v29_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1536]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v65) i = v0 c i)
          ∧ (∀ i : (⟨2, ![4096, 512]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v64) i = v1 c i)
          ∧ (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v67) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal_pre_finite2 [hFfnIdeal : Cert.FfnIdeal.Facts] [hFfnReferenceIdeal : Cert.FfnReferenceIdeal.Facts] [hPre_finite2 : Cert.Pre_finite2.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal_finite2 m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)) (v1 : (c : Dev Cert.FfnIdeal.nD) → Buf (Elt Ideal) ((c.tc : Thread Cert.FfnIdeal.nD Cert.FfnIdeal.τ).loc Cert.FfnIdeal.main_v7_0)) (v2 : (c : Dev Cert.FfnIdeal.nD) → Buf (Elt Ideal) ((c.tc : Thread Cert.FfnIdeal.nD Cert.FfnIdeal.τ).loc Cert.FfnIdeal.main_v7_1)) (v3 : (c : Dev Cert.FfnIdeal.nD) → Buf (Elt Ideal) ((c.tc : Thread Cert.FfnIdeal.nD Cert.FfnIdeal.τ).loc Cert.FfnIdeal.main_v9_0)) (v4 : (c : Dev Cert.FfnIdeal.nD) → Buf (Elt Ideal) ((c.tc : Thread Cert.FfnIdeal.nD Cert.FfnIdeal.τ).loc Cert.FfnIdeal.main_v9_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_v7_0) = v1 c
          ∧ r.2.mem ((c.tc : Thread Cert.FfnIdeal.nD Cert.FfnIdeal.τ).loc Cert.FfnIdeal.main_v7_1) = v2 c
          ∧ r.2.mem ((c.tc : Thread Cert.FfnIdeal.nD Cert.FfnIdeal.τ).loc Cert.FfnIdeal.main_v9_0) = v3 c
          ∧ r.2.mem ((c.tc : Thread Cert.FfnIdeal.nD Cert.FfnIdeal.τ).loc Cert.FfnIdeal.main_v9_1) = v4 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v16) = v0 c
          ∧ r.2.mem ((c.tc : Thread Cert.FfnReferenceIdeal.nD Cert.FfnReferenceIdeal.τ).loc Cert.FfnReferenceIdeal.main_v7) = v1 c
          ∧ r.2.mem ((c.tc : Thread Cert.FfnReferenceIdeal.nD Cert.FfnReferenceIdeal.τ).loc Cert.FfnReferenceIdeal.main_v17) = v2 c
          ∧ r.2.mem ((c.tc : Thread Cert.FfnReferenceIdeal.nD Cert.FfnReferenceIdeal.τ).loc Cert.FfnReferenceIdeal.main_v14) = v3 c
          ∧ r.2.mem ((c.tc : Thread Cert.FfnReferenceIdeal.nD Cert.FfnReferenceIdeal.τ).loc Cert.FfnReferenceIdeal.main_v18) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnInput_FfnInputIdeal : Prop :=
  True

def algebraic_FfnInputIdeal_FfnInputReferenceIdeal [hFfnInputIdeal : Cert.FfnInputIdeal.Facts] [hFfnInputReferenceIdeal : Cert.FfnInputReferenceIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg)
    (m' : (ℓ : Loc Cert.FfnInputReferenceIdeal.nD Cert.FfnInputReferenceIdeal.τ Cert.FfnInputReferenceIdeal.sig) → Buf (Elt Ideal) ℓ) (g' : Dev Cert.FfnInputReferenceIdeal.nD → PrngReg), Pre_FfnInputIdeal m →
    (∀ c : Dev Cert.FfnInputIdeal.nD,
      m' ((c.tc : Thread Cert.FfnInputReferenceIdeal.nD Cert.FfnInputReferenceIdeal.τ).loc Cert.FfnInputReferenceIdeal.main_arg0) = m ((c.tc : Thread Cert.FfnInputIdeal.nD Cert.FfnInputIdeal.τ).loc Cert.FfnInputIdeal.main_arg0)
      ∧ m' ((c.tc : Thread Cert.FfnInputReferenceIdeal.nD Cert.FfnInputReferenceIdeal.τ).loc Cert.FfnInputReferenceIdeal.main_arg1) = m ((c.tc : Thread Cert.FfnInputIdeal.nD Cert.FfnInputIdeal.τ).loc Cert.FfnInputIdeal.main_arg1)
      ∧ m' ((c.tc : Thread Cert.FfnInputReferenceIdeal.nD Cert.FfnInputReferenceIdeal.τ).loc Cert.FfnInputReferenceIdeal.main_arg2) = m ((c.tc : Thread Cert.FfnInputIdeal.nD Cert.FfnInputIdeal.τ).loc Cert.FfnInputIdeal.main_arg2)) →
    ∃ (v0 : (c : Dev Cert.FfnInputIdeal.nD) → Buf (Elt Ideal) ((c.tc : Thread Cert.FfnInputIdeal.nD Cert.FfnInputIdeal.τ).loc Cert.FfnInputIdeal.main_v2)),
      θ_run (Cert.FfnInputIdeal.defs (F := Ideal)) (onTc (τ := Cert.FfnInputIdeal.τ) (Cert.FfnInputIdeal.main (F := Ideal))) ⟨m, fun _ => 0, g⟩ (fun r => ∀ c : Dev Cert.FfnInputIdeal.nD,
          r.2.mem ((c.tc : Thread Cert.FfnInputIdeal.nD Cert.FfnInputIdeal.τ).loc Cert.FfnInputIdeal.main_v2) = v0 c
          ∧ r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
          ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
          ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2))
      ∧ θ_run (Cert.FfnInputReferenceIdeal.defs (F := Ideal)) (onTc (τ := Cert.FfnInputReferenceIdeal.τ) (Cert.FfnInputReferenceIdeal.main (F := Ideal))) ⟨m', fun _ => 0, g'⟩ (fun r => ∀ c : Dev Cert.FfnInputReferenceIdeal.nD,
          r.2.mem ((c.tc : Thread Cert.FfnInputReferenceIdeal.nD Cert.FfnInputReferenceIdeal.τ).loc Cert.FfnInputReferenceIdeal.main_v8) = v0 c
          ∧ r.2.mem ((c.tc : Thread Cert.FfnInputReferenceIdeal.nD Cert.FfnInputReferenceIdeal.τ).loc Cert.FfnInputReferenceIdeal.main_arg0) = m' ((c.tc : Thread Cert.FfnInputReferenceIdeal.nD Cert.FfnInputReferenceIdeal.τ).loc Cert.FfnInputReferenceIdeal.main_arg0)
          ∧ r.2.mem ((c.tc : Thread Cert.FfnInputReferenceIdeal.nD Cert.FfnInputReferenceIdeal.τ).loc Cert.FfnInputReferenceIdeal.main_arg1) = m' ((c.tc : Thread Cert.FfnInputReferenceIdeal.nD Cert.FfnInputReferenceIdeal.τ).loc Cert.FfnInputReferenceIdeal.main_arg1)
          ∧ r.2.mem ((c.tc : Thread Cert.FfnInputReferenceIdeal.nD Cert.FfnInputReferenceIdeal.τ).loc Cert.FfnInputReferenceIdeal.main_arg2) = m' ((c.tc : Thread Cert.FfnInputReferenceIdeal.nD Cert.FfnInputReferenceIdeal.τ).loc Cert.FfnInputReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)) (v1 : (c : Dev Cert.OutIdeal.nD) → Buf (Elt Ideal) ((c.tc : Thread Cert.OutIdeal.nD Cert.OutIdeal.τ).loc Cert.OutIdeal.main_v4)) (v2 : (c : Dev Cert.OutIdeal.nD) → Buf (Elt Ideal) ((c.tc : Thread Cert.OutIdeal.nD Cert.OutIdeal.τ).loc Cert.OutIdeal.main_v5_0)) (v3 : (c : Dev Cert.OutIdeal.nD) → Buf (Elt Ideal) ((c.tc : Thread Cert.OutIdeal.nD Cert.OutIdeal.τ).loc Cert.OutIdeal.main_v5_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_v4) = v1 c
          ∧ r.2.mem ((c.tc : Thread Cert.OutIdeal.nD Cert.OutIdeal.τ).loc Cert.OutIdeal.main_v5_0) = v2 c
          ∧ r.2.mem ((c.tc : Thread Cert.OutIdeal.nD Cert.OutIdeal.τ).loc Cert.OutIdeal.main_v5_1) = v3 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v4) = v0 c
          ∧ r.2.mem ((c.tc : Thread Cert.OutReferenceIdeal.nD Cert.OutReferenceIdeal.τ).loc Cert.OutReferenceIdeal.main_v3) = v1 c
          ∧ r.2.mem ((c.tc : Thread Cert.OutReferenceIdeal.nD Cert.OutReferenceIdeal.τ).loc Cert.OutReferenceIdeal.main_v2) = v2 c
          ∧ r.2.mem ((c.tc : Thread Cert.OutReferenceIdeal.nD Cert.OutReferenceIdeal.τ).loc Cert.OutReferenceIdeal.main_v5) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_InA_InAIdeal : Prop :=
  True

def algebraic_InAIdeal_InAReferenceIdeal [hInAIdeal : Cert.InAIdeal.Facts] [hInAReferenceIdeal : Cert.InAReferenceIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.InAReferenceIdeal.nD Cert.InAReferenceIdeal.τ Cert.InAReferenceIdeal.sig) → Buf (Elt Ideal) ℓ) (g' : Dev Cert.InAReferenceIdeal.nD → PrngReg), Pre_InAIdeal m →
    (∀ c : Dev Cert.InAIdeal.nD,
      m' ((c.tc : Thread Cert.InAReferenceIdeal.nD Cert.InAReferenceIdeal.τ).loc Cert.InAReferenceIdeal.main_arg0) = m ((c.tc : Thread Cert.InAIdeal.nD Cert.InAIdeal.τ).loc Cert.InAIdeal.main_arg0)
      ∧ m' ((c.tc : Thread Cert.InAReferenceIdeal.nD Cert.InAReferenceIdeal.τ).loc Cert.InAReferenceIdeal.main_arg1) = m ((c.tc : Thread Cert.InAIdeal.nD Cert.InAIdeal.τ).loc Cert.InAIdeal.main_arg1)
      ∧ m' ((c.tc : Thread Cert.InAReferenceIdeal.nD Cert.InAReferenceIdeal.τ).loc Cert.InAReferenceIdeal.main_arg2) = m ((c.tc : Thread Cert.InAIdeal.nD Cert.InAIdeal.τ).loc Cert.InAIdeal.main_arg2)) →
    ∃ (v0 : (c : Dev Cert.InAIdeal.nD) → Buf (Elt Ideal) ((c.tc : Thread Cert.InAIdeal.nD Cert.InAIdeal.τ).loc Cert.InAIdeal.main_v3)) (v1 : (c : Dev Cert.InAIdeal.nD) → Buf (Elt Ideal) ((c.tc : Thread Cert.InAIdeal.nD Cert.InAIdeal.τ).loc Cert.InAIdeal.main_v4)) (v2 : (c : Dev Cert.InAIdeal.nD) → Buf (Elt Ideal) ((c.tc : Thread Cert.InAIdeal.nD Cert.InAIdeal.τ).loc Cert.InAIdeal.main_v6_0)) (v3 : (c : Dev Cert.InAIdeal.nD) → Buf (Elt Ideal) ((c.tc : Thread Cert.InAIdeal.nD Cert.InAIdeal.τ).loc Cert.InAIdeal.main_v6_1)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v3) = v0 c
          ∧ r.2.mem ((c.tc : Thread Cert.InAIdeal.nD Cert.InAIdeal.τ).loc Cert.InAIdeal.main_v4) = v1 c
          ∧ r.2.mem ((c.tc : Thread Cert.InAIdeal.nD Cert.InAIdeal.τ).loc Cert.InAIdeal.main_v6_0) = v2 c
          ∧ r.2.mem ((c.tc : Thread Cert.InAIdeal.nD Cert.InAIdeal.τ).loc Cert.InAIdeal.main_v6_1) = v3 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1)
          ∧ r.2.mem ((c.tc : Thread Cert.InAIdeal.nD Cert.InAIdeal.τ).loc Cert.InAIdeal.main_arg2) = m ((c.tc : Thread Cert.InAIdeal.nD Cert.InAIdeal.τ).loc Cert.InAIdeal.main_arg2))
      ∧ θ_run (Cert.InAReferenceIdeal.defs (F := Ideal)) (onTc (τ := Cert.InAReferenceIdeal.τ) (Cert.InAReferenceIdeal.main (F := Ideal))) ⟨m', fun _ => 0, g'⟩ (fun r => ∀ c : Dev Cert.InAReferenceIdeal.nD,
          r.2.mem ((c.tc : Thread Cert.InAReferenceIdeal.nD Cert.InAReferenceIdeal.τ).loc Cert.InAReferenceIdeal.main_v0) = v0 c
          ∧ r.2.mem ((c.tc : Thread Cert.InAReferenceIdeal.nD Cert.InAReferenceIdeal.τ).loc Cert.InAReferenceIdeal.main_v3) = v1 c
          ∧ r.2.mem ((c.tc : Thread Cert.InAReferenceIdeal.nD Cert.InAReferenceIdeal.τ).loc Cert.InAReferenceIdeal.main_v2) = v2 c
          ∧ r.2.mem ((c.tc : Thread Cert.InAReferenceIdeal.nD Cert.InAReferenceIdeal.τ).loc Cert.InAReferenceIdeal.main_v4) = v3 c
          ∧ r.2.mem ((c.tc : Thread Cert.InAReferenceIdeal.nD Cert.InAReferenceIdeal.τ).loc Cert.InAReferenceIdeal.main_arg0) = m' ((c.tc : Thread Cert.InAReferenceIdeal.nD Cert.InAReferenceIdeal.τ).loc Cert.InAReferenceIdeal.main_arg0)
          ∧ r.2.mem ((c.tc : Thread Cert.InAReferenceIdeal.nD Cert.InAReferenceIdeal.τ).loc Cert.InAReferenceIdeal.main_arg1) = m' ((c.tc : Thread Cert.InAReferenceIdeal.nD Cert.InAReferenceIdeal.τ).loc Cert.InAReferenceIdeal.main_arg1)
          ∧ r.2.mem ((c.tc : Thread Cert.InAReferenceIdeal.nD Cert.InAReferenceIdeal.τ).loc Cert.InAReferenceIdeal.main_arg2) = m' ((c.tc : Thread Cert.InAReferenceIdeal.nD Cert.InAReferenceIdeal.τ).loc Cert.InAReferenceIdeal.main_arg2))

def preserves_InB_InBIdeal : Prop :=
  True

def algebraic_InBIdeal_InBReferenceIdeal [hInBIdeal : Cert.InBIdeal.Facts] [hInBReferenceIdeal : Cert.InBReferenceIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.InBReferenceIdeal.nD Cert.InBReferenceIdeal.τ Cert.InBReferenceIdeal.sig) → Buf (Elt Ideal) ℓ) (g' : Dev Cert.InBReferenceIdeal.nD → PrngReg), Pre_InBIdeal m →
    (∀ c : Dev Cert.InBIdeal.nD,
      m' ((c.tc : Thread Cert.InBReferenceIdeal.nD Cert.InBReferenceIdeal.τ).loc Cert.InBReferenceIdeal.main_arg0) = m ((c.tc : Thread Cert.InBIdeal.nD Cert.InBIdeal.τ).loc Cert.InBIdeal.main_arg0)
      ∧ m' ((c.tc : Thread Cert.InBReferenceIdeal.nD Cert.InBReferenceIdeal.τ).loc Cert.InBReferenceIdeal.main_arg1) = m ((c.tc : Thread Cert.InBIdeal.nD Cert.InBIdeal.τ).loc Cert.InBIdeal.main_arg1)
      ∧ m' ((c.tc : Thread Cert.InBReferenceIdeal.nD Cert.InBReferenceIdeal.τ).loc Cert.InBReferenceIdeal.main_arg2) = m ((c.tc : Thread Cert.InBIdeal.nD Cert.InBIdeal.τ).loc Cert.InBIdeal.main_arg2)) →
    ∃ (v0 : (c : Dev Cert.InBIdeal.nD) → Buf (Elt Ideal) ((c.tc : Thread Cert.InBIdeal.nD Cert.InBIdeal.τ).loc Cert.InBIdeal.main_v3)) (v1 : (c : Dev Cert.InBIdeal.nD) → Buf (Elt Ideal) ((c.tc : Thread Cert.InBIdeal.nD Cert.InBIdeal.τ).loc Cert.InBIdeal.main_v4)) (v2 : (c : Dev Cert.InBIdeal.nD) → Buf (Elt Ideal) ((c.tc : Thread Cert.InBIdeal.nD Cert.InBIdeal.τ).loc Cert.InBIdeal.main_v6_0)) (v3 : (c : Dev Cert.InBIdeal.nD) → Buf (Elt Ideal) ((c.tc : Thread Cert.InBIdeal.nD Cert.InBIdeal.τ).loc Cert.InBIdeal.main_v6_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v3) = v0 c
          ∧ r.2.mem ((c.tc : Thread Cert.InBIdeal.nD Cert.InBIdeal.τ).loc Cert.InBIdeal.main_v4) = v1 c
          ∧ r.2.mem ((c.tc : Thread Cert.InBIdeal.nD Cert.InBIdeal.τ).loc Cert.InBIdeal.main_v6_0) = v2 c
          ∧ r.2.mem ((c.tc : Thread Cert.InBIdeal.nD Cert.InBIdeal.τ).loc Cert.InBIdeal.main_v6_1) = v3 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1)
          ∧ r.2.mem ((c.tc : Thread Cert.InBIdeal.nD Cert.InBIdeal.τ).loc Cert.InBIdeal.main_arg2) = m ((c.tc : Thread Cert.InBIdeal.nD Cert.InBIdeal.τ).loc Cert.InBIdeal.main_arg2))
      ∧ θ_run (Cert.InBReferenceIdeal.defs (F := Ideal)) (onTc (τ := Cert.InBReferenceIdeal.τ) (Cert.InBReferenceIdeal.main (F := Ideal))) ⟨m', fun _ => 0, g'⟩ (fun r => ∀ c : Dev Cert.InBReferenceIdeal.nD,
          r.2.mem ((c.tc : Thread Cert.InBReferenceIdeal.nD Cert.InBReferenceIdeal.τ).loc Cert.InBReferenceIdeal.main_v0) = v0 c
          ∧ r.2.mem ((c.tc : Thread Cert.InBReferenceIdeal.nD Cert.InBReferenceIdeal.τ).loc Cert.InBReferenceIdeal.main_v3) = v1 c
          ∧ r.2.mem ((c.tc : Thread Cert.InBReferenceIdeal.nD Cert.InBReferenceIdeal.τ).loc Cert.InBReferenceIdeal.main_v2) = v2 c
          ∧ r.2.mem ((c.tc : Thread Cert.InBReferenceIdeal.nD Cert.InBReferenceIdeal.τ).loc Cert.InBReferenceIdeal.main_v4) = v3 c
          ∧ r.2.mem ((c.tc : Thread Cert.InBReferenceIdeal.nD Cert.InBReferenceIdeal.τ).loc Cert.InBReferenceIdeal.main_arg0) = m' ((c.tc : Thread Cert.InBReferenceIdeal.nD Cert.InBReferenceIdeal.τ).loc Cert.InBReferenceIdeal.main_arg0)
          ∧ r.2.mem ((c.tc : Thread Cert.InBReferenceIdeal.nD Cert.InBReferenceIdeal.τ).loc Cert.InBReferenceIdeal.main_arg1) = m' ((c.tc : Thread Cert.InBReferenceIdeal.nD Cert.InBReferenceIdeal.τ).loc Cert.InBReferenceIdeal.main_arg1)
          ∧ r.2.mem ((c.tc : Thread Cert.InBReferenceIdeal.nD Cert.InBReferenceIdeal.τ).loc Cert.InBReferenceIdeal.main_arg2) = m' ((c.tc : Thread Cert.InBReferenceIdeal.nD Cert.InBReferenceIdeal.τ).loc Cert.InBReferenceIdeal.main_arg2))

def preserves_AttnFwd_AttnFwdIdeal : Prop :=
  IdealRules.named_const.Statement Cert.AttnFwdIdeal.κ "scale_log2e" .f32 0x3E0293EE#32 (((11863283 / 134217728) * (Real.log 2)⁻¹ : ℝ) : EReal)
  ∧ IdealRules.named_const.Statement Cert.AttnFwdIdeal.κ "inv_log2" .f32 0x3FB8AA3B#32 (((Real.log 2)⁻¹ : ℝ) : EReal)
  ∧ IdealRules.named_const.Statement Cert.AttnFwdIdeal.κ "log2_scale" .f32 0x40FAF233#32 (((11863283 / 134217728)⁻¹ * (Real.log 2) : ℝ) : EReal)

def algebraic_AttnFwdIdeal_AttnFwdReferenceIdeal_on_written7_pre_finite7 [hAttnFwdIdeal : Cert.AttnFwdIdeal.Facts] [hAttnFwdReferenceIdeal : Cert.AttnFwdReferenceIdeal.Facts] [hPre_finite7 : Cert.Pre_finite7.Facts] [hOn_written7 : Cert.On_written7.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite7 m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          (∀ i : (⟨2, ![4096, 2048]⟩ : Shape).Idx, (Cert.On_written7.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 i = 1#1 → r.2.mem ((c.tc : Thread Cert.AttnFwdIdeal.nD Cert.AttnFwdIdeal.τ).loc Cert.AttnFwdIdeal.main_v3_0) i = v0 c i)
          ∧ (∀ i : (⟨3, ![4, 4096, 3]⟩ : Shape).Idx, (Cert.On_written7.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 i = 1#1 → r.2.mem ((c.tc : Thread Cert.AttnFwdIdeal.nD Cert.AttnFwdIdeal.τ).loc Cert.AttnFwdIdeal.main_v3_1) i = v1 c i)
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          (∀ i : (⟨2, ![4096, 2048]⟩ : Shape).Idx, (Cert.On_written7.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 i = 1#1 → r.2.mem ((c.tc : Thread Cert.AttnFwdReferenceIdeal.nD Cert.AttnFwdReferenceIdeal.τ).loc Cert.AttnFwdReferenceIdeal.main_v46) i = v0 c i)
          ∧ (∀ i : (⟨3, ![4, 4096, 3]⟩ : Shape).Idx, (Cert.On_written7.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 i = 1#1 → r.2.mem ((c.tc : Thread Cert.AttnFwdReferenceIdeal.nD Cert.AttnFwdReferenceIdeal.τ).loc Cert.AttnFwdReferenceIdeal.main_v23) i = v1 c i)
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)
      ∧ m' ((c.tc : Thread Cert.NormReferenceIdeal.nD Cert.NormReferenceIdeal.τ).loc Cert.NormReferenceIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)) (v2 : (c : Dev Cert.NormIdeal.nD) → Buf (Elt Ideal) ((c.tc : Thread Cert.NormIdeal.nD Cert.NormIdeal.τ).loc Cert.NormIdeal.main_v3_0)) (v3 : (c : Dev Cert.NormIdeal.nD) → Buf (Elt Ideal) ((c.tc : Thread Cert.NormIdeal.nD Cert.NormIdeal.τ).loc Cert.NormIdeal.main_v3_1)) (v4 : (c : Dev Cert.NormIdeal.nD) → Buf (Elt Ideal) ((c.tc : Thread Cert.NormIdeal.nD Cert.NormIdeal.τ).loc Cert.NormIdeal.main_v4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_v3_0) = v2 c
          ∧ r.2.mem ((c.tc : Thread Cert.NormIdeal.nD Cert.NormIdeal.τ).loc Cert.NormIdeal.main_v3_1) = v3 c
          ∧ r.2.mem ((c.tc : Thread Cert.NormIdeal.nD Cert.NormIdeal.τ).loc Cert.NormIdeal.main_v4) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v36) = v0 c
          ∧ r.2.mem ((c.tc : Thread Cert.NormReferenceIdeal.nD Cert.NormReferenceIdeal.τ).loc Cert.NormReferenceIdeal.main_v38) = v1 c
          ∧ r.2.mem ((c.tc : Thread Cert.NormReferenceIdeal.nD Cert.NormReferenceIdeal.τ).loc Cert.NormReferenceIdeal.main_v39) = v2 c
          ∧ r.2.mem ((c.tc : Thread Cert.NormReferenceIdeal.nD Cert.NormReferenceIdeal.τ).loc Cert.NormReferenceIdeal.main_v41) = v3 c
          ∧ r.2.mem ((c.tc : Thread Cert.NormReferenceIdeal.nD Cert.NormReferenceIdeal.τ).loc Cert.NormReferenceIdeal.main_v21) = v4 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2)
          ∧ r.2.mem ((c.tc : Thread Cert.NormReferenceIdeal.nD Cert.NormReferenceIdeal.τ).loc Cert.NormReferenceIdeal.main_arg3) = m' ((c.tc : Thread Cert.NormReferenceIdeal.nD Cert.NormReferenceIdeal.τ).loc Cert.NormReferenceIdeal.main_arg3))

def preserves_Loss_LossIdeal : Prop :=
  True

def algebraic_LossIdeal_LossReferenceIdeal [hLossIdeal : Cert.LossIdeal.Facts] [hLossReferenceIdeal : Cert.LossReferenceIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_0)) (v2 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_v0_1) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_v15) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnInput : Cert.FfnInput.Facts) (hFfnInputIdeal : Cert.FfnInputIdeal.Facts) (hFfnInputReferenceIdeal : Cert.FfnInputReferenceIdeal.Facts) (hOut : Cert.Out.Facts) (hOutIdeal : Cert.OutIdeal.Facts) (hOutReferenceIdeal : Cert.OutReferenceIdeal.Facts) (hInA : Cert.InA.Facts) (hInAIdeal : Cert.InAIdeal.Facts) (hInAReferenceIdeal : Cert.InAReferenceIdeal.Facts) (hInB : Cert.InB.Facts) (hInBIdeal : Cert.InBIdeal.Facts) (hInBReferenceIdeal : Cert.InBReferenceIdeal.Facts) (hAttnFwd : Cert.AttnFwd.Facts) (hAttnFwdIdeal : Cert.AttnFwdIdeal.Facts) (hAttnFwdReferenceIdeal : Cert.AttnFwdReferenceIdeal.Facts) (hNorm : Cert.Norm.Facts) (hNormIdeal : Cert.NormIdeal.Facts) (hNormReferenceIdeal : Cert.NormReferenceIdeal.Facts) (hLoss : Cert.Loss.Facts) (hLossIdeal : Cert.LossIdeal.Facts) (hLossReferenceIdeal : Cert.LossReferenceIdeal.Facts) (hPre_finite : Cert.Pre_finite.Facts) (hPre_finite2 : Cert.Pre_finite2.Facts) (hPre_finite7 : Cert.Pre_finite7.Facts) (hOn_written : Cert.On_written.Facts) (hOn_written7 : Cert.On_written7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_finite2 (hFfnIdeal := hFfnIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_FfnInput (hFfnInput := hFfnInput)
    ∧ quiescent_FfnInputIdeal (hFfnInputIdeal := hFfnInputIdeal)
    ∧ quiescent_FfnInputReferenceIdeal (hFfnInputReferenceIdeal := hFfnInputReferenceIdeal)
    ∧ quiescent_Out (hOut := hOut)
    ∧ quiescent_OutIdeal (hOutIdeal := hOutIdeal)
    ∧ quiescent_OutReferenceIdeal (hOutReferenceIdeal := hOutReferenceIdeal)
    ∧ quiescent_InA (hInA := hInA)
    ∧ quiescent_InAIdeal (hInAIdeal := hInAIdeal)
    ∧ quiescent_InAReferenceIdeal (hInAReferenceIdeal := hInAReferenceIdeal)
    ∧ quiescent_InB (hInB := hInB)
    ∧ quiescent_InBIdeal (hInBIdeal := hInBIdeal)
    ∧ quiescent_InBReferenceIdeal (hInBReferenceIdeal := hInBReferenceIdeal)
    ∧ quiescent_AttnFwd (hAttnFwd := hAttnFwd)
    ∧ quiescent_AttnFwdIdeal (hAttnFwdIdeal := hAttnFwdIdeal)
    ∧ quiescent_AttnFwdIdeal_pre_finite7 (hAttnFwdIdeal := hAttnFwdIdeal) (hPre_finite7 := hPre_finite7)
    ∧ quiescent_AttnFwdReferenceIdeal (hAttnFwdReferenceIdeal := hAttnFwdReferenceIdeal)
    ∧ quiescent_AttnFwdReferenceIdeal_pre_finite7 (hAttnFwdReferenceIdeal := hAttnFwdReferenceIdeal) (hPre_finite7 := hPre_finite7)
    ∧ quiescent_Norm (hNorm := hNorm)
    ∧ quiescent_NormIdeal (hNormIdeal := hNormIdeal)
    ∧ quiescent_NormReferenceIdeal (hNormReferenceIdeal := hNormReferenceIdeal)
    ∧ quiescent_Loss (hLoss := hLoss)
    ∧ quiescent_LossIdeal (hLossIdeal := hLossIdeal)
    ∧ quiescent_LossReferenceIdeal (hLossReferenceIdeal := hLossReferenceIdeal)
    ∧ preserves_Kernel_KernelIdeal
    ∧ algebraic_KernelIdeal_ReferenceIdeal_on_written_pre_finite (hKernelIdeal := hKernelIdeal) (hReferenceIdeal := hReferenceIdeal) (hPre_finite := hPre_finite) (hOn_written := hOn_written)
    ∧ preserves_Ffn_FfnIdeal
    ∧ algebraic_FfnIdeal_FfnReferenceIdeal_pre_finite2 (hFfnIdeal := hFfnIdeal) (hFfnReferenceIdeal := hFfnReferenceIdeal) (hPre_finite2 := hPre_finite2)
    ∧ preserves_FfnInput_FfnInputIdeal
    ∧ algebraic_FfnInputIdeal_FfnInputReferenceIdeal (hFfnInputIdeal := hFfnInputIdeal) (hFfnInputReferenceIdeal := hFfnInputReferenceIdeal)
    ∧ preserves_Out_OutIdeal
    ∧ algebraic_OutIdeal_OutReferenceIdeal (hOutIdeal := hOutIdeal) (hOutReferenceIdeal := hOutReferenceIdeal)
    ∧ preserves_InA_InAIdeal
    ∧ algebraic_InAIdeal_InAReferenceIdeal (hInAIdeal := hInAIdeal) (hInAReferenceIdeal := hInAReferenceIdeal)
    ∧ preserves_InB_InBIdeal
    ∧ algebraic_InBIdeal_InBReferenceIdeal (hInBIdeal := hInBIdeal) (hInBReferenceIdeal := hInBReferenceIdeal)
    ∧ preserves_AttnFwd_AttnFwdIdeal
    ∧ algebraic_AttnFwdIdeal_AttnFwdReferenceIdeal_on_written7_pre_finite7 (hAttnFwdIdeal := hAttnFwdIdeal) (hAttnFwdReferenceIdeal := hAttnFwdReferenceIdeal) (hPre_finite7 := hPre_finite7) (hOn_written7 := hOn_written7)
    ∧ preserves_Norm_NormIdeal
    ∧ algebraic_NormIdeal_NormReferenceIdeal (hNormIdeal := hNormIdeal) (hNormReferenceIdeal := hNormReferenceIdeal)
    ∧ preserves_Loss_LossIdeal
    ∧ algebraic_LossIdeal_LossReferenceIdeal (hLossIdeal := hLossIdeal) (hLossReferenceIdeal := hLossReferenceIdeal)
-- ==== On_written.lean ====
abbrev S4096x1536 : Shape := ⟨2, ![4096, 1536]⟩
abbrev S4096x512 : Shape := ⟨2, ![4096, 512]⟩
abbrev S4096x2048 : Shape := ⟨2, ![4096, 2048]⟩
abbrev S4096x3072 : Shape := ⟨2, ![4096, 3072]⟩
abbrev S_ : Shape := ⟨0, ![]⟩

class Facts : Prop where
  bcast_S_S4096x1536 : S_.BroadcastsInDim S4096x1536 (![] : Fin 0 → Fin S4096x1536.rank)
  bcast_S_S4096x512 : S_.BroadcastsInDim S4096x512 (![] : Fin 0 → Fin S4096x512.rank)
  bcast_S_S4096x3072 : S_.BroadcastsInDim S4096x3072 (![] : Fin 0 → Fin S4096x3072.rank)

variable [Facts]

def fn {F : FTy → Type} [FloatOps F] (main_arg0 : FVec F S4096x1536 .f32) (main_arg1 : FVec F S4096x512 .f32) (main_arg2 : FVec F S4096x512 .f32) (main_arg3 : FVec F S4096x2048 .f32) (main_arg4 : FVec F S4096x512 .f32) : IVec S4096x1536 1 × IVec S4096x512 1 × IVec S4096x3072 1 :=
  let main_v0 : IVec S4096x3072 32 := iotaInDim S4096x3072 32 1
  let main_c : IVec S_ 1 := constantI S_ 1 1#1
  let main_v1 : IVec S4096x1536 1 := broadcastInDim S4096x1536 ![] bcast_S_S4096x1536 main_c
  let main_c_0 : IVec S_ 1 := constantI S_ 1 1#1
  let main_v2 : IVec S4096x512 1 := broadcastInDim S4096x512 ![] bcast_S_S4096x512 main_c_0
  let main_c_1 : IVec S_ 32 := constantI S_ 32 2048#32
  let main_v3 : IVec S4096x3072 32 := broadcastInDim S4096x3072 ![] bcast_S_S4096x3072 main_c_1
  let main_v4 : IVec S4096x3072 1 := cmpi .sge main_v0 main_v3
  let main_c_2 : IVec S_ 32 := constantI S_ 32 2560#32
  let main_v5 : IVec S4096x3072 32 := broadcastInDim S4096x3072 ![] bcast_S_S4096x3072 main_c_2
  let main_v6 : IVec S4096x3072 1 := cmpi .slt main_v0 main_v5
  let main_v7 : IVec S4096x3072 1 := andi main_v4 main_v6
  (main_v1, main_v2, main_v7)
-- ==== On_written7.lean ====
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩
abbrev S4x4096x3 : Shape := ⟨3, ![4, 4096, 3]⟩

class Facts : Prop where
  bcast_S_S4096x2048 : S_.BroadcastsInDim S4096x2048 (![] : Fin 0 → Fin S4096x2048.rank)
  bcast_S_S4x4096x3 : S_.BroadcastsInDim S4x4096x3 (![] : Fin 0 → Fin S4x4096x3.rank)

variable [Facts]

def fn {F : FTy → Type} [FloatOps F] (main_arg0 : FVec F S4096x1536 .f32) (main_arg1 : FVec F S4096x512 .f32) (main_arg2 : FVec F S4096x512 .f32) : IVec S4096x2048 1 × IVec S4x4096x3 1 :=
  let main_v0 : IVec S4096x2048 32 := iotaInDim S4096x2048 32 1
  let main_c : IVec S_ 32 := constantI S_ 32 1536#32
  let main_v1 : IVec S4096x2048 32 := broadcastInDim S4096x2048 ![] bcast_S_S4096x2048 main_c
  let main_v2 : IVec S4096x2048 1 := cmpi .slt main_v0 main_v1
  let main_c_0 : IVec S_ 1 := constantI S_ 1 1#1
  let main_v3 : IVec S4x4096x3 1 := broadcastInDim S4x4096x3 ![] bcast_S_S4x4096x3 main_c_0
  (main_v2, main_v3)
-- ==== Pre_finite.lean ====
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩

class Facts : Prop where
  slices_S4096x2048_S4096x1536_0_0 : S4096x2048.Slices ![0, 0] S4096x1536
  bcast_S_S4096x1536 : S_.BroadcastsInDim S4096x1536 (![] : Fin 0 → Fin S4096x1536.rank)
  bcast_S_S4096x512 : S_.BroadcastsInDim S4096x512 (![] : Fin 0 → Fin S4096x512.rank)

variable [Facts]

def fn {F : FTy → Type} [FloatOps F] (main_arg0 : FVec F S4096x1536 .f32) (main_arg1 : FVec F S4096x512 .f32) (main_arg2 : FVec F S4096x512 .f32) (main_arg3 : FVec F S4096x2048 .f32) (main_arg4 : FVec F S4096x512 .f32) : IVec S4096x1536 1 × IVec S4096x512 1 × IVec S4096x512 1 × IVec S4096x1536 1 :=
  let main_v0 : FVec F S4096x1536 .f32 := (extractStridedSlice S4096x1536 ![0, 0] · slices_S4096x2048_S4096x1536_0_0) main_arg3
  let main_v1 : FVec F S4096x1536 .f32 := Host.absf main_arg0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : FVec F S4096x1536 .f32 := Host.absf main_v0
  let main_cst_2 : FVec F S_ .f32 := constant S_ .f32 0x7F800000#32
  let main_v11 : FVec F S4096x1536 .f32 := broadcastInDim S4096x1536 ![] bcast_S_S4096x1536 main_cst_2
  let main_v12 : IVec S4096x1536 1 := cmpf .olt main_v10 main_v11
  (main_v3, main_v6, main_v9, main_v12)
-- ==== Pre_finite2.lean ====
abbrev S4096x2048 : Shape := ⟨2, ![4096, 2048]⟩
abbrev S2048x11264 : Shape := ⟨2, ![2048, 11264]⟩
abbrev S5632x2048 : Shape := ⟨2, ![5632, 2048]⟩
abbrev S_ : Shape := ⟨0, ![]⟩

class Facts : Prop where
  bcast_S_S4096x2048 : S_.BroadcastsInDim S4096x2048 (![] : Fin 0 → Fin S4096x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S4096x2048 .f32) (main_arg1 : FVec F S2048x11264 .f32) (main_arg2 : FVec F S5632x2048 .f32) (main_arg3 : FVec F S4096x2048 .f32) (main_arg4 : FVec F S4096x2048 .f32) : IVec S4096x2048 1 × IVec S2048x11264 1 × IVec S5632x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  let main_v6 : FVec F S5632x2048 .f32 := Host.absf main_arg2
  let main_cst_1 : FVec F S_ .f32 := constant S_ .f32 0x7F800000#32
  let main_v7 : FVec F S5632x2048 .f32 := broadcastInDim S5632x2048 ![] bcast_S_S5632x2048 main_cst_1
  let main_v8 : IVec S5632x2048 1 := cmpf .olt main_v6 main_v7
  let main_v9 : FVec F S4096x2048 .f32 := Host.absf main_arg4
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_finite7.lean ====
abbrev S4096x1536 : Shape := ⟨2, ![4096, 1536]⟩
abbrev S4096x512 : Shape := ⟨2, ![4096, 512]⟩
abbrev S_ : Shape := ⟨0, ![]⟩

class Facts : Prop where
  bcast_S_S4096x1536 : S_.BroadcastsInDim S4096x1536 (![] : Fin 0 → Fin S4096x1536.rank)
  bcast_S_S4096x512 : S_.BroadcastsInDim S4096x512 (![] : Fin 0 → Fin S4096x512.rank)

variable [Facts]

def fn {F : FTy → Type} [FloatOps F] (main_arg0 : FVec F S4096x1536 .f32) (main_arg1 : FVec F S4096x512 .f32) (main_arg2 : FVec F S4096x512 .f32) : IVec S4096x1536 1 × IVec S4096x512 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  (main_v2, main_v5)
-- ==== Kernel.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x4096x3 : Shape := ⟨3, ![4, 4096, 3]⟩
abbrev S4096x3072 : Shape := ⟨2, ![4096, 3072]⟩
abbrev S512x384 : Shape := ⟨2, ![512, 384]⟩
abbrev S4096x128 : Shape := ⟨2, ![4096, 128]⟩
abbrev S1x512x3 : Shape := ⟨3, ![1, 512, 3]⟩
abbrev S768x4096 : Shape := ⟨2, ![768, 4096]⟩
abbrev S768x128 : Shape := ⟨2, ![768, 128]⟩
abbrev S256x128 : Shape := ⟨2, ![256, 128]⟩
abbrev S256x4096 : Shape := ⟨2, ![256, 4096]⟩
abbrev S1x256x1 : Shape := ⟨3, ![1, 256, 1]⟩
abbrev S256x1 : Shape := ⟨2, ![256, 1]⟩
abbrev S256 : Shape := ⟨1, ![256]⟩

abbrev nBuf : Space → Nat
  | .hbm => 41
  | .vmem => 24
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S4096x512, .f32⟩
  | .hbm, ⟨5, _⟩ => ⟨S4096x4x3x128, .f32⟩
  | .hbm, ⟨6, _⟩ => ⟨S4096x4x128, .f32⟩
  | .hbm, ⟨7, _⟩ => ⟨S4096x4x128, .f32⟩
  | .hbm, ⟨8, _⟩ => ⟨S4x4096x4096x3, .f32⟩
  | .hbm, ⟨9, _⟩ => ⟨S4x3x4096x4096, .f32⟩
  | .hbm, ⟨10, _⟩ => ⟨S_, .f32⟩
  | .hbm, ⟨11, _⟩ => ⟨S4x3x4096x4096, .f32⟩
  | .hbm, ⟨12, _⟩ => ⟨S4x3x4096x4096, .f32⟩
  | .hbm, ⟨13, _⟩ => ⟨S_, .f32⟩
  | .hbm, ⟨14, _⟩ => ⟨S4x3x4096, .f32⟩
  | .hbm, ⟨15, _⟩ => ⟨S4x3x4096x1, .f32⟩
  | .hbm, ⟨16, _⟩ => ⟨S4x3x4096x4096, .f32⟩
  | .hbm, ⟨17, _⟩ => ⟨S4x3x4096x4096, .f32⟩
  | .hbm, ⟨18, _⟩ => ⟨S4x3x4096x4096, .f32⟩
  | .hbm, ⟨19, _⟩ => ⟨S_, .f32⟩
  | .hbm, ⟨20, _⟩ => ⟨S4x3x4096, .f32⟩
  | .hbm, ⟨21, _⟩ => ⟨S4x3x4096x1, .f32⟩
  | .hbm, ⟨22, _⟩ => ⟨S4x3x4096x4096, .f32⟩
  | .hbm, ⟨23, _⟩ => ⟨S4x3x4096x4096, .f32⟩
  | .hbm, ⟨24, _⟩ => ⟨S4x128x3x4096, .f32⟩
  | .hbm, ⟨25, _⟩ => ⟨S4096x4x3x128, .f32⟩
  | .hbm, ⟨26, _⟩ => ⟨S4096x1536, .f32⟩
  | .hbm, ⟨27, _⟩ => ⟨S4x3x4096, .f32⟩
  | .hbm, ⟨28, _⟩ => ⟨S4x3x4096, .f32⟩
  | .hbm, ⟨29, _⟩ => ⟨S_, .f32⟩
  | .hbm, ⟨30, _⟩ => ⟨S4x3x4096, .f32⟩
  | .hbm, ⟨31, _⟩ => ⟨S4x3x4096, .f32⟩
  | .hbm, ⟨32, _⟩ => ⟨S4x4096x3, .f32⟩
  | .hbm, ⟨33, _⟩ => ⟨S4096x2048, .f32⟩
  | .hbm, ⟨34, _⟩ => ⟨S4096x2048, .bf16⟩
  | .hbm, ⟨35, _⟩ => ⟨S4096x1536, .bf16⟩
  | .hbm, ⟨36, _⟩ => ⟨S4096x512, .bf16⟩
  | .hbm, ⟨37, _⟩ => ⟨S4096x512, .bf16⟩
  | .hbm, ⟨38, _⟩ => ⟨S4096x1536, .f32⟩
  | .hbm, ⟨39, _⟩ => ⟨S4096x512, .f32⟩
  | .hbm, ⟨40, _⟩ => ⟨S4096x3072, .bf16⟩
  | .local _ .vmem, ⟨0, _⟩ => ⟨S512x384, .bf16⟩
  | .local _ .vmem, ⟨1, _⟩ => ⟨S512x384, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x384, .f32⟩
  | .local _ .vmem, ⟨7, _⟩ => ⟨S512x384, .f32⟩
  | .local _ .vmem, ⟨8, _⟩ => ⟨S512x384, .bf16⟩
  | .local _ .vmem, ⟨9, _⟩ => ⟨S512x384, .bf16⟩
  | .local _ .vmem, ⟨10, _⟩ => ⟨S1x512x3, .f32⟩
  | .local _ .vmem, ⟨11, _⟩ => ⟨S1x512x3, .f32⟩
  | .local _ .vmem, ⟨12, _⟩ => ⟨S512x384, .f32⟩
  | .local _ .vmem, ⟨13, _⟩ => ⟨S512x384, .f32⟩
  | .local _ .vmem, ⟨14, _⟩ => ⟨S4096x128, .f32⟩
  | .local _ .vmem, ⟨15, _⟩ => ⟨S4096x128, .f32⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | .local _ .vmem, ⟨20, _⟩ => ⟨S768x4096, .bf16⟩
  | .local _ .vmem, ⟨21, _⟩ => ⟨S768x4096, .bf16⟩
  | .local _ .vmem, ⟨22, _⟩ => ⟨S768x128, .bf16⟩
  | .local _ .vmem, ⟨23, _⟩ => ⟨S768x128, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29_0 : Ref sig .tc := ⟨.hbm, 38, rfl⟩
abbrev main_v29_1 : Ref sig .tc := ⟨.hbm, 39, rfl⟩
abbrev main_v29_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v279 : BitVec 1 := Scalar.cmpi .eq arg1 c7_i32
  let v280 : BitVec 32 := Scalar.extui v279
  let c0_i32_184 : BitVec 32 := 0#32
  let v281 : BitVec 1 := Scalar.cmpi .ne v280 c0_i32_184
  v281

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x128x4096 : Shape := ⟨3, ![4, 128, 4096]⟩
abbrev S4x4096x3x128 : Shape := ⟨4, ![4, 4096, 3, 128]⟩
abbrev S4x4096x128 : Shape := ⟨3, ![4, 4096, 128]⟩
abbrev S4096x3072 : Shape := ⟨2, ![4096, 3072]⟩

abbrev nBuf : Space → Nat
  | .hbm => 88
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S4096x512, .f32⟩
  | .hbm, ⟨5, _⟩ => ⟨S4096x4x3x128, .f32⟩
  | .hbm, ⟨6, _⟩ => ⟨S4096x4x128, .f32⟩
  | .hbm, ⟨7, _⟩ => ⟨S4096x4x128, .f32⟩
  | .hbm, ⟨8, _⟩ => ⟨S4x4096x4096x3, .f32⟩
  | .hbm, ⟨9, _⟩ => ⟨S4x3x4096x4096, .f32⟩
  | .hbm, ⟨10, _⟩ => ⟨S_, .f32⟩
  | .hbm, ⟨11, _⟩ => ⟨S4x3x4096x4096, .f32⟩
  | .hbm, ⟨12, _⟩ => ⟨S4x3x4096x4096, .f32⟩
  | .hbm, ⟨13, _⟩ => ⟨S_, .f32⟩
  | .hbm, ⟨14, _⟩ => ⟨S4x3x4096, .f32⟩
  | .hbm, ⟨15, _⟩ => ⟨S4x3x4096x1, .f32⟩
  | .hbm, ⟨16, _⟩ => ⟨S4x3x4096x4096, .f32⟩
  | .hbm, ⟨17, _⟩ => ⟨S4x3x4096x4096, .i1⟩
  | .hbm, ⟨18, _⟩ => ⟨S4x3x4096x4096, .f32⟩
  | .hbm, ⟨19, _⟩ => ⟨S_, .f32⟩
  | .hbm, ⟨20, _⟩ => ⟨S4x3x4096, .f32⟩
  | .hbm, ⟨21, _⟩ => ⟨S_, .f32⟩
  | .hbm, ⟨22, _⟩ => ⟨S4x3x4096, .f32⟩
  | .hbm, ⟨23, _⟩ => ⟨S4x3x4096, .f32⟩
  | .hbm, ⟨24, _⟩ => ⟨S_, .f32⟩
  | .hbm, ⟨25, _⟩ => ⟨S4x3x4096, .f32⟩
  | .hbm, ⟨26, _⟩ => ⟨S4x3x4096, .i1⟩
  | .hbm, ⟨27, _⟩ => ⟨S_, .f32⟩
  | .hbm, ⟨28, _⟩ => ⟨S4x3x4096, .f32⟩
  | .hbm, ⟨29, _⟩ => ⟨S4x3x4096, .i1⟩
  | .hbm, ⟨30, _⟩ => ⟨S_, .f32⟩
  | .hbm, ⟨31, _⟩ => ⟨S4x3x4096, .f32⟩
  | .hbm, ⟨32, _⟩ => ⟨S_, .f32⟩
  | .hbm, ⟨33, _⟩ => ⟨S4x3x4096, .f32⟩
  | .hbm, ⟨34, _⟩ => ⟨S_, .f32⟩
  | .hbm, ⟨35, _⟩ => ⟨S4x3x4096, .f32⟩
  | .hbm, ⟨36, _⟩ => ⟨S4x3x4096, .f32⟩
  | .hbm, ⟨37, _⟩ => ⟨S4x3x4096, .f32⟩
  | .hbm, ⟨38, _⟩ => ⟨S4x3x4096x1, .f32⟩
  | .hbm, ⟨39, _⟩ => ⟨S4x3x4096x4096, .f32⟩
  | .hbm, ⟨40, _⟩ => ⟨S4x3x4096x4096, .f32⟩
  | .hbm, ⟨41, _⟩ => ⟨S4x3x4096x4096, .f32⟩
  | .hbm, ⟨42, _⟩ => ⟨S_, .f32⟩
  | .hbm, ⟨43, _⟩ => ⟨S4x3x4096, .f32⟩
  | .hbm, ⟨44, _⟩ => ⟨S4x3x4096x1, .f32⟩
  | .hbm, ⟨45, _⟩ => ⟨S4x3x4096x4096, .f32⟩
  | .hbm, ⟨46, _⟩ => ⟨S4x3x4096x4096, .f32⟩
  | .hbm, ⟨47, _⟩ => ⟨S4x3x4096x1, .f32⟩
  | .hbm, ⟨48, _⟩ => ⟨S_, .f32⟩
  | .hbm, ⟨49, _⟩ => ⟨S4x3x4096x1, .f32⟩
  | .hbm, ⟨50, _⟩ => ⟨S4x3x4096x1, .f32⟩
  | .hbm, ⟨51, _⟩ => ⟨S4x128x3x4096, .f32⟩
  | .hbm, ⟨52, _⟩ => ⟨S4096x4x3x128, .f32⟩
  | .hbm, ⟨53, _⟩ => ⟨S4096x1536, .f32⟩
  | .hbm, ⟨54, _⟩ => ⟨S4096x1536, .f32⟩
  | .hbm, ⟨55, _⟩ => ⟨S4096x4x3x128, .f32⟩
  | .hbm, ⟨56, _⟩ => ⟨S4x128x3x4096, .f32⟩
  | .hbm, ⟨57, _⟩ => ⟨S4x3x4096x4096, .f32⟩
  | .hbm, ⟨58, _⟩ => ⟨S4x128x4096, .f32⟩
  | .hbm, ⟨59, _⟩ => ⟨S4096x4x128, .f32⟩
  | .hbm, ⟨60, _⟩ => ⟨S4x3x4096x4096, .f32⟩
  | .hbm, ⟨61, _⟩ => ⟨S4x3x4096x4096, .f32⟩
  | .hbm, ⟨62, _⟩ => ⟨S4x3x4096x4096, .f32⟩
  | .hbm, ⟨63, _⟩ => ⟨S_, .f32⟩
  | .hbm, ⟨64, _⟩ => ⟨S4x3x4096, .f32⟩
  | .hbm, ⟨65, _⟩ => ⟨S4x3x4096x1, .f32⟩
  | .hbm, ⟨66, _⟩ => ⟨S4x3x4096x1, .f32⟩
  | .hbm, ⟨67, _⟩ => ⟨S4x3x4096x4096, .f32⟩
  | .hbm, ⟨68, _⟩ => ⟨S4x3x4096x4096, .f32⟩
  | .hbm, ⟨69, _⟩ => ⟨S_, .f32⟩
  | .hbm, ⟨70, _⟩ => ⟨S4x3x4096, .f32⟩
  | .hbm, ⟨71, _⟩ => ⟨S4x3x4096x4096, .f32⟩
  | .hbm, ⟨72, _⟩ => ⟨S4x3x4096x4096, .f32⟩
  | .hbm, ⟨73, _⟩ => ⟨S4x3x4096x4096, .f32⟩
  | .hbm, ⟨74, _⟩ => ⟨S_, .f32⟩
  | .hbm, ⟨75, _⟩ => ⟨S4x3x4096x4096, .f32⟩
  | .hbm, ⟨76, _⟩ => ⟨S4x3x4096x4096, .f32⟩
  | .hbm, ⟨77, _⟩ => ⟨S4x4096x4096x3, .f32⟩
  | .hbm, ⟨78, _⟩ => ⟨S4x4096x3x128, .f32⟩
  | .hbm, ⟨79, _⟩ => ⟨S4096x4x3x128, .f32⟩
  | .hbm, ⟨80, _⟩ => ⟨S4x4096x128, .f32⟩
  | .hbm, ⟨81, _⟩ => ⟨S4096x4x128, .f32⟩
  | .hbm, ⟨82, _⟩ => ⟨S4096x512, .f32⟩
  | .hbm, ⟨83, _⟩ => ⟨S4096x512, .f32⟩
  | .hbm, ⟨84, _⟩ => ⟨S4096x1536, .f32⟩
  | .hbm, ⟨85, _⟩ => ⟨S_, .f32⟩
  | .hbm, ⟨86, _⟩ => ⟨S4096x3072, .f32⟩
  | .hbm, ⟨87, _⟩ => ⟨S4096x3072, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_9 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_12 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Ffn.lean ====
abbrev S4096x2048 : Shape := ⟨2, ![4096, 2048]⟩
abbrev S2048x11264 : Shape := ⟨2, ![2048, 11264]⟩
abbrev S5632x2048 : Shape := ⟨2, ![5632, 2048]⟩
abbrev S4096x5632 : Shape := ⟨2, ![4096, 5632]⟩
abbrev S2x4096x5632 : Shape := ⟨3, ![2, 4096, 5632]⟩
abbrev S1024x2048 : Shape := ⟨2, ![1024, 2048]⟩
abbrev S2048x512 : Shape := ⟨2, ![2048, 512]⟩
abbrev S1024x512 : Shape := ⟨2, ![1024, 512]⟩
abbrev S2x1024x512 : Shape := ⟨3, ![2, 1024, 512]⟩
abbrev S1x1024x512 : Shape := ⟨3, ![1, 1024, 512]⟩
abbrev S512x5632 : Shape := ⟨2, ![512, 5632]⟩
abbrev S5632x1024 : Shape := ⟨2, ![5632, 1024]⟩
abbrev S512x1024 : Shape := ⟨2, ![512, 1024]⟩
abbrev S2048x2048 : Shape := ⟨2, ![2048, 2048]⟩
abbrev S512x2048 : Shape := ⟨2, ![512, 2048]⟩
abbrev S2x2048x512 : Shape := ⟨3, ![2, 2048, 512]⟩
abbrev S1x2048x512 : Shape := ⟨3, ![1, 2048, 512]⟩
abbrev S4096x512 : Shape := ⟨2, ![4096, 512]⟩
abbrev S4096x1024 : Shape := ⟨2, ![4096, 1024]⟩
abbrev S2048x4096 : Shape := ⟨2, ![2048, 4096]⟩
abbrev S1024x4096 : Shape := ⟨2, ![1024, 4096]⟩
abbrev S1x4096x512 : Shape := ⟨3, ![1, 4096, 512]⟩

abbrev nBuf : Space → Nat
  | .hbm => 18
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S2048x11264, .bf16⟩
  | .hbm, ⟨7, _⟩ => ⟨S5632x2048, .bf16⟩
  | .hbm, ⟨8, _⟩ => ⟨S4096x2048, .bf16⟩
  | .hbm, ⟨9, _⟩ => ⟨S4096x5632, .bf16⟩
  | .hbm, ⟨10, _⟩ => ⟨S2x4096x5632, .bf16⟩
  | .hbm, ⟨11, _⟩ => ⟨S4096x2048, .f32⟩
  | .hbm, ⟨12, _⟩ => ⟨S2x4096x5632, .bf16⟩
  | .hbm, ⟨13, _⟩ => ⟨S5632x2048, .f32⟩
  | .hbm, ⟨14, _⟩ => ⟨S5632x2048, .bf16⟩
  | .hbm, ⟨15, _⟩ => ⟨S2048x4096, .bf16⟩
  | .hbm, ⟨16, _⟩ => ⟨S2048x11264, .f32⟩
  | .hbm, ⟨17, _⟩ => ⟨S2048x11264, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1024x512, .bf16⟩
  | .local _ .vmem, ⟨7, _⟩ => ⟨S1024x512, .bf16⟩
  | .local _ .vmem, ⟨8, _⟩ => ⟨S2x1024x512, .bf16⟩
  | .local _ .vmem, ⟨9, _⟩ => ⟨S2x1024x512, .bf16⟩
  | .local _ .vmem, ⟨10, _⟩ => ⟨S512x5632, .bf16⟩
  | .local _ .vmem, ⟨11, _⟩ => ⟨S512x5632, .bf16⟩
  | .local _ .vmem, ⟨12, _⟩ => ⟨S5632x1024, .bf16⟩
  | .local _ .vmem, ⟨13, _⟩ => ⟨S5632x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S2048x2048, .bf16⟩
  | .local _ .vmem, ⟨19, _⟩ => ⟨S2048x2048, .bf16⟩
  | .local _ .vmem, ⟨20, _⟩ => ⟨S512x2048, .bf16⟩
  | .local _ .vmem, ⟨21, _⟩ => ⟨S512x2048, .bf16⟩
  | .local _ .vmem, ⟨22, _⟩ => ⟨S2x2048x512, .bf16⟩
  | .local _ .vmem, ⟨23, _⟩ => ⟨S2x2048x512, .bf16⟩
  | .local _ .vmem, ⟨24, _⟩ => ⟨S2x2048x512, .bf16⟩
  | .local _ .vmem, ⟨25, _⟩ => ⟨S2x2048x512, .bf16⟩
  | .local _ .vmem, ⟨26, _⟩ => ⟨S4096x512, .bf16⟩
  | .local _ .vmem, ⟨27, _⟩ => ⟨S4096x512, .bf16⟩
  | .local _ .vmem, ⟨28, _⟩ => ⟨S4096x1024, .bf16⟩
  | .local _ .vmem, ⟨29, _⟩ => ⟨S4096x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S1024x4096, .bf16⟩
  | .local _ .vmem, ⟨35, _⟩ => ⟨S1024x4096, .bf16⟩
  | .local _ .vmem, ⟨36, _⟩ => ⟨S1x4096x512, .bf16⟩
  | .local _ .vmem, ⟨37, _⟩ => ⟨S1x4096x512, .bf16⟩
  | .local _ .vmem, ⟨38, _⟩ => ⟨S1024x512, .f32⟩
  | .local _ .vmem, ⟨39, _⟩ => ⟨S1024x512, .f32⟩
  | .local _ .vmem, ⟨40, _⟩ => ⟨S1024x512, .bf16⟩
  | .local _ .vmem, ⟨41, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S5632x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![2, 11], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S2x2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨3, ![11, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 22, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S1x4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev stage4_3 : Fin 2 → Memref sig .tc .vmem S1024x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]
-- ==== FfnReferenceIdeal.lean ====
abbrev S4096x2048 : Shape := ⟨2, ![4096, 2048]⟩
abbrev S2048x11264 : Shape := ⟨2, ![2048, 11264]⟩
abbrev S5632x2048 : Shape := ⟨2, ![5632, 2048]⟩
abbrev S4096x11264 : Shape := ⟨2, ![4096, 11264]⟩
abbrev S4096x5632 : Shape := ⟨2, ![4096, 5632]⟩
abbrev S_ : Shape := ⟨0, ![]⟩
abbrev S2048x5632 : Shape := ⟨2, ![2048, 5632]⟩
abbrev S11264x2048 : Shape := ⟨2, ![11264, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S5632x2048, .f32⟩
  | .hbm, ⟨3, _⟩ => ⟨S4096x2048, .f32⟩
  | .hbm, ⟨4, _⟩ => ⟨S4096x2048, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S2048x5632, .f32⟩
  | .hbm, ⟨24, _⟩ => ⟨S5632x2048, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x11264, .f32⟩
  | .hbm, ⟨33, _⟩ => ⟨S11264x2048, .f32⟩
  | .hbm, ⟨34, _⟩ => ⟨S2048x11264, .f32⟩
  | .hbm, ⟨35, _⟩ => ⟨S4096x2048, .f32⟩
  | .hbm, ⟨36, _⟩ => ⟨S4096x2048, .f32⟩
  | .hbm, ⟨37, _⟩ => ⟨S5632x2048, .bf16⟩
  | .hbm, ⟨38, _⟩ => ⟨S2048x11264, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v3_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v3_1 : Ref sig .tc := ⟨.hbm, 19, rfl⟩
abbrev main_v3_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]
-- ==== FfnInput.lean ====
abbrev S4096x2048 : Shape := ⟨2, ![4096, 2048]⟩
abbrev S2048x11264 : Shape := ⟨2, ![2048, 11264]⟩
abbrev S2x4096x5632 : Shape := ⟨3, ![2, 4096, 5632]⟩
abbrev S1x512x2816 : Shape := ⟨3, ![1, 512, 2816]⟩
abbrev S2048x2816 : Shape := ⟨2, ![2048, 2816]⟩
abbrev S512x2048 : Shape := ⟨2, ![512, 2048]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2x4096x5632, .f32⟩
  | .hbm, ⟨3, _⟩ => ⟨S2x4096x5632, .bf16⟩
  | .hbm, ⟨4, _⟩ => ⟨S2048x11264, .bf16⟩
  | .hbm, ⟨5, _⟩ => ⟨S4096x2048, .f32⟩
  | .local _ .vmem, ⟨0, _⟩ => ⟨S1x512x2816, .bf16⟩
  | .local _ .vmem, ⟨1, _⟩ => ⟨S1x512x2816, .bf16⟩
  | .local _ .vmem, ⟨2, _⟩ => ⟨S2048x2816, .bf16⟩
  | .local _ .vmem, ⟨3, _⟩ => ⟨S2048x2816, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInputReferenceIdeal.lean ====
abbrev S4096x2048 : Shape := ⟨2, ![4096, 2048]⟩
abbrev S2048x11264 : Shape := ⟨2, ![2048, 11264]⟩
abbrev S2x4096x5632 : Shape := ⟨3, ![2, 4096, 5632]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2x4096x5632, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S1x4096x5632, .f32⟩
  | .hbm, ⟨7, _⟩ => ⟨S4096x5632, .f32⟩
  | .hbm, ⟨8, _⟩ => ⟨S1x4096x5632, .f32⟩
  | .hbm, ⟨9, _⟩ => ⟨S4096x5632, .f32⟩
  | .hbm, ⟨10, _⟩ => ⟨S4096x11264, .f32⟩
  | .hbm, ⟨11, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S2048x2048, .bf16⟩
  | .hbm, ⟨6, _⟩ => ⟨S4096x2048, .bf16⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1024x1024, .f32⟩
  | .local _ .vmem, ⟨13, _⟩ => ⟨S1024x1024, .f32⟩
  | .local _ .vmem, ⟨14, _⟩ => ⟨S4096x512, .bf16⟩
  | .local _ .vmem, ⟨15, _⟩ => ⟨S4096x512, .bf16⟩
  | .local _ .vmem, ⟨16, _⟩ => ⟨S4096x1024, .bf16⟩
  | .local _ .vmem, ⟨17, _⟩ => ⟨S4096x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== OutReferenceIdeal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InA.lean ====
abbrev S4096x2048 : Shape := ⟨2, ![4096, 2048]⟩
abbrev S2048x3584 : Shape := ⟨2, ![2048, 3584]⟩
abbrev S4096x3584 : Shape := ⟨2, ![4096, 3584]⟩
abbrev S2048x2048 : Shape := ⟨2, ![2048, 2048]⟩
abbrev S2048x512 : Shape := ⟨2, ![2048, 512]⟩
abbrev S1024x3584 : Shape := ⟨2, ![1024, 3584]⟩
abbrev S1024x1024 : Shape := ⟨2, ![1024, 1024]⟩
abbrev S2048x4096 : Shape := ⟨2, ![2048, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048x3584, .f32⟩
  | .hbm, ⟨2, _⟩ => ⟨S4096x3584, .f32⟩
  | .hbm, ⟨3, _⟩ => ⟨S4096x2048, .bf16⟩
  | .hbm, ⟨4, _⟩ => ⟨S2048x3584, .bf16⟩
  | .hbm, ⟨5, _⟩ => ⟨S4096x3584, .bf16⟩
  | .hbm, ⟨6, _⟩ => ⟨S4096x3584, .f32⟩
  | .hbm, ⟨7, _⟩ => ⟨S4096x2048, .f32⟩
  | .hbm, ⟨8, _⟩ => ⟨S2048x4096, .bf16⟩
  | .hbm, ⟨9, _⟩ => ⟨S2048x3584, .f32⟩
  | .hbm, ⟨10, _⟩ => ⟨S2048x3584, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1024x3584, .bf16⟩
  | .local _ .vmem, ⟨7, _⟩ => ⟨S1024x3584, .bf16⟩
  | .local _ .vmem, ⟨8, _⟩ => ⟨S1024x3584, .bf16⟩
  | .local _ .vmem, ⟨9, _⟩ => ⟨S1024x3584, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S4096x512, .bf16⟩
  | .local _ .vmem, ⟨15, _⟩ => ⟨S4096x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x3584 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 7, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== InAIdeal.lean ====
abbrev S4096x2048 : Shape := ⟨2, ![4096, 2048]⟩
abbrev S2048x3584 : Shape := ⟨2, ![2048, 3584]⟩
abbrev S4096x3584 : Shape := ⟨2, ![4096, 3584]⟩
abbrev S2048x2048 : Shape := ⟨2, ![2048, 2048]⟩
abbrev S2048x512 : Shape := ⟨2, ![2048, 512]⟩
abbrev S1024x3584 : Shape := ⟨2, ![1024, 3584]⟩
abbrev S1024x1024 : Shape := ⟨2, ![1024, 1024]⟩
abbrev S2048x4096 : Shape := ⟨2, ![2048, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048x3584, .f32⟩
  | .hbm, ⟨2, _⟩ => ⟨S4096x3584, .f32⟩
  | .hbm, ⟨3, _⟩ => ⟨S4096x2048, .bf16⟩
  | .hbm, ⟨4, _⟩ => ⟨S2048x3584, .bf16⟩
  | .hbm, ⟨5, _⟩ => ⟨S4096x3584, .bf16⟩
  | .hbm, ⟨6, _⟩ => ⟨S4096x3584, .f32⟩
  | .hbm, ⟨7, _⟩ => ⟨S4096x2048, .f32⟩
  | .hbm, ⟨8, _⟩ => ⟨S2048x4096, .bf16⟩
  | .hbm, ⟨9, _⟩ => ⟨S2048x3584, .f32⟩
  | .hbm, ⟨10, _⟩ => ⟨S2048x3584, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1024x3584, .bf16⟩
  | .local _ .vmem, ⟨7, _⟩ => ⟨S1024x3584, .bf16⟩
  | .local _ .vmem, ⟨8, _⟩ => ⟨S1024x3584, .bf16⟩
  | .local _ .vmem, ⟨9, _⟩ => ⟨S1024x3584, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S4096x512, .bf16⟩
  | .local _ .vmem, ⟨15, _⟩ => ⟨S4096x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![2, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x3584 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 7, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== InAReferenceIdeal.lean ====
abbrev S4096x2048 : Shape := ⟨2, ![4096, 2048]⟩
abbrev S2048x3584 : Shape := ⟨2, ![2048, 3584]⟩
abbrev S4096x3584 : Shape := ⟨2, ![4096, 3584]⟩
abbrev S3584x2048 : Shape := ⟨2, ![3584, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3584, .f32⟩
  | .hbm, ⟨2, _⟩ => ⟨S4096x3584, .f32⟩
  | .hbm, ⟨3, _⟩ => ⟨S4096x3584, .f32⟩
  | .hbm, ⟨4, _⟩ => ⟨S3584x2048, .f32⟩
  | .hbm, ⟨5, _⟩ => ⟨S2048x3584, .f32⟩
  | .hbm, ⟨6, _⟩ => ⟨S4096x2048, .f32⟩
  | .hbm, ⟨7, _⟩ => ⟨S2048x3584, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InB.lean ====
abbrev S4096x2048 : Shape := ⟨2, ![4096, 2048]⟩
abbrev S2048x3072 : Shape := ⟨2, ![2048, 3072]⟩
abbrev S4096x3072 : Shape := ⟨2, ![4096, 3072]⟩
abbrev S2048x2048 : Shape := ⟨2, ![2048, 2048]⟩
abbrev S2048x512 : Shape := ⟨2, ![2048, 512]⟩
abbrev S1024x3072 : Shape := ⟨2, ![1024, 3072]⟩
abbrev S1024x1024 : Shape := ⟨2, ![1024, 1024]⟩
abbrev S2048x4096 : Shape := ⟨2, ![2048, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 11
  | .vmem => 20
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | .hbm, ⟨3, _⟩ => ⟨S4096x2048, .bf16⟩
  | .hbm, ⟨4, _⟩ => ⟨S2048x3072, .bf16⟩
  | .hbm, ⟨5, _⟩ => ⟨S4096x3072, .bf16⟩
  | .hbm, ⟨6, _⟩ => ⟨S4096x3072, .f32⟩
  | .hbm, ⟨7, _⟩ => ⟨S4096x2048, .f32⟩
  | .hbm, ⟨8, _⟩ => ⟨S2048x4096, .bf16⟩
  | .hbm, ⟨9, _⟩ => ⟨S2048x3072, .f32⟩
  | .hbm, ⟨10, _⟩ => ⟨S2048x3072, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S1024x3072, .bf16⟩
  | .local _ .vmem, ⟨7, _⟩ => ⟨S1024x3072, .bf16⟩
  | .local _ .vmem, ⟨8, _⟩ => ⟨S1024x3072, .bf16⟩
  | .local _ .vmem, ⟨9, _⟩ => ⟨S1024x3072, .bf16⟩
  | .local _ .vmem, ⟨10, _⟩ => ⟨S1024x1024, .f32⟩
  | .local _ .vmem, ⟨11, _⟩ => ⟨S1024x1024, .f32⟩
  | .local _ .vmem, ⟨12, _⟩ => ⟨S1024x4096, .bf16⟩
  | .local _ .vmem, ⟨13, _⟩ => ⟨S1024x4096, .bf16⟩
  | .local _ .vmem, ⟨14, _⟩ => ⟨S4096x512, .bf16⟩
  | .local _ .vmem, ⟨15, _⟩ => ⟨S4096x512, .bf16⟩
  | .local _ .vmem, ⟨16, _⟩ => ⟨S1024x512, .f32⟩
  | .local _ .vmem, ⟨17, _⟩ => ⟨S1024x512, .f32⟩
  | .local _ .vmem, ⟨18, _⟩ => ⟨S1024x512, .bf16⟩
  | .local _ .vmem, ⟨19, _⟩ => ⟨S1024x512, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 6, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== InBReferenceIdeal.lean ====
abbrev S4096x2048 : Shape := ⟨2, ![4096, 2048]⟩
abbrev S2048x3072 : Shape := ⟨2, ![2048, 3072]⟩
abbrev S4096x3072 : Shape := ⟨2, ![4096, 3072]⟩
abbrev S3072x2048 : Shape := ⟨2, ![3072, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x3072, .f32⟩
  | .hbm, ⟨2, _⟩ => ⟨S4096x3072, .f32⟩
  | .hbm, ⟨3, _⟩ => ⟨S4096x3072, .f32⟩
  | .hbm, ⟨4, _⟩ => ⟨S3072x2048, .f32⟩
  | .hbm, ⟨5, _⟩ => ⟨S2048x3072, .f32⟩
  | .hbm, ⟨6, _⟩ => ⟨S4096x2048, .f32⟩
  | .hbm, ⟨7, _⟩ => ⟨S2048x3072, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnFwd.lean ====
abbrev S4096x1536 : Shape := ⟨2, ![4096, 1536]⟩
abbrev S4096x512 : Shape := ⟨2, ![4096, 512]⟩
abbrev S4096x2048 : Shape := ⟨2, ![4096, 2048]⟩
abbrev S4x4096x3 : Shape := ⟨3, ![4, 4096, 3]⟩
abbrev S1024x384 : Shape := ⟨2, ![1024, 384]⟩
abbrev S4096x128 : Shape := ⟨2, ![4096, 128]⟩
abbrev S1x1024x3 : Shape := ⟨3, ![1, 1024, 3]⟩
abbrev S4096x256 : Shape := ⟨2, ![4096, 256]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S256x256 : Shape := ⟨2, ![256, 256]⟩
abbrev S1x256x1 : Shape := ⟨3, ![1, 256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x1536, .bf16⟩
  | .hbm, ⟨4, _⟩ => ⟨S4096x512, .bf16⟩
  | .hbm, ⟨5, _⟩ => ⟨S4096x512, .bf16⟩
  | .hbm, ⟨6, _⟩ => ⟨S4096x2048, .bf16⟩
  | .hbm, ⟨7, _⟩ => ⟨S4x4096x3, .f32⟩
  | .local _ .vmem, ⟨0, _⟩ => ⟨S1024x384, .bf16⟩
  | .local _ .vmem, ⟨1, _⟩ => ⟨S1024x384, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1024x384, .bf16⟩
  | .local _ .vmem, ⟨7, _⟩ => ⟨S1024x384, .bf16⟩
  | .local _ .vmem, ⟨8, _⟩ => ⟨S1x1024x3, .f32⟩
  | .local _ .vmem, ⟨9, _⟩ => ⟨S1x1024x3, .f32⟩
  | .local _ .vmem, ⟨10, _⟩ => ⟨S4096x256, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnFwdIdeal.lean ====
variable {F : FTy → Type} [FloatOps F] [Named F]
def κ : String → Option EReal := fun
  | "inv_log2" => some (((Real.log 2)⁻¹ : ℝ) : EReal)
  | "log2_scale" => some (((11863283 / 134217728)⁻¹ * (Real.log 2) : ℝ) : EReal)
  | "scale_log2e" => some (((11863283 / 134217728) * (Real.log 2)⁻¹ : ℝ) : EReal)
  | _ => none
-- ==== AttnFwdReferenceIdeal.lean ====
abbrev S4096x1536 : Shape := ⟨2, ![4096, 1536]⟩
abbrev S4096x512 : Shape := ⟨2, ![4096, 512]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x4096x3 : Shape := ⟨3, ![4, 4096, 3]⟩
abbrev S4096x2048 : Shape := ⟨2, ![4096, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x4x3x128, .f32⟩
  | .hbm, ⟨4, _⟩ => ⟨S4096x4x128, .f32⟩
  | .hbm, ⟨5, _⟩ => ⟨S4096x4x128, .f32⟩
  | .hbm, ⟨6, _⟩ => ⟨S4x4096x4096x3, .f32⟩
  | .hbm, ⟨7, _⟩ => ⟨S4x3x4096x4096, .f32⟩
  | .hbm, ⟨8, _⟩ => ⟨S_, .f32⟩
  | .hbm, ⟨9, _⟩ => ⟨S4x3x4096x4096, .f32⟩
  | .hbm, ⟨10, _⟩ => ⟨S4x3x4096x4096, .f32⟩
  | .hbm, ⟨11, _⟩ => ⟨S_, .f32⟩
  | .hbm, ⟨12, _⟩ => ⟨S4x3x4096, .f32⟩
  | .hbm, ⟨13, _⟩ => ⟨S4x3x4096x1, .f32⟩
  | .hbm, ⟨14, _⟩ => ⟨S4x3x4096x4096, .f32⟩
  | .hbm, ⟨15, _⟩ => ⟨S4x3x4096x4096, .f32⟩
  | .hbm, ⟨16, _⟩ => ⟨S4x3x4096x4096, .f32⟩
  | .hbm, ⟨17, _⟩ => ⟨S_, .f32⟩
  | .hbm, ⟨18, _⟩ => ⟨S4x3x4096, .f32⟩
  | .hbm, ⟨19, _⟩ => ⟨S4x3x4096x1, .f32⟩
  | .hbm, ⟨20, _⟩ => ⟨S4x3x4096x4096, .f32⟩
  | .hbm, ⟨21, _⟩ => ⟨S4x3x4096x4096, .f32⟩
  | .hbm, ⟨22, _⟩ => ⟨S4x128x3x4096, .f32⟩
  | .hbm, ⟨23, _⟩ => ⟨S4096x4x3x128, .f32⟩
  | .hbm, ⟨24, _⟩ => ⟨S4096x1536, .f32⟩
  | .hbm, ⟨25, _⟩ => ⟨S4x3x4096, .f32⟩
  | .hbm, ⟨26, _⟩ => ⟨S4x3x4096, .f32⟩
  | .hbm, ⟨27, _⟩ => ⟨S_, .f32⟩
  | .hbm, ⟨28, _⟩ => ⟨S4x3x4096, .f32⟩
  | .hbm, ⟨29, _⟩ => ⟨S4x3x4096, .f32⟩
  | .hbm, ⟨30, _⟩ => ⟨S4x4096x3, .f32⟩
  | .hbm, ⟨31, _⟩ => ⟨S4096x4x3x128, .f32⟩
  | .hbm, ⟨32, _⟩ => ⟨S4096x4x128, .f32⟩
  | .hbm, ⟨33, _⟩ => ⟨S4096x4x128, .f32⟩
  | .hbm, ⟨34, _⟩ => ⟨S4x4096x4096x3, .f32⟩
  | .hbm, ⟨35, _⟩ => ⟨S4x3x4096x4096, .f32⟩
  | .hbm, ⟨36, _⟩ => ⟨S_, .f32⟩
  | .hbm, ⟨37, _⟩ => ⟨S4x3x4096x4096, .f32⟩
  | .hbm, ⟨38, _⟩ => ⟨S4x3x4096x4096, .f32⟩
  | .hbm, ⟨39, _⟩ => ⟨S_, .f32⟩
  | .hbm, ⟨40, _⟩ => ⟨S4x3x4096, .f32⟩
  | .hbm, ⟨41, _⟩ => ⟨S_, .f32⟩
  | .hbm, ⟨42, _⟩ => ⟨S4x3x4096, .f32⟩
  | .hbm, ⟨43, _⟩ => ⟨S4x3x4096, .f32⟩
  | .hbm, ⟨44, _⟩ => ⟨S4x3x4096x1, .f32⟩
  | .hbm, ⟨45, _⟩ => ⟨S4x3x4096x4096, .f32⟩
  | .hbm, ⟨46, _⟩ => ⟨S4x3x4096x4096, .f32⟩
  | .hbm, ⟨47, _⟩ => ⟨S4x3x4096x4096, .f32⟩
  | .hbm, ⟨48, _⟩ => ⟨S_, .f32⟩
  | .hbm, ⟨49, _⟩ => ⟨S4x3x4096, .f32⟩
  | .hbm, ⟨50, _⟩ => ⟨S4x3x4096x1, .f32⟩
  | .hbm, ⟨51, _⟩ => ⟨S4x3x4096x4096, .f32⟩
  | .hbm, ⟨52, _⟩ => ⟨S4x3x4096x4096, .f32⟩
  | .hbm, ⟨53, _⟩ => ⟨S4x128x3x4096, .f32⟩
  | .hbm, ⟨54, _⟩ => ⟨S4096x4x3x128, .f32⟩
  | .hbm, ⟨55, _⟩ => ⟨S4096x1536, .f32⟩
  | .hbm, ⟨56, _⟩ => ⟨S_, .f32⟩
  | .hbm, ⟨57, _⟩ => ⟨S4096x2048, .f32⟩
  | .hbm, ⟨58, _⟩ => ⟨S4096x2048, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]
-- ==== Norm.lean ====
abbrev S4096x2048 : Shape := ⟨2, ![4096, 2048]⟩
abbrev S2048 : Shape := ⟨1, ![2048]⟩
abbrev S1x2048 : Shape := ⟨2, ![1, 2048]⟩
abbrev S2048x4096 : Shape := ⟨2, ![2048, 4096]⟩
abbrev S4096x1 : Shape := ⟨2, ![4096, 1]⟩
abbrev S512x2048 : Shape := ⟨2, ![512, 2048]⟩
abbrev S2048x512 : Shape := ⟨2, ![2048, 512]⟩
abbrev S512x1 : Shape := ⟨2, ![512, 1]⟩
abbrev S512 : Shape := ⟨1, ![512]⟩

abbrev nBuf : Space → Nat
  | .hbm => 13
  | .vmem => 23
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .bf16⟩
  | .hbm, ⟨6, _⟩ => ⟨S2048x4096, .bf16⟩
  | .hbm, ⟨7, _⟩ => ⟨S4096x1, .f32⟩
  | .hbm, ⟨8, _⟩ => ⟨S1x2048, .f32⟩
  | .hbm, ⟨9, _⟩ => ⟨S4096x2048, .f32⟩
  | .hbm, ⟨10, _⟩ => ⟨S4096x2048, .bf16⟩
  | .hbm, ⟨11, _⟩ => ⟨S1x2048, .f32⟩
  | .hbm, ⟨12, _⟩ => ⟨S2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | .local _ .vmem, ⟨7, _⟩ => ⟨S512x1, .f32⟩
  | .local _ .vmem, ⟨8, _⟩ => ⟨S512x1, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x1, .f32⟩
  | .local _ .vmem, ⟨17, _⟩ => ⟨S512x1, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | .local _ .vmem, ⟨22, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]
-- ==== NormReferenceIdeal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | .hbm, ⟨50, _⟩ => ⟨S4096x2048, .bf16⟩
  | .hbm, ⟨51, _⟩ => ⟨S2048x4096, .bf16⟩
  | .hbm, ⟨52, _⟩ => ⟨S4096x2048, .f32⟩
  | .hbm, ⟨53, _⟩ => ⟨S4096x2048, .f32⟩
  | .hbm, ⟨54, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Loss.lean ====
abbrev S4096x2048 : Shape := ⟨2, ![4096, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .bf16⟩
  | .hbm, ⟨4, _⟩ => ⟨S1x128, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LossReferenceIdeal.lean ====
abbrev S4096x2048 : Shape := ⟨2, ![4096, 2048]⟩
abbrev S_ : Shape := ⟨0, ![]⟩
abbrev S4096 : Shape := ⟨1, ![4096]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Proof.Maths.lean ====
/- The real arithmetic of one head of attention and of its gradient: soft maximum, its shift by a row constant, the
   power of two the kernel takes in its place, and the two ways to write the gradient of a row of scores. -/
module

public import Mathlib.Analysis.SpecialFunctions.Pow.Real
public import Mathlib.Analysis.SpecialFunctions.Log.Basic
public import Mathlib.Data.EReal.Basic
public import Mathlib.Data.EReal.Operations
public import Mathlib.Algebra.BigOperators.Field

@[expose] public section

noncomputable section

namespace Cert.Attn

/-- A finite sum of reals, as extended reals, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals, as extended reals. -/
theorem coe_dot {ι : Type*} (s : Finset ι) (f g : ι → ℝ) :
    ∑ i ∈ s, ((f i : EReal) * (g i : EReal)) = ((∑ i ∈ s, f i * g i : ℝ) : EReal) := by
  rw [coe_sum]; simp only [EReal.coe_mul]

/-- The maximum of finitely many reals, at least one, taken from minus infinity, is a real. -/
theorem fold_max_coe {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha hs ih =>
    obtain ⟨M, hM⟩ := ih
    refine ⟨max (f a) M, ?_⟩
    rw [Finset.fold_cons, hM, EReal.coe_strictMono.monotone.map_max]

section Row
variable {n : ℕ} [NeZero n]

/-- The sum of the exponentials of a row. -/
def expSum (z : Fin n → ℝ) : ℝ := ∑ s, Real.exp (z s)

/-- The soft maximum of a row at one of its places. -/
def prob (z : Fin n → ℝ) (s : Fin n) : ℝ := Real.exp (z s) / expSum z

theorem expSum_pos (z : Fin n → ℝ) : 0 < expSum z :=
  Finset.sum_pos (fun s _ => Real.exp_pos _) ⟨0, Finset.mem_univ _⟩

/-- Subtracting `M` from the row divides the sum of its exponentials by the exponential of `M`. -/
theorem expSum_shift (z : Fin n → ℝ) (M : ℝ) : expSum (fun s => z s - M) = expSum z / Real.exp M := by
  unfold expSum; simp only [Real.exp_sub, Finset.sum_div]

/-- The soft maximum does not see a constant subtracted from the row. -/
theorem prob_shift (z : Fin n → ℝ) (M : ℝ) (s : Fin n) :
    Real.exp (z s - M) / expSum (fun s => z s - M) = prob z s := by
  have h := (expSum_pos z).ne'
  have hM := (Real.exp_pos M).ne'
  rw [expSum_shift, Real.exp_sub, prob]
  field_simp

/-- The logarithm of the row's sum, taken from the shifted row. -/
theorem lse_shift (z : Fin n → ℝ) (M : ℝ) : M + Real.log (expSum (fun s => z s - M)) = Real.log (expSum z) := by
  rw [expSum_shift, Real.log_div (expSum_pos z).ne' (Real.exp_pos M).ne', Real.log_exp]; ring

/-- The power of two of a score less the row's saved logarithm, both over the scale `c`, is the soft maximum. -/
theorem rpow_prob (x : Fin n → ℝ) (c : ℝ) (hc : c ≠ 0) (s : Fin n) :
    Real.rpow 2 ((x s - Real.log (expSum fun s => x s * c) * (1 / c)) * (c * (Real.log 2)⁻¹)) = prob (fun s => x s * c) s := by
  have h2 : Real.log 2 ≠ 0 := (Real.log_pos (by norm_num)).ne'
  have hp := expSum_pos fun s => x s * c
  rw [Real.rpow_eq_pow, Real.rpow_def_of_pos (by norm_num : (0 : ℝ) < 2)]
  rw [show Real.log 2 * ((x s - Real.log (expSum fun s => x s * c) * (1 / c)) * (c * (Real.log 2)⁻¹))
      = x s * c - Real.log (expSum fun s => x s * c) by generalize Real.log (expSum fun s => x s * c) = u; field_simp]
  rw [Real.exp_sub, Real.exp_log hp, prob]

/-- The gradient of a row of scores, as differentiating the quotient `E / L` writes it, with `E` the exponentials of
    the row less `M` and `L` their sum, is the soft maximum times the difference of the gradient and its mean. -/
theorem grad_row (z : Fin n → ℝ) (M : ℝ) (g : Fin n → ℝ) (s : Fin n) :
    (g s / expSum (fun s => z s - M) + (0 + -∑ u, g u * (1 / (expSum (fun s => z s - M) * expSum (fun s => z s - M))) * Real.exp (z u - M)))
        * Real.exp (z s - M)
      = prob z s * (g s - ∑ u, prob z u * g u) := by
  have hL := (expSum_pos fun s => z s - M).ne'
  rw [← prob_shift z M s]
  simp only [← prob_shift z M]
  have h : ∑ u, g u * (1 / (expSum (fun s => z s - M) * expSum (fun s => z s - M))) * Real.exp (z u - M)
      = (∑ u, Real.exp (z u - M) / expSum (fun s => z s - M) * g u) / expSum (fun s => z s - M) := by
    rw [Finset.sum_div]; refine Finset.sum_congr rfl fun u _ => ?_; field_simp
  rw [h]; field_simp; ring

/-- The mean of the gradient of the row, from the output: `Σ_d D d · (Σ_s V s d · p s) = Σ_s p s · Σ_d D d · V s d`. -/
theorem delta_eq {k : ℕ} (D : Fin k → ℝ) (V : Fin n → Fin k → ℝ) (p : Fin n → ℝ) :
    ∑ d, D d * ∑ s, V s d * p s = ∑ s, p s * ∑ d, D d * V s d := by
  simp only [Finset.mul_sum]
  rw [Finset.sum_comm]
  refine Finset.sum_congr rfl fun s _ => Finset.sum_congr rfl fun d _ => ?_
  ring

end Row

end Cert.Attn

end
-- ==== Proof.Consts.lean ====
/- The float constants the programs spell, as extended reals. -/
module

public import Idealize.ShloMosaic.PureOps.Ideal

@[expose] public section

noncomputable section

namespace Cert.Attn

open Idealize.ShloMosaic

/-- The scale of the scores: `128 ^ (-1/2)` rounded to a 32-bit float. -/
def scale : ℝ := 11863283 / 134217728

theorem scale_ne : scale ≠ 0 := by unfold scale; norm_num

/-- The scale's float denotes `scale`. -/
theorem ofBits_scale : Ideal.ofBits .f32 0x3DB504F3#32 = ((scale : ℝ) : EReal) := by
  unfold scale; simp [Ideal.ofBits, Ideal.ieee, -EReal.coe_mul]; norm_num

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

end Cert.Attn

end
-- ==== Proof.Model.lean ====
/- The gradient of grouped softmax attention over the real numbers: the arrays both programs are read against. -/
module

public import proofs.«01_k».proof.Proof.Maths
public import proofs.«01_k».proof.Proof.Consts

@[expose] public section

noncomputable section

namespace Cert.Attn

/-- The column of the queries that holds lane `d` of query head `g` of key head `h`. -/
def qcol (h : Fin 4) (g : Fin 3) (d : Fin 128) : Fin 1536 := ⟨((h.val * 3 + g.val) * 128 + d.val), by omega⟩

/-- The column of the keys and of the values that holds lane `d` of key head `h`. -/
def kcol (h : Fin 4) (d : Fin 128) : Fin 512 := ⟨h.val * 128 + d.val, by omega⟩

/-- The four real arrays of a backward pass: queries, keys, values and the gradient of the attention's outputs. -/
structure Arrays where
  Q : Fin 4096 → Fin 1536 → ℝ
  K : Fin 4096 → Fin 512 → ℝ
  V : Fin 4096 → Fin 512 → ℝ
  D : Fin 4096 → Fin 1536 → ℝ

namespace Arrays
variable (A : Arrays)

/-- The product of one query row with one key row. -/
def score (h : Fin 4) (g : Fin 3) (t s : Fin 4096) : ℝ := ∑ d, A.Q t (qcol h g d) * A.K s (kcol h d)

/-- One row of scores, scaled. -/
def row (h : Fin 4) (g : Fin 3) (t : Fin 4096) : Fin 4096 → ℝ := fun s => A.score h g t s * scale

/-- The attention's weights. -/
def P (h : Fin 4) (g : Fin 3) (t s : Fin 4096) : ℝ := prob (A.row h g t) s

/-- The attention's output. -/
def O (h : Fin 4) (g : Fin 3) (t : Fin 4096) (d : Fin 128) : ℝ := ∑ s, A.V s (kcol h d) * A.P h g t s

/-- The gradient of the weights. -/
def dP (h : Fin 4) (g : Fin 3) (t s : Fin 4096) : ℝ := ∑ d, A.D t (qcol h g d) * A.V s (kcol h d)

/-- The gradient of the scaled scores. -/
def dS (h : Fin 4) (g : Fin 3) (t s : Fin 4096) : ℝ :=
  A.P h g t s * (A.dP h g t s - ∑ r, A.P h g t r * A.dP h g t r)

/-- The gradient of the queries. -/
def dQ (h : Fin 4) (g : Fin 3) (t : Fin 4096) (d : Fin 128) : ℝ := (∑ s, A.dS h g t s * A.K s (kcol h d)) * scale

/-- The gradient of the keys. -/
def dK (h : Fin 4) (s : Fin 4096) (d : Fin 128) : ℝ := (∑ t, ∑ g, A.dS h g t s * A.Q t (qcol h g d)) * scale

/-- The gradient of the values. -/
def dV (h : Fin 4) (s : Fin 4096) (d : Fin 128) : ℝ := ∑ t, ∑ g, A.P h g t s * A.D t (qcol h g d)

end Arrays

end Cert.Attn
-- ==== Proof.Fwd.lean ====
/- The forward pass on the host, as the reference writes it, read at an index over real arrays. -/
module

public import proofs.«01_k».proof.Proof.Model
public import proofs.«01_k».proof.Proof.Gen.ReferenceIdeal.Read
public import Idealize.ShloMosaic.Lib.KernelVsHost
public import Idealize.ShloMosaic.Lib.Pointwise.Contract

@[expose] public section

noncomputable section

namespace Cert.Attn

open Idealize.ShloMosaic hiding ix1 ix2 ix3 ix4 eq_ix1 eq_ix2 eq_ix3 eq_ix4
open Idealize.ShloMosaic.ValueIdx
open Cert.ReferenceIdeal Cert.ReferenceIdeal.Gen Cert.ReferenceIdeal.Read

/-- The argument arrays hold the real arrays `A`: the queries, the keys, the values, and in its first 1536 columns the
    gradient of the outputs. -/
structure Holds (A : Arrays) (x0 : FVec Ideal S4096x1536 .f32) (x1 x2 : FVec Ideal S4096x512 .f32) (x3 : FVec Ideal S4096x2048 .f32) : Prop where
  q : ∀ t j, x0 (ix2 t j) = ((A.Q t j : ℝ) : EReal)
  k : ∀ t j, x1 (ix2 t j) = ((A.K t j : ℝ) : EReal)
  v : ∀ t j, x2 (ix2 t j) = ((A.V t j : ℝ) : EReal)
  d : ∀ (t : Fin 4096) (j : Fin 1536), x3 (ix2 t ⟨j.val, by omega⟩) = ((A.D t j : ℝ) : EReal)

section
variable {A : Arrays} {x0 : FVec Ideal S4096x1536 .f32} {x1 x2 : FVec Ideal S4096x512 .f32} {x3 : FVec Ideal S4096x2048 .f32}
variable (H : Holds A x0 x1 x2 x3)
include H

theorem at_v0 (t : Fin 4096) (h : Fin 4) (g : Fin 3) (d : Fin 128) :
    val_main_v0 (F := Ideal) x0 (ix4 t h g d) = ((A.Q t (qcol h g d) : ℝ) : EReal) := by
  rw [val_main_v0_apply, ← H.q]
  congr 1
  funext a
  match a with
  | ⟨0, _⟩ => exact Fin.ext (show (((t.val * 4 + h.val) * 3 + g.val) * 128 + d.val) / 1536 = t.val by omega)
  | ⟨1, _⟩ => exact Fin.ext (show (((t.val * 4 + h.val) * 3 + g.val) * 128 + d.val) % 1536 = (h.val * 3 + g.val) * 128 + d.val by omega)

theorem at_v1 (s : Fin 4096) (h : Fin 4) (d : Fin 128) :
    val_main_v1 (F := Ideal) x1 (ix3 s h d) = ((A.K s (kcol h d) : ℝ) : EReal) := by
  rw [val_main_v1_apply, ← H.k]
  congr 1
  funext a
  match a with
  | ⟨0, _⟩ => exact Fin.ext (show ((s.val * 4 + h.val) * 128 + d.val) / 512 = s.val by omega)
  | ⟨1, _⟩ => exact Fin.ext (show ((s.val * 4 + h.val) * 128 + d.val) % 512 = h.val * 128 + d.val by omega)

theorem at_v2 (s : Fin 4096) (h : Fin 4) (d : Fin 128) :
    val_main_v2 (F := Ideal) x2 (ix3 s h d) = ((A.V s (kcol h d) : ℝ) : EReal) := by
  rw [val_main_v2_apply, ← H.v]
  congr 1
  funext a
  match a with
  | ⟨0, _⟩ => exact Fin.ext (show ((s.val * 4 + h.val) * 128 + d.val) / 512 = s.val by omega)
  | ⟨1, _⟩ => exact Fin.ext (show ((s.val * 4 + h.val) * 128 + d.val) % 512 = h.val * 128 + d.val by omega)

/-- The products of the rows of the queries and the keys. -/
theorem at_v3 (h : Fin 4) (s t : Fin 4096) (g : Fin 3) :
    val_main_v3 (F := Ideal) x0 x1 (ix4 h s t g) = ((A.score h g t s : ℝ) : EReal) := by
  rw [val_main_v3_apply, Arrays.score, coe_sum]
  refine Finset.sum_congr rfl fun d _ => ?_
  rw [show lidx_main_v3 (ix4 h s t g) d = ix3 s h d from by funext a; match a with | ⟨0, _⟩ => rfl | ⟨1, _⟩ => rfl | ⟨2, _⟩ => rfl,
    show ridx_main_v3 (ix4 h s t g) d = ix4 t h g d from by funext a; match a with | ⟨0, _⟩ => rfl | ⟨1, _⟩ => rfl | ⟨2, _⟩ => rfl | ⟨3, _⟩ => rfl,
    at_v1 H, at_v0 H, ← EReal.coe_mul, mul_comm]

/-- The scaled scores. -/
theorem at_v6 (h : Fin 4) (g : Fin 3) (t s : Fin 4096) :
    val_main_v6 (F := Ideal) x0 x1 (ix4 h g t s) = ((A.row h g t s : ℝ) : EReal) := by
  rw [val_main_v6_apply, val_main_v4_apply,
    show idx_main_v4 (ix4 h g t s) = ix4 h s t g from by funext a; match a with | ⟨0, _⟩ => rfl | ⟨1, _⟩ => rfl | ⟨2, _⟩ => rfl | ⟨3, _⟩ => rfl,
    at_v3 H, val_main_v5_apply, val_main_cst_apply,
    show (FloatOps.ofBits .f32 0x3DB504F3#32 : Ideal .f32) = ((scale : ℝ) : EReal) from ofBits_scale]
  unfold Arrays.row
  rw [EReal.coe_mul]; rfl

/-- The greatest of a row's scaled scores is a real number. -/
theorem v7_real (h : Fin 4) (g : Fin 3) (t : Fin 4096) :
    ∃ M : ℝ, val_main_v7 (F := Ideal) x0 x1 (ix3 h g t) = ((M : ℝ) : EReal) := by
  have hr : S4x3x4096x4096.Reduces [3] S4x3x4096 := by decide
  have e : val_main_v7 (F := Ideal) x0 x1 (ix3 h g t)
      = (Finset.univ : Finset (Fin 4096)).fold max ⊥ (fun s => ((A.row h g t s : ℝ) : EReal)) := by
    unfold val_main_v7 val_main_cst_0
    rw [hostReduce_maximumf_eq_multiReduction (φ := .f32) _ 0xFF800000#32 _ _ hr (by decide) (by decide), Ideal.multiReduction_maximumf_single]
    refine (congrArg (fun b => Finset.fold max b _ _) (show (FloatOps.ofBits .f32 0xFF800000#32 : Ideal .f32) = ⊥ from ofBits_negInf)).trans ?_
    refine congrArg (fun f => Finset.fold max (⊥ : EReal) f _) (funext fun s => ?_)
    refine Eq.trans ?_ (at_v6 H h g t s)
    exact congrArg (val_main_v6 (F := Ideal) x0 x1) (funext fun a => Fin.ext (by
      match a with | ⟨0, _⟩ => rfl | ⟨1, _⟩ => rfl | ⟨2, _⟩ => rfl | ⟨3, _⟩ => rfl))
  obtain ⟨M, hM⟩ := fold_max_coe (Finset.univ : Finset (Fin 4096)) ⟨0, Finset.mem_univ _⟩ (A.row h g t)
  exact ⟨M, e.trans hM⟩

omit H in
/-- A maximum taken once more with minus infinity is itself. -/
theorem v14_eq : val_main_v14 (F := Ideal) x0 x1 = val_main_v7 (F := Ideal) x0 x1 := by
  funext i
  rw [val_main_v14_apply, val_main_v13_apply, val_main_cst_2_apply,
    show (FloatOps.ofBits .f32 0xFF800000#32 : Ideal .f32) = ⊥ from ofBits_negInf]
  exact max_eq_right bot_le

/-- A number subtracted from a row's scores, common to the row: the row's values hereafter, over it. -/
def rowMax (x0 : FVec Ideal S4096x1536 .f32) (x1 : FVec Ideal S4096x512 .f32) (h : Fin 4) (g : Fin 3) (t : Fin 4096) : ℝ :=
  (val_main_v7 (F := Ideal) x0 x1 (ix3 h g t)).toReal

theorem at_v7 (h : Fin 4) (g : Fin 3) (t : Fin 4096) :
    val_main_v7 (F := Ideal) x0 x1 (ix3 h g t) = ((rowMax x0 x1 h g t : ℝ) : EReal) := by
  obtain ⟨M, hM⟩ := v7_real H h g t
  unfold rowMax
  rw [hM, EReal.toReal_coe]

/-- The exponentials of a row. -/
theorem at_v27 (h : Fin 4) (g : Fin 3) (t s : Fin 4096) :
    val_main_v27 (F := Ideal) x0 x1 (ix4 h g t s) = ((Real.exp (A.row h g t s - rowMax x0 x1 h g t) : ℝ) : EReal) := by
  rw [val_main_v27_apply, val_main_v26_apply, val_main_v25_apply, val_main_v24_apply, at_v6 H, v14_eq,
    show idx_main_v24 (idx_main_v25 (ix4 h g t s)) = ix3 h g t from by funext a; match a with | ⟨0, _⟩ => rfl | ⟨1, _⟩ => rfl | ⟨2, _⟩ => rfl,
    at_v7 H]
  exact (congrArg Ideal.exp (EReal.coe_sub _ _).symm).trans (Ideal.exp_coe _)

/-- The sum of a row's exponentials. -/
theorem at_v28 (h : Fin 4) (g : Fin 3) (t : Fin 4096) :
    val_main_v28 (F := Ideal) x0 x1 (ix3 h g t) = ((expSum (fun s => A.row h g t s - rowMax x0 x1 h g t) : ℝ) : EReal) := by
  rw [val_main_v28_apply, val_main_cst_8_apply, show (FloatOps.ofBits .f32 0x00000000#32 : Ideal .f32) = 0 from ofBits_zero, zero_add,
    expSum, coe_sum]
  refine Finset.sum_congr rfl fun s _ => ?_
  rw [← at_v27 H]
  congr 1
  funext a; match a with | ⟨0, _⟩ => rfl | ⟨1, _⟩ => rfl | ⟨2, _⟩ => rfl | ⟨3, _⟩ => rfl

/-- The same sum, kept as a column. -/
theorem at_v29 (h : Fin 4) (g : Fin 3) (t : Fin 4096) (z : Fin 1) :
    val_main_v29 (F := Ideal) x0 x1 (ix4 h g t z) = ((expSum (fun s => A.row h g t s - rowMax x0 x1 h g t) : ℝ) : EReal) := by
  rw [val_main_v29_apply,
    show idx_main_v29 (ix4 h g t z) = ix3 h g t from by funext a; match a with | ⟨0, _⟩ => rfl | ⟨1, _⟩ => rfl | ⟨2, _⟩ => rfl, at_v28 H]

omit H in
/-- A real number over a nonzero real number. -/
theorem div_real (x y : ℝ) (hy : y ≠ 0) : Ideal.div (x : EReal) (y : EReal) = ((x / y : ℝ) : EReal) := by
  rw [Ideal.div_coe hy, ← EReal.coe_mul, mul_one_div]

/-- The attention's weights. -/
theorem at_v31 (h : Fin 4) (g : Fin 3) (t s : Fin 4096) :
    val_main_v31 (F := Ideal) x0 x1 (ix4 h g t s) = ((A.P h g t s : ℝ) : EReal) := by
  rw [val_main_v31_apply, val_main_v30_apply, at_v27 H,
    show idx_main_v30 (ix4 h g t s) = ix4 h g t 0 from by funext a; match a with | ⟨0, _⟩ => rfl | ⟨1, _⟩ => rfl | ⟨2, _⟩ => rfl | ⟨3, _⟩ => rfl,
    at_v29 H]
  refine (div_real _ _ (expSum_pos fun s => A.row h g t s - rowMax x0 x1 h g t).ne').trans ?_
  rw [prob_shift, Arrays.P]

/-- The attention's output. -/
theorem at_v35 (h : Fin 4) (d : Fin 128) (g : Fin 3) (t : Fin 4096) :
    val_main_v35 (F := Ideal) x0 x1 x2 (ix4 h d g t) = ((A.O h g t d : ℝ) : EReal) := by
  rw [val_main_v35_apply, Arrays.O, coe_sum]
  refine Finset.sum_congr rfl fun s _ => ?_
  rw [show lidx_main_v35 (ix4 h d g t) s = ix3 s h d from by funext a; match a with | ⟨0, _⟩ => rfl | ⟨1, _⟩ => rfl | ⟨2, _⟩ => rfl,
    show ridx_main_v35 (ix4 h d g t) s = ix4 h g t s from by funext a; match a with | ⟨0, _⟩ => rfl | ⟨1, _⟩ => rfl | ⟨2, _⟩ => rfl | ⟨3, _⟩ => rfl,
    at_v2 H, at_v31 H, ← EReal.coe_mul]

/-- The attention's output in the layout of the residual stream. -/
theorem at_v37 (t : Fin 4096) (h : Fin 4) (g : Fin 3) (d : Fin 128) :
    val_main_v37 (F := Ideal) x0 x1 x2 (ix2 t (qcol h g d)) = ((A.O h g t d : ℝ) : EReal) := by
  rw [val_main_v37_apply, val_main_v36_apply, ← at_v35 H]
  congr 1
  funext a
  match a with
  | ⟨0, _⟩ => exact Fin.ext (show (t.val * 1536 + ((h.val * 3 + g.val) * 128 + d.val)) / 384 % 4 = h.val by omega)
  | ⟨1, _⟩ => exact Fin.ext (show (t.val * 1536 + ((h.val * 3 + g.val) * 128 + d.val)) % 128 = d.val by omega)
  | ⟨2, _⟩ => exact Fin.ext (show (t.val * 1536 + ((h.val * 3 + g.val) * 128 + d.val)) / 128 % 3 = g.val by omega)
  | ⟨3, _⟩ => exact Fin.ext (show (t.val * 1536 + ((h.val * 3 + g.val) * 128 + d.val)) / 1536 = t.val by omega)

end

end Cert.Attn
-- ==== Proof.Payload.lean ====
/- What one sub-tile of the kernel computes, 256 rows of one query head against a whole key head, on blocks of reals. -/
module

public import proofs.«01_k».proof.Proof.Maths
public import proofs.«01_k».proof.Proof.Consts
public import proofs.«01_k».proof.Proof.Gen.KernelIdeal.Skeleton
public import Idealize.ShloMosaic.Lib.ValueIdx
public import Idealize.ShloMosaic.Lib.Pointwise.Contract
public import Idealize.ShloMosaic.Lib.Pipeline.Value
public import Idealize.ShloMosaic.PureOps.Ideal.Laws

@[expose] public section

noncomputable section

namespace Cert.Attn

open Idealize.ShloMosaic hiding ix1 ix2 ix3 ix4 eq_ix1 eq_ix2 eq_ix3 eq_ix4
open Idealize.ShloMosaic.ValueIdx
open Cert.KernelIdeal Cert.KernelIdeal.Gen

/-- The constant the kernel multiplies a score by before it takes the power of two. -/
def scale2 : ℝ := scale * (Real.log 2)⁻¹

theorem named_scale2 : (Named.named (F := Ideal) κ "scale_log2e" (φ := .f32) 0x3E0293EE#32) = ((scale2 : ℝ) : EReal) := by
  refine (IdealRules.named_const.ideal_named_scalar _ _ _ _ rfl).trans ?_
  rfl

/-- The product of a row block with the transposed key head, at an index. -/
theorem nt_apply {φ φ' : FTy} (x : FVec Ideal S256x128 φ) (y : FVec Ideal S4096x128 φ') (a : Fin 256) (s : Fin 4096) :
    matmul dot_S256x128_S4096x128_S256x4096_1_1_0_0_n_n none x y (constant S256x4096 .f32 0x00000000#32) (ix2 a s)
      = ∑ d : Fin 128, x (ix2 a d) * y (ix2 s d) := by
  show Ideal.matmul _ x y _ _ = _
  rw [Ideal.matmul_apply₁_of _ (a := 1) rfl (K := 128) rfl x y _ _ (fun d => ix2 a d) (fun d => ix2 s d)
    (fun k => by funext b; match b with | ⟨0, _⟩ => rfl | ⟨1, _⟩ => rfl)
    (fun k => by funext b; match b with | ⟨0, _⟩ => rfl | ⟨1, _⟩ => rfl)]
  rw [constant_apply, ofBits_zero, zero_add]

/-- The product of a block of score gradients with the key head, at an index. -/
theorem nn_apply {φ φ' : FTy} (x : FVec Ideal S256x4096 φ) (y : FVec Ideal S4096x128 φ') (a : Fin 256) (d : Fin 128) :
    matmul dot_S256x4096_S4096x128_S256x128_1_0_0_1_n_n none x y (constant S256x128 .f32 0x00000000#32) (ix2 a d)
      = ∑ s : Fin 4096, x (ix2 a s) * y (ix2 s d) := by
  show Ideal.matmul _ x y _ _ = _
  rw [Ideal.matmul_apply₁_of _ (a := 1) rfl (K := 4096) rfl x y _ _ (fun s => ix2 a s) (fun s => ix2 s d)
    (fun k => by funext b; match b with | ⟨0, _⟩ => rfl | ⟨1, _⟩ => rfl)
    (fun k => by funext b; match b with | ⟨0, _⟩ => rfl | ⟨1, _⟩ => rfl)]
  rw [constant_apply, ofBits_zero, zero_add]

/-- The product of the stacked blocks over their 768 rows, at an index. -/
theorem tn_apply {φ φ' : FTy} (x : FVec Ideal S768x4096 φ) (y : FVec Ideal S768x128 φ') (s : Fin 4096) (d : Fin 128) :
    matmul dot_S768x4096_S768x128_S4096x128_0_0_1_1_n_n none x y (constant S4096x128 .f32 0x00000000#32) (ix2 s d)
      = ∑ j : Fin 768, x (ix2 j s) * y (ix2 j d) := by
  show Ideal.matmul _ x y _ _ = _
  rw [Ideal.matmul_apply₁_of _ (a := 0) rfl (K := 768) rfl x y _ _ (fun j => ix2 j s) (fun j => ix2 j d)
    (fun k => by funext b; match b with | ⟨0, _⟩ => rfl | ⟨1, _⟩ => rfl)
    (fun k => by funext b; match b with | ⟨0, _⟩ => rfl | ⟨1, _⟩ => rfl)]
  rw [constant_apply, ofBits_zero, zero_add]

/-- A column of row constants spread over the scores, at an index. -/
theorem spread_apply (x : FVec Ideal S256x1 .f32) (a : Fin 256) (s : Fin 4096) :
    broadcastTo S256x4096 x Facts₀.broadcasts_S256x1_S256x4096 (ix2 a s) = x (ix2 a 0) := by
  refine broadcastTo_apply x _ _ _ fun b => ?_
  match b with
  | ⟨0, _⟩ => rfl
  | ⟨1, _⟩ => rfl

/-- The saved row constants' block, its leading axis dropped, at an index. -/
theorem drop_apply (x : FVec Ideal S1x256x1 .f32) (a : Fin 256) :
    shapeCast S256x1 x Facts₀.shapeCasts_S1x256x1_S256x1 (ix2 a 0) = x (ix3 0 a 0) := by
  refine shapeCast_apply x _ _ _ ?_
  rw [Shape.rowMajor_val_three, Shape.rowMajor_val_two]
  show (0 * 256 + a.val) * 1 + 0 = a.val * 1 + 0
  omega

/-- The row sums of a block, as a column, at an index. -/
theorem rowSum_apply (x : FVec Ideal S256x128 .f32) (a : Fin 256) :
    shapeCast S256x1 (multiReduction .add [1] S256 x 0x00000000#32 Facts₀.reduces_S256x128_S256 (.inl rfl) rfl)
        Facts₀.shapeCasts_S256_S256x1 (ix2 a 0) = ∑ d : Fin 128, x (ix2 a d) := by
  rw [shapeCast_apply _ _ (ix2 a 0) (ix1 a) (by
    rw [Shape.rowMajor_val_two, Shape.rowMajor_val_one]; show a.val = a.val * 1 + 0; omega)]
  refine (Ideal.multiReduction_add_single x _ _ _ _ (ix1 a)).trans ?_
  refine Finset.sum_congr rfl fun d _ => congrArg x ?_
  funext b; match b with | ⟨0, _⟩ => rfl | ⟨1, _⟩ => rfl

section Real
variable (Q : S256x128.Idx → ℝ) (K V : S4096x128.Idx → ℝ) (T : S1x256x1.Idx → ℝ) (D O : S256x128.Idx → ℝ)

/-- The kernel's soft maximum of one row at one key. -/
def tileP (a : Fin 256) (s : Fin 4096) : ℝ :=
  Real.rpow 2 ((∑ d : Fin 128, Q (ix2 a d) * K (ix2 s d) - T (ix3 0 a 0)) * scale2)

/-- The kernel's gradient of one score. -/
def tileDS (a : Fin 256) (s : Fin 4096) : ℝ :=
  tileP Q K T a s * (∑ d : Fin 128, D (ix2 a d) * V (ix2 s d) - ∑ d : Fin 128, D (ix2 a d) * O (ix2 a d))

/-- The kernel's gradient of one query's entry. -/
def tileDQ (a : Fin 256) (d : Fin 128) : ℝ :=
  (∑ s : Fin 4096, tileDS Q K V T D O a s * K (ix2 s d)) * scale

variable {Q K V T D O}
variable {q : Vec Ideal S256x128 .bf16} {k v : Vec Ideal S4096x128 .bf16} {t : Vec Ideal S1x256x1 .f32}
  {dO : Vec Ideal S256x128 .f32} {o : Vec Ideal S256x128 .bf16}

theorem pay10_apply (hq : ∀ j, q j = (Q j : EReal)) (hk : ∀ j, k j = (K j : EReal)) (ht : ∀ j, t j = (T j : EReal))
    (a : Fin 256) (s : Fin 4096) : k0_pay10 (F := Ideal) k q t (ix2 a s) = (tileP Q K T a s : EReal) := by
  unfold k0_pay10 k0_pay9 k0_pay7
  refine (congrArg Ideal.exp2 (?_ : _ = (((∑ d : Fin 128, Q (ix2 a d) * K (ix2 s d) - T (ix3 0 a 0)) * scale2 : ℝ) : EReal))).trans
    (Ideal.exp2_coe _)
  simp only [mulf_apply, subf_apply, broadcast_apply]
  rw [nt_apply, spread_apply, drop_apply, named_scale2, shapeCast_self, shapeCast_self]
  simp only [hq, hk, ht, ← coe_sum, ← EReal.coe_sub, ← EReal.coe_mul]

theorem pay12_apply (hq : ∀ j, q j = (Q j : EReal)) (hk : ∀ j, k j = (K j : EReal)) (hv : ∀ j, v j = (V j : EReal))
    (ht : ∀ j, t j = (T j : EReal)) (hd : ∀ j, dO j = (D j : EReal)) (ho : ∀ j, o j = (O j : EReal))
    (a : Fin 256) (s : Fin 4096) : k0_pay12 (F := Ideal) k v q t dO o (ix2 a s) = (tileDS Q K V T D O a s : EReal) := by
  unfold k0_pay12 k0_pay11 k0_pay8
  simp only [truncf_apply, mulf_apply, subf_apply]
  rw [pay10_apply hq hk ht, nt_apply, spread_apply, rowSum_apply, shapeCast_self, shapeCast_self]
  simp only [truncf_apply, mulf_apply, extf_apply, hv, hd, ho, ← coe_sum, ← EReal.coe_sub, ← EReal.coe_mul]
  rw [tileDS]

theorem pay13_apply (hq : ∀ j, q j = (Q j : EReal)) (hk : ∀ j, k j = (K j : EReal)) (hv : ∀ j, v j = (V j : EReal))
    (ht : ∀ j, t j = (T j : EReal)) (hd : ∀ j, dO j = (D j : EReal)) (ho : ∀ j, o j = (O j : EReal))
    (a : Fin 256) (d : Fin 128) : k0_pay13 (F := Ideal) k v q t dO o (ix2 a d) = (tileDQ Q K V T D O a d : EReal) := by
  unfold k0_pay13 k0_pay7
  simp only [mulf_apply, broadcast_apply]
  rw [nn_apply, shapeCast_self]
  rw [show (Scalar.ofBits .f32 0x3DB504F3#32 : Ideal .f32) = ((scale : ℝ) : EReal) from ofBits_scale]
  simp only [pay12_apply hq hk hv ht hd ho, hk, ← coe_sum, ← EReal.coe_mul]
  rw [tileDQ]

end Real

section Same
variable (k v : Vec Ideal S4096x128 .bf16) (q o : Vec Ideal S256x128 .bf16) (t : Vec Ideal S1x256x1 .f32)
  (dO : Vec Ideal S256x128 .f32)

theorem p1 : k0_pay19 (k0_pay7 k) q t = k0_pay10 k q t := rfl
theorem p2 : k0_pay29 (k0_pay7 k) q t = k0_pay10 k q t := rfl
theorem p3 : k0_pay41 (k0_pay7 k) q t = k0_pay10 k q t := rfl
theorem p4 : k0_pay51 (k0_pay7 k) q t = k0_pay10 k q t := rfl
theorem p5 : k0_pay61 (k0_pay7 k) q t = k0_pay10 k q t := rfl
theorem s1 : k0_pay22 (k0_pay10 k q t) (k0_pay21 (k0_pay8 v) dO o) = k0_pay12 k v q t dO o := rfl
theorem s2 : k0_pay31 (k0_pay8 v) (k0_pay10 k q t) dO (k0_pay30 dO) o = k0_pay12 k v q t dO o := rfl
theorem s3 : k0_pay43 (k0_pay7 k) (k0_pay8 v) q t dO o = k0_pay12 k v q t dO o := rfl
theorem s4 : k0_pay54 (k0_pay8 v) (k0_pay10 k q t) (k0_pay52 dO) (k0_pay53 dO o) = k0_pay12 k v q t dO o := rfl
theorem s5 : k0_pay63 (k0_pay8 v) (k0_pay10 k q t) dO o = k0_pay12 k v q t dO o := rfl
theorem g1 : k0_pay23 (k0_pay7 k) (k0_pay10 k q t) (k0_pay21 (k0_pay8 v) dO o) = k0_pay13 k v q t dO o := rfl
theorem g2 : k0_pay32 (k0_pay7 k) (k0_pay8 v) (k0_pay10 k q t) dO (k0_pay30 dO) o = k0_pay13 k v q t dO o := rfl
theorem g3 : k0_pay45 (k0_pay44 (k0_pay7 k) (k0_pay8 v) q t dO o) = k0_pay13 k v q t dO o := rfl
theorem g4 : k0_pay55 (k0_pay7 k) (k0_pay8 v) (k0_pay10 k q t) (k0_pay52 dO) (k0_pay53 dO o) = k0_pay13 k v q t dO o := rfl
theorem g5 : k0_pay64 (k0_pay7 k) (k0_pay8 v) (k0_pay10 k q t) dO o = k0_pay13 k v q t dO o := rfl
end Same

end Cert.Attn

end
-- ==== Proof.Tile.lean ====
/- What the kernel computes from the blocks of one grid point: the sub-tiles of 256 rows read as rows of the block. -/
module

public import proofs.«01_k».proof.Proof.Payload
public import Idealize.ShloMosaic.Lib.Pipeline.ValueKit.Tiles
public import Idealize.ShloMosaic.Lib.Pipeline.FrameBody

@[expose] public section

noncomputable section

namespace Cert.Attn

open Idealize.ShloMosaic hiding ix1 ix2 ix3 ix4 eq_ix1 eq_ix2 eq_ix3 eq_ix4
open Idealize.ShloMosaic.ValueIdx
open Cert.KernelIdeal Cert.KernelIdeal.Gen

/-- The column of a block holding entry `d` of its query head `g`. -/
def hcol (g : Fin 3) (d : Fin 128) : Fin 384 := ⟨128 * g.val + d.val, by omega⟩

section Block
variable (X0 : S512x384.Idx → ℝ) (X1 X2 : S4096x128.Idx → ℝ) (X3 X4 : S512x384.Idx → ℝ) (X5 : S1x512x3.Idx → ℝ)

/-- The soft maximum of row `i` of the block, of its query head `g`, at key `s`. -/
def blockP (i : Fin 512) (g : Fin 3) (s : Fin 4096) : ℝ :=
  Real.rpow 2 ((∑ d : Fin 128, X0 (ix2 i (hcol g d)) * X1 (ix2 s d) - X5 (ix3 0 i g)) * scale2)

/-- The gradient of that score. -/
def blockDS (i : Fin 512) (g : Fin 3) (s : Fin 4096) : ℝ :=
  blockP X0 X1 X5 i g s * (∑ d : Fin 128, X3 (ix2 i (hcol g d)) * X2 (ix2 s d)
    - ∑ d : Fin 128, X3 (ix2 i (hcol g d)) * X4 (ix2 i (hcol g d)))

/-- The gradient of one entry of the block's queries. -/
def blockDQ (i : Fin 512) (g : Fin 3) (d : Fin 128) : ℝ :=
  (∑ s : Fin 4096, blockDS X0 X1 X2 X3 X4 X5 i g s * X1 (ix2 s d)) * scale

/-- Where a sub-tile of 256 rows and one head sits in the block. -/
theorem sub_idx {o0 o1 : ℕ} (inb : ∀ a, (![o0, o1] : Fin 2 → ℕ) a + S256x128.size a ≤ S512x384.size a) (g : Fin 3)
    (ho : o1 = 128 * g.val) (i : Fin 512) (a : Fin 256) (hi : i.val = o0 + a.val) (d : Fin 128) :
    (Rect.unit (s := S512x384) ![o0, o1] S256x128.size inb).idx (ix2 a d) = ix2 i (hcol g d) := by
  funext b
  apply Fin.ext
  rw [Rect.idx_unit_val]
  match b with
  | ⟨0, _⟩ => exact hi.symm
  | ⟨1, _⟩ => show o1 + d.val = 128 * g.val + d.val; rw [ho]

/-- Where a sub-tile's column of saved row constants sits in the block. -/
theorem sub_idx3 {o0 o1 : ℕ} (inb : ∀ a, (![0, o0, o1] : Fin 3 → ℕ) a + S1x256x1.size a ≤ S1x512x3.size a) (g : Fin 3)
    (ho : o1 = g.val) (i : Fin 512) (a : Fin 256) (hi : i.val = o0 + a.val) :
    (Rect.unit (s := S1x512x3) ![0, o0, o1] S1x256x1.size inb).idx (ix3 0 a 0) = ix3 0 i g := by
  funext b
  apply Fin.ext
  rw [Rect.idx_unit_val]
  match b with
  | ⟨0, _⟩ => rfl
  | ⟨1, _⟩ => exact hi.symm
  | ⟨2, _⟩ => show o1 + 0 = g.val; rw [ho]; rfl

variable {X0 X1 X2 X3 X4 X5}
variable {x0 : Vec Ideal S512x384 .bf16} {x1 x2 : Vec Ideal S4096x128 .bf16} {x3 : Vec Ideal S512x384 .f32}
  {x4 : Vec Ideal S512x384 .bf16} {x5 : Vec Ideal S1x512x3 .f32}
variable {o0 o1 o2 : ℕ} (inb : ∀ a, (![o0, o1] : Fin 2 → ℕ) a + S256x128.size a ≤ S512x384.size a)
  (inb' : ∀ a, (![0, o0, o2] : Fin 3 → ℕ) a + S1x256x1.size a ≤ S1x512x3.size a)

/-- The sub-tile's soft maximum is the block's. -/
theorem pay10_block (h0 : ∀ j, x0 j = (X0 j : EReal)) (h1 : ∀ j, x1 j = (X1 j : EReal)) (h5 : ∀ j, x5 j = (X5 j : EReal))
    (g : Fin 3) (ho : o1 = 128 * g.val) (ho2 : o2 = g.val) (i : Fin 512) (a : Fin 256) (hi : i.val = o0 + a.val) (s : Fin 4096) :
    k0_pay10 (F := Ideal) x1 (View.ld x0 (Rect.unit (s := S512x384) ![o0, o1] S256x128.size inb))
        (View.ld x5 (Rect.unit (s := S1x512x3) ![0, o0, o2] S1x256x1.size inb')) (ix2 a s)
      = (blockP X0 X1 X5 i g s : EReal) := by
  refine (pay10_apply (Q := fun j => X0 ((Rect.unit (s := S512x384) ![o0, o1] S256x128.size inb).idx j)) (K := X1)
    (T := fun j => X5 ((Rect.unit (s := S1x512x3) ![0, o0, o2] S1x256x1.size inb').idx j)) (fun j => h0 _) h1 (fun j => h5 _) a s).trans ?_
  unfold tileP blockP
  simp only [sub_idx inb g ho i a hi, sub_idx3 inb' g ho2 i a hi]

/-- The sub-tile's gradient of a score is the block's. -/
theorem pay12_block (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (g : Fin 3) (ho : o1 = 128 * g.val) (ho2 : o2 = g.val) (i : Fin 512) (a : Fin 256) (hi : i.val = o0 + a.val) (s : Fin 4096) :
    k0_pay12 (F := Ideal) x1 x2 (View.ld x0 (Rect.unit (s := S512x384) ![o0, o1] S256x128.size inb))
        (View.ld x5 (Rect.unit (s := S1x512x3) ![0, o0, o2] S1x256x1.size inb'))
        (View.ld x3 (Rect.unit (s := S512x384) ![o0, o1] S256x128.size inb))
        (View.ld x4 (Rect.unit (s := S512x384) ![o0, o1] S256x128.size inb)) (ix2 a s)
      = (blockDS X0 X1 X2 X3 X4 X5 i g s : EReal) := by
  refine (pay12_apply (Q := fun j => X0 ((Rect.unit (s := S512x384) ![o0, o1] S256x128.size inb).idx j)) (K := X1) (V := X2)
    (T := fun j => X5 ((Rect.unit (s := S1x512x3) ![0, o0, o2] S1x256x1.size inb').idx j))
    (D := fun j => X3 ((Rect.unit (s := S512x384) ![o0, o1] S256x128.size inb).idx j))
    (O := fun j => X4 ((Rect.unit (s := S512x384) ![o0, o1] S256x128.size inb).idx j))
    (fun j => h0 _) h1 h2 (fun j => h5 _) (fun j => h3 _) (fun j => h4 _) a s).trans ?_
  unfold tileDS tileP blockDS blockP
  simp only [sub_idx inb g ho i a hi, sub_idx3 inb' g ho2 i a hi]

/-- The sub-tile's gradient of a query is the block's. -/
theorem pay13_block (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (g : Fin 3) (ho : o1 = 128 * g.val) (ho2 : o2 = g.val) (i : Fin 512) (a : Fin 256) (hi : i.val = o0 + a.val) (d : Fin 128) :
    k0_pay13 (F := Ideal) x1 x2 (View.ld x0 (Rect.unit (s := S512x384) ![o0, o1] S256x128.size inb))
        (View.ld x5 (Rect.unit (s := S1x512x3) ![0, o0, o2] S1x256x1.size inb'))
        (View.ld x3 (Rect.unit (s := S512x384) ![o0, o1] S256x128.size inb))
        (View.ld x4 (Rect.unit (s := S512x384) ![o0, o1] S256x128.size inb)) (ix2 a d)
      = (blockDQ X0 X1 X2 X3 X4 X5 i g d : EReal) := by
  refine (pay13_apply (Q := fun j => X0 ((Rect.unit (s := S512x384) ![o0, o1] S256x128.size inb).idx j)) (K := X1) (V := X2)
    (T := fun j => X5 ((Rect.unit (s := S1x512x3) ![0, o0, o2] S1x256x1.size inb').idx j))
    (D := fun j => X3 ((Rect.unit (s := S512x384) ![o0, o1] S256x128.size inb).idx j))
    (O := fun j => X4 ((Rect.unit (s := S512x384) ![o0, o1] S256x128.size inb).idx j))
    (fun j => h0 _) h1 h2 (fun j => h5 _) (fun j => h3 _) (fun j => h4 _) a d).trans ?_
  unfold tileDQ tileDS tileP blockDQ blockDS blockP
  simp only [sub_idx inb g ho i a hi, sub_idx3 inb' g ho2 i a hi]

end Block

/-! ## The stacks of three heads -/

/-- A sum over the 768 rows of a stack is the sum over its three heads of the sums over 256 rows. -/
theorem sum_stack {M : Type*} [AddCommMonoid M] (f : Fin 768 → M) :
    ∑ j, f j = ∑ a : Fin 256, f ⟨a.val, by omega⟩ + ∑ a : Fin 256, f ⟨256 + a.val, by omega⟩ + ∑ a : Fin 256, f ⟨512 + a.val, by omega⟩ := by
  have h1 := Fin.sum_univ_add (a := 512) (b := 256) (M := M) f
  have h2 := Fin.sum_univ_add (a := 256) (b := 256) (M := M) fun a : Fin 512 => f (Fin.castAdd 256 a)
  exact h1.trans (congrArg (· + _) h2)

section Stack
variable {e : EltTy} {n : ℕ}

/-- What a stack of three heads holds after its three stores, whatever was stored before: at a row of the first head, -/
theorem stack0 (L : List (View.Piece (Elt Ideal) ⟨2, ![768, n]⟩ e)) (w0 w1 w2 : (⟨2, ![256, n]⟩ : Shape).Idx → Elt Ideal e)
    (i0 : ∀ a, (![0, 0] : Fin 2 → ℕ) a + (![256, n] : Fin 2 → ℕ) a ≤ (![768, n] : Fin 2 → ℕ) a)
    (i1 : ∀ a, (![256, 0] : Fin 2 → ℕ) a + (![256, n] : Fin 2 → ℕ) a ≤ (![768, n] : Fin 2 → ℕ) a)
    (i2 : ∀ a, (![512, 0] : Fin 2 → ℕ) a + (![256, n] : Fin 2 → ℕ) a ≤ (![768, n] : Fin 2 → ℕ) a) (a : Fin 256) (s : Fin n) :
    View.canon (⟨Rect.unit (s := ⟨2, ![768, n]⟩) ![512, 0] ![256, n] i2, w2⟩ :: ⟨Rect.unit (s := ⟨2, ![768, n]⟩) ![256, 0] ![256, n] i1, w1⟩
      :: ⟨Rect.unit (s := ⟨2, ![768, n]⟩) ![0, 0] ![256, n] i0, w0⟩ :: L) (ix2 ⟨a.val, by omega⟩ s) = w0 (ix2 a s) := by
  rw [View.canon_cons_of_not_mem, View.canon_cons_of_not_mem]
  · rw [show (ix2 (⟨a.val, by omega⟩ : Fin 768) s) = (Rect.unit (s := ⟨2, ![768, n]⟩) ![0, 0] ![256, n] i0).emb (ix2 a s) from ?_]
    · exact View.canon_cons_emb _ _ _ _
    · funext b; apply Fin.ext
      match b with
      | ⟨0, _⟩ => show a.val = 0 + 1 * a.val; omega
      | ⟨1, _⟩ => show s.val = 0 + 1 * s.val; omega
  · rw [Rect.mem_set_unit]; intro h
    have h' : 256 ≤ a.val := (h (0 : Fin 2)).1
    omega
  · rw [Rect.mem_set_unit]; intro h
    have h' : 512 ≤ a.val := (h (0 : Fin 2)).1
    omega

/-- at a row of the second head, -/
theorem stack1 (L : List (View.Piece (Elt Ideal) ⟨2, ![768, n]⟩ e)) (w1 w2 : (⟨2, ![256, n]⟩ : Shape).Idx → Elt Ideal e)
    (i1 : ∀ a, (![256, 0] : Fin 2 → ℕ) a + (![256, n] : Fin 2 → ℕ) a ≤ (![768, n] : Fin 2 → ℕ) a)
    (i2 : ∀ a, (![512, 0] : Fin 2 → ℕ) a + (![256, n] : Fin 2 → ℕ) a ≤ (![768, n] : Fin 2 → ℕ) a) (a : Fin 256) (s : Fin n) :
    View.canon (⟨Rect.unit (s := ⟨2, ![768, n]⟩) ![512, 0] ![256, n] i2, w2⟩ :: ⟨Rect.unit (s := ⟨2, ![768, n]⟩) ![256, 0] ![256, n] i1, w1⟩
      :: L) (ix2 ⟨256 + a.val, by omega⟩ s) = w1 (ix2 a s) := by
  rw [View.canon_cons_of_not_mem]
  · rw [show (ix2 (⟨256 + a.val, by omega⟩ : Fin 768) s) = (Rect.unit (s := ⟨2, ![768, n]⟩) ![256, 0] ![256, n] i1).emb (ix2 a s) from ?_]
    · exact View.canon_cons_emb _ _ _ _
    · funext b; apply Fin.ext
      match b with
      | ⟨0, _⟩ => show 256 + a.val = 256 + 1 * a.val; omega
      | ⟨1, _⟩ => show s.val = 0 + 1 * s.val; omega
  · rw [Rect.mem_set_unit]; intro h
    have h' : 512 ≤ 256 + a.val := (h (0 : Fin 2)).1
    omega

/-- at a row of the third. -/
theorem stack2 (L : List (View.Piece (Elt Ideal) ⟨2, ![768, n]⟩ e)) (w2 : (⟨2, ![256, n]⟩ : Shape).Idx → Elt Ideal e)
    (i2 : ∀ a, (![512, 0] : Fin 2 → ℕ) a + (![256, n] : Fin 2 → ℕ) a ≤ (![768, n] : Fin 2 → ℕ) a) (a : Fin 256) (s : Fin n) :
    View.canon (⟨Rect.unit (s := ⟨2, ![768, n]⟩) ![512, 0] ![256, n] i2, w2⟩ :: L) (ix2 ⟨512 + a.val, by omega⟩ s) = w2 (ix2 a s) := by
  rw [show (ix2 (⟨512 + a.val, by omega⟩ : Fin 768) s) = (Rect.unit (s := ⟨2, ![768, n]⟩) ![512, 0] ![256, n] i2).emb (ix2 a s) from ?_]
  · exact View.canon_cons_emb _ _ _ _
  · funext b; apply Fin.ext
    match b with
    | ⟨0, _⟩ => show 512 + a.val = 512 + 1 * a.val; omega
    | ⟨1, _⟩ => show s.val = 0 + 1 * s.val; omega

end Stack

end Cert.Attn

end
-- ==== Proof.Step.lean ====
/- What one grid point adds to the sums that the kernel carries for the gradients of the keys and the values. -/
module

public import proofs.«01_k».proof.Proof.Tile

@[expose] public section

noncomputable section

namespace Cert.Attn

open Idealize.ShloMosaic hiding ix1 ix2 ix3 ix4 eq_ix1 eq_ix2 eq_ix3 eq_ix4
open Idealize.ShloMosaic.ValueIdx
open Cert.KernelIdeal Cert.KernelIdeal.Gen

/-- Row `a` of the first half of a block, -/
def lo (a : Fin 256) : Fin 512 := ⟨a.val, by omega⟩
/-- and of the second half. -/
def hi (a : Fin 256) : Fin 512 := ⟨256 + a.val, by omega⟩

theorem lo_val (a : Fin 256) : (lo a).val = 0 + a.val := (Nat.zero_add _).symm
theorem hi_val (a : Fin 256) : (hi a).val = 256 + a.val := rfl

/-- A sum over the rows of a block is the sum over its halves. -/
theorem sum_halves (f : Fin 512 → ℝ) : ∑ i, f i = ∑ a, f (lo a) + ∑ a, f (hi a) :=
  Fin.sum_univ_add (a := 256) (b := 256) f

/-- The product of two stacks, added to `acc`: the sum over the three heads and the 256 rows of each. -/
theorem stack_prod (acc : EReal) (LA : List (View.Piece (Elt Ideal) S768x4096 .bf16)) (LB : List (View.Piece (Elt Ideal) S768x128 .bf16))
    (wa0 wa1 wa2 : S256x4096.Idx → EReal) (wb0 wb1 wb2 : S256x128.Idx → EReal) (f g : Fin 256 → Fin 3 → ℝ) (s : Fin 4096) (d : Fin 128)
    (ha0 : ∀ a, wa0 (ix2 a s) = (f a 0 : EReal)) (ha1 : ∀ a, wa1 (ix2 a s) = (f a 1 : EReal)) (ha2 : ∀ a, wa2 (ix2 a s) = (f a 2 : EReal))
    (hb0 : ∀ a, wb0 (ix2 a d) = (g a 0 : EReal)) (hb1 : ∀ a, wb1 (ix2 a d) = (g a 1 : EReal)) (hb2 : ∀ a, wb2 (ix2 a d) = (g a 2 : EReal)) :
    acc + matmul (F := Ideal) (φ₁ := .bf16) (φ₂ := .bf16) dot_S768x4096_S768x128_S4096x128_0_0_1_1_n_n none
        (View.canon (⟨Rect.unit (s := S768x4096) ![512, 0] S256x4096.size inb_S768x4096_S256x4096_512_0, wa2⟩
          :: ⟨Rect.unit (s := S768x4096) ![256, 0] S256x4096.size inb_S768x4096_S256x4096_256_0, wa1⟩
          :: ⟨Rect.unit (s := S768x4096) ![0, 0] S256x4096.size inb_S768x4096_S256x4096_0_0, wa0⟩ :: LA) : FVec Ideal S768x4096 .bf16)
        (View.canon (⟨Rect.unit (s := S768x128) ![512, 0] S256x128.size inb_S768x128_S256x128_512_0, wb2⟩
          :: ⟨Rect.unit (s := S768x128) ![256, 0] S256x128.size inb_S768x128_S256x128_256_0, wb1⟩
          :: ⟨Rect.unit (s := S768x128) ![0, 0] S256x128.size inb_S768x128_S256x128_0_0, wb0⟩ :: LB) : FVec Ideal S768x128 .bf16)
        (constant S4096x128 .f32 0x00000000#32) (ix2 s d)
      = acc + ((∑ a, ∑ h, f a h * g a h : ℝ) : EReal) := by
  refine congrArg (acc + ·) ?_
  rw [tn_apply, sum_stack]
  rw [Finset.sum_congr rfl fun a _ => congrArg₂ (· * ·) ((stack0 (n := 4096) (e := .bf16) LA wa0 wa1 wa2 _ _ _ a s).trans (ha0 a)) ((stack0 (n := 128) (e := .bf16) LB wb0 wb1 wb2 _ _ _ a d).trans (hb0 a)),
    Finset.sum_congr rfl fun a _ => congrArg₂ (· * ·) ((stack1 (n := 4096) (e := .bf16) _ wa1 wa2 _ _ a s).trans (ha1 a)) ((stack1 (n := 128) (e := .bf16) _ wb1 wb2 _ _ a d).trans (hb1 a)),
    Finset.sum_congr rfl fun a _ => congrArg₂ (· * ·) ((stack2 (n := 4096) (e := .bf16) _ wa2 _ a s).trans (ha2 a)) ((stack2 (n := 128) (e := .bf16) _ wb2 _ a d).trans (hb2 a))]
  rw [coe_dot, coe_dot, coe_dot, ← EReal.coe_add, ← EReal.coe_add, ← Finset.sum_add_distrib, ← Finset.sum_add_distrib]
  simp only [Fin.sum_univ_three]

section Term
variable (x0 : Vec Ideal S512x384 .bf16) (x1 x2 : Vec Ideal S4096x128 .bf16) (x3 : Vec Ideal S512x384 .f32)
  (x4 : Vec Ideal S512x384 .bf16) (x5 : Vec Ideal S1x512x3 .f32)

/-- The stores of the gradients of the scores into their stack, first half of the block. -/
def dsLo : List (View.Piece (Elt Ideal) S768x4096 .bf16) :=
  ⟨Rect.unit (s := S768x4096) ![512, 0] S256x4096.size inb_S768x4096_S256x4096_512_0, k0_pay33 (k0_pay8 x2) (k0_pay10 x1 (View.ld x0 (Rect.unit (s := S512x384) ![0, 256] S256x128.size inb_S512x384_S256x128_0_256)) (View.ld x5 (Rect.unit (s := S1x512x3) ![0, 0, 2] S1x256x1.size inb_S1x512x3_S1x256x1_0_0_2))) (View.ld x3 (Rect.unit (s := S512x384) ![0, 256] S256x128.size inb_S512x384_S256x128_0_256)) (k0_pay30 (View.ld x3 (Rect.unit (s := S512x384) ![0, 256] S256x128.size inb_S512x384_S256x128_0_256))) (View.ld x4 (Rect.unit (s := S512x384) ![0, 256] S256x128.size inb_S512x384_S256x128_0_256))⟩
    :: ⟨Rect.unit (s := S768x4096) ![256, 0] S256x4096.size inb_S768x4096_S256x4096_256_0, k0_pay24 (k0_pay10 x1 (View.ld x0 (Rect.unit (s := S512x384) ![0, 128] S256x128.size inb_S512x384_S256x128_0_128)) (View.ld x5 (Rect.unit (s := S1x512x3) ![0, 0, 1] S1x256x1.size inb_S1x512x3_S1x256x1_0_0_1))) (k0_pay21 (k0_pay8 x2) (View.ld x3 (Rect.unit (s := S512x384) ![0, 128] S256x128.size inb_S512x384_S256x128_0_128)) (View.ld x4 (Rect.unit (s := S512x384) ![0, 128] S256x128.size inb_S512x384_S256x128_0_128)))⟩
    :: ⟨Rect.unit (s := S768x4096) ![0, 0] S256x4096.size inb_S768x4096_S256x4096_0_0, k0_pay14 (k0_pay12 x1 x2 (View.ld x0 (Rect.unit (s := S512x384) ![0, 0] S256x128.size inb_S512x384_S256x128_0_0)) (View.ld x5 (Rect.unit (s := S1x512x3) ![0, 0, 0] S1x256x1.size inb_S1x512x3_S1x256x1_0_0_0)) (View.ld x3 (Rect.unit (s := S512x384) ![0, 0] S256x128.size inb_S512x384_S256x128_0_0)) (View.ld x4 (Rect.unit (s := S512x384) ![0, 0] S256x128.size inb_S512x384_S256x128_0_0)))⟩
    :: []

/-- The stores of the gradients of the scores into their stack, second half of the block. -/
def dsHi : List (View.Piece (Elt Ideal) S768x4096 .bf16) :=
  ⟨Rect.unit (s := S768x4096) ![512, 0] S256x4096.size inb_S768x4096_S256x4096_512_0, k0_pay65 (k0_pay8 x2) (k0_pay10 x1 (View.ld x0 (Rect.unit (s := S512x384) ![256, 256] S256x128.size inb_S512x384_S256x128_256_256)) (View.ld x5 (Rect.unit (s := S1x512x3) ![0, 256, 2] S1x256x1.size inb_S1x512x3_S1x256x1_0_256_2))) (View.ld x3 (Rect.unit (s := S512x384) ![256, 256] S256x128.size inb_S512x384_S256x128_256_256)) (View.ld x4 (Rect.unit (s := S512x384) ![256, 256] S256x128.size inb_S512x384_S256x128_256_256))⟩
    :: ⟨Rect.unit (s := S768x4096) ![256, 0] S256x4096.size inb_S768x4096_S256x4096_256_0, k0_pay56 (k0_pay8 x2) (k0_pay10 x1 (View.ld x0 (Rect.unit (s := S512x384) ![256, 128] S256x128.size inb_S512x384_S256x128_256_128)) (View.ld x5 (Rect.unit (s := S1x512x3) ![0, 256, 1] S1x256x1.size inb_S1x512x3_S1x256x1_0_256_1))) (k0_pay52 (View.ld x3 (Rect.unit (s := S512x384) ![256, 128] S256x128.size inb_S512x384_S256x128_256_128))) (k0_pay53 (View.ld x3 (Rect.unit (s := S512x384) ![256, 128] S256x128.size inb_S512x384_S256x128_256_128)) (View.ld x4 (Rect.unit (s := S512x384) ![256, 128] S256x128.size inb_S512x384_S256x128_256_128)))⟩
    :: ⟨Rect.unit (s := S768x4096) ![0, 0] S256x4096.size inb_S768x4096_S256x4096_0_0, k0_pay46 (k0_pay12 x1 x2 (View.ld x0 (Rect.unit (s := S512x384) ![256, 0] S256x128.size inb_S512x384_S256x128_256_0)) (View.ld x5 (Rect.unit (s := S1x512x3) ![0, 256, 0] S1x256x1.size inb_S1x512x3_S1x256x1_0_256_0)) (View.ld x3 (Rect.unit (s := S512x384) ![256, 0] S256x128.size inb_S512x384_S256x128_256_0)) (View.ld x4 (Rect.unit (s := S512x384) ![256, 0] S256x128.size inb_S512x384_S256x128_256_0)))⟩
    :: dsLo x0 x1 x2 x3 x4 x5

/-- The stores of the soft maximum into their stack, first half of the block. -/
def pLo : List (View.Piece (Elt Ideal) S768x4096 .bf16) :=
  ⟨Rect.unit (s := S768x4096) ![512, 0] S256x4096.size inb_S768x4096_S256x4096_512_0, k0_pay34 (k0_pay10 x1 (View.ld x0 (Rect.unit (s := S512x384) ![0, 256] S256x128.size inb_S512x384_S256x128_0_256)) (View.ld x5 (Rect.unit (s := S1x512x3) ![0, 0, 2] S1x256x1.size inb_S1x512x3_S1x256x1_0_0_2)))⟩
    :: ⟨Rect.unit (s := S768x4096) ![256, 0] S256x4096.size inb_S768x4096_S256x4096_256_0, k0_pay25 (k0_pay10 x1 (View.ld x0 (Rect.unit (s := S512x384) ![0, 128] S256x128.size inb_S512x384_S256x128_0_128)) (View.ld x5 (Rect.unit (s := S1x512x3) ![0, 0, 1] S1x256x1.size inb_S1x512x3_S1x256x1_0_0_1)))⟩
    :: ⟨Rect.unit (s := S768x4096) ![0, 0] S256x4096.size inb_S768x4096_S256x4096_0_0, k0_pay15 (k0_pay10 x1 (View.ld x0 (Rect.unit (s := S512x384) ![0, 0] S256x128.size inb_S512x384_S256x128_0_0)) (View.ld x5 (Rect.unit (s := S1x512x3) ![0, 0, 0] S1x256x1.size inb_S1x512x3_S1x256x1_0_0_0)))⟩
    :: []

/-- The stores of the soft maximum into their stack, second half of the block. -/
def pHi : List (View.Piece (Elt Ideal) S768x4096 .bf16) :=
  ⟨Rect.unit (s := S768x4096) ![512, 0] S256x4096.size inb_S768x4096_S256x4096_512_0, k0_pay66 (k0_pay10 x1 (View.ld x0 (Rect.unit (s := S512x384) ![256, 256] S256x128.size inb_S512x384_S256x128_256_256)) (View.ld x5 (Rect.unit (s := S1x512x3) ![0, 256, 2] S1x256x1.size inb_S1x512x3_S1x256x1_0_256_2)))⟩
    :: ⟨Rect.unit (s := S768x4096) ![256, 0] S256x4096.size inb_S768x4096_S256x4096_256_0, k0_pay57 (k0_pay10 x1 (View.ld x0 (Rect.unit (s := S512x384) ![256, 128] S256x128.size inb_S512x384_S256x128_256_128)) (View.ld x5 (Rect.unit (s := S1x512x3) ![0, 256, 1] S1x256x1.size inb_S1x512x3_S1x256x1_0_256_1)))⟩
    :: ⟨Rect.unit (s := S768x4096) ![0, 0] S256x4096.size inb_S768x4096_S256x4096_0_0, k0_pay47 (k0_pay10 x1 (View.ld x0 (Rect.unit (s := S512x384) ![256, 0] S256x128.size inb_S512x384_S256x128_256_0)) (View.ld x5 (Rect.unit (s := S1x512x3) ![0, 256, 0] S1x256x1.size inb_S1x512x3_S1x256x1_0_256_0)))⟩
    :: pLo x0 x1 x5

/-- The stores of the queries into their stack, first half of the block. -/
def qLo : List (View.Piece (Elt Ideal) S768x128 .bf16) :=
  ⟨Rect.unit (s := S768x128) ![512, 0] S256x128.size inb_S768x128_S256x128_512_0, k0_pay35 (k0_pay28 (View.ld x0 (Rect.unit (s := S512x384) ![0, 256] S256x128.size inb_S512x384_S256x128_0_256)))⟩
    :: ⟨Rect.unit (s := S768x128) ![256, 0] S256x128.size inb_S768x128_S256x128_256_0, k0_pay26 (k0_pay18 (View.ld x0 (Rect.unit (s := S512x384) ![0, 128] S256x128.size inb_S512x384_S256x128_0_128)))⟩
    :: ⟨Rect.unit (s := S768x128) ![0, 0] S256x128.size inb_S768x128_S256x128_0_0, k0_pay16 (k0_pay9 (View.ld x0 (Rect.unit (s := S512x384) ![0, 0] S256x128.size inb_S512x384_S256x128_0_0)))⟩
    :: []

/-- The stores of the queries into their stack, second half of the block. -/
def qHi : List (View.Piece (Elt Ideal) S768x128 .bf16) :=
  ⟨Rect.unit (s := S768x128) ![512, 0] S256x128.size inb_S768x128_S256x128_512_0, k0_pay67 (k0_pay60 (View.ld x0 (Rect.unit (s := S512x384) ![256, 256] S256x128.size inb_S512x384_S256x128_256_256)))⟩
    :: ⟨Rect.unit (s := S768x128) ![256, 0] S256x128.size inb_S768x128_S256x128_256_0, k0_pay58 (k0_pay50 (View.ld x0 (Rect.unit (s := S512x384) ![256, 128] S256x128.size inb_S512x384_S256x128_256_128)))⟩
    :: ⟨Rect.unit (s := S768x128) ![0, 0] S256x128.size inb_S768x128_S256x128_0_0, k0_pay48 (k0_pay40 (View.ld x0 (Rect.unit (s := S512x384) ![256, 0] S256x128.size inb_S512x384_S256x128_256_0)))⟩
    :: qLo x0

/-- The stores of the gradients of the outputs into their stack, first half of the block. -/
def doLo : List (View.Piece (Elt Ideal) S768x128 .bf16) :=
  ⟨Rect.unit (s := S768x128) ![512, 0] S256x128.size inb_S768x128_S256x128_512_0, k0_pay36 (k0_pay30 (View.ld x3 (Rect.unit (s := S512x384) ![0, 256] S256x128.size inb_S512x384_S256x128_0_256)))⟩
    :: ⟨Rect.unit (s := S768x128) ![256, 0] S256x128.size inb_S768x128_S256x128_256_0, k0_pay27 (k0_pay20 (View.ld x3 (Rect.unit (s := S512x384) ![0, 128] S256x128.size inb_S512x384_S256x128_0_128)))⟩
    :: ⟨Rect.unit (s := S768x128) ![0, 0] S256x128.size inb_S768x128_S256x128_0_0, k0_pay17 (k0_pay11 (View.ld x3 (Rect.unit (s := S512x384) ![0, 0] S256x128.size inb_S512x384_S256x128_0_0)))⟩
    :: []

/-- The stores of the gradients of the outputs into their stack, second half of the block. -/
def doHi : List (View.Piece (Elt Ideal) S768x128 .bf16) :=
  ⟨Rect.unit (s := S768x128) ![512, 0] S256x128.size inb_S768x128_S256x128_512_0, k0_pay68 (View.ld x3 (Rect.unit (s := S512x384) ![256, 256] S256x128.size inb_S512x384_S256x128_256_256))⟩
    :: ⟨Rect.unit (s := S768x128) ![256, 0] S256x128.size inb_S768x128_S256x128_256_0, k0_pay59 (k0_pay52 (View.ld x3 (Rect.unit (s := S512x384) ![256, 128] S256x128.size inb_S512x384_S256x128_256_128)))⟩
    :: ⟨Rect.unit (s := S768x128) ![0, 0] S256x128.size inb_S768x128_S256x128_0_0, k0_pay49 (k0_pay42 (View.ld x3 (Rect.unit (s := S512x384) ![256, 0] S256x128.size inb_S512x384_S256x128_256_0)))⟩
    :: doLo x3

/-- The carried sum of the keys' gradient after a grid point, `acc` before it. -/
def dkTerm (acc : Vec Ideal S4096x128 .f32) : FVec Ideal S4096x128 .f32 :=
  k0_pay1 (k0_pay38 (k0_pay37 acc (View.canon (dsLo x0 x1 x2 x3 x4 x5)) (View.canon (qLo x0))))
    (View.canon (dsHi x0 x1 x2 x3 x4 x5)) (View.canon (qHi x0))

/-- The carried sum of the values' gradient after a grid point, `acc` before it. -/
def dvTerm (acc : Vec Ideal S4096x128 .f32) : FVec Ideal S4096x128 .f32 :=
  k0_pay2 (k0_pay39 acc (View.canon (pLo x0 x1 x5)) (View.canon (doLo x3)))
    (View.canon (pHi x0 x1 x5)) (View.canon (doHi x3))

end Term

section Apply
variable {X0 : S512x384.Idx → ℝ} {X1 X2 : S4096x128.Idx → ℝ} {X3 X4 : S512x384.Idx → ℝ} {X5 : S1x512x3.Idx → ℝ}
  {x0 : Vec Ideal S512x384 .bf16} {x1 x2 : Vec Ideal S4096x128 .bf16} {x3 : Vec Ideal S512x384 .f32}
  {x4 : Vec Ideal S512x384 .bf16} {x5 : Vec Ideal S1x512x3 .f32}

/-- A sub-tile of a real block is real. -/
theorem sub_apply16 (X : S512x384.Idx → ℝ) (x : Vec Ideal S512x384 .bf16) (h : ∀ j, x j = (X j : EReal)) {o0 o1 : ℕ}
    (inb : ∀ a, (![o0, o1] : Fin 2 → ℕ) a + S256x128.size a ≤ S512x384.size a) (g : Fin 3) (ho : o1 = 128 * g.val)
    (i : Fin 512) (a : Fin 256) (hi : i.val = o0 + a.val) (d : Fin 128) :
    View.ld x (Rect.unit (s := S512x384) ![o0, o1] S256x128.size inb) (ix2 a d) = (X (ix2 i (hcol g d)) : EReal) :=
  (congrArg x (sub_idx inb g ho i a hi d)).trans (h _)

/-- A sub-tile of a real block is real. -/
theorem sub_apply32 (X : S512x384.Idx → ℝ) (x : Vec Ideal S512x384 .f32) (h : ∀ j, x j = (X j : EReal)) {o0 o1 : ℕ}
    (inb : ∀ a, (![o0, o1] : Fin 2 → ℕ) a + S256x128.size a ≤ S512x384.size a) (g : Fin 3) (ho : o1 = 128 * g.val)
    (i : Fin 512) (a : Fin 256) (hi : i.val = o0 + a.val) (d : Fin 128) :
    View.ld x (Rect.unit (s := S512x384) ![o0, o1] S256x128.size inb) (ix2 a d) = (X (ix2 i (hcol g d)) : EReal) :=
  (congrArg x (sub_idx inb g ho i a hi d)).trans (h _)

/-- What the point adds to the keys' gradient: the sum over its rows and heads of the score's gradient times the query. -/
theorem dkTerm_apply (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (acc : Vec Ideal S4096x128 .f32) (s : Fin 4096) (d : Fin 128) (A : ℝ) (hA : acc (ix2 s d) = (A : EReal)) :
    dkTerm x0 x1 x2 x3 x4 x5 acc (ix2 s d)
      = ((A + ∑ i, ∑ g, blockDS X0 X1 X2 X3 X4 X5 i g s * X0 (ix2 i (hcol g d)) : ℝ) : EReal) := by
  unfold dkTerm k0_pay1 k0_pay38 k0_pay37
  dsimp only
  rw [shapeCast_self, shapeCast_self]
  simp only [addf_apply]
  unfold dsHi qHi
  refine (stack_prod _ _ _ _ _ _ _ _ _ (fun a g => blockDS X0 X1 X2 X3 X4 X5 (hi a) g s) (fun a g => X0 (ix2 (hi a) (hcol g d))) s d
    ?_ ?_ ?_ ?_ ?_ ?_).trans ?_
  · exact fun a => (congrFun (shapeCast_self _ _) _).trans (pay12_block _ _ h0 h1 h2 h3 h4 h5 0 rfl rfl (hi a) a (hi_val a) s)
  · exact fun a => (congrFun (shapeCast_self _ _) _).trans (pay12_block _ _ h0 h1 h2 h3 h4 h5 1 rfl rfl (hi a) a (hi_val a) s)
  · exact fun a => (congrFun (shapeCast_self _ _) _).trans (pay12_block _ _ h0 h1 h2 h3 h4 h5 2 rfl rfl (hi a) a (hi_val a) s)
  · exact fun a => (congrFun (shapeCast_self _ _) _).trans ((congrFun (shapeCast_self _ _) _).trans (sub_apply16 X0 x0 h0 _ 0 rfl (hi a) a (hi_val a) d))
  · exact fun a => (congrFun (shapeCast_self _ _) _).trans ((congrFun (shapeCast_self _ _) _).trans (sub_apply16 X0 x0 h0 _ 1 rfl (hi a) a (hi_val a) d))
  · exact fun a => (congrFun (shapeCast_self _ _) _).trans ((congrFun (shapeCast_self _ _) _).trans (sub_apply16 X0 x0 h0 _ 2 rfl (hi a) a (hi_val a) d))
  unfold dsLo qLo
  refine (congrArg (· + _) ((stack_prod _ _ _ _ _ _ _ _ _ (fun a g => blockDS X0 X1 X2 X3 X4 X5 (lo a) g s) (fun a g => X0 (ix2 (lo a) (hcol g d))) s d
    ?_ ?_ ?_ ?_ ?_ ?_).trans (congrArg (· + _) hA))).trans ?_
  · exact fun a => (congrFun (shapeCast_self _ _) _).trans (pay12_block _ _ h0 h1 h2 h3 h4 h5 0 rfl rfl (lo a) a (lo_val a) s)
  · exact fun a => (congrFun (shapeCast_self _ _) _).trans (pay12_block _ _ h0 h1 h2 h3 h4 h5 1 rfl rfl (lo a) a (lo_val a) s)
  · exact fun a => (congrFun (shapeCast_self _ _) _).trans (pay12_block _ _ h0 h1 h2 h3 h4 h5 2 rfl rfl (lo a) a (lo_val a) s)
  · exact fun a => (congrFun (shapeCast_self _ _) _).trans ((congrFun (shapeCast_self _ _) _).trans (sub_apply16 X0 x0 h0 _ 0 rfl (lo a) a (lo_val a) d))
  · exact fun a => (congrFun (shapeCast_self _ _) _).trans ((congrFun (shapeCast_self _ _) _).trans (sub_apply16 X0 x0 h0 _ 1 rfl (lo a) a (lo_val a) d))
  · exact fun a => (congrFun (shapeCast_self _ _) _).trans ((congrFun (shapeCast_self _ _) _).trans (sub_apply16 X0 x0 h0 _ 2 rfl (lo a) a (lo_val a) d))
  rw [sum_halves, ← add_assoc, EReal.coe_add, EReal.coe_add]

/-- What the point adds to the values' gradient: the sum over its rows and heads of the soft maximum times the output's gradient. -/
theorem dvTerm_apply (h0 : ∀ j, x0 j = (X0 j : EReal)) (h1 : ∀ j, x1 j = (X1 j : EReal))
    (h3 : ∀ j, x3 j = (X3 j : EReal)) (h5 : ∀ j, x5 j = (X5 j : EReal))
    (acc : Vec Ideal S4096x128 .f32) (s : Fin 4096) (d : Fin 128) (A : ℝ) (hA : acc (ix2 s d) = (A : EReal)) :
    dvTerm x0 x1 x3 x5 acc (ix2 s d)
      = ((A + ∑ i, ∑ g, blockP X0 X1 X5 i g s * X3 (ix2 i (hcol g d)) : ℝ) : EReal) := by
  unfold dvTerm k0_pay2 k0_pay39
  dsimp only
  rw [shapeCast_self, shapeCast_self]
  simp only [addf_apply]
  unfold pHi doHi
  refine (stack_prod _ _ _ _ _ _ _ _ _ (fun a g => blockP X0 X1 X5 (hi a) g s) (fun a g => X3 (ix2 (hi a) (hcol g d))) s d
    ?_ ?_ ?_ ?_ ?_ ?_).trans ?_
  · exact fun a => (congrFun (shapeCast_self _ _) _).trans (pay10_block _ _ h0 h1 h5 0 rfl rfl (hi a) a (hi_val a) s)
  · exact fun a => (congrFun (shapeCast_self _ _) _).trans (pay10_block _ _ h0 h1 h5 1 rfl rfl (hi a) a (hi_val a) s)
  · exact fun a => (congrFun (shapeCast_self _ _) _).trans (pay10_block _ _ h0 h1 h5 2 rfl rfl (hi a) a (hi_val a) s)
  · exact fun a => (congrFun (shapeCast_self _ _) _).trans (sub_apply32 X3 x3 h3 _ 0 rfl (hi a) a (hi_val a) d)
  · exact fun a => (congrFun (shapeCast_self _ _) _).trans (sub_apply32 X3 x3 h3 _ 1 rfl (hi a) a (hi_val a) d)
  · exact fun a => (congrFun (shapeCast_self _ _) _).trans (sub_apply32 X3 x3 h3 _ 2 rfl (hi a) a (hi_val a) d)
  unfold pLo doLo
  refine (congrArg (· + _) ((stack_prod _ _ _ _ _ _ _ _ _ (fun a g => blockP X0 X1 X5 (lo a) g s) (fun a g => X3 (ix2 (lo a) (hcol g d))) s d
    ?_ ?_ ?_ ?_ ?_ ?_).trans (congrArg (· + _) hA))).trans ?_
  · exact fun a => (congrFun (shapeCast_self _ _) _).trans (pay10_block _ _ h0 h1 h5 0 rfl rfl (lo a) a (lo_val a) s)
  · exact fun a => (congrFun (shapeCast_self _ _) _).trans (pay10_block _ _ h0 h1 h5 1 rfl rfl (lo a) a (lo_val a) s)
  · exact fun a => (congrFun (shapeCast_self _ _) _).trans (pay10_block _ _ h0 h1 h5 2 rfl rfl (lo a) a (lo_val a) s)
  · exact fun a => (congrFun (shapeCast_self _ _) _).trans (sub_apply32 X3 x3 h3 _ 0 rfl (lo a) a (lo_val a) d)
  · exact fun a => (congrFun (shapeCast_self _ _) _).trans (sub_apply32 X3 x3 h3 _ 1 rfl (lo a) a (lo_val a) d)
  · exact fun a => (congrFun (shapeCast_self _ _) _).trans (sub_apply32 X3 x3 h3 _ 2 rfl (lo a) a (lo_val a) d)
  rw [sum_halves, ← add_assoc, EReal.coe_add, EReal.coe_add]

end Apply

end Cert.Attn

end
-- ==== Proof.Out.lean ====
/- What the kernel's run leaves at one grid point, in each of its three cases: the first block of a key head, a block between, the last. -/
module

public import proofs.«01_k».proof.Proof.Gen.KernelIdeal.Frame
public import proofs.«01_k».proof.Proof.Step
public import Idealize.ShloMosaic.Lib.Tactic

@[expose] public section

set_option maxRecDepth 16384

noncomputable section

namespace Cert.Attn

open Idealize.ShloMosaic hiding ix1 ix2 ix3 ix4 eq_ix1 eq_ix2 eq_ix3 eq_ix4
open Idealize.ShloMosaic.ValueIdx
open Cert.KernelIdeal Cert.KernelIdeal.Gen

theorem zeros2 : (![0, 0] : Fin 2 → ℕ) = fun _ => 0 := funext fun a => by fin_cases a <;> rfl

/-- A load of a whole stack reads what its stores left. -/
theorem readStackA {κ : Kind} {sp : Space} (v : View sig κ sp S768x4096 .bf16) (L : List (View.Piece (Elt Ideal) S768x4096 .bf16))
    (inb : ∀ a, (![0, 0] : Fin 2 → ℕ) a + (![768, 4096] : Fin 2 → ℕ) a ≤ S768x4096.size a) :
    v.readCov L (Rect.unit (s := S768x4096) ![0, 0] ![768, 4096] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

/-- A load of a whole stack reads what its stores left. -/
theorem readStackB {κ : Kind} {sp : Space} (v : View sig κ sp S768x128 .bf16) (L : List (View.Piece (Elt Ideal) S768x128 .bf16))
    (inb : ∀ a, (![0, 0] : Fin 2 → ℕ) a + (![768, 128] : Fin 2 → ℕ) a ≤ S768x128.size a) :
    v.readCov L (Rect.unit (s := S768x128) ![0, 0] ![768, 128] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

/-- A load of a whole carried sum reads what its stores left. -/
theorem readAcc {κ : Kind} {sp : Space} (v : View sig κ sp S4096x128 .f32) (L : List (View.Piece (Elt Ideal) S4096x128 .f32))
    (inb : ∀ a, (![0, 0] : Fin 2 → ℕ) a + (![4096, 128] : Fin 2 → ℕ) a ≤ S4096x128.size a) :
    v.readCov L (Rect.unit (s := S4096x128) ![0, 0] ![4096, 128] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

/-- A whole store decides what an array holds. -/
theorem canonAcc {e : EltTy} (w : S4096x128.Idx → Elt Ideal e) (L : List (View.Piece (Elt Ideal) S4096x128 e))
    (inb : ∀ a, (![0, 0] : Fin 2 → ℕ) a + (![4096, 128] : Fin 2 → ℕ) a ≤ S4096x128.size a) :
    View.canon (⟨Rect.unit (s := S4096x128) ![0, 0] ![4096, 128] inb, w⟩ :: L) = w :=
  View.canon_cons_unit_zero (S := S4096x128) zeros2 inb w L

/-- The head a column of a block belongs to, -/
def headOf (j : Fin 384) : Fin 3 := ⟨j.val / 128, by omega⟩
/-- and its place there. -/
def laneOf (j : Fin 384) : Fin 128 := ⟨j.val % 128, Nat.mod_lt _ (by decide)⟩

/-- The gradient of the queries at a place of the block. -/
def blockDQAt (X0 : S512x384.Idx → ℝ) (X1 X2 : S4096x128.Idx → ℝ) (X3 X4 : S512x384.Idx → ℝ) (X5 : S1x512x3.Idx → ℝ) (y : S512x384.Idx) : ℝ :=
  blockDQ X0 X1 X2 X3 X4 X5 (y 0) (headOf (y 1)) (laneOf (y 1))

/-- One of the six stores writes the rows and the head it covers. -/
theorem piece_eq {x1 x2 : Vec Ideal S4096x128 .bf16} {x0 : Vec Ideal S512x384 .bf16} {x3 : Vec Ideal S512x384 .f32} {x4 : Vec Ideal S512x384 .bf16} {x5 : Vec Ideal S1x512x3 .f32}
    {X0 : S512x384.Idx → ℝ} {X1 X2 : S4096x128.Idx → ℝ} {X3 X4 : S512x384.Idx → ℝ} {X5 : S1x512x3.Idx → ℝ} {o0 o1 o2 : ℕ}
    (inb : ∀ a, (![o0, o1] : Fin 2 → ℕ) a + S256x128.size a ≤ S512x384.size a)
    (inb' : ∀ a, (![0, o0, o2] : Fin 3 → ℕ) a + S1x256x1.size a ≤ S1x512x3.size a)
    (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (g : Fin 3) (ho : o1 = 128 * g.val) (ho2 : o2 = g.val) (hb : o0 ≤ 256) (x : S256x128.Idx) :
    k0_pay13 (F := Ideal) x1 x2 (View.ld x0 (Rect.unit (s := S512x384) ![o0, o1] S256x128.size inb))
        (View.ld x5 (Rect.unit (s := S1x512x3) ![0, o0, o2] S1x256x1.size inb'))
        (View.ld x3 (Rect.unit (s := S512x384) ![o0, o1] S256x128.size inb))
        (View.ld x4 (Rect.unit (s := S512x384) ![o0, o1] S256x128.size inb)) x
      = (blockDQAt X0 X1 X2 X3 X4 X5 ((Rect.unit (s := S512x384) ![o0, o1] S256x128.size inb).emb x) : EReal) := by
  obtain ⟨a, d, rfl⟩ : ∃ (a : Fin 256) (d : Fin 128), x = ix2 a d := ⟨x 0, x 1, eq_ix2 x⟩
  have ha := a.isLt
  rw [pay13_block inb inb' h0 h1 h2 h3 h4 h5 g ho ho2 ⟨o0 + a.val, by omega⟩ a rfl d]
  have e1 : headOf (hcol g d) = g := Fin.ext (by show (128 * g.val + d.val) / 128 = g.val; omega)
  have e2 : laneOf (hcol g d) = d := Fin.ext (by show (128 * g.val + d.val) % 128 = d.val; omega)
  refine congrArg (fun r : ℝ => (r : EReal)) ?_
  refine Eq.trans ?_ (congrArg (blockDQAt X0 X1 X2 X3 X4 X5) (sub_idx inb g ho ⟨o0 + a.val, by omega⟩ a rfl d).symm)
  exact (congrArg₂ (blockDQ X0 X1 X2 X3 X4 X5 _) e1 e2).symm

/-- The block of the queries' gradient after its six stores. -/
theorem canon_six (x1 x2 : Vec Ideal S4096x128 .bf16) (x0 : Vec Ideal S512x384 .bf16) (x3 : Vec Ideal S512x384 .f32) (x4 : Vec Ideal S512x384 .bf16) (x5 : Vec Ideal S1x512x3 .f32)
    {X0 : S512x384.Idx → ℝ} {X1 X2 : S4096x128.Idx → ℝ} {X3 X4 : S512x384.Idx → ℝ} {X5 : S1x512x3.Idx → ℝ}
    (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal)) (y : S512x384.Idx) :
    View.canon (Val := Elt Ideal) (e := .f32) [
      ⟨Rect.unit (s := S512x384) ![256, 256] S256x128.size inb_S512x384_S256x128_256_256, k0_pay13 x1 x2 (View.ld x0 (Rect.unit (s := S512x384) ![256, 256] S256x128.size inb_S512x384_S256x128_256_256)) (View.ld x5 (Rect.unit (s := S1x512x3) ![0, 256, 2] S1x256x1.size inb_S1x512x3_S1x256x1_0_256_2)) (View.ld x3 (Rect.unit (s := S512x384) ![256, 256] S256x128.size inb_S512x384_S256x128_256_256)) (View.ld x4 (Rect.unit (s := S512x384) ![256, 256] S256x128.size inb_S512x384_S256x128_256_256))⟩,
      ⟨Rect.unit (s := S512x384) ![256, 128] S256x128.size inb_S512x384_S256x128_256_128, k0_pay13 x1 x2 (View.ld x0 (Rect.unit (s := S512x384) ![256, 128] S256x128.size inb_S512x384_S256x128_256_128)) (View.ld x5 (Rect.unit (s := S1x512x3) ![0, 256, 1] S1x256x1.size inb_S1x512x3_S1x256x1_0_256_1)) (View.ld x3 (Rect.unit (s := S512x384) ![256, 128] S256x128.size inb_S512x384_S256x128_256_128)) (View.ld x4 (Rect.unit (s := S512x384) ![256, 128] S256x128.size inb_S512x384_S256x128_256_128))⟩,
      ⟨Rect.unit (s := S512x384) ![256, 0] S256x128.size inb_S512x384_S256x128_256_0, k0_pay13 x1 x2 (View.ld x0 (Rect.unit (s := S512x384) ![256, 0] S256x128.size inb_S512x384_S256x128_256_0)) (View.ld x5 (Rect.unit (s := S1x512x3) ![0, 256, 0] S1x256x1.size inb_S1x512x3_S1x256x1_0_256_0)) (View.ld x3 (Rect.unit (s := S512x384) ![256, 0] S256x128.size inb_S512x384_S256x128_256_0)) (View.ld x4 (Rect.unit (s := S512x384) ![256, 0] S256x128.size inb_S512x384_S256x128_256_0))⟩,
      ⟨Rect.unit (s := S512x384) ![0, 256] S256x128.size inb_S512x384_S256x128_0_256, k0_pay13 x1 x2 (View.ld x0 (Rect.unit (s := S512x384) ![0, 256] S256x128.size inb_S512x384_S256x128_0_256)) (View.ld x5 (Rect.unit (s := S1x512x3) ![0, 0, 2] S1x256x1.size inb_S1x512x3_S1x256x1_0_0_2)) (View.ld x3 (Rect.unit (s := S512x384) ![0, 256] S256x128.size inb_S512x384_S256x128_0_256)) (View.ld x4 (Rect.unit (s := S512x384) ![0, 256] S256x128.size inb_S512x384_S256x128_0_256))⟩,
      ⟨Rect.unit (s := S512x384) ![0, 128] S256x128.size inb_S512x384_S256x128_0_128, k0_pay13 x1 x2 (View.ld x0 (Rect.unit (s := S512x384) ![0, 128] S256x128.size inb_S512x384_S256x128_0_128)) (View.ld x5 (Rect.unit (s := S1x512x3) ![0, 0, 1] S1x256x1.size inb_S1x512x3_S1x256x1_0_0_1)) (View.ld x3 (Rect.unit (s := S512x384) ![0, 128] S256x128.size inb_S512x384_S256x128_0_128)) (View.ld x4 (Rect.unit (s := S512x384) ![0, 128] S256x128.size inb_S512x384_S256x128_0_128))⟩,
      ⟨Rect.unit (s := S512x384) ![0, 0] S256x128.size inb_S512x384_S256x128_0_0, k0_pay13 x1 x2 (View.ld x0 (Rect.unit (s := S512x384) ![0, 0] S256x128.size inb_S512x384_S256x128_0_0)) (View.ld x5 (Rect.unit (s := S1x512x3) ![0, 0, 0] S1x256x1.size inb_S1x512x3_S1x256x1_0_0_0)) (View.ld x3 (Rect.unit (s := S512x384) ![0, 0] S256x128.size inb_S512x384_S256x128_0_0)) (View.ld x4 (Rect.unit (s := S512x384) ![0, 0] S256x128.size inb_S512x384_S256x128_0_0))⟩] y
      = (blockDQAt X0 X1 X2 X3 X4 X5 y : EReal) := by
  refine View.canon_apply_of_pieces (Val := Elt Ideal) (e := .f32) (fun y => (blockDQAt X0 X1 X2 X3 X4 X5 y : EReal)) _ ?_ y ?_
  · intro p hp x
    simp only [List.mem_cons, List.not_mem_nil, or_false] at hp
    rcases hp with rfl | rfl | rfl | rfl | rfl | rfl
    · exact piece_eq _ _ h0 h1 h2 h3 h4 h5 2 rfl rfl (by decide) x
    · exact piece_eq _ _ h0 h1 h2 h3 h4 h5 1 rfl rfl (by decide) x
    · exact piece_eq _ _ h0 h1 h2 h3 h4 h5 0 rfl rfl (by decide) x
    · exact piece_eq _ _ h0 h1 h2 h3 h4 h5 2 rfl rfl (by decide) x
    · exact piece_eq _ _ h0 h1 h2 h3 h4 h5 1 rfl rfl (by decide) x
    · exact piece_eq _ _ h0 h1 h2 h3 h4 h5 0 rfl rfl (by decide) x
  · have hy0 : (y 0).val < 512 := (y 0).isLt
    have hy1 : (y 1).val < 384 := (y 1).isLt
    simp only [List.exists_mem_cons_iff, List.not_mem_nil, false_and, exists_false, or_false, Rect.mem_set_unit]
    simp only [Fin.forall_fin_two, Matrix.cons_val_zero, Matrix.cons_val_one]
    omega

section Cases
variable (c : Dev nD) (i : grid0.Coords) (arg2 : Memref sig .tc .vmem S512x384 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S512x384 .f32) (harg5 : arg5.IsWhole) (arg6 : Memref sig .tc .vmem S512x384 .bf16) (harg6 : arg6.IsWhole) (arg7 : Memref sig .tc .vmem S1x512x3 .f32) (harg7 : arg7.IsWhole) (arg8 : Memref sig .tc .vmem S512x384 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S4096x128 .f32) (harg11 : arg11.IsWhole) (arg12 : Memref sig .tc .vmem S4096x128 .f32) (harg12 : arg12.IsWhole) (arg13 : Memref sig .tc .vmem S768x4096 .bf16) (harg13 : arg13.IsWhole) (arg14 : Memref sig .tc .vmem S768x4096 .bf16) (harg14 : arg14.IsWhole) (arg15 : Memref sig .tc .vmem S768x128 .bf16) (harg15 : arg15.IsWhole) (arg16 : Memref sig .tc .vmem S768x128 .bf16) (harg16 : arg16.IsWhole)
  (x0 : Vec Ideal S512x384 .bf16) (x1 : Vec Ideal S4096x128 .bf16) (x2 : Vec Ideal S4096x128 .bf16) (x3 : Vec Ideal S512x384 .f32) (x4 : Vec Ideal S512x384 .bf16) (x5 : Vec Ideal S1x512x3 .f32) (xs0 xs1 : Vec Ideal S4096x128 .f32)

/-- The carried sum of the keys' gradient after the first block. -/
theorem dk_A (hc0 : cond0_0 i) (hc1 : ¬cond0_1 i) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 = dkTerm x0 x1 x2 x3 x4 x5 (k0_pay5 (F := Ideal)) := by
  unfold sout0_A_0; rw [View.read_writes_junk_eq_canon]; unfold kernelRun0_A; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The carried sum of the values' gradient after the first block. -/
theorem dv_A (hc0 : cond0_0 i) (hc1 : ¬cond0_1 i) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 = dvTerm x0 x1 x3 x5 (k0_pay6 (F := Ideal)) := by
  unfold sout0_A_1; rw [View.read_writes_junk_eq_canon]; unfold kernelRun0_A; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The gradient of the queries as the first block writes it. -/
theorem dq_A {X0 : S512x384.Idx → ℝ} {X1 X2 : S4096x128.Idx → ℝ} {X3 X4 : S512x384.Idx → ℝ} {X5 : S1x512x3.Idx → ℝ}
    (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (hc0 : cond0_0 i) (hc1 : ¬cond0_1 i) (y : S512x384.Idx) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 y = (blockDQAt X0 X1 X2 X3 X4 X5 y : EReal) := by
  unfold out0_A_6; rw [View.read_writes_junk_eq_canon]; unfold kernelRun0_A; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [p1, p2, p3, p4, p5, g1, g2, g3, g4, g5]
  exact canon_six x1 x2 x0 x3 x4 x5 h0 h1 h2 h3 h4 h5 y

/-- The carried sum of the keys' gradient after the middle block. -/
theorem dk_B (hc0 : ¬cond0_0 i) (hc1 : ¬cond0_1 i) :
    sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 = dkTerm x0 x1 x2 x3 x4 x5 xs0 := by
  unfold sout0_B_0; rw [View.read_writes_junk_eq_canon]; unfold kernelRun0_B; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The carried sum of the values' gradient after the middle block. -/
theorem dv_B (hc0 : ¬cond0_0 i) (hc1 : ¬cond0_1 i) :
    sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 = dvTerm x0 x1 x3 x5 xs1 := by
  unfold sout0_B_1; rw [View.read_writes_junk_eq_canon]; unfold kernelRun0_B; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The gradient of the queries as the middle block writes it. -/
theorem dq_B {X0 : S512x384.Idx → ℝ} {X1 X2 : S4096x128.Idx → ℝ} {X3 X4 : S512x384.Idx → ℝ} {X5 : S1x512x3.Idx → ℝ}
    (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (hc0 : ¬cond0_0 i) (hc1 : ¬cond0_1 i) (y : S512x384.Idx) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 y = (blockDQAt X0 X1 X2 X3 X4 X5 y : EReal) := by
  unfold out0_B_6; rw [View.read_writes_junk_eq_canon]; unfold kernelRun0_B; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [p1, p2, p3, p4, p5, g1, g2, g3, g4, g5]
  exact canon_six x1 x2 x0 x3 x4 x5 h0 h1 h2 h3 h4 h5 y

/-- The carried sum of the keys' gradient after the last block. -/
theorem dk_C (hc0 : ¬cond0_0 i) (hc1 : cond0_1 i) :
    sout0_C_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 = dkTerm x0 x1 x2 x3 x4 x5 xs0 := by
  unfold sout0_C_0; rw [View.read_writes_junk_eq_canon]; unfold kernelRun0_C; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The gradient of the keys as the last block writes it. -/
theorem out_dk (hc0 : ¬cond0_0 i) (hc1 : cond0_1 i) :
    out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 = k0_pay3 (F := Ideal) (dkTerm x0 x1 x2 x3 x4 x5 xs0) := by
  unfold out0_C_7; rw [View.read_writes_junk_eq_canon]; unfold kernelRun0_C; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The carried sum of the values' gradient after the last block. -/
theorem dv_C (hc0 : ¬cond0_0 i) (hc1 : cond0_1 i) :
    sout0_C_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 = dvTerm x0 x1 x3 x5 xs1 := by
  unfold sout0_C_1; rw [View.read_writes_junk_eq_canon]; unfold kernelRun0_C; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The gradient of the values as the last block writes it. -/
theorem out_dv (hc0 : ¬cond0_0 i) (hc1 : cond0_1 i) :
    out0_C_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 = k0_pay4 (F := Ideal) (dvTerm x0 x1 x3 x5 xs1) := by
  unfold out0_C_8; rw [View.read_writes_junk_eq_canon]; unfold kernelRun0_C; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [canonAcc, readAcc, readStackA, readStackB, p1, p2, p3, p4, p5]
  rfl

/-- The gradient of the queries as the last block writes it. -/
theorem dq_C {X0 : S512x384.Idx → ℝ} {X1 X2 : S4096x128.Idx → ℝ} {X3 X4 : S512x384.Idx → ℝ} {X5 : S1x512x3.Idx → ℝ}
    (h0 : ∀ j, x0 j = (X0 j : EReal)) (h1 : ∀ j, x1 j = (X1 j : EReal)) (h2 : ∀ j, x2 j = (X2 j : EReal))
    (h3 : ∀ j, x3 j = (X3 j : EReal)) (h4 : ∀ j, x4 j = (X4 j : EReal)) (h5 : ∀ j, x5 j = (X5 j : EReal))
    (hc0 : ¬cond0_0 i) (hc1 : cond0_1 i) (y : S512x384.Idx) :
    out0_C_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 xs0 xs1 y = (blockDQAt X0 X1 X2 X3 X4 X5 y : EReal) := by
  unfold out0_C_6; rw [View.read_writes_junk_eq_canon]; unfold kernelRun0_C; dsimp only; sl_unfold_words
  simp only [View.readAt_eq_ld, harg2.read_unread, harg3.read_unread, harg4.read_unread, harg5.read_unread, harg6.read_unread, harg7.read_unread, harg11.read_unread, harg12.read_unread, View.ld_unit_zero (S := S4096x128) zeros2]
  simp only [p1, p2, p3, p4, p5, g1, g2, g3, g4, g5]
  exact canon_six x1 x2 x0 x3 x4 x5 h0 h1 h2 h3 h4 h5 y

end Cases

end Cert.Attn

end
-- ==== Proof.Fold.lean ====
/- What the kernel leaves after each grid point: the sums carried for the keys and the values, the block of the queries' gradient. -/
module

public import proofs.«01_k».proof.Proof.Out

@[expose] public section

noncomputable section

namespace Cert.Attn

open Idealize.ShloMosaic hiding ix1 ix2 ix3 ix4 eq_ix1 eq_ix2 eq_ix3 eq_ix4
open Idealize.ShloMosaic.ValueIdx
open Cert.KernelIdeal Cert.KernelIdeal.Gen

/-- The carried sums start at zero. -/
theorem pay5_apply (j : S4096x128.Idx) : k0_pay5 (F := Ideal) j = ((0 : ℝ) : EReal) := by
  unfold k0_pay5
  rw [shapeCast_self, broadcast_apply]
  exact ofBits_zero

/-- The carried sums start at zero. -/
theorem pay6_apply (j : S4096x128.Idx) : k0_pay6 (F := Ideal) j = ((0 : ℝ) : EReal) := by
  unfold k0_pay6
  rw [shapeCast_self, broadcast_apply]
  exact ofBits_zero

/-- The last block scales the keys' gradient. -/
theorem pay3_apply (x : Vec Ideal S4096x128 .f32) (j : S4096x128.Idx) (A : ℝ) (h : x j = (A : EReal)) :
    k0_pay3 (F := Ideal) x j = ((A * scale : ℝ) : EReal) := by
  unfold k0_pay3
  simp only [mulf_apply, broadcast_apply]
  rw [h, show (Scalar.ofBits .f32 0x3DB504F3#32 : Ideal .f32) = ((scale : ℝ) : EReal) from ofBits_scale, EReal.coe_mul]

variable (m : (ℓ : Loc nD τ sig) → Buf (Elt Ideal) ℓ) (c : Dev nD)

/-- The six input blocks of every grid point are real: `R0` the queries, `R1` the keys, `R2` the values, `R3` the outputs'
    gradient, `R4` the outputs, `R5` the saved row constants. -/
structure Blocks (R0 : ℕ → S512x384.Idx → ℝ) (R1 R2 : ℕ → S4096x128.Idx → ℝ) (R3 R4 : ℕ → S512x384.Idx → ℝ) (R5 : ℕ → S1x512x3.Idx → ℝ) : Prop where
  h0 : ∀ (t : Fin cfg0.N) (j : S512x384.Idx), (iblk m c 0 t : Vec Ideal S512x384 .bf16) j = (R0 t.val j : EReal)
  h1 : ∀ (t : Fin cfg0.N) (j : S4096x128.Idx), (iblk m c 1 t : Vec Ideal S4096x128 .bf16) j = (R1 t.val j : EReal)
  h2 : ∀ (t : Fin cfg0.N) (j : S4096x128.Idx), (iblk m c 2 t : Vec Ideal S4096x128 .bf16) j = (R2 t.val j : EReal)
  h3 : ∀ (t : Fin cfg0.N) (j : S512x384.Idx), (X0_3 m c t : Vec Ideal S512x384 .f32) j = (R3 t.val j : EReal)
  h4 : ∀ (t : Fin cfg0.N) (j : S512x384.Idx), (X0_4 m c t : Vec Ideal S512x384 .bf16) j = (R4 t.val j : EReal)
  h5 : ∀ (t : Fin cfg0.N) (j : S1x512x3.Idx), (iblk m c 5 t : Vec Ideal S1x512x3 .f32) j = (R5 t.val j : EReal)

section Sums
variable (R0 : ℕ → S512x384.Idx → ℝ) (R1 R2 : ℕ → S4096x128.Idx → ℝ) (R3 R4 : ℕ → S512x384.Idx → ℝ) (R5 : ℕ → S1x512x3.Idx → ℝ)

/-- What point `n` adds to the keys' gradient, before the scale. -/
def dkPart (n : ℕ) (s : Fin 4096) (d : Fin 128) : ℝ :=
  ∑ i, ∑ g, blockDS (R0 n) (R1 n) (R2 n) (R3 n) (R4 n) (R5 n) i g s * R0 n (ix2 i (hcol g d))

/-- What point `n` adds to the values' gradient. -/
def dvPart (n : ℕ) (s : Fin 4096) (d : Fin 128) : ℝ :=
  ∑ i, ∑ g, blockP (R0 n) (R1 n) (R5 n) i g s * R3 n (ix2 i (hcol g d))

/-- The sum of the points of one key head up to `n`. -/
def upTo (f : ℕ → ℝ) (n : ℕ) : ℝ := ∑ k ∈ Finset.range (n % 8 + 1), f (8 * (n / 8) + k)

theorem upTo_first (f : ℕ → ℝ) (n : ℕ) (h : n % 8 = 0) : upTo f n = 0 + f n := by
  unfold upTo
  rw [h, Finset.sum_range_one, show 8 * (n / 8) + 0 = n by omega, zero_add]

theorem upTo_next (f : ℕ → ℝ) (n : ℕ) (h : ¬n % 8 = 0) : upTo f n = upTo f (n - 1) + f n := by
  unfold upTo
  rw [Finset.sum_range_succ, show (n - 1) % 8 + 1 = n % 8 by omega, show (n - 1) / 8 = n / 8 by omega,
    show 8 * (n / 8) + n % 8 = n by omega]

variable {R0 R1 R2 R3 R4 R5}

/-- The carried sums after point `n`. -/
theorem carried (H : Blocks m c R0 R1 R2 R3 R4 R5) (n : ℕ) (hn : n < cfg0.N) :
    (∀ s d, (outsAt0 m c n hn).2.2.2.1 (ix2 s d) = (upTo (fun k => dkPart R0 R1 R2 R3 R4 R5 k s d) n : EReal))
      ∧ ∀ s d, (outsAt0 m c n hn).2.2.2.2 (ix2 s d) = (upTo (fun k => dvPart R0 R1 R3 R5 k s d) n : EReal) := by
  induction n using Nat.strong_induction_on with
  | _ n ih =>
    by_cases h0 : n % 8 = 0
    · have h1 : ¬n % 8 = 7 := by omega
      constructor
      · intro s d
        rw [outsAt0_A m c ⟨n, hn⟩ h0 h1, upTo_first _ n h0]
        dsimp only
        rw [dk_A]
        exact dkTerm_apply (H.h0 ⟨n, hn⟩) (H.h1 ⟨n, hn⟩) (H.h2 ⟨n, hn⟩) (H.h3 ⟨n, hn⟩) (H.h4 ⟨n, hn⟩) (H.h5 ⟨n, hn⟩) _ s d 0 (pay5_apply _)
      · intro s d
        rw [outsAt0_A m c ⟨n, hn⟩ h0 h1, upTo_first _ n h0]
        dsimp only
        rw [dv_A]
        exact dvTerm_apply (H.h0 ⟨n, hn⟩) (H.h1 ⟨n, hn⟩) (H.h3 ⟨n, hn⟩) (H.h5 ⟨n, hn⟩) _ s d 0 (pay6_apply _)
    · have I := ih (n - 1) (by omega) (by omega)
      by_cases h1 : n % 8 = 7
      · constructor
        · intro s d
          rw [outsAt0_C m c ⟨n, hn⟩ h0 h1, upTo_next _ n h0]
          dsimp only
          rw [dk_C]
          exact dkTerm_apply (H.h0 ⟨n, hn⟩) (H.h1 ⟨n, hn⟩) (H.h2 ⟨n, hn⟩) (H.h3 ⟨n, hn⟩) (H.h4 ⟨n, hn⟩) (H.h5 ⟨n, hn⟩) _ s d _ (I.1 s d)
        · intro s d
          rw [outsAt0_C m c ⟨n, hn⟩ h0 h1, upTo_next _ n h0]
          dsimp only
          rw [dv_C]
          exact dvTerm_apply (H.h0 ⟨n, hn⟩) (H.h1 ⟨n, hn⟩) (H.h3 ⟨n, hn⟩) (H.h5 ⟨n, hn⟩) _ s d _ (I.2 s d)
      · constructor
        · intro s d
          rw [outsAt0_B m c ⟨n, hn⟩ h0 h1, upTo_next _ n h0]
          dsimp only
          rw [dk_B]
          exact dkTerm_apply (H.h0 ⟨n, hn⟩) (H.h1 ⟨n, hn⟩) (H.h2 ⟨n, hn⟩) (H.h3 ⟨n, hn⟩) (H.h4 ⟨n, hn⟩) (H.h5 ⟨n, hn⟩) _ s d _ (I.1 s d)
        · intro s d
          rw [outsAt0_B m c ⟨n, hn⟩ h0 h1, upTo_next _ n h0]
          dsimp only
          rw [dv_B]
          exact dvTerm_apply (H.h0 ⟨n, hn⟩) (H.h1 ⟨n, hn⟩) (H.h3 ⟨n, hn⟩) (H.h5 ⟨n, hn⟩) _ s d _ (I.2 s d)

/-- The keys' gradient as the last block of a key head writes it. -/
theorem outK (H : Blocks m c R0 R1 R2 R3 R4 R5) (n : ℕ) (hn : n < cfg0.N) (h1 : n % 8 = 7) (s : Fin 4096) (d : Fin 128) :
    (outsAt0 m c n hn).2.1 (ix2 s d) = ((upTo (fun k => dkPart R0 R1 R2 R3 R4 R5 k s d) n * scale : ℝ) : EReal) := by
  have h0 : ¬n % 8 = 0 := by omega
  have I := carried m c H (n - 1) (by omega)
  rw [outsAt0_C m c ⟨n, hn⟩ h0 h1, upTo_next _ n h0]
  dsimp only
  rw [out_dk]
  exact pay3_apply _ _ _ (dkTerm_apply (H.h0 ⟨n, hn⟩) (H.h1 ⟨n, hn⟩) (H.h2 ⟨n, hn⟩) (H.h3 ⟨n, hn⟩) (H.h4 ⟨n, hn⟩) (H.h5 ⟨n, hn⟩) _ s d _ (I.1 s d))

/-- The values' gradient as the last block of a key head writes it. -/
theorem outV (H : Blocks m c R0 R1 R2 R3 R4 R5) (n : ℕ) (hn : n < cfg0.N) (h1 : n % 8 = 7) (s : Fin 4096) (d : Fin 128) :
    (outsAt0 m c n hn).2.2.1 (ix2 s d) = (upTo (fun k => dvPart R0 R1 R3 R5 k s d) n : EReal) := by
  have h0 : ¬n % 8 = 0 := by omega
  have I := carried m c H (n - 1) (by omega)
  rw [outsAt0_C m c ⟨n, hn⟩ h0 h1, upTo_next _ n h0]
  dsimp only
  rw [out_dv]
  exact dvTerm_apply (H.h0 ⟨n, hn⟩) (H.h1 ⟨n, hn⟩) (H.h3 ⟨n, hn⟩) (H.h5 ⟨n, hn⟩) _ s d _ (I.2 s d)

/-- The queries' gradient as any block writes it. -/
theorem outQ (H : Blocks m c R0 R1 R2 R3 R4 R5) (n : ℕ) (hn : n < cfg0.N) (y : S512x384.Idx) :
    (outsAt0 m c n hn).1 y = (blockDQAt (R0 n) (R1 n) (R2 n) (R3 n) (R4 n) (R5 n) y : EReal) := by
  by_cases h0 : n % 8 = 0
  · rw [outsAt0_A m c ⟨n, hn⟩ h0 (by show ¬n % 8 = 7; omega)]
    dsimp only
    exact dq_A _ _ _ _ _ _ _ _ _ _ _ _ _ _ _ _ _ _ _ _ _ _ _ _ _ _ _ _ _ _ _ _ _ _ _ _ _ _ (H.h0 ⟨n, hn⟩) (H.h1 ⟨n, hn⟩) (H.h2 ⟨n, hn⟩) (H.h3 ⟨n, hn⟩) (H.h4 ⟨n, hn⟩) (H.h5 ⟨n, hn⟩) _ _ y
  · by_cases h1 : n % 8 = 7
    · rw [outsAt0_C m c ⟨n, hn⟩ h0 h1]
      dsimp only
      exact dq_C _ _ _ _ _ _ _ _ _ _ _ _ _ _ _ _ _ _ _ _ _ _ _ _ _ _ _ _ _ _ _ _ _ _ _ _ _ _ _ _ (H.h0 ⟨n, hn⟩) (H.h1 ⟨n, hn⟩) (H.h2 ⟨n, hn⟩) (H.h3 ⟨n, hn⟩) (H.h4 ⟨n, hn⟩) (H.h5 ⟨n, hn⟩) _ _ y
    · rw [outsAt0_B m c ⟨n, hn⟩ h0 h1]
      dsimp only
      exact dq_B _ _ _ _ _ _ _ _ _ _ _ _ _ _ _ _ _ _ _ _ _ _ _ _ _ _ _ _ _ _ _ _ _ _ _ _ _ _ _ _ (H.h0 ⟨n, hn⟩) (H.h1 ⟨n, hn⟩) (H.h2 ⟨n, hn⟩) (H.h3 ⟨n, hn⟩) (H.h4 ⟨n, hn⟩) (H.h5 ⟨n, hn⟩) _ _ y

end Sums

end Cert.Attn

end
-- ==== Proof.Host.lean ====
/- What the host hands to the kernel: the outputs of the forward pass, each row's saved constant, and the arguments themselves. -/
module

public import proofs.«01_k».proof.Proof.Fwd
public import proofs.«01_k».proof.Proof.Fold
public import Idealize.ShloMosaic.Lib.StableHlo.RunRead

@[expose] public section

-- the host's operations are read one inside the other
set_option maxRecDepth 16384

noncomputable section

namespace Cert.Attn

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen
open Cert.ReferenceIdeal.Read

/-- The exponentials of the rows, each less the row's greatest score taken once. -/
def hostExp (x0 : FVec Ideal S4096x1536 .f32) (x1 : FVec Ideal S4096x512 .f32) : FVec Ideal S4x3x4096x4096 .f32 :=
  Host.exp (subf (val_main_v6 (F := Ideal) x0 x1) (broadcastInDim S4x3x4096x4096 ![0, 1, 2, 3] bcast_S4x3x4096x1_S4x3x4096x4096_0_1_2_3
    (broadcastInDim S4x3x4096x1 ![0, 1, 2] bcast_S4x3x4096_S4x3x4096x1_0_1_2 (val_main_v7 (F := Ideal) x0 x1))))

theorem hostExp_eq (x0 : FVec Ideal S4096x1536 .f32) (x1 : FVec Ideal S4096x512 .f32) : hostExp x0 x1 = val_main_v27 (F := Ideal) x0 x1 := by
  unfold hostExp val_main_v27 val_main_v26 val_main_v25 val_main_v24
  rw [v14_eq]

variable (m : (ℓ : Loc nD τ sig) → Buf (Elt Ideal) ℓ) (c : Dev nD)

/-- The arguments of one device. -/
abbrev arg0 : FVec Ideal S4096x1536 .f32 := m ((c : Thread nD τ).loc main_arg0)
abbrev arg1 : FVec Ideal S4096x512 .f32 := m ((c : Thread nD τ).loc main_arg1)
abbrev arg2 : FVec Ideal S4096x512 .f32 := m ((c : Thread nD τ).loc main_arg2)
abbrev arg3 : FVec Ideal S4096x2048 .f32 := m ((c : Thread nD τ).loc main_arg3)
abbrev arg4 : FVec Ideal S4096x512 .f32 := m ((c : Thread nD τ).loc main_arg4)

theorem V_v26 : (V m c main_v26 : FVec Ideal S4096x1536 .bf16) = truncf .bf16 (arg0 m c) bitsLt_bf16_f32 := by
  unfold V
  after_reads_simp

theorem V_v27 : (V m c main_v27 : FVec Ideal S4096x512 .bf16) = truncf .bf16 (arg1 m c) bitsLt_bf16_f32 := by
  unfold V
  after_reads_simp

theorem V_v28 : (V m c main_v28 : FVec Ideal S4096x512 .bf16) = truncf .bf16 (arg2 m c) bitsLt_bf16_f32 := by
  unfold V
  after_reads_simp

/-- The saved row constants: the logarithm of each row's sum over the scale. -/
theorem V_v23 : (V m c main_v23 : FVec Ideal S4x4096x3 .f32)
    = (transpose S4x4096x3 [0, 2, 1] (Host.divf (addf (val_main_v7 (F := Ideal) (arg0 m c) (arg1 m c) : FVec Ideal S4x3x4096 .f32)
        (Host.log (val_main_v28 (F := Ideal) (arg0 m c) (arg1 m c))))
        (broadcastInDim S4x3x4096 ![] bcast_S_S4x3x4096 (constant S_ .f32 0x3DB504F3#32))) transposes_S4x3x4096_S4x4096x3_0_2_1 : FVec Ideal S4x4096x3 .f32) := by
  unfold val_main_v28
  rw [← hostExp_eq]
  unfold V
  after_reads_simp
  rfl

/-- The outputs the kernel reads, beside the memory's. -/
theorem V_v25 : (V m c main_v25 : FVec Ideal S4096x2048 .bf16)
    = (truncf .bf16 (concatenate S4096x2048 1 [⟨S4096x1536, val_main_v37 (F := Ideal) (arg0 m c) (arg1 m c) (arg2 m c)⟩, ⟨S4096x512, arg4 m c⟩]
        concatenates_S4096x1536_S4096x512_S4096x2048_d1) bitsLt_bf16_f32 : FVec Ideal S4096x2048 .bf16) := by
  have e : (StableHlo.upto hostOps0 (fun b => m (c, b)) 28 (Proc.tc.devRef main_v18) : FVec Ideal S4096x1536 .f32)
      = val_main_v37 (F := Ideal) (arg0 m c) (arg1 m c) (arg2 m c) := by
    unfold val_main_v37 val_main_v36 val_main_v35 val_main_v31 val_main_v30 val_main_v29 val_main_v28
    rw [← hostExp_eq]
    after_reads_simp
    rfl
  have e4 : (StableHlo.upto hostOps0 (fun b => m (c, b)) 28 (Proc.tc.devRef main_arg4) : FVec Ideal S4096x512 .f32) = arg4 m c := by
    after_reads_simp
  unfold V
  after_reads_simp
  exact congrArg₂ (fun (a : FVec Ideal S4096x1536 .f32) (b : FVec Ideal S4096x512 .f32) =>
    (truncf .bf16 (concatenate S4096x2048 1 [⟨S4096x1536, a⟩, ⟨S4096x512, b⟩] concatenates_S4096x1536_S4096x512_S4096x2048_d1)
      bitsLt_bf16_f32 : FVec Ideal S4096x2048 .bf16)) e e4

/-- The row constants at an index. -/
theorem stat_form (x y : FVec Ideal S4x3x4096 .f32) (i : S4x3x4096.Idx) :
    (Host.divf (addf x (Host.log y)) (broadcastInDim S4x3x4096 ![] bcast_S_S4x3x4096 (constant S_ .f32 0x3DB504F3#32)) : FVec Ideal S4x3x4096 .f32) i
      = Ideal.div (x i + Ideal.log (y i)) (Ideal.ofBits .f32 0x3DB504F3#32) := rfl

section
variable {A : Arrays} (H : Holds A (arg0 m c) (arg1 m c) (arg2 m c) (arg3 m c))
include H

/-- The kernel finds the queries as they were given. -/
theorem host_q (t : Fin 4096) (j : Fin 1536) : (V m c main_v26 : FVec Ideal S4096x1536 .bf16) (ix2 t j) = ((A.Q t j : ℝ) : EReal) := by
  rw [V_v26]; exact H.q t j

/-- The keys. -/
theorem host_k (t : Fin 4096) (j : Fin 512) : (V m c main_v27 : FVec Ideal S4096x512 .bf16) (ix2 t j) = ((A.K t j : ℝ) : EReal) := by
  rw [V_v27]; exact H.k t j

/-- The values. -/
theorem host_v (t : Fin 4096) (j : Fin 512) : (V m c main_v28 : FVec Ideal S4096x512 .bf16) (ix2 t j) = ((A.V t j : ℝ) : EReal) := by
  rw [V_v28]; exact H.v t j

/-- The gradient of the outputs. -/
theorem host_d (t : Fin 4096) (j : Fin 1536) :
    (V m c main_arg3 : FVec Ideal S4096x2048 .f32) (ix2 t ⟨j.val, by omega⟩) = ((A.D t j : ℝ) : EReal) := by
  rw [show (V m c main_arg3 : FVec Ideal S4096x2048 .f32) = arg3 m c from V_main_arg3 m c]; exact H.d t j

/-- The outputs of the forward pass. -/
theorem host_o (t : Fin 4096) (h : Fin 4) (g : Fin 3) (d : Fin 128) :
    (V m c main_v25 : FVec Ideal S4096x2048 .bf16) (ix2 t ⟨(qcol h g d).val, by omega⟩) = ((A.O h g t d : ℝ) : EReal) := by
  rw [V_v25]
  refine (concatenate_pair_apply_left (s₁ := S4096x1536) (s₂ := S4096x512) (t := S4096x2048) 1 _ _
    concatenates_S4096x1536_S4096x512_S4096x2048_d1 _ rfl (ix2 t (qcol h g d)) (by
      intro b; match b with | ⟨0, _⟩ => rfl | ⟨1, _⟩ => rfl)).trans ?_
  exact at_v37 H t h g d

/-- The saved row constants. -/
theorem host_stat (h : Fin 4) (t : Fin 4096) (g : Fin 3) :
    (V m c main_v23 : FVec Ideal S4x4096x3 .f32) (ix3 h t g) = ((Real.log (expSum (A.row h g t)) * (1 / scale) : ℝ) : EReal) := by
  rw [V_v23]
  refine (transpose_apply (s := S4x3x4096) (t := S4x4096x3) _ _ transposes_S4x3x4096_S4x4096x3_0_2_1 _ (ix3 h g t)
    (by intro b; match b with | ⟨0, _⟩ => rfl | ⟨1, _⟩ => rfl | ⟨2, _⟩ => rfl)).trans ?_
  refine (stat_form _ _ _).trans ?_
  have hp := expSum_pos fun s => A.row h g t s - rowMax (arg0 m c) (arg1 m c) h g t
  rw [at_v7 H, at_v28 H, Ideal.log_coe, if_neg (not_le.mpr hp), ← EReal.coe_add, lse_shift, ofBits_scale, div_real _ _ scale_ne, mul_one_div]

end

end Cert.Attn
-- ==== Proof.Blocks.lean ====
/- The kernel's six input blocks at each grid point, read off the real arrays. -/
module

public import proofs.«01_k».proof.Proof.Host

@[expose] public section

noncomputable section

namespace Cert.Attn

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen

/-- The row of the arrays that row `i` of point `n`'s block is. -/
def rowAt (n : ℕ) (i : Fin 512) : Fin 4096 := ⟨512 * (n % 8) + i.val, by omega⟩

/-- The key head of point `n`. -/
def headAt (n : ℕ) : Fin 4 := ⟨n / 8 % 4, Nat.mod_lt _ (by omega)⟩

/-- The column of the queries that column `x` of point `n`'s block is. -/
def qAt (n : ℕ) (x : Fin 384) : Fin 1536 := ⟨384 * (n / 8 % 4) + x.val, by omega⟩

/-- The column of the keys that lane `x` of point `n`'s block is. -/
def kAt (n : ℕ) (x : Fin 128) : Fin 512 := ⟨128 * (n / 8 % 4) + x.val, by omega⟩

theorem qAt_hcol (n : ℕ) (g : Fin 3) (d : Fin 128) : qAt n (hcol g d) = qcol (headAt n) g d :=
  Fin.ext (by show 384 * (n / 8 % 4) + (128 * g.val + d.val) = ((n / 8 % 4) * 3 + g.val) * 128 + d.val; omega)

theorem qAt_split (n : ℕ) (x : Fin 384) : qAt n x = qcol (headAt n) (headOf x) (laneOf x) :=
  Fin.ext (by show 384 * (n / 8 % 4) + x.val = ((n / 8 % 4) * 3 + x.val / 128) * 128 + x.val % 128; omega)

theorem kAt_eq (n : ℕ) (d : Fin 128) : kAt n d = kcol (headAt n) d :=
  Fin.ext (by show 128 * (n / 8 % 4) + d.val = (n / 8 % 4) * 128 + d.val; omega)

theorem map0 : ∀ t : Fin cfg0.N, cc0_transform_0 (cfg0.grid.coords t) 0 = t.val % 8 ∧ cc0_transform_0 (cfg0.grid.coords t) 1 = t.val / 8 := by
  decide +kernel
theorem map1 : ∀ t : Fin cfg0.N, cc0_transform_1 (cfg0.grid.coords t) 0 = 0 ∧ cc0_transform_1 (cfg0.grid.coords t) 1 = t.val / 8 := by
  decide +kernel
theorem map2 : ∀ t : Fin cfg0.N, cc0_transform_2 (cfg0.grid.coords t) 0 = 0 ∧ cc0_transform_2 (cfg0.grid.coords t) 1 = t.val / 8 := by
  decide +kernel
theorem map3 : ∀ t : Fin cfg0.N, cc0_transform_3 (cfg0.grid.coords t) 0 = t.val % 8 ∧ cc0_transform_3 (cfg0.grid.coords t) 1 = t.val / 8 := by
  decide +kernel
theorem map4 : ∀ t : Fin cfg0.N, cc0_transform_4 (cfg0.grid.coords t) 0 = t.val % 8 ∧ cc0_transform_4 (cfg0.grid.coords t) 1 = t.val / 8 := by
  decide +kernel
theorem map5 : ∀ t : Fin cfg0.N, cc0_transform_5 (cfg0.grid.coords t) 0 = t.val / 8 ∧ cc0_transform_5 (cfg0.grid.coords t) 1 = t.val % 8
    ∧ cc0_transform_5 (cfg0.grid.coords t) 2 = 0 := by
  decide +kernel

/-- The queries' block. -/
theorem blk0 (X : FVec Ideal S4096x1536 .bf16) (t : Fin cfg0.N) (i : Fin 512) (x : Fin 384) :
    (((cfg0.win 0).blk t).view.read (Elt Ideal) X : FVec Ideal S512x384 .bf16) (ix2 i x) = X (ix2 (rowAt t.val i) (qAt t.val x)) := by
  rw [View.read_apply]
  refine congrArg X (funext fun a => Fin.ext ?_)
  have ht : t.val < 32 := t.isLt
  match a with
  | ⟨0, _⟩ =>
    show cc0_transform_0 (cfg0.grid.coords t) 0 * 512 + 1 * i.val = 512 * (t.val % 8) + i.val
    rw [(map0 t).1]; omega
  | ⟨1, _⟩ =>
    show cc0_transform_0 (cfg0.grid.coords t) 1 * 384 + 1 * x.val = 384 * (t.val / 8 % 4) + x.val
    rw [(map0 t).2]; omega

/-- The keys' block. -/
theorem blk1 (X : FVec Ideal S4096x512 .bf16) (t : Fin cfg0.N) (s : Fin 4096) (x : Fin 128) :
    (((cfg0.win 1).blk t).view.read (Elt Ideal) X : FVec Ideal S4096x128 .bf16) (ix2 s x) = X (ix2 s (kAt t.val x)) := by
  rw [View.read_apply]
  refine congrArg X (funext fun a => Fin.ext ?_)
  have ht : t.val < 32 := t.isLt
  match a with
  | ⟨0, _⟩ =>
    show cc0_transform_1 (cfg0.grid.coords t) 0 * 4096 + 1 * s.val = s.val
    rw [(map1 t).1]; omega
  | ⟨1, _⟩ =>
    show cc0_transform_1 (cfg0.grid.coords t) 1 * 128 + 1 * x.val = 128 * (t.val / 8 % 4) + x.val
    rw [(map1 t).2]; omega

/-- The values' block. -/
theorem blk2 (X : FVec Ideal S4096x512 .bf16) (t : Fin cfg0.N) (s : Fin 4096) (x : Fin 128) :
    (((cfg0.win 2).blk t).view.read (Elt Ideal) X : FVec Ideal S4096x128 .bf16) (ix2 s x) = X (ix2 s (kAt t.val x)) := by
  rw [View.read_apply]
  refine congrArg X (funext fun a => Fin.ext ?_)
  have ht : t.val < 32 := t.isLt
  match a with
  | ⟨0, _⟩ =>
    show cc0_transform_2 (cfg0.grid.coords t) 0 * 4096 + 1 * s.val = s.val
    rw [(map2 t).1]; omega
  | ⟨1, _⟩ =>
    show cc0_transform_2 (cfg0.grid.coords t) 1 * 128 + 1 * x.val = 128 * (t.val / 8 % 4) + x.val
    rw [(map2 t).2]; omega

/-- The block of the outputs' gradient. -/
theorem blk3 (X : FVec Ideal S4096x2048 .f32) (dflt : S512x384.Idx → EReal) (t : Fin cfg0.N) (i : Fin 512) (x : Fin 384) :
    (((cfg0.win 3).fill (cfg0.grid.coords t) dflt (((cfg0.win 3).blk t).view.read (Elt Ideal) X)) : FVec Ideal S512x384 .f32) (ix2 i x)
      = X (ix2 (rowAt t.val i) ⟨(qAt t.val x).val, by omega⟩) := by
  unfold Pipeline.Window.fill
  rw [dif_pos (moved0_3 t _), View.read_apply]
  refine congrArg X (funext fun a => Fin.ext ?_)
  have ht : t.val < 32 := t.isLt
  match a with
  | ⟨0, _⟩ =>
    show cc0_transform_3 (cfg0.grid.coords t) 0 * 512 + 1 * i.val = 512 * (t.val % 8) + i.val
    rw [(map3 t).1]; omega
  | ⟨1, _⟩ =>
    show cc0_transform_3 (cfg0.grid.coords t) 1 * 384 + 1 * x.val = 384 * (t.val / 8 % 4) + x.val
    rw [(map3 t).2]; omega

/-- The outputs' block. -/
theorem blk4 (X : FVec Ideal S4096x2048 .bf16) (dflt : S512x384.Idx → EReal) (t : Fin cfg0.N) (i : Fin 512) (x : Fin 384) :
    (((cfg0.win 4).fill (cfg0.grid.coords t) dflt (((cfg0.win 4).blk t).view.read (Elt Ideal) X)) : FVec Ideal S512x384 .bf16) (ix2 i x)
      = X (ix2 (rowAt t.val i) ⟨(qAt t.val x).val, by omega⟩) := by
  unfold Pipeline.Window.fill
  rw [dif_pos (moved0_4 t _), View.read_apply]
  refine congrArg X (funext fun a => Fin.ext ?_)
  have ht : t.val < 32 := t.isLt
  match a with
  | ⟨0, _⟩ =>
    show cc0_transform_4 (cfg0.grid.coords t) 0 * 512 + 1 * i.val = 512 * (t.val % 8) + i.val
    rw [(map4 t).1]; omega
  | ⟨1, _⟩ =>
    show cc0_transform_4 (cfg0.grid.coords t) 1 * 384 + 1 * x.val = 384 * (t.val / 8 % 4) + x.val
    rw [(map4 t).2]; omega

/-- The block of the saved row constants. -/
theorem blk5 (X : FVec Ideal S4x4096x3 .f32) (t : Fin cfg0.N) (z : Fin 1) (i : Fin 512) (g : Fin 3) :
    (((cfg0.win 5).blk t).view.read (Elt Ideal) X : FVec Ideal S1x512x3 .f32) (ix3 z i g) = X (ix3 (headAt t.val) (rowAt t.val i) g) := by
  rw [View.read_apply]
  refine congrArg X (funext fun a => Fin.ext ?_)
  have ht : t.val < 32 := t.isLt
  match a with
  | ⟨0, _⟩ =>
    show cc0_transform_5 (cfg0.grid.coords t) 0 * 1 + 1 * z.val = t.val / 8 % 4
    rw [(map5 t).1]; omega
  | ⟨1, _⟩ =>
    show cc0_transform_5 (cfg0.grid.coords t) 1 * 512 + 1 * i.val = 512 * (t.val % 8) + i.val
    rw [(map5 t).2.1]; omega
  | ⟨2, _⟩ =>
    show cc0_transform_5 (cfg0.grid.coords t) 2 * 3 + 1 * g.val = g.val
    rw [(map5 t).2.2]; omega

section Real
variable (A : Arrays)

/-- The blocks of point `n`, real. -/
def R0 (n : ℕ) (j : S512x384.Idx) : ℝ := A.Q (rowAt n (j 0)) (qAt n (j 1))
def R1 (n : ℕ) (j : S4096x128.Idx) : ℝ := A.K (j 0) (kAt n (j 1))
def R2 (n : ℕ) (j : S4096x128.Idx) : ℝ := A.V (j 0) (kAt n (j 1))
def R3 (n : ℕ) (j : S512x384.Idx) : ℝ := A.D (rowAt n (j 0)) (qAt n (j 1))
def R4 (n : ℕ) (j : S512x384.Idx) : ℝ := A.O (headAt n) (headOf (j 1)) (rowAt n (j 0)) (laneOf (j 1))
def R5 (n : ℕ) (j : S1x512x3.Idx) : ℝ := Real.log (expSum (A.row (headAt n) (j 2) (rowAt n (j 1)))) * (1 / scale)

end Real

/-- The outputs the kernel reads, by the columns of a block. -/
theorem host_o_at (m : (ℓ : Loc nD τ sig) → Buf (Elt Ideal) ℓ) (c : Dev nD) {A : Arrays}
    (H : Holds A (arg0 m c) (arg1 m c) (arg2 m c) (arg3 m c)) (n : ℕ) (i : Fin 512) (x : Fin 384) :
    (V m c main_v25 : FVec Ideal S4096x2048 .bf16) (ix2 (rowAt n i) ⟨(qAt n x).val, by omega⟩)
      = ((A.O (headAt n) (headOf x) (rowAt n i) (laneOf x) : ℝ) : EReal) := by
  have e : (⟨(qAt n x).val, by omega⟩ : Fin 2048) = ⟨(qcol (headAt n) (headOf x) (laneOf x)).val, by omega⟩ :=
    Fin.ext (show (qAt n x).val = (qcol (headAt n) (headOf x) (laneOf x)).val from congrArg Fin.val (qAt_split n x))
  rw [e]
  exact host_o m c H _ _ _ _

/-- Every block the kernel reads is real. -/
theorem blocks (m : (ℓ : Loc nD τ sig) → Buf (Elt Ideal) ℓ) (c : Dev nD) {A : Arrays}
    (H : Holds A (arg0 m c) (arg1 m c) (arg2 m c) (arg3 m c)) : Blocks m c (R0 A) (R1 A) (R2 A) (R3 A) (R4 A) (R5 A) where
  h0 t j := by
    rw [eq_ix2 j]
    exact (blk0 _ t (j 0) (j 1)).trans (host_q m c H _ _)
  h1 t j := by
    rw [eq_ix2 j]
    exact (blk1 _ t (j 0) (j 1)).trans (host_k m c H _ _)
  h2 t j := by
    rw [eq_ix2 j]
    exact (blk2 _ t (j 0) (j 1)).trans (host_v m c H _ _)
  h3 t j := by
    rw [eq_ix2 j]
    exact (blk3 _ _ t (j 0) (j 1)).trans (host_d m c H _ _)
  h4 t j := by
    rw [eq_ix2 j]
    exact (blk4 _ _ t (j 0) (j 1)).trans (host_o_at m c H _ _ _)
  h5 t j := by
    rw [eq_ix3 j]
    exact (blk5 _ t (j 0) (j 1) (j 2)).trans (host_stat m c H _ _ _)

end Cert.Attn
-- ==== Proof.Ref.lean ====
/- The reference's three results, read at an index over real arrays. -/
module

public import proofs.«01_k».proof.Proof.Fwd

@[expose] public section

noncomputable section

namespace Cert.Attn

open Idealize.ShloMosaic hiding ix1 ix2 ix3 ix4 eq_ix1 eq_ix2 eq_ix3 eq_ix4
open Idealize.ShloMosaic.ValueIdx
open Cert.ReferenceIdeal Cert.ReferenceIdeal.Gen Cert.ReferenceIdeal.Read

/-- A product contracted over two axes, read at an index. -/
theorem dot_keys (y0 : FVec Ideal S4x4096x4096x3 .f32) (y1 : FVec Ideal S4096x4x3x128 .f32) (h : Fin 4) (s : Fin 4096) (d : Fin 128) :
    Host.dotGeneral dot_S4x4096x4096x3_S4096x4x3x128_S4x4096x128_23_02_1_3_0_1 none y0 y1 (ix3 h s d)
      = ∑ t : Fin 4096, ∑ g : Fin 3, y0 (ix4 h s t g) * y1 (ix4 t h g d) := by
  simp only [Host.dotGeneral]
  rw [Ideal.dotGeneral_apply]
  refine (DotDims.sum_contr₂ _ (a := 2) (b := 3) (K₁ := 4096) (K₂ := 3) rfl rfl rfl _).trans ?_
  refine Finset.sum_congr rfl fun t _ => Finset.sum_congr rfl fun g _ => congrArg₂ (· * ·) (congrArg y0 ?_) (congrArg y1 ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

/-- A product contracted over two axes, read at an index. -/
theorem dot_values (y0 : FVec Ideal S4x128x3x4096 .f32) (y1 : FVec Ideal S4x3x4096x4096 .f32) (h : Fin 4) (d : Fin 128) (s : Fin 4096) :
    Host.dotGeneral dot_S4x128x3x4096_S4x3x4096x4096_S4x128x4096_23_12_1_3_0_0 none y0 y1 (ix3 h d s)
      = ∑ g : Fin 3, ∑ t : Fin 4096, y0 (ix4 h d g t) * y1 (ix4 h g t s) := by
  simp only [Host.dotGeneral]
  rw [Ideal.dotGeneral_apply]
  refine (DotDims.sum_contr₂ _ (a := 2) (b := 3) (K₁ := 3) (K₂ := 4096) rfl rfl rfl _).trans ?_
  refine Finset.sum_congr rfl fun t _ => Finset.sum_congr rfl fun g _ => congrArg₂ (· * ·) (congrArg y0 ?_) (congrArg y1 ?_)
  · funext a; match a with | ⟨0, _⟩ => rfl | ⟨1, _⟩ => rfl | ⟨2, _⟩ => rfl | ⟨3, _⟩ => rfl
  · funext a; match a with | ⟨0, _⟩ => rfl | ⟨1, _⟩ => rfl | ⟨2, _⟩ => rfl | ⟨3, _⟩ => rfl

section
variable {A : Arrays} {x0 : FVec Ideal S4096x1536 .f32} {x1 x2 : FVec Ideal S4096x512 .f32} {x3 : FVec Ideal S4096x2048 .f32}
variable (H : Holds A x0 x1 x2 x3)
include H

/-- The gradient of the outputs, by heads. -/
theorem at_v40 (h : Fin 4) (d : Fin 128) (g : Fin 3) (t : Fin 4096) :
    val_main_v40 (F := Ideal) x3 (ix4 h d g t) = ((A.D t (qcol h g d) : ℝ) : EReal) := by
  rw [val_main_v40_apply, val_main_v39_apply, val_main_v38_apply, ← H.d]
  congr 1
  funext a
  match a with
  | ⟨0, _⟩ => exact Fin.ext (show (((t.val * 4 + h.val) * 3 + g.val) * 128 + d.val) / 1536 = t.val by omega)
  | ⟨1, _⟩ => exact Fin.ext (show (((t.val * 4 + h.val) * 3 + g.val) * 128 + d.val) % 1536 = (h.val * 3 + g.val) * 128 + d.val by omega)

/-- The gradient of the weights. -/
theorem at_v41 (h : Fin 4) (g : Fin 3) (t s : Fin 4096) :
    val_main_v41 (F := Ideal) x2 x3 (ix4 h g t s) = ((A.dP h g t s : ℝ) : EReal) := by
  rw [val_main_v41_apply, Arrays.dP, coe_sum]
  refine Finset.sum_congr rfl fun d _ => ?_
  rw [show lidx_main_v41 (ix4 h g t s) d = ix4 h d g t from by funext a; match a with | ⟨0, _⟩ => rfl | ⟨1, _⟩ => rfl | ⟨2, _⟩ => rfl | ⟨3, _⟩ => rfl,
    show ridx_main_v41 (ix4 h g t s) d = ix3 s h d from by funext a; match a with | ⟨0, _⟩ => rfl | ⟨1, _⟩ => rfl | ⟨2, _⟩ => rfl,
    at_v40 H, at_v2 H, ← EReal.coe_mul]

/-- One over the square of a row's sum. -/
theorem at_v34 (h : Fin 4) (g : Fin 3) (t : Fin 4096) (z : Fin 1) :
    val_main_v34 (F := Ideal) x0 x1 (ix4 h g t z)
      = ((1 / (expSum (fun s => A.row h g t s - rowMax x0 x1 h g t) * expSum (fun s => A.row h g t s - rowMax x0 x1 h g t)) : ℝ) : EReal) := by
  have hL := (expSum_pos fun s => A.row h g t s - rowMax x0 x1 h g t).ne'
  rw [val_main_v34_apply, val_main_v33_apply, val_main_cst_9_apply, val_main_v32_apply, at_v29 H,
    show (FloatOps.ofBits .f32 0x3F800000#32 : Ideal .f32) = ((1 : ℝ) : EReal) from ofBits_one]
  refine (congrArg (Ideal.div _) (EReal.coe_mul _ _).symm).trans ?_
  exact div_real _ _ (mul_ne_zero hL hL)

/-- The sum along a row of the gradient of the quotient's denominator. -/
theorem at_v47 (h : Fin 4) (g : Fin 3) (t : Fin 4096) :
    val_main_v47 (F := Ideal) x0 x1 x2 x3 (ix3 h g t)
      = ((∑ u, A.dP h g t u * (1 / (expSum (fun s => A.row h g t s - rowMax x0 x1 h g t) * expSum (fun s => A.row h g t s - rowMax x0 x1 h g t)))
          * Real.exp (A.row h g t u - rowMax x0 x1 h g t) : ℝ) : EReal) := by
  rw [val_main_v47_apply, val_main_cst_10_apply, show (FloatOps.ofBits .f32 0x00000000#32 : Ideal .f32) = 0 from ofBits_zero, zero_add, coe_sum]
  refine Finset.sum_congr rfl fun u _ => ?_
  rw [show idx_main_v47 (ix3 h g t) u = ix4 h g t u from by funext a; match a with | ⟨0, _⟩ => rfl | ⟨1, _⟩ => rfl | ⟨2, _⟩ => rfl | ⟨3, _⟩ => rfl,
    val_main_v46_apply, val_main_v45_apply, val_main_v44_apply, at_v41 H, at_v27 H,
    show idx_main_v44 (ix4 h g t u) = ix4 h g t 0 from by funext a; match a with | ⟨0, _⟩ => rfl | ⟨1, _⟩ => rfl | ⟨2, _⟩ => rfl | ⟨3, _⟩ => rfl,
    at_v34 H, EReal.coe_mul, EReal.coe_mul]
  rfl

/-- Its negative, the sum over an axis of one place. -/
theorem at_v52 (h : Fin 4) (g : Fin 3) (t : Fin 4096) :
    val_main_v52 (F := Ideal) x0 x1 x2 x3 (ix3 h g t)
      = ((0 + -∑ u, A.dP h g t u * (1 / (expSum (fun s => A.row h g t s - rowMax x0 x1 h g t) * expSum (fun s => A.row h g t s - rowMax x0 x1 h g t)))
          * Real.exp (A.row h g t u - rowMax x0 x1 h g t) : ℝ) : EReal) := by
  rw [val_main_v52_apply, val_main_cst_11_apply, show (FloatOps.ofBits .f32 0x00000000#32 : Ideal .f32) = 0 from ofBits_zero,
    Fin.sum_univ_one, val_main_v49_apply, val_main_v48_apply,
    show idx_main_v48 (idx_main_v52 (ix3 h g t) 0) = ix3 h g t from by
      funext a
      match a with
      | ⟨0, _⟩ => exact Fin.ext (show (((h.val * 3 + g.val) * 4096 + t.val) * 1 + 0) / 12288 = h.val by omega)
      | ⟨1, _⟩ => exact Fin.ext (show (((h.val * 3 + g.val) * 4096 + t.val) * 1 + 0) / 4096 % 3 = g.val by omega)
      | ⟨2, _⟩ => exact Fin.ext (show (((h.val * 3 + g.val) * 4096 + t.val) * 1 + 0) % 4096 = t.val by omega),
    at_v47 H, EReal.coe_add, EReal.coe_neg]
  rfl

/-- The gradient of the scores. -/
theorem at_v57 (h : Fin 4) (g : Fin 3) (t s : Fin 4096) :
    val_main_v57 (F := Ideal) x0 x1 x2 x3 (ix4 h g t s) = ((A.dS h g t s * scale : ℝ) : EReal) := by
  have hL := (expSum_pos fun s => A.row h g t s - rowMax x0 x1 h g t).ne'
  have e54 : val_main_v54 (F := Ideal) x0 x1 x2 x3 (ix4 h g t s)
      = ((A.dP h g t s / expSum (fun s => A.row h g t s - rowMax x0 x1 h g t)
        + (0 + -∑ u, A.dP h g t u * (1 / (expSum (fun s => A.row h g t s - rowMax x0 x1 h g t) * expSum (fun s => A.row h g t s - rowMax x0 x1 h g t)))
          * Real.exp (A.row h g t u - rowMax x0 x1 h g t)) : ℝ) : EReal) := by
    rw [val_main_v54_apply, val_main_v53_apply, val_main_v51_apply, val_main_v50_apply, at_v41 H,
      show idx_main_v50 (ix4 h g t s) = ix4 h g t 0 from by funext a; match a with | ⟨0, _⟩ => rfl | ⟨1, _⟩ => rfl | ⟨2, _⟩ => rfl | ⟨3, _⟩ => rfl,
      show idx_main_v53 (ix4 h g t s) = ix3 h g t from by funext a; match a with | ⟨0, _⟩ => rfl | ⟨1, _⟩ => rfl | ⟨2, _⟩ => rfl,
      at_v29 H, at_v52 H]
    exact (congrArg₂ (· + ·) (div_real _ _ hL) rfl).trans (EReal.coe_add _ _).symm
  have eS : A.dS h g t s = _ := (grad_row (A.row h g t) (rowMax x0 x1 h g t) (A.dP h g t) s).symm
  rw [val_main_v57_apply, val_main_v55_apply, e54, at_v27 H, val_main_v56_apply, val_main_cst_12_apply,
    show (FloatOps.ofBits .f32 0x3DB504F3#32 : Ideal .f32) = ((scale : ℝ) : EReal) from ofBits_scale, eS, EReal.coe_mul, EReal.coe_mul]
  rfl

/-- The same, transposed. -/
theorem at_v58 (h : Fin 4) (s t : Fin 4096) (g : Fin 3) :
    val_main_v58 (F := Ideal) x0 x1 x2 x3 (ix4 h s t g) = ((A.dS h g t s * scale : ℝ) : EReal) := by
  rw [val_main_v58_apply,
    show idx_main_v58 (ix4 h s t g) = ix4 h g t s from by funext a; match a with | ⟨0, _⟩ => rfl | ⟨1, _⟩ => rfl | ⟨2, _⟩ => rfl | ⟨3, _⟩ => rfl,
    at_v57 H]

/-- The gradient of the queries, by heads. -/
theorem at_v59 (h : Fin 4) (t : Fin 4096) (g : Fin 3) (d : Fin 128) :
    val_main_v59 (F := Ideal) x0 x1 x2 x3 (ix4 h t g d) = ((A.dQ h g t d : ℝ) : EReal) := by
  rw [val_main_v59_apply, Arrays.dQ, Finset.sum_mul, coe_sum]
  refine Finset.sum_congr rfl fun s _ => ?_
  rw [show lidx_main_v59 (ix4 h t g d) s = ix4 h s t g from by funext a; match a with | ⟨0, _⟩ => rfl | ⟨1, _⟩ => rfl | ⟨2, _⟩ => rfl | ⟨3, _⟩ => rfl,
    show ridx_main_v59 (ix4 h t g d) s = ix3 s h d from by funext a; match a with | ⟨0, _⟩ => rfl | ⟨1, _⟩ => rfl | ⟨2, _⟩ => rfl,
    at_v58 H, at_v1 H, ← EReal.coe_mul]
  congr 1; ring

/-- The gradient of the keys, by heads. -/
theorem at_v61 (h : Fin 4) (s : Fin 4096) (d : Fin 128) :
    val_main_v61 (F := Ideal) x0 x1 x2 x3 (ix3 h s d) = ((A.dK h s d : ℝ) : EReal) := by
  unfold val_main_v61
  rw [dot_keys, Arrays.dK, Finset.sum_mul, coe_sum]
  refine Finset.sum_congr rfl fun t _ => ?_
  rw [Finset.sum_mul, coe_sum]
  refine Finset.sum_congr rfl fun g _ => ?_
  rw [at_v58 H, at_v0 H, ← EReal.coe_mul]
  congr 1; ring

/-- The gradient of the values, by heads. -/
theorem at_v42 (h : Fin 4) (d : Fin 128) (s : Fin 4096) :
    val_main_v42 (F := Ideal) x0 x1 x3 (ix3 h d s) = ((A.dV h s d : ℝ) : EReal) := by
  unfold val_main_v42
  rw [dot_values, Finset.sum_comm, Arrays.dV, coe_sum]
  refine Finset.sum_congr rfl fun t _ => ?_
  rw [coe_sum]
  refine Finset.sum_congr rfl fun g _ => ?_
  rw [at_v40 H, at_v31 H, ← EReal.coe_mul, mul_comm]

/-- The first result, the gradient of the queries. -/
theorem ref_dq (t : Fin 4096) (h : Fin 4) (g : Fin 3) (d : Fin 128) :
    val_main_v65 (F := Ideal) x0 x1 x2 x3 (ix2 t (qcol h g d)) = ((A.dQ h g t d : ℝ) : EReal) := by
  rw [val_main_v65_apply, val_main_v60_apply, ← at_v59 H]
  congr 1
  funext a
  match a with
  | ⟨0, _⟩ => exact Fin.ext (show (t.val * 1536 + ((h.val * 3 + g.val) * 128 + d.val)) / 384 % 4 = h.val by omega)
  | ⟨1, _⟩ => exact Fin.ext (show (t.val * 1536 + ((h.val * 3 + g.val) * 128 + d.val)) / 1536 = t.val by omega)
  | ⟨2, _⟩ => exact Fin.ext (show (t.val * 1536 + ((h.val * 3 + g.val) * 128 + d.val)) / 128 % 3 = g.val by omega)
  | ⟨3, _⟩ => exact Fin.ext (show (t.val * 1536 + ((h.val * 3 + g.val) * 128 + d.val)) % 128 = d.val by omega)

/-- The second result, the gradient of the keys. -/
theorem ref_dk (s : Fin 4096) (h : Fin 4) (d : Fin 128) :
    val_main_v64 (F := Ideal) x0 x1 x2 x3 (ix2 s (kcol h d)) = ((A.dK h s d : ℝ) : EReal) := by
  rw [val_main_v64_apply, val_main_v62_apply, ← at_v61 H]
  congr 1
  funext a
  match a with
  | ⟨0, _⟩ => exact Fin.ext (show (s.val * 512 + (h.val * 128 + d.val)) / 128 % 4 = h.val by omega)
  | ⟨1, _⟩ => exact Fin.ext (show (s.val * 512 + (h.val * 128 + d.val)) / 512 = s.val by omega)
  | ⟨2, _⟩ => exact Fin.ext (show (s.val * 512 + (h.val * 128 + d.val)) % 128 = d.val by omega)

theorem at_v63 (s : Fin 4096) (h : Fin 4) (d : Fin 128) :
    val_main_v63 (F := Ideal) x0 x1 x3 (ix2 s (kcol h d)) = ((A.dV h s d : ℝ) : EReal) := by
  rw [val_main_v63_apply, val_main_v43_apply, ← at_v42 H]
  congr 1
  funext a
  match a with
  | ⟨0, _⟩ => exact Fin.ext (show (s.val * 512 + (h.val * 128 + d.val)) / 128 % 4 = h.val by omega)
  | ⟨1, _⟩ => exact Fin.ext (show (s.val * 512 + (h.val * 128 + d.val)) % 128 = d.val by omega)
  | ⟨2, _⟩ => exact Fin.ext (show (s.val * 512 + (h.val * 128 + d.val)) / 512 = s.val by omega)

/-- The third result, the gradient of the values, in the columns it takes of the packed array. -/
theorem ref_dv (s : Fin 4096) (h : Fin 4) (d : Fin 128) :
    val_main_v67 (F := Ideal) x0 x1 x3 (ix2 s (⟨2048 + (kcol h d).val, by omega⟩ : Fin 3072)) = ((A.dV h s d : ℝ) : EReal) := by
  rw [val_main_v67_apply, ← at_v63 H]
  show val_main_v66 (F := Ideal) x0 x1 x3 _ = _
  unfold val_main_v66 pad
  rw [dif_pos (by
    intro a
    match a with
    | ⟨0, _⟩ => exact ⟨Nat.zero_le _, Nat.mod_one _, by show (s.val - 0) / (0 + 1) < 4096; omega⟩
    | ⟨1, _⟩ => exact ⟨Nat.le_add_right _ _, Nat.mod_one _, by
        have := (kcol h d).isLt
        show (2048 + (kcol h d).val - 2048) / (0 + 1) < 512; omega⟩)]
  congr 1
  funext a
  match a with
  | ⟨0, _⟩ => exact Fin.ext (show (s.val - 0) / (0 + 1) = s.val by omega)
  | ⟨1, _⟩ => exact Fin.ext (show (2048 + (kcol h d).val - 2048) / (0 + 1) = (kcol h d).val by omega)

end

end Cert.Attn
-- ==== Proof.Equal.lean ====
/- The kernel's blocks, summed over the grid, are the gradient. -/
module

public import proofs.«01_k».proof.Proof.Blocks
public import proofs.«01_k».proof.Proof.Ref

@[expose] public section

noncomputable section

namespace Cert.Attn

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen

section
variable (A : Arrays) (n : ℕ)

/-- One block's weights. -/
theorem block_P (i : Fin 512) (g : Fin 3) (s : Fin 4096) :
    blockP (R0 A n) (R1 A n) (R5 A n) i g s = A.P (headAt n) g (rowAt n i) s := by
  have e : ∑ d : Fin 128, R0 A n (ix2 i (hcol g d)) * R1 A n (ix2 s d) = A.score (headAt n) g (rowAt n i) s := by
    refine Finset.sum_congr rfl fun d _ => ?_
    show A.Q (rowAt n i) (qAt n (hcol g d)) * A.K s (kAt n d) = _
    rw [qAt_hcol, kAt_eq]
  unfold blockP
  rw [e]
  exact rpow_prob (A.score (headAt n) g (rowAt n i)) scale scale_ne s

/-- One block's gradient of the scaled scores. -/
theorem block_DS (i : Fin 512) (g : Fin 3) (s : Fin 4096) :
    blockDS (R0 A n) (R1 A n) (R2 A n) (R3 A n) (R4 A n) (R5 A n) i g s = A.dS (headAt n) g (rowAt n i) s := by
  have e1 : ∑ d : Fin 128, R3 A n (ix2 i (hcol g d)) * R2 A n (ix2 s d) = A.dP (headAt n) g (rowAt n i) s := by
    refine Finset.sum_congr rfl fun d _ => ?_
    show A.D (rowAt n i) (qAt n (hcol g d)) * A.V s (kAt n d) = _
    rw [qAt_hcol, kAt_eq]
  have e2 : ∑ d : Fin 128, R3 A n (ix2 i (hcol g d)) * R4 A n (ix2 i (hcol g d))
      = ∑ r, A.P (headAt n) g (rowAt n i) r * A.dP (headAt n) g (rowAt n i) r := by
    refine Eq.trans (Finset.sum_congr rfl fun d _ => ?_)
      (delta_eq (fun d => A.D (rowAt n i) (qcol (headAt n) g d)) (fun s d => A.V s (kcol (headAt n) d)) (A.P (headAt n) g (rowAt n i)))
    show A.D (rowAt n i) (qAt n (hcol g d)) * A.O (headAt n) (headOf (hcol g d)) (rowAt n i) (laneOf (hcol g d)) = _
    rw [qAt_hcol, show headOf (hcol g d) = g from Fin.ext (by show (128 * g.val + d.val) / 128 = g.val; omega),
      show laneOf (hcol g d) = d from Fin.ext (by show (128 * g.val + d.val) % 128 = d.val; omega), Arrays.O]
  unfold blockDS
  rw [block_P, e1, e2, Arrays.dS]

/-- One block of the gradient of the queries. -/
theorem block_DQ (i : Fin 512) (g : Fin 3) (d : Fin 128) :
    blockDQ (R0 A n) (R1 A n) (R2 A n) (R3 A n) (R4 A n) (R5 A n) i g d = A.dQ (headAt n) g (rowAt n i) d := by
  unfold blockDQ
  simp only [block_DS]
  unfold Arrays.dQ
  congr 1
  refine Finset.sum_congr rfl fun s _ => ?_
  show _ * A.K s (kAt n d) = _
  rw [kAt_eq]

/-- What one point adds to the gradient of the keys. -/
theorem part_K (s : Fin 4096) (d : Fin 128) :
    dkPart (R0 A) (R1 A) (R2 A) (R3 A) (R4 A) (R5 A) n s d
      = ∑ i, ∑ g, A.dS (headAt n) g (rowAt n i) s * A.Q (rowAt n i) (qcol (headAt n) g d) := by
  unfold dkPart
  simp only [block_DS]
  refine Finset.sum_congr rfl fun i _ => Finset.sum_congr rfl fun g _ => ?_
  show _ * A.Q (rowAt n i) (qAt n (hcol g d)) = _
  rw [qAt_hcol]

/-- What one point adds to the gradient of the values. -/
theorem part_V (s : Fin 4096) (d : Fin 128) :
    dvPart (R0 A) (R1 A) (R3 A) (R5 A) n s d
      = ∑ i, ∑ g, A.P (headAt n) g (rowAt n i) s * A.D (rowAt n i) (qcol (headAt n) g d) := by
  unfold dvPart
  simp only [block_P]
  refine Finset.sum_congr rfl fun i _ => Finset.sum_congr rfl fun g _ => ?_
  show _ * A.D (rowAt n i) (qAt n (hcol g d)) = _
  rw [qAt_hcol]

end

/-- Eight blocks of 512 rows are all 4096 rows. -/
theorem upTo_rows (f : Fin 4 → Fin 4096 → ℝ) (h : Fin 4) :
    upTo (fun k => ∑ i, f (headAt k) (rowAt k i)) (8 * h.val + 7) = ∑ t, f h t := by
  unfold upTo
  rw [show (8 * h.val + 7) % 8 + 1 = 8 by omega, show (8 * h.val + 7) / 8 = h.val by omega, Finset.sum_range]
  have e : ∀ k : Fin 8, ∀ i : Fin 512, f (headAt (8 * h.val + k.val)) (rowAt (8 * h.val + k.val) i) = f h (finProdFinEquiv (k, i)) := by
    intro k i
    rw [show headAt (8 * h.val + k.val) = h from Fin.ext (by show (8 * h.val + k.val) / 8 % 4 = h.val; omega)]
    exact congrArg (f h) (Fin.ext (by show 512 * ((8 * h.val + k.val) % 8) + i.val = i.val + 512 * k.val; omega))
  simp only [e]
  exact (Fintype.sum_prod_type' (fun (k : Fin 8) (i : Fin 512) => f h (finProdFinEquiv (k, i)))).symm.trans
    (Equiv.sum_comp (finProdFinEquiv (m := 8) (n := 512)) (f h))

section
variable (A : Arrays)

/-- The sum of a key head's points is the gradient of the keys, before the scale. -/
theorem total_K (h : Fin 4) (s : Fin 4096) (d : Fin 128) :
    upTo (fun k => dkPart (R0 A) (R1 A) (R2 A) (R3 A) (R4 A) (R5 A) k s d) (8 * h.val + 7) * scale = A.dK h s d := by
  simp only [part_K]
  unfold Arrays.dK
  congr 1
  exact upTo_rows (fun h t => ∑ g, A.dS h g t s * A.Q t (qcol h g d)) h

/-- The sum of a key head's points is the gradient of the values. -/
theorem total_V (h : Fin 4) (s : Fin 4096) (d : Fin 128) :
    upTo (fun k => dvPart (R0 A) (R1 A) (R3 A) (R5 A) k s d) (8 * h.val + 7) = A.dV h s d := by
  simp only [part_V]
  exact upTo_rows (fun h t => ∑ g, A.P h g t s * A.D t (qcol h g d)) h

end

end Cert.Attn
-- ==== Proof.Result.lean ====
/- The kernel's three results at an index, over real arrays. -/
module

public import proofs.«01_k».proof.Proof.Equal
public import proofs.«01_k».proof.Proof.Gen.KernelIdeal.Value

@[expose] public section

noncomputable section

namespace Cert.Attn

open Idealize.ShloMosaic hiding ix1 ix2 ix3 ix4 eq_ix1 eq_ix2 eq_ix3 eq_ix4
open Idealize.ShloMosaic.ValueIdx Idealize.ShloMosaic.TcCoe
open Cert.KernelIdeal Cert.KernelIdeal.Gen Cert.KernelIdeal.Value

variable (m : (ℓ : Loc nD τ sig) → Buf (Elt Ideal) ℓ) (c : Dev nD) {A : Arrays}
variable (H : Holds A (arg0 m c) (arg1 m c) (arg2 m c) (arg3 m c))
include H

/-- The kernel's first result is the gradient of the queries. -/
theorem ker_dq (t : Fin 4096) (h : Fin 4) (g : Fin 3) (d : Fin 128) :
    (G6 m c : FVec Ideal S4096x1536 .f32) (ix2 t (qcol h g d)) = ((A.dQ h g t d : ℝ) : EReal) := by
  have hp : pt6Of (ix2 t (qcol h g d)) = t.val / 512 + 8 * h.val := by
    show 1 * (t.val / 512 - 0) + 8 * (((h.val * 3 + g.val) * 128 + d.val) / 384 - 0) = _
    omega
  have hN : cfg0.N = 32 := N_0
  have hlt : pt6Of (ix2 t (qcol h g d)) < cfg0.N := by rw [hp, hN]; omega
  unfold G6
  rw [dif_pos hlt, ← outsAt0_sweep m c _ hlt, outQ m c (blocks m c H)]
  congr 1
  unfold blockDQAt
  refine (block_DQ A _ _ _ _).trans ?_
  congr 1
  · exact Fin.ext (by show (pt6Of (ix2 t (qcol h g d))) / 8 % 4 = h.val; rw [hp]; omega)
  · exact Fin.ext (by show ((h.val * 3 + g.val) * 128 + d.val) % 384 / 128 = g.val; omega)
  · exact Fin.ext (by show 512 * (pt6Of (ix2 t (qcol h g d)) % 8) + t.val % 512 = t.val; rw [hp]; omega)
  · exact Fin.ext (by show ((h.val * 3 + g.val) * 128 + d.val) % 384 % 128 = d.val; omega)

/-- The kernel's second result is the gradient of the keys. -/
theorem ker_dk (s : Fin 4096) (h : Fin 4) (d : Fin 128) :
    (G7 m c : FVec Ideal S4096x512 .f32) (ix2 s (kcol h d)) = ((A.dK h s d : ℝ) : EReal) := by
  have hp : pt7Of (ix2 s (kcol h d)) = 8 * h.val + 7 := by
    show 8 * (4 * (s.val / 4096 - 0) + 1 * ((h.val * 128 + d.val) / 128 - 0)) + 7 = _
    omega
  have hN : cfg0.N = 32 := N_0
  have hlt : pt7Of (ix2 s (kcol h d)) < cfg0.N := by rw [hp, hN]; omega
  have hl : loc7Of (ix2 s (kcol h d)) = ix2 s d := by
    funext a
    match a with
    | ⟨0, _⟩ => exact Fin.ext (show s.val % 4096 = s.val by omega)
    | ⟨1, _⟩ => exact Fin.ext (show (h.val * 128 + d.val) % 128 = d.val by omega)
  unfold G7
  rw [dif_pos hlt, ← outsAt0_sweep m c _ hlt]
  refine (congrArg _ hl).trans ?_
  rw [outK m c (blocks m c H) _ _ (by rw [hp]; omega), hp, total_K]

/-- The kernel's third result, where it is written, is the gradient of the values. -/
theorem ker_dv (s : Fin 4096) (h : Fin 4) (d : Fin 128) :
    (G8 m c : FVec Ideal S4096x3072 .bf16) (ix2 s (⟨2048 + (kcol h d).val, by omega⟩ : Fin 3072)) = ((A.dV h s d : ℝ) : EReal) := by
  have hp : pt8Of (ix2 s (⟨2048 + (kcol h d).val, by omega⟩ : Fin 3072)) = 8 * h.val + 7 := by
    show 8 * (4 * (s.val / 4096 - 0) + 1 * ((2048 + (h.val * 128 + d.val)) / 128 - 16)) + 7 = _
    omega
  have hN : cfg0.N = 32 := N_0
  have hlt : pt8Of (ix2 s (⟨2048 + (kcol h d).val, by omega⟩ : Fin 3072)) < cfg0.N := by rw [hp, hN]; omega
  have hl : loc8Of (ix2 s (⟨2048 + (kcol h d).val, by omega⟩ : Fin 3072)) = ix2 s d := by
    funext a
    match a with
    | ⟨0, _⟩ => exact Fin.ext (show s.val % 4096 = s.val by omega)
    | ⟨1, _⟩ => exact Fin.ext (show (2048 + (h.val * 128 + d.val)) % 128 = d.val by omega)
  unfold G8
  rw [dif_pos hlt, ← outsAt0_sweep m c _ hlt]
  refine (congrArg _ hl).trans ?_
  rw [outV m c (blocks m c H) _ _ (by rw [hp]; omega), hp, total_V]

end Cert.Attn
-- ==== Proof.Finite.lean ====
/- The precondition gives the real arrays, and the mask gives the columns the third result is written on. -/
module

public import proofs.«01_k».proof.Defs
public import proofs.«01_k».proof.Proof.Result
public import proofs.«01_k».proof.Proof.Ref
public import proofs.«01_k».proof.Proof.Gen.Pre_finite
public import proofs.«01_k».proof.Proof.Gen.On_written
public import Idealize.ShloMosaic.Lib.WordCmp

@[expose] public section

noncomputable section

namespace Cert.Attn

open Idealize.ShloMosaic hiding ix1 ix2 ix3 ix4 eq_ix1 eq_ix2 eq_ix3 eq_ix4
open Idealize.ShloMosaic.ValueIdx Idealize.ShloMosaic.TcCoe

/-- An element whose absolute value is below infinity is a real number. -/
theorem real_of_lt (x : EReal) (h : Ideal.cmp .olt (max x (-x)) (Ideal.ofBits .f32 0x7F800000#32) = 1#1) : x = ((x.toReal : ℝ) : EReal) := by
  rw [ofBits_posInf] at h
  have hlt : max x (-x) < ⊤ := by
    by_contra hc
    have : Ideal.cmp .olt (max x (-x)) ⊤ = 0#1 := by
      show BitVec.ofBool (decide (max x (-x) < ⊤)) = 0#1
      rw [decide_eq_false hc]; rfl
    rw [this] at h
    exact absurd h (by decide)
  refine (EReal.coe_toReal ?_ ?_).symm
  · rintro rfl
    exact absurd hlt (by simp)
  · rintro rfl
    exact absurd hlt (by simp)

/-- Where the precondition holds of four arrays, they hold real arrays. -/
theorem holds_of_finite (x0 : FVec Ideal ⟨2, ![4096, 1536]⟩ .f32) (x1 x2 x4 : FVec Ideal ⟨2, ![4096, 512]⟩ .f32) (x3 : FVec Ideal ⟨2, ![4096, 2048]⟩ .f32)
    (h0 : (Cert.Pre_finite.fn x0 x1 x2 x3 x4).1 = fun _ => 1#1) (h1 : (Cert.Pre_finite.fn x0 x1 x2 x3 x4).2.1 = fun _ => 1#1)
    (h2 : (Cert.Pre_finite.fn x0 x1 x2 x3 x4).2.2.1 = fun _ => 1#1) (h3 : (Cert.Pre_finite.fn x0 x1 x2 x3 x4).2.2.2 = fun _ => 1#1) :
    Holds ⟨fun t j => (x0 (ix2 t j)).toReal, fun t j => (x1 (ix2 t j)).toReal, fun t j => (x2 (ix2 t j)).toReal,
      fun t j => (x3 (ix2 t (⟨j.val, by omega⟩ : Fin 2048))).toReal⟩ x0 x1 x2 x3 where
  q t j := real_of_lt _ (congrFun h0 (ix2 t j))
  k t j := real_of_lt _ (congrFun h1 (ix2 t j))
  v t j := real_of_lt _ (congrFun h2 (ix2 t j))
  d t j := by
    have h : Ideal.cmp .olt (max (extractStridedSlice ⟨2, ![4096, 1536]⟩ ![0, 0] x3 Cert.Pre_finite.Facts.slices_S4096x2048_S4096x1536_0_0 (ix2 t j))
        (-(extractStridedSlice ⟨2, ![4096, 1536]⟩ ![0, 0] x3 Cert.Pre_finite.Facts.slices_S4096x2048_S4096x1536_0_0 (ix2 t j))))
        (Ideal.ofBits .f32 0x7F800000#32) = 1#1 := congrFun h3 (ix2 t j)
    have e : extractStridedSlice ⟨2, ![4096, 1536]⟩ ![0, 0] x3 Cert.Pre_finite.Facts.slices_S4096x2048_S4096x1536_0_0 (ix2 t j)
        = x3 (ix2 t (⟨j.val, by omega⟩ : Fin 2048)) := by
      unfold extractStridedSlice
      congr 1
      funext a
      match a with
      | ⟨0, _⟩ => exact Fin.ext (show 0 + t.val = t.val by omega)
      | ⟨1, _⟩ => exact Fin.ext (show 0 + j.val = j.val by omega)
    rw [e] at h
    exact real_of_lt _ h

/-- The mask of the third result admits only columns 2048 to 2559. -/
theorem mask_cols (x0 : FVec Ideal ⟨2, ![4096, 1536]⟩ .f32) (x1 x2 x4 : FVec Ideal ⟨2, ![4096, 512]⟩ .f32) (x3 : FVec Ideal ⟨2, ![4096, 2048]⟩ .f32)
    (t : Fin 4096) (j : Fin 3072) (h : (Cert.On_written.fn x0 x1 x2 x3 x4).2.2 (ix2 t j) = 1#1) : 2048 ≤ j.val ∧ j.val < 2560 := by
  have h' : IntOp.cmpi .sge (BitVec.ofNat 32 j.val) (BitVec.ofNat 32 2048) &&& IntOp.cmpi .slt (BitVec.ofNat 32 j.val) (BitVec.ofNat 32 2560) = 1#1 := h
  have both : ∀ a b : BitVec 1, a &&& b = 1#1 → a = 1#1 ∧ b = 1#1 := by decide
  obtain ⟨ha, hb⟩ := both _ _ h'
  replace ha := (WordCmp.cmpi_sge_ofNat (w := 32) (a := j.val) (b := 2048) (by omega) (by norm_num)).symm.trans ha
  replace hb := (WordCmp.cmpi_slt_ofNat (w := 32) (a := j.val) (b := 2560) (by omega) (by norm_num)).symm.trans hb
  have one : ∀ p : Bool, BitVec.ofBool p = 1#1 → p = true := by decide
  exact ⟨of_decide_eq_true (one _ ha), of_decide_eq_true (one _ hb)⟩

end Cert.Attn
-- ==== Proof.Final.lean ====
/- The claims about the attention's gradients. -/
module

public import proofs.«01_k».proof.Proof.Finite
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Attn

open Idealize.ShloMosaic hiding ix1 ix2 ix3 ix4 eq_ix1 eq_ix2 eq_ix3 eq_ix4
open Idealize.ShloMosaic.ValueIdx Idealize.ShloMosaic.TcCoe Idealize.SL.Sem

section
variable (m : (ℓ : Loc Cert.KernelIdeal.nD Cert.KernelIdeal.τ Cert.KernelIdeal.sig) → Buf (Elt Ideal) ℓ) (c : Dev Cert.KernelIdeal.nD)
variable {A : Arrays} (H : Holds A (arg0 m c) (arg1 m c) (arg2 m c) (arg3 m c))
include H

/-- The first result equals the reference's. -/
theorem same_dq (i : (⟨2, ![4096, 1536]⟩ : Shape).Idx) :
    (Cert.KernelIdeal.Value.G6 m c : FVec Ideal ⟨2, ![4096, 1536]⟩ .f32) i
      = Cert.ReferenceIdeal.Read.val_main_v65 (F := Ideal) (arg0 m c) (arg1 m c) (arg2 m c) (arg3 m c) i := by
  obtain ⟨t, j, rfl⟩ : ∃ (t : Fin 4096) (j : Fin 1536), i = ix2 t j := ⟨i 0, i 1, eq_ix2 i⟩
  obtain ⟨h, g, d, rfl⟩ : ∃ (h : Fin 4) (g : Fin 3) (d : Fin 128), j = qcol h g d :=
    ⟨⟨j.val / 384, by omega⟩, ⟨j.val / 128 % 3, by omega⟩, ⟨j.val % 128, by omega⟩,
      Fin.ext (by show j.val = (j.val / 384 * 3 + j.val / 128 % 3) * 128 + j.val % 128; omega)⟩
  exact (ker_dq m c H t h g d).trans (ref_dq H t h g d).symm

/-- The second result equals the reference's. -/
theorem same_dk (i : (⟨2, ![4096, 512]⟩ : Shape).Idx) :
    (Cert.KernelIdeal.Value.G7 m c : FVec Ideal ⟨2, ![4096, 512]⟩ .f32) i
      = Cert.ReferenceIdeal.Read.val_main_v64 (F := Ideal) (arg0 m c) (arg1 m c) (arg2 m c) (arg3 m c) i := by
  obtain ⟨t, j, rfl⟩ : ∃ (t : Fin 4096) (j : Fin 512), i = ix2 t j := ⟨i 0, i 1, eq_ix2 i⟩
  obtain ⟨h, d, rfl⟩ : ∃ (h : Fin 4) (d : Fin 128), j = kcol h d :=
    ⟨⟨j.val / 128, by omega⟩, ⟨j.val % 128, by omega⟩, Fin.ext (by show j.val = j.val / 128 * 128 + j.val % 128; omega)⟩
  exact (ker_dk m c H t h d).trans (ref_dk H t h d).symm

/-- The third result equals the reference's on the columns it is written on. -/
theorem same_dv (t : Fin 4096) (j : Fin 3072) (hj : 2048 ≤ j.val ∧ j.val < 2560) :
    (Cert.KernelIdeal.Value.G8 m c : FVec Ideal ⟨2, ![4096, 3072]⟩ .bf16) (ix2 t j)
      = Cert.ReferenceIdeal.Read.val_main_v67 (F := Ideal) (arg0 m c) (arg1 m c) (arg3 m c) (ix2 t j) := by
  obtain ⟨h, d, e⟩ : ∃ (h : Fin 4) (d : Fin 128), j = (⟨2048 + (kcol h d).val, by omega⟩ : Fin 3072) :=
    ⟨⟨(j.val - 2048) / 128, by omega⟩, ⟨(j.val - 2048) % 128, by omega⟩,
      Fin.ext (by show j.val = 2048 + ((j.val - 2048) / 128 * 128 + (j.val - 2048) % 128); omega)⟩
  rw [e]
  exact (ker_dv m c H t h d).trans (ref_dv H t h d).symm

end

/-- The kernel runs without fault and leaves its arguments. -/
theorem frame_k : Cert.quiescent_Kernel := fun m ρ _ => Cert.Kernel.Gen.frame m ρ

/-- The idealised kernel runs without fault and leaves its arguments. -/
theorem frame_ki : Cert.quiescent_KernelIdeal := fun m ρ _ => Cert.KernelIdeal.Gen.frame m ρ

/-- The same, of inputs satisfying the precondition. -/
theorem frame_kif : Cert.quiescent_KernelIdeal_pre_finite := fun m ρ _ => Cert.KernelIdeal.Gen.frame m ρ

/-- The reference runs without fault and leaves its arguments. -/
theorem frame_r : Cert.quiescent_ReferenceIdeal := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- The same, of inputs satisfying the precondition. -/
theorem frame_rf : Cert.quiescent_ReferenceIdeal_pre_finite := fun m ρ _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m ρ)

/-- The idealised kernel is the kernel with one constant named. -/
theorem preserves : Cert.preserves_Kernel_KernelIdeal :=
  IdealRules.named_const.statement Cert.KernelIdeal.κ "scale_log2e" .f32 0x3E0293EE#32 _ rfl

/-- Of finite inputs, the kernel's three results are the reference's, wherever the kernel writes them. -/
theorem algebraic : Cert.algebraic_KernelIdeal_ReferenceIdeal_on_written_pre_finite := by
  intro m ρ m' ρ' hpre hagree
  have H (c : Dev Cert.KernelIdeal.nD) := holds_of_finite (arg0 m c) (arg1 m c) (arg2 m c) (arg4 m c) (arg3 m c)
    (hpre c).1 (hpre c).2.1 (hpre c).2.2.1 (hpre c).2.2.2
  refine ⟨fun c => Cert.ReferenceIdeal.Read.val_main_v65 (F := Ideal) (arg0 m c) (arg1 m c) (arg2 m c) (arg3 m c),
    fun c => Cert.ReferenceIdeal.Read.val_main_v64 (F := Ideal) (arg0 m c) (arg1 m c) (arg2 m c) (arg3 m c),
    fun c => Cert.ReferenceIdeal.Read.val_main_v67 (F := Ideal) (arg0 m c) (arg1 m c) (arg3 m c), ?_, ?_⟩
  · refine (θ_run Cert.KernelIdeal.defs _ _).mono (fun _ h c => ⟨fun i _ => (congrFun (h c).1 i).trans (same_dq m c (H c) i),
      fun i _ => (congrFun (h c).2.1 i).trans (same_dk m c (H c) i), fun i hi => ?_, (h c).2.2.2⟩)
      (Cert.KernelIdeal.Value.run (F := Ideal) m ρ)
    obtain ⟨t, j, rfl⟩ : ∃ (t : Fin 4096) (j : Fin 3072), i = ix2 t j := ⟨i 0, i 1, eq_ix2 i⟩
    have hj := mask_cols _ _ _ _ _ t j hi
    refine (congrFun (h c).2.2.1 _).trans ?_
    refine (if_pos ⟨Nat.zero_le _, t.isLt, hj.1, hj.2⟩).trans ?_
    exact same_dv m c (H c) t j hj
  · refine (θ_run Cert.ReferenceIdeal.defs _ _).mono (fun _ h c => ?_) (Cert.ReferenceIdeal.Value.run (F := Ideal) m' ρ')
    have e := hagree c
    refine ⟨fun i _ => congrFun ((h c).1.trans ?_) i, fun i _ => congrFun ((h c).2.1.trans ?_) i, fun i _ => congrFun ((h c).2.2.1.trans ?_) i, (h c).2.2.2⟩
    · rw [Cert.ReferenceIdeal.Read.val_main_v65_eq, e.1, e.2.1, e.2.2.1, e.2.2.2.1]
    · rw [Cert.ReferenceIdeal.Read.val_main_v64_eq, e.1, e.2.1, e.2.2.1, e.2.2.2.1]
    · refine (Cert.ReferenceIdeal.Read.val_main_v67_eq _ _ _).trans ?_
      rw [e.1, e.2.1, e.2.2.2.1]

end Cert.Attn
-- ==== Proof.FeedModel.lean ====
/- The feed-forward layer and its gradients as sums over the arrays' rows and columns, on extended reals. -/
module

public import Idealize.ShloMosaic.PureOps
public import Idealize.ShloMosaic.PureOps.Ideal
public import Idealize.ShloMosaic.Lib.ValueIdx

@[expose] public section

noncomputable section

namespace Cert.Feed

open Idealize.ShloMosaic

/-- A matrix of extended reals. -/
abbrev Mat (m n : ℕ) : Type := Fin m → Fin n → EReal

/-- Column `f` of the gate half of the fused weight. -/
def lo (f : Fin 5632) : Fin 11264 := ⟨f.val, by omega⟩
/-- Column `f` of the up half of the fused weight. -/
def hi (f : Fin 5632) : Fin 11264 := ⟨5632 + f.val, by omega⟩

/-- The half a column of the fused weight lies in. -/
def half (x : Fin 11264) : Fin 2 := ⟨x.val / 5632, by omega⟩
/-- The place of a column of the fused weight in its half. -/
def place (x : Fin 11264) : Fin 5632 := ⟨x.val % 5632, by omega⟩

/-- The product of two matrices. -/
def mul {m k n : ℕ} (x : Mat m k) (y : Mat k n) : Mat m n := fun i j => ∑ d : Fin k, x i d * y d j

/-- The product with the second matrix transposed. -/
def mulT {m k n : ℕ} (x : Mat m k) (y : Mat n k) : Mat m n := fun i j => ∑ d : Fin k, x i d * y j d

/-- The product with the first matrix transposed. -/
def tmul {m k n : ℕ} (x : Mat k m) (y : Mat k n) : Mat m n := fun i j => ∑ d : Fin k, x d i * y d j

/-- The logistic function as the kernel takes it. -/
def sg (g : EReal) : EReal := Ideal.div 1 (1 + Ideal.exp (0 - g))

/-- The gated value, from the gate and the up product. -/
def actE (g u : EReal) : EReal := g * sg g * u

/-- The factor of the gradient at the gate. -/
def gateE (g u : EReal) : EReal := u * (sg g * (1 + g * (1 - sg g)))

/-- The factor of the gradient at the up product. -/
def upE (g : EReal) : EReal := g * sg g

/-- The gated values. -/
def act (h : Mat 4096 2048) (w : Mat 2048 11264) : Mat 4096 5632 := fun t f => actE (mul h w t (lo f)) (mul h w t (hi f))

/-- The two factors the backward pass keeps. -/
def gu (h : Mat 4096 2048) (w : Mat 2048 11264) (b : Fin 2) : Mat 4096 5632 := fun t f =>
  if b = 0 then gateE (mul h w t (lo f)) (mul h w t (hi f)) else upE (mul h w t (lo f))

/-- The gradients at the gate and the up product. -/
def dgu (h : Mat 4096 2048) (w : Mat 2048 11264) (wd : Mat 5632 2048) (ct : Mat 4096 2048) (b : Fin 2) : Mat 4096 5632 :=
  fun t f => mulT ct wd t f * gu h w b t f

end Cert.Feed

end
-- ==== Proof.FeedRun.lean ====
/- What the feed-forward program leaves: its run. -/
module

public import proofs.«01_k».proof.Proof.Gen.FfnIdeal.Frame
public import proofs.«01_k».proof.Proof.FeedModel

@[expose] public section

set_option maxRecDepth 16384

noncomputable section

namespace Cert.Feed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnIdeal Cert.FfnIdeal.Gen

variable (m : (ℓ : Loc nD τ sig) → Buf (Elt Ideal) ℓ) (ρ : Dev nD → PrngReg)

set_option backward.isDefEq.respectTransparency.types false in
/-- The program's run: its five results as left by its last call, its arguments unchanged. -/
theorem run : θ_run defs (onTc (τ := τ) (main (F := Ideal))) ⟨m, fun _ => 0, ρ⟩ (fun r => ∀ c : Dev nD,
      r.2.mem ((c.tc : Thread nD τ).loc main_v5) = W7 m ρ c (Proc.devRef .tc main_v5)
      ∧ r.2.mem ((c.tc : Thread nD τ).loc main_v7_0) = W7 m ρ c (Proc.devRef .tc main_v7_0)
      ∧ r.2.mem ((c.tc : Thread nD τ).loc main_v7_1) = W7 m ρ c (Proc.devRef .tc main_v7_1)
      ∧ r.2.mem ((c.tc : Thread nD τ).loc main_v9_0) = W7 m ρ c (Proc.devRef .tc main_v9_0)
      ∧ r.2.mem ((c.tc : Thread nD τ).loc main_v9_1) = W7 m ρ c (Proc.devRef .tc main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v5 (by decide)),
       h c _ (mem_uc main_v7_0 (by decide)),
       h c _ (mem_uc main_v7_1 (by decide)),
       h c _ (mem_uc main_v9_0 (by decide)),
       h c _ (mem_uc main_v9_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Feed

end
-- ==== Proof.FeedPay.lean ====
/- What the bodies of the feed-forward calls store, at an index, as sums over their blocks. -/
module

public import proofs.«01_k».proof.Proof.FeedModel
public import proofs.«01_k».proof.Proof.Gen.FfnIdeal.Skeleton
public import Idealize.ShloMosaic.Lib.Pipeline.ValueKit
public import Idealize.ShloMosaic.Lib.Pointwise
public import Idealize.ShloMosaic.Lib.IdealHost

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

theorem one32 : Ideal.ofBits .f32 0x3F800000#32 = 1 := Ideal.ofBits_one_f32
theorem zero32 : Ideal.ofBits .f32 0x00000000#32 = 0 := Ideal.ofBits_zero_f32

/-- A matrix given a leading axis of one, at an index. -/
theorem shapeCast_one_pre {m n : ℕ} {α : Type} (x : (⟨2, ![m, n]⟩ : Shape).Idx → α)
    (h : (⟨2, ![m, n]⟩ : Shape).ShapeCasts ⟨3, ![1, m, n]⟩) (a : Fin m) (b : Fin n) :
    shapeCast ⟨3, ![1, m, n]⟩ x h (ix3 0 a b) = x (ix2 a b) := by
  refine shapeCast_apply x _ _ _ ?_
  rw [Shape.rowMajor_val_two, Shape.rowMajor_val_three]
  show a.val * n + b.val = (0 * m + a.val) * n + b.val
  rw [zero_mul, zero_add]

/-- A matrix stored with a leading axis of one, at an index. -/
theorem shapeCast_drop_pre {m n : ℕ} {α : Type} (x : (⟨3, ![1, m, n]⟩ : Shape).Idx → α)
    (h : (⟨3, ![1, m, n]⟩ : Shape).ShapeCasts ⟨2, ![m, n]⟩) (a : Fin m) (b : Fin n) :
    shapeCast ⟨2, ![m, n]⟩ x h (ix2 a b) = x (ix3 0 a b) := by
  refine shapeCast_apply x _ _ _ ?_
  rw [Shape.rowMajor_val_three, Shape.rowMajor_val_two]
  show (0 * m + a.val) * n + b.val = a.val * n + b.val
  rw [zero_mul, zero_add]

theorem pay0_2 (x : FVec Ideal S1024x2048 .bf16) (w : FVec Ideal S2048x512 .bf16) (a : Fin 1024) (b : Fin 512) :
    k0_pay2 (F := Ideal) x w (ix2 a b) = ∑ d : Fin 2048, x (ix2 a d) * w (ix2 d b) := by
  unfold k0_pay2 k0_pay1
  simp only [shapeCast_self]
  show Ideal.matmul _ x w _ _ = _
  rw [Ideal.matmul_apply₁_of _ (a := 1) rfl (K := 2048) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem pay0_3 (x : FVec Ideal S1024x2048 .bf16) (w : FVec Ideal S2048x512 .bf16) :
    k0_pay3 (F := Ideal) x w = k0_pay2 (F := Ideal) x w := rfl

theorem pay0_4 (x : FVec Ideal S1024x2048 .bf16) (w : FVec Ideal S2048x512 .bf16) (i : S1024x512.Idx) :
    k0_pay4 (F := Ideal) x w i = sg (k0_pay2 (F := Ideal) x w i) := by
  show Ideal.div (Ideal.ofBits .f32 0x3F800000#32)
    (Ideal.ofBits .f32 0x3F800000#32 + Ideal.exp (Ideal.ofBits .f32 0x00000000#32 - k0_pay2 (F := Ideal) x w i)) = _
  rw [one32, zero32]; rfl

theorem pay0_8 (x : FVec Ideal S1024x2048 .bf16) (w u : FVec Ideal S2048x512 .bf16) (i : S1024x512.Idx) :
    k0_pay8 (F := Ideal) x w u i = actE (k0_pay2 (F := Ideal) x w i) (k0_pay2 (F := Ideal) x u i) := by
  show k0_pay2 (F := Ideal) x w i * k0_pay4 (F := Ideal) x w i * k0_pay3 (F := Ideal) x u i = _
  rw [pay0_4, pay0_3]; rfl

theorem pay0_7 (x : FVec Ideal S1024x2048 .bf16) (w : FVec Ideal S2048x512 .bf16) (a : Fin 1024) (b : Fin 512) :
    k0_pay7 (F := Ideal) x w (ix3 0 a b) = upE (k0_pay2 (F := Ideal) x w (ix2 a b)) := by
  unfold k0_pay7
  refine (shapeCast_one_pre _ _ a b).trans ?_
  show k0_pay2 (F := Ideal) x w (ix2 a b) * k0_pay4 (F := Ideal) x w (ix2 a b) = _
  rw [pay0_4]; rfl

theorem pay0_6 (x : FVec Ideal S1024x2048 .bf16) (w u : FVec Ideal S2048x512 .bf16) (a : Fin 1024) (b : Fin 512) :
    k0_pay6 (F := Ideal) x w u (ix3 0 a b)
      = gateE (k0_pay2 (F := Ideal) x w (ix2 a b)) (k0_pay2 (F := Ideal) x u (ix2 a b)) := by
  unfold k0_pay6
  refine (shapeCast_one_pre _ _ a b).trans ?_
  show k0_pay3 (F := Ideal) x u (ix2 a b) * (k0_pay4 (F := Ideal) x w (ix2 a b) *
    (Ideal.ofBits .f32 0x3F800000#32 + k0_pay2 (F := Ideal) x w (ix2 a b) *
      (Ideal.ofBits .f32 0x3F800000#32 - k0_pay4 (F := Ideal) x w (ix2 a b)))) = _
  rw [pay0_4, pay0_3, one32]; rfl

theorem pay1_1 (x : FVec Ideal S512x5632 .bf16) (w : FVec Ideal S5632x1024 .bf16) (z : FVec Ideal S512x1024 .f32)
    (a : Fin 512) (b : Fin 1024) :
    k1_pay1 (F := Ideal) x w z (ix2 a b) = (∑ d : Fin 5632, x (ix2 a d) * w (ix2 d b)) + z (ix2 a b) := by
  unfold k1_pay1
  simp only [shapeCast_self]
  show Ideal.matmul _ x w _ _ + z (ix2 a b) = _
  rw [Ideal.matmul_apply₁_of _ (a := 1) rfl (K := 5632) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem pay2_1 (x : FVec Ideal S2048x2048 .bf16) (w : FVec Ideal S512x2048 .bf16) (a : Fin 2048) (b : Fin 512) :
    k2_pay1 (F := Ideal) x w (ix2 a b) = ∑ d : Fin 2048, x (ix2 a d) * w (ix2 b d) := by
  unfold k2_pay1
  simp only [shapeCast_self]
  show Ideal.matmul _ x w _ _ = _
  rw [Ideal.matmul_apply₁_of _ (a := 1) rfl (K := 2048) rfl x w _ _ (fun d => ix2 a d) (fun d => ix2 b d)
    (fun k => by funext e; match e with | ⟨0, _⟩ => rfl | ⟨1, _⟩ => rfl)
    (fun k => by funext e; match e with | ⟨0, _⟩ => rfl | ⟨1, _⟩ => rfl)]
  rw [constant_apply, zero32, zero_add]

theorem pay2_2 (x : FVec Ideal S2048x2048 .bf16) (w : FVec Ideal S512x2048 .bf16) (z : FVec Ideal S1x2048x512 .bf16)
    (a : Fin 2048) (b : Fin 512) :
    k2_pay2 (F := Ideal) x w z (ix3 0 a b) = (∑ d : Fin 2048, x (ix2 a d) * w (ix2 b d)) * z (ix3 0 a b) := by
  unfold k2_pay2
  refine (shapeCast_one_pre _ _ a b).trans ?_
  show k2_pay1 (F := Ideal) x w (ix2 a b) * shapeCast S2048x512 z _ (ix2 a b) = _
  rw [pay2_1, shapeCast_drop_pre]

theorem pay2_3 (x : FVec Ideal S2048x2048 .bf16) (w : FVec Ideal S512x2048 .bf16) (z : FVec Ideal S1x2048x512 .bf16)
    (a : Fin 2048) (b : Fin 512) :
    k2_pay3 (F := Ideal) x w z (ix3 0 a b) = (∑ d : Fin 2048, x (ix2 a d) * w (ix2 b d)) * z (ix3 0 a b) :=
  pay2_2 x w z a b

theorem pay3_1 (x : FVec Ideal S4096x512 .bf16) (w : FVec Ideal S4096x1024 .bf16) (a : Fin 512) (b : Fin 1024) :
    k3_pay1 (F := Ideal) x w (ix2 a b) = ∑ d : Fin 4096, x (ix2 d a) * w (ix2 d b) := by
  unfold k3_pay1
  simp only [shapeCast_self]
  show Ideal.matmul _ x w _ _ = _
  rw [Ideal.matmul_apply₁_of _ (a := 0) rfl (K := 4096) rfl x w _ _ (fun d => ix2 d a) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem pay3_2 (x : FVec Ideal S4096x512 .bf16) (w : FVec Ideal S4096x1024 .bf16) (a : Fin 512) (b : Fin 1024) :
    k3_pay2 (F := Ideal) x w (ix2 a b) = ∑ d : Fin 4096, x (ix2 d a) * w (ix2 d b) :=
  (show k3_pay2 (F := Ideal) x w (ix2 a b) = k3_pay1 (F := Ideal) x w (ix2 a b) from rfl).trans (pay3_1 x w a b)

theorem pay4_1 (x : FVec Ideal S1024x4096 .bf16) (w : FVec Ideal S1x4096x512 .bf16) (a : Fin 1024) (b : Fin 512) :
    k4_pay1 (F := Ideal) x w (ix2 a b) = ∑ d : Fin 4096, x (ix2 a d) * w (ix3 0 d b) := by
  unfold k4_pay1
  simp only [shapeCast_self]
  show Ideal.matmul _ x _ _ _ = _
  rw [Ideal.matmul_apply₁_of _ (a := 1) rfl (K := 4096) rfl x _ _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]
  exact Finset.sum_congr rfl fun d _ => congrArg (x (ix2 a d) * ·) (shapeCast_drop_pre w _ d b)

theorem pay4_2 (x : FVec Ideal S1024x4096 .bf16) (w : FVec Ideal S1x4096x512 .bf16) (a : Fin 1024) (b : Fin 512) :
    k4_pay2 (F := Ideal) x w (ix2 a b) = ∑ d : Fin 4096, x (ix2 a d) * w (ix3 0 d b) :=
  (show k4_pay2 (F := Ideal) x w (ix2 a b) = k4_pay1 (F := Ideal) x w (ix2 a b) from rfl).trans (pay4_1 x w a b)

end Cert.Feed

end
-- ==== Proof.FeedArr0.lean ====
/- The arrays the gate-and-up call leaves, at an index, from the arrays it reads. -/
module

public import proofs.«01_k».proof.Proof.FeedPay
public import proofs.«01_k».proof.Proof.Gen.FfnIdeal.Frame

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

/-- A stored array as a matrix. -/
def mat {m n : ℕ} (x : (⟨2, ![m, n]⟩ : Shape).Idx → EReal) : Mat m n := fun i j => x (ix2 i j)

theorem map0_0 : ∀ t : Fin cfg0.N, cc0_transform_0 (cfg0.grid.coords t) 0 = t.val / 11 ∧ cc0_transform_0 (cfg0.grid.coords t) 1 = 0 := by
  decide +kernel
theorem map0_1 : ∀ t : Fin cfg0.N, cc0_transform_1 (cfg0.grid.coords t) 0 = 0 ∧ cc0_transform_1 (cfg0.grid.coords t) 1 = t.val % 11 := by
  decide +kernel
theorem map0_2 : ∀ t : Fin cfg0.N, cc0_transform_2 (cfg0.grid.coords t) 0 = 0 ∧ cc0_transform_2 (cfg0.grid.coords t) 1 = t.val % 11 + 11 := by
  decide +kernel
theorem map0_3 : ∀ t : Fin cfg0.N, cc0_transform_3 (cfg0.grid.coords t) 0 = t.val / 11 ∧ cc0_transform_3 (cfg0.grid.coords t) 1 = t.val % 11 := by
  decide +kernel
theorem map0_4 : ∀ t : Fin cfg0.N, cc0_transform_4 (cfg0.grid.coords t) 0 = 0 ∧ cc0_transform_4 (cfg0.grid.coords t) 1 = t.val / 11
    ∧ cc0_transform_4 (cfg0.grid.coords t) 2 = t.val % 11 := by
  decide +kernel

/-- The row of the arrays that row `a` of point `n`'s block is. -/
def row0 (n : ℕ) (a : Fin 1024) : Fin 4096 := ⟨1024 * (n / 11 % 4) + a.val, by omega⟩
/-- The column of one half that column `b` of point `n`'s block is. -/
def col0 (n : ℕ) (b : Fin 512) : Fin 5632 := ⟨512 * (n % 11) + b.val, by omega⟩

theorem blk0_0 (X : FVec Ideal S4096x2048 .bf16) (t : Fin cfg0.N) (a : Fin 1024) (d : Fin 2048) :
    (((cfg0.win 0).blk t).view.read (Elt Ideal) X : FVec Ideal S1024x2048 .bf16) (ix2 a d) = X (ix2 (row0 t.val a) d) := by
  rw [View.read_apply]
  refine congrArg X (funext fun e => Fin.ext ?_)
  have ht : t.val < 44 := t.isLt
  match e with
  | ⟨0, _⟩ =>
    show cc0_transform_0 (cfg0.grid.coords t) 0 * 1024 + 1 * a.val = 1024 * (t.val / 11 % 4) + a.val
    rw [(map0_0 t).1]; omega
  | ⟨1, _⟩ =>
    show cc0_transform_0 (cfg0.grid.coords t) 1 * 2048 + 1 * d.val = d.val
    rw [(map0_0 t).2]; omega

theorem blk0_1 (X : FVec Ideal S2048x11264 .bf16) (t : Fin cfg0.N) (d : Fin 2048) (b : Fin 512) :
    (((cfg0.win 1).blk t).view.read (Elt Ideal) X : FVec Ideal S2048x512 .bf16) (ix2 d b) = X (ix2 d (lo (col0 t.val b))) := by
  rw [View.read_apply]
  refine congrArg X (funext fun e => Fin.ext ?_)
  match e with
  | ⟨0, _⟩ =>
    show cc0_transform_1 (cfg0.grid.coords t) 0 * 2048 + 1 * d.val = d.val
    rw [(map0_1 t).1]; omega
  | ⟨1, _⟩ =>
    show cc0_transform_1 (cfg0.grid.coords t) 1 * 512 + 1 * b.val = 512 * (t.val % 11) + b.val
    rw [(map0_1 t).2]; omega

theorem blk0_2 (X : FVec Ideal S2048x11264 .bf16) (t : Fin cfg0.N) (d : Fin 2048) (b : Fin 512) :
    (((cfg0.win 2).blk t).view.read (Elt Ideal) X : FVec Ideal S2048x512 .bf16) (ix2 d b) = X (ix2 d (hi (col0 t.val b))) := by
  rw [View.read_apply]
  refine congrArg X (funext fun e => Fin.ext ?_)
  match e with
  | ⟨0, _⟩ =>
    show cc0_transform_2 (cfg0.grid.coords t) 0 * 2048 + 1 * d.val = d.val
    rw [(map0_2 t).1]; omega
  | ⟨1, _⟩ =>
    show cc0_transform_2 (cfg0.grid.coords t) 1 * 512 + 1 * b.val = 5632 + (512 * (t.val % 11) + b.val)
    rw [(map0_2 t).2]; omega

theorem emb0_3 (t : Fin cfg0.N) (a : Fin 1024) (b : Fin 512) :
    (((cfg0.win 3).blk t).view.emb (ix2 a b) : S4096x5632.Idx) = ix2 (row0 t.val a) (col0 t.val b) := by
  refine funext fun e => Fin.ext ?_
  have ht : t.val < 44 := t.isLt
  match e with
  | ⟨0, _⟩ =>
    show cc0_transform_3 (cfg0.grid.coords t) 0 * 1024 + 1 * a.val = 1024 * (t.val / 11 % 4) + a.val
    rw [(map0_3 t).1]; omega
  | ⟨1, _⟩ =>
    show cc0_transform_3 (cfg0.grid.coords t) 1 * 512 + 1 * b.val = 512 * (t.val % 11) + b.val
    rw [(map0_3 t).2]; omega

theorem emb0_4 (t : Fin cfg0.N) (p : Fin 2) (a : Fin 1024) (b : Fin 512) :
    (((cfg0.win 4).blk t).view.emb (ix3 p a b) : S2x4096x5632.Idx) = ix3 p (row0 t.val a) (col0 t.val b) := by
  refine funext fun e => Fin.ext ?_
  have ht : t.val < 44 := t.isLt
  match e with
  | ⟨0, _⟩ =>
    show cc0_transform_4 (cfg0.grid.coords t) 0 * 2 + 1 * p.val = p.val
    rw [(map0_4 t).1]; omega
  | ⟨1, _⟩ =>
    show cc0_transform_4 (cfg0.grid.coords t) 1 * 1024 + 1 * a.val = 1024 * (t.val / 11 % 4) + a.val
    rw [(map0_4 t).2.1]; omega
  | ⟨2, _⟩ =>
    show cc0_transform_4 (cfg0.grid.coords t) 2 * 512 + 1 * b.val = 512 * (t.val % 11) + b.val
    rw [(map0_4 t).2.2]; omega

theorem out0_3_apply (x : FVec Ideal S1024x2048 .bf16) (w u : FVec Ideal S2048x512 .bf16) (i : S1024x512.Idx) :
    out0_3 (F := Ideal) x w u i = k0_pay8 (F := Ideal) x w u i := by
  frame_out

theorem out0_4_one (x : FVec Ideal S1024x2048 .bf16) (w u : FVec Ideal S2048x512 .bf16) (a : Fin 1024) (b : Fin 512) :
    out0_4 (F := Ideal) x w u (ix3 1 a b) = k0_pay7 (F := Ideal) x w (ix3 0 a b) := by
  frame_out
  have e : (ix3 1 a b : S2x1024x512.Idx) = r0_3.idx (ix3 0 a b) := funext fun k => Fin.ext (by
    match k with
    | ⟨0, _⟩ => rfl
    | ⟨1, _⟩ => show a.val = 0 + 1 * a.val; omega
    | ⟨2, _⟩ => show b.val = 0 + 1 * b.val; omega)
  rw [e]
  exact View.canon_cons_emb r0_3 _ _ _

theorem out0_4_zero (x : FVec Ideal S1024x2048 .bf16) (w u : FVec Ideal S2048x512 .bf16) (a : Fin 1024) (b : Fin 512) :
    out0_4 (F := Ideal) x w u (ix3 0 a b) = k0_pay6 (F := Ideal) x w u (ix3 0 a b) := by
  frame_out
  have e : (ix3 0 a b : S2x1024x512.Idx) = r0_2.idx (ix3 0 a b) := funext fun k => Fin.ext (by
    match k with
    | ⟨0, _⟩ => rfl
    | ⟨1, _⟩ => show a.val = 0 + 1 * a.val; omega
    | ⟨2, _⟩ => show b.val = 0 + 1 * b.val; omega)
  refine (View.canon_cons_of_not_mem _ _ ?_).trans ?_
  · intro hm
    obtain ⟨q, hq⟩ := LoadRect.exists_idx_of_mem _ hm
    have h0 := congrArg (fun z : S2x1024x512.Idx => (z 0).val) hq
    revert h0
    show ¬ (1 + 1 * (q 0).val = 0)
    omega
  · rw [e]
    exact View.canon_cons_emb r0_2 _ _ _

variable (V : (c : Dev nD) → (b : Ref sig .tc) → Buf (Elt Ideal) ((c.tc : Thread nD τ).loc b)) (c : Dev nD)

theorem pre0 (t : Fin cfg0.N) (a : Fin 1024) (b : Fin 512) :
    k0_pay2 (F := Ideal) (iblk0 V c 0 t) (iblk0 V c 1 t) (ix2 a b)
      = mul (mat (V c main_v0)) (mat (V c main_v1)) (row0 t.val a) (lo (col0 t.val b)) := by
  refine (pay0_2 _ _ a b).trans (Finset.sum_congr rfl fun d _ => ?_)
  exact congrArg₂ (· * ·) (blk0_0 (V c main_v0) t a d) (blk0_1 (V c main_v1) t d b)

theorem pre0' (t : Fin cfg0.N) (a : Fin 1024) (b : Fin 512) :
    k0_pay2 (F := Ideal) (iblk0 V c 0 t) (iblk0 V c 2 t) (ix2 a b)
      = mul (mat (V c main_v0)) (mat (V c main_v1)) (row0 t.val a) (hi (col0 t.val b)) := by
  refine (pay0_2 _ _ a b).trans (Finset.sum_congr rfl fun d _ => ?_)
  exact congrArg₂ (· * ·) (blk0_0 (V c main_v0) t a d) (blk0_2 (V c main_v1) t d b)

/-- The gated values' array. -/
theorem arr0_3 : (dat0 (F := Ideal) V c).arrAt 3 cfg0.N
    = fun i : S4096x5632.Idx => act (mat (V c main_v0)) (mat (V c main_v1)) (i 0) (i 1) := by
  refine (dat0 (F := Ideal) V c).arrAt_eq_of_covers 3 _ (by decide +kernel) fun t hf y => ?_
  obtain ⟨a, b, rfl⟩ : ∃ (a : Fin 1024) (b : Fin 512), y = ix2 a b := ⟨y 0, y 1, eq_ix2 y⟩
  rw [emb0_3]
  refine (congrFun (after0_3 V c t) (ix2 a b)).trans ?_
  rw [out0_3_apply, pay0_8, pre0, pre0']
  rfl

/-- The kept factors' array. -/
theorem arr0_4 : (dat0 (F := Ideal) V c).arrAt 4 cfg0.N
    = fun i : S2x4096x5632.Idx => gu (mat (V c main_v0)) (mat (V c main_v1)) (i 0) (i 1) (i 2) := by
  refine (dat0 (F := Ideal) V c).arrAt_eq_of_covers 4 _ (by decide +kernel) fun t hf y => ?_
  obtain ⟨p, a, b, rfl⟩ : ∃ (p : Fin 2) (a : Fin 1024) (b : Fin 512), y = ix3 p a b := ⟨y 0, y 1, y 2, eq_ix3 y⟩
  rw [emb0_4]
  refine (congrFun (after0_4 V c t) (ix3 p a b)).trans ?_
  match p with
  | 0 => rw [out0_4_zero, pay0_6, pre0, pre0']; rfl
  | 1 => rw [out0_4_one, pay0_7, pre0]; rfl

end Cert.Feed

end
-- ==== Proof.FeedRef.lean ====
/- The reference's feed-forward layer and its gradients at an index. -/
module

public import proofs.«01_k».proof.Proof.FeedModel
public import proofs.«01_k».proof.Proof.FeedArr0
public import proofs.«01_k».proof.Proof.Gen.FfnReferenceIdeal.Read
public import Idealize.ShloMosaic.Lib.IdealHost

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnReferenceIdeal Cert.FfnReferenceIdeal.Read

variable (x0 x3 x4 : FVec Ideal ⟨2, ![4096, 2048]⟩ .f32) (x1 : FVec Ideal ⟨2, ![2048, 11264]⟩ .f32) (x2 : FVec Ideal ⟨2, ![5632, 2048]⟩ .f32)

/-- The fused gate and up product. -/
theorem ref_v0 (t : Fin 4096) (x : Fin 11264) : val_main_v0 (F := Ideal) x0 x1 (ix2 t x) = mul (mat x0) (mat x1) t x := by
  refine (val_main_v0_apply x0 x1 _).trans (Finset.sum_congr (M := EReal) rfl fun d _ => ?_)
  refine congr (congrArg (fun a b : EReal => a * b) (congrArg x0 (funext fun a => ?_))) (congrArg x1 (funext fun a => ?_))
  · match a with
    | ⟨0, _⟩ => rfl
    | ⟨1, _⟩ => rfl
  · match a with
    | ⟨0, _⟩ => rfl
    | ⟨1, _⟩ => rfl

/-- The gate product. -/
theorem ref_gate (t : Fin 4096) (f : Fin 5632) : val_main_v1 (F := Ideal) x0 x1 (ix2 t f) = mul (mat x0) (mat x1) t (lo f) := by
  refine (val_main_v1_apply (F := Ideal) x0 x1 _).trans ((congrArg (val_main_v0 (F := Ideal) x0 x1) (funext fun a => ?_)).trans (ref_v0 x0 x1 t (lo f)))
  match a with
  | ⟨0, _⟩ => exact Fin.ext (by first | rfl | (show 0 + t.val = t.val; omega))
  | ⟨1, _⟩ => exact Fin.ext (by first | rfl | (show 0 + f.val = f.val; omega))

/-- The up product. -/
theorem ref_up (t : Fin 4096) (f : Fin 5632) : val_main_v2 (F := Ideal) x0 x1 (ix2 t f) = mul (mat x0) (mat x1) t (hi f) := by
  refine (val_main_v2_apply (F := Ideal) x0 x1 _).trans ((congrArg (val_main_v0 (F := Ideal) x0 x1) (funext fun a => ?_)).trans (ref_v0 x0 x1 t (hi f)))
  match a with
  | ⟨0, _⟩ => exact Fin.ext (by first | rfl | (show 0 + t.val = t.val; omega))
  | ⟨1, _⟩ => exact Fin.ext (by first | rfl | (show 5632 + f.val = 5632 + f.val; omega))

/-- The logistic function of the gate product. -/
theorem ref_sg (t : Fin 4096) (f : Fin 5632) :
    val_main_v3_2 (F := Ideal) x0 x1 (ix2 t f) = sg (mul (mat x0) (mat x1) t (lo f)) := by
  have e1 : (val_main_call0_v4 (F := Ideal) (ix2 t f) : EReal) = 1 :=
    (val_main_call0_v4_apply (F := Ideal) _).trans Ideal.ofBits_one_f32
  have e2 : (val_main_call0_v2 (F := Ideal) (ix2 t f) : EReal) = 1 :=
    (val_main_call0_v2_apply (F := Ideal) _).trans Ideal.ofBits_one_f32
  have e3 : (val_main_call0_v1 (F := Ideal) x0 x1 (ix2 t f) : EReal) = Ideal.exp (0 - mul (mat x0) (mat x1) t (lo f)) := by
    show Ideal.exp (-(val_main_v1 (F := Ideal) x0 x1 (ix2 t f) : EReal)) = _
    rw [ref_gate, zero_sub]
  show Ideal.div (val_main_call0_v4 (F := Ideal) (ix2 t f) : EReal)
    ((val_main_call0_v2 (F := Ideal) (ix2 t f) : EReal) + (val_main_call0_v1 (F := Ideal) x0 x1 (ix2 t f) : EReal)) = _
  rw [e1, e2, e3]
  rfl

/-- Its derivative. -/
theorem ref_dsg (t : Fin 4096) (f : Fin 5632) : (val_main_v3_1 (F := Ideal) x0 x1 (ix2 t f) : EReal)
    = sg (mul (mat x0) (mat x1) t (lo f)) * (1 - sg (mul (mat x0) (mat x1) t (lo f))) := by
  have e1 : (val_main_call0_v6 (F := Ideal) (ix2 t f) : EReal) = 1 :=
    (val_main_call0_v6_apply (F := Ideal) _).trans Ideal.ofBits_one_f32
  show (val_main_v3_2 (F := Ideal) x0 x1 (ix2 t f) : EReal) * ((val_main_call0_v6 (F := Ideal) (ix2 t f) : EReal) - (val_main_v3_2 (F := Ideal) x0 x1 (ix2 t f) : EReal)) = _
  rw [e1, ref_sg]

/-- The gate. -/
theorem ref_silu (t : Fin 4096) (f : Fin 5632) : (val_main_v3_0 (F := Ideal) x0 x1 (ix2 t f) : EReal)
    = upE (mul (mat x0) (mat x1) t (lo f)) := by
  show (val_main_v1 (F := Ideal) x0 x1 (ix2 t f) : EReal) * (val_main_v3_2 (F := Ideal) x0 x1 (ix2 t f) : EReal) = _
  rw [ref_gate, ref_sg]
  rfl

/-- The gated values. -/
theorem ref_act (t : Fin 4096) (f : Fin 5632) : (val_main_v4 (F := Ideal) x0 x1 (ix2 t f) : EReal) = act (mat x0) (mat x1) t f := by
  show (val_main_v3_0 (F := Ideal) x0 x1 (ix2 t f) : EReal) * (val_main_v2 (F := Ideal) x0 x1 (ix2 t f) : EReal) = _
  rw [ref_silu, ref_up]
  rfl

/-- The layer's result. -/
theorem ref_y (t : Fin 4096) (j : Fin 2048) : (val_main_v16 (F := Ideal) x0 x1 x2 x3 (ix2 t j) : EReal)
    = mul (act (mat x0) (mat x1)) (mat x2) t j + mat x3 t j := by
  have e : (val_main_v5 (F := Ideal) x0 x1 x2 (ix2 t j) : EReal) = mul (act (mat x0) (mat x1)) (mat x2) t j := by
    refine (val_main_v5_apply x0 x1 x2 _).trans (Finset.sum_congr (M := EReal) rfl fun d _ => ?_)
    refine congr (congrArg (fun a b : EReal => a * b) ((congrArg (val_main_v4 (F := Ideal) x0 x1) (funext fun a => ?_)).trans (ref_act x0 x1 t d))) (congrArg x2 (funext fun a => ?_))
    · match a with
      | ⟨0, _⟩ => rfl
      | ⟨1, _⟩ => rfl
    · match a with
      | ⟨0, _⟩ => rfl
      | ⟨1, _⟩ => rfl
  show mat x3 t j + (val_main_v5 (F := Ideal) x0 x1 x2 (ix2 t j) : EReal) = _
  rw [e, add_comm]

/-- The gradient of the second weight. -/
theorem ref_dwd (f : Fin 5632) (j : Fin 2048) : (val_main_v7 (F := Ideal) x0 x1 x4 (ix2 f j) : EReal)
    = tmul (act (mat x0) (mat x1)) (mat x4) f j := by
  have e : idx_main_v7 (ix2 f j) = ix2 j f := funext fun a => by
    match a with
    | ⟨0, _⟩ => rfl
    | ⟨1, _⟩ => rfl
  refine (val_main_v7_apply (F := Ideal) x0 x1 x4 _).trans ?_
  rw [e]
  refine (val_main_v6_apply x0 x1 x4 _).trans (Finset.sum_congr (M := EReal) rfl fun d _ => ?_)
  refine (mul_comm (G := EReal) _ _).trans ?_
  refine congr (congrArg (fun a b : EReal => a * b) ((congrArg (val_main_v4 (F := Ideal) x0 x1) (funext fun a => ?_)).trans (ref_act x0 x1 d f))) (congrArg x4 (funext fun a => ?_))
  · match a with
    | ⟨0, _⟩ => rfl
    | ⟨1, _⟩ => rfl
  · match a with
    | ⟨0, _⟩ => rfl
    | ⟨1, _⟩ => rfl

/-- The gradient of the gated values. -/
theorem ref_dact (t : Fin 4096) (f : Fin 5632) : (val_main_v8 (F := Ideal) x2 x4 (ix2 t f) : EReal) = mulT (mat x4) (mat x2) t f := by
  refine (val_main_v8_apply x2 x4 _).trans (Finset.sum_congr (M := EReal) rfl fun d _ => ?_)
  refine congr (congrArg (fun a b : EReal => a * b) (congrArg x4 (funext fun a => ?_))) (congrArg x2 (funext fun a => ?_))
  · match a with
    | ⟨0, _⟩ => rfl
    | ⟨1, _⟩ => rfl
  · match a with
    | ⟨0, _⟩ => rfl
    | ⟨1, _⟩ => rfl

/-- The gradient at the up product. -/
theorem ref_dup (t : Fin 4096) (f : Fin 5632) : (val_main_v9 (F := Ideal) x0 x1 x2 x4 (ix2 t f) : EReal)
    = dgu (mat x0) (mat x1) (mat x2) (mat x4) 1 t f := by
  show (val_main_v3_0 (F := Ideal) x0 x1 (ix2 t f) : EReal) * (val_main_v8 (F := Ideal) x2 x4 (ix2 t f) : EReal) = _
  rw [ref_silu, ref_dact, mul_comm]
  unfold dgu gu
  rw [if_neg (by decide)]

/-- The gradient at the gate product, as the reference takes it. -/
theorem ref_dgate (t : Fin 4096) (f : Fin 5632) : (val_main_v11 (F := Ideal) x0 x1 x2 x4 (ix2 t f) : EReal)
    = mulT (mat x4) (mat x2) t f * mul (mat x0) (mat x1) t (hi f) * sg (mul (mat x0) (mat x1) t (lo f))
      + mul (mat x0) (mat x1) t (lo f) * (mulT (mat x4) (mat x2) t f * mul (mat x0) (mat x1) t (hi f))
        * (sg (mul (mat x0) (mat x1) t (lo f)) * (1 - sg (mul (mat x0) (mat x1) t (lo f)))) := by
  show (val_main_v8 (F := Ideal) x2 x4 (ix2 t f) : EReal) * (val_main_v2 (F := Ideal) x0 x1 (ix2 t f) : EReal) * (val_main_v3_2 (F := Ideal) x0 x1 (ix2 t f) : EReal)
    + (val_main_v1 (F := Ideal) x0 x1 (ix2 t f) : EReal) * ((val_main_v8 (F := Ideal) x2 x4 (ix2 t f) : EReal) * (val_main_v2 (F := Ideal) x0 x1 (ix2 t f) : EReal)) * (val_main_v3_1 (F := Ideal) x0 x1 (ix2 t f) : EReal) = _
  rw [ref_dact, ref_up, ref_sg, ref_gate, ref_dsg]

end Cert.Feed

end
-- ==== Proof.FeedReal.lean ====
/- Of real arrays, the gradient at the gate product is the same taken either way. -/
module

public import proofs.«01_k».proof.Proof.FeedModel

@[expose] public section

noncomputable section

namespace Cert.Feed

open Idealize.ShloMosaic

/-- Every element of a matrix is a real number. -/
def IsReal {m n : ℕ} (x : Mat m n) : Prop := ∀ i j, ∃ r : ℝ, x i j = (r : EReal)

theorem real_sum {ι : Type} (s : Finset ι) (f : ι → EReal) (h : ∀ i, ∃ r : ℝ, f i = (r : EReal)) : ∃ r : ℝ, ∑ i ∈ s, f i = (r : EReal) := by
  refine Finset.sum_induction f (fun x => ∃ r : ℝ, x = (r : EReal)) ?_ ⟨0, rfl⟩ fun i _ => h i
  rintro _ _ ⟨a, rfl⟩ ⟨b, rfl⟩
  exact ⟨a + b, (EReal.coe_add a b).symm⟩

/-- A product of real matrices is real. -/
theorem IsReal.mul {m k n : ℕ} {x : Mat m k} {y : Mat k n} (hx : IsReal x) (hy : IsReal y) : IsReal (Feed.mul x y) := fun i j =>
  real_sum _ _ fun d => by
    obtain ⟨a, ha⟩ := hx i d
    obtain ⟨b, hb⟩ := hy d j
    exact ⟨a * b, by rw [ha, hb, EReal.coe_mul]⟩

theorem IsReal.mulT {m k n : ℕ} {x : Mat m k} {y : Mat n k} (hx : IsReal x) (hy : IsReal y) : IsReal (Feed.mulT x y) := fun i j =>
  real_sum _ _ fun d => by
    obtain ⟨a, ha⟩ := hx i d
    obtain ⟨b, hb⟩ := hy j d
    exact ⟨a * b, by rw [ha, hb, EReal.coe_mul]⟩

/-- The logistic function of a real number is real. -/
theorem sg_real (g : ℝ) : ∃ s : ℝ, sg (g : EReal) = (s : EReal) := by
  have e : (1 : EReal) + Ideal.exp (0 - (g : EReal)) = ((1 + Real.exp (-g) : ℝ) : EReal) := by
    rw [zero_sub, ← EReal.coe_neg, Ideal.exp_coe, EReal.coe_add, EReal.coe_one]
  refine ⟨1 / (1 + Real.exp (-g)), ?_⟩
  unfold sg
  rw [e, ← EReal.coe_one, Ideal.div_coe (by positivity), EReal.coe_one, one_mul]

/-- The two ways of the gradient at the gate product agree of real numbers. -/
theorem gate_eq {d u g : EReal} (hd : ∃ r : ℝ, d = (r : EReal)) (hu : ∃ r : ℝ, u = (r : EReal)) (hg : ∃ r : ℝ, g = (r : EReal)) :
    d * gateE g u = d * u * sg g + g * (d * u) * (sg g * (1 - sg g)) := by
  obtain ⟨d, rfl⟩ := hd
  obtain ⟨u, rfl⟩ := hu
  obtain ⟨g, rfl⟩ := hg
  obtain ⟨s, hs⟩ := sg_real g
  unfold gateE
  rw [hs, ← EReal.coe_one]
  simp only [← EReal.coe_mul, ← EReal.coe_sub, ← EReal.coe_add]
  exact congrArg _ (by ring)

end Cert.Feed

end
-- ==== Proof.FeedArr2.lean ====
/- The array of the gradients at the gate and the up product, at an index. -/
module

public import proofs.«01_k».proof.Proof.FeedArr0

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

theorem map2_0 : ∀ t : Fin cfg2.N, cc2_transform_0 (cfg2.grid.coords t) 0 = t.val / 11 ∧ cc2_transform_0 (cfg2.grid.coords t) 1 = 0 := by
  decide +kernel
theorem map2_1 : ∀ t : Fin cfg2.N, cc2_transform_1 (cfg2.grid.coords t) 0 = t.val % 11 ∧ cc2_transform_1 (cfg2.grid.coords t) 1 = 0 := by
  decide +kernel
theorem map2_2 : ∀ t : Fin cfg2.N, cc2_transform_2 (cfg2.grid.coords t) 0 = 0 ∧ cc2_transform_2 (cfg2.grid.coords t) 1 = t.val / 11 ∧ cc2_transform_2 (cfg2.grid.coords t) 2 = t.val % 11 := by
  decide +kernel
theorem map2_3 : ∀ t : Fin cfg2.N, cc2_transform_3 (cfg2.grid.coords t) 0 = 0 ∧ cc2_transform_3 (cfg2.grid.coords t) 1 = t.val / 11 ∧ cc2_transform_3 (cfg2.grid.coords t) 2 = t.val % 11 := by
  decide +kernel

def row2 (n : ℕ) (a : Fin 2048) : Fin 4096 := ⟨2048 * (n / 11 % 2) + a.val, by omega⟩

theorem blk2_0 (X : FVec Ideal S4096x2048 .bf16) (t : Fin cfg2.N) (a : Fin 2048) (d : Fin 2048) :
    (((cfg2.win 0).blk t).view.read (Elt Ideal) X : FVec Ideal S2048x2048 .bf16) (ix2 a d) = X (ix2 (row2 t.val a) d) := by
  rw [View.read_apply]
  refine congrArg X ?_
  refine funext fun e => Fin.ext ?_
  have ht : t.val < 22 := t.isLt
  match e with
  | ⟨0, _⟩ =>
    show cc2_transform_0 (cfg2.grid.coords t) 0 * 2048 + 1 * a.val = 2048 * (t.val / 11 % 2) + a.val
    rw [(map2_0 t).1]; omega
  | ⟨1, _⟩ =>
    show cc2_transform_0 (cfg2.grid.coords t) 1 * 2048 + 1 * d.val = d.val
    rw [(map2_0 t).2]; omega

theorem blk2_1 (X : FVec Ideal S5632x2048 .bf16) (t : Fin cfg2.N) (b : Fin 512) (d : Fin 2048) :
    (((cfg2.win 1).blk t).view.read (Elt Ideal) X : FVec Ideal S512x2048 .bf16) (ix2 b d) = X (ix2 (col0 t.val b) d) := by
  rw [View.read_apply]
  refine congrArg X ?_
  refine funext fun e => Fin.ext ?_
  have ht : t.val < 22 := t.isLt
  match e with
  | ⟨0, _⟩ =>
    show cc2_transform_1 (cfg2.grid.coords t) 0 * 512 + 1 * b.val = 512 * (t.val % 11) + b.val
    rw [(map2_1 t).1]; omega
  | ⟨1, _⟩ =>
    show cc2_transform_1 (cfg2.grid.coords t) 1 * 2048 + 1 * d.val = d.val
    rw [(map2_1 t).2]; omega

theorem blk2_2 (X : FVec Ideal S2x4096x5632 .bf16) (t : Fin cfg2.N) (p : Fin 2) (a : Fin 2048) (b : Fin 512) :
    (((cfg2.win 2).blk t).view.read (Elt Ideal) X : FVec Ideal S2x2048x512 .bf16) (ix3 p a b) = X (ix3 p (row2 t.val a) (col0 t.val b)) := by
  rw [View.read_apply]
  refine congrArg X ?_
  refine funext fun e => Fin.ext ?_
  have ht : t.val < 22 := t.isLt
  match e with
  | ⟨0, _⟩ =>
    show cc2_transform_2 (cfg2.grid.coords t) 0 * 2 + 1 * p.val = p.val
    rw [(map2_2 t).1]; omega
  | ⟨1, _⟩ =>
    show cc2_transform_2 (cfg2.grid.coords t) 1 * 2048 + 1 * a.val = 2048 * (t.val / 11 % 2) + a.val
    rw [(map2_2 t).2.1]; omega
  | ⟨2, _⟩ =>
    show cc2_transform_2 (cfg2.grid.coords t) 2 * 512 + 1 * b.val = 512 * (t.val % 11) + b.val
    rw [(map2_2 t).2.2]; omega

theorem emb2_3 (t : Fin cfg2.N) (p : Fin 2) (a : Fin 2048) (b : Fin 512) :
    (((cfg2.win 3).blk t).view.emb (ix3 p a b) : S2x4096x5632.Idx) = ix3 p (row2 t.val a) (col0 t.val b) := by
  refine funext fun e => Fin.ext ?_
  have ht : t.val < 22 := t.isLt
  match e with
  | ⟨0, _⟩ =>
    show cc2_transform_3 (cfg2.grid.coords t) 0 * 2 + 1 * p.val = p.val
    rw [(map2_3 t).1]; omega
  | ⟨1, _⟩ =>
    show cc2_transform_3 (cfg2.grid.coords t) 1 * 2048 + 1 * a.val = 2048 * (t.val / 11 % 2) + a.val
    rw [(map2_3 t).2.1]; omega
  | ⟨2, _⟩ =>
    show cc2_transform_3 (cfg2.grid.coords t) 2 * 512 + 1 * b.val = 512 * (t.val % 11) + b.val
    rw [(map2_3 t).2.2]; omega

theorem out2_3_apply (x : FVec Ideal S2048x2048 .bf16) (w : FVec Ideal S512x2048 .bf16) (z : FVec Ideal S2x2048x512 .bf16)
    (p : Fin 2) (a : Fin 2048) (b : Fin 512) :
    out2_3 (F := Ideal) x w z (ix3 p a b) = (∑ d : Fin 2048, x (ix2 a d) * w (ix2 b d)) * z (ix3 p a b) := by
  have e1 : (ix3 1 a b : S2x2048x512.Idx) = r2_3.idx (ix3 0 a b) := funext fun k => Fin.ext (by
    match k with
    | ⟨0, _⟩ => rfl
    | ⟨1, _⟩ => show a.val = 0 + 1 * a.val; omega
    | ⟨2, _⟩ => show b.val = 0 + 1 * b.val; omega)
  have e0 : (ix3 0 a b : S2x2048x512.Idx) = r2_2.idx (ix3 0 a b) := funext fun k => Fin.ext (by
    match k with
    | ⟨0, _⟩ => rfl
    | ⟨1, _⟩ => show a.val = 0 + 1 * a.val; omega
    | ⟨2, _⟩ => show b.val = 0 + 1 * b.val; omega)
  frame_out
  match p with
  | 0 =>
    refine (View.canon_cons_of_not_mem _ _ ?_).trans ?_
    · intro hm
      obtain ⟨q, hq⟩ := LoadRect.exists_idx_of_mem _ hm
      have h0 := congrArg (fun z : S2x2048x512.Idx => (z 0).val) hq
      revert h0
      show ¬ (1 + 1 * (q 0).val = 0)
      omega
    · rw [e0]
      refine (View.canon_cons_emb r2_2 _ _ _).trans ?_
      refine (pay2_2 _ _ _ a b).trans ?_
      rfl
  | 1 =>
    rw [e1]
    refine (View.canon_cons_emb r2_3 _ _ _).trans ?_
    refine (pay2_3 _ _ _ a b).trans ?_
    rfl

variable (V : (c : Dev nD) → (b : Ref sig .tc) → Buf (Elt Ideal) ((c.tc : Thread nD τ).loc b)) (c : Dev nD)

theorem arr2_3 : (dat2 (F := Ideal) V c).arrAt 3 cfg2.N
    = fun i : S2x4096x5632.Idx => mulT (mat (V c main_v3)) (mat (V c main_v2)) (i 1) (i 2)
        * (V c main_v4_1 : S2x4096x5632.Idx → EReal) (ix3 (i 0) (i 1) (i 2)) := by
  refine (dat2 (F := Ideal) V c).arrAt_eq_of_covers 3 _ (by decide +kernel) fun t hf y => ?_
  obtain ⟨p, a, b, rfl⟩ : ∃ (p : Fin 2) (a : Fin 2048) (b : Fin 512), y = ix3 p a b := ⟨y 0, y 1, y 2, eq_ix3 y⟩
  rw [emb2_3]
  refine (congrFun (after2_3 V c t) (ix3 p a b)).trans ?_
  rw [out2_3_apply]
  exact congrArg₂ (· * ·) (Finset.sum_congr rfl fun d _ => congrArg₂ (· * ·) (blk2_0 (V c main_v3) t a d) (blk2_1 (V c main_v2) t b d))
    (blk2_2 (V c main_v4_1) t p a b)

end Cert.Feed

end
-- ==== Proof.FeedArr1.lean ====
/- The array the down-projection leaves, at an index. -/
module

public import proofs.«01_k».proof.Proof.FeedArr0

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

theorem map1_0 : ∀ t : Fin cfg1.N, cc1_transform_0 (cfg1.grid.coords t) 0 = t.val / 2 ∧ cc1_transform_0 (cfg1.grid.coords t) 1 = 0 := by
  decide +kernel
theorem map1_1 : ∀ t : Fin cfg1.N, cc1_transform_1 (cfg1.grid.coords t) 0 = 0 ∧ cc1_transform_1 (cfg1.grid.coords t) 1 = t.val % 2 := by
  decide +kernel
theorem map1_2 : ∀ t : Fin cfg1.N, cc1_transform_2 (cfg1.grid.coords t) 0 = t.val / 2 ∧ cc1_transform_2 (cfg1.grid.coords t) 1 = t.val % 2 := by
  decide +kernel
theorem map1_3 : ∀ t : Fin cfg1.N, cc1_transform_3 (cfg1.grid.coords t) 0 = t.val / 2 ∧ cc1_transform_3 (cfg1.grid.coords t) 1 = t.val % 2 := by
  decide +kernel

def row1 (n : ℕ) (a : Fin 512) : Fin 4096 := ⟨512 * (n / 2 % 8) + a.val, by omega⟩
def col1 (n : ℕ) (b : Fin 1024) : Fin 2048 := ⟨1024 * (n % 2) + b.val, by omega⟩

theorem blk1_0 (X : FVec Ideal S4096x5632 .bf16) (t : Fin cfg1.N) (a : Fin 512) (d : Fin 5632) :
    (((cfg1.win 0).blk t).view.read (Elt Ideal) X : FVec Ideal S512x5632 .bf16) (ix2 a d) = X (ix2 (row1 t.val a) d) := by
  rw [View.read_apply]
  refine congrArg X ?_
  refine funext fun e => Fin.ext ?_
  have ht : t.val < 16 := t.isLt
  match e with
  | ⟨0, _⟩ =>
    show cc1_transform_0 (cfg1.grid.coords t) 0 * 512 + 1 * a.val = 512 * (t.val / 2 % 8) + a.val
    rw [(map1_0 t).1]; omega
  | ⟨1, _⟩ =>
    show cc1_transform_0 (cfg1.grid.coords t) 1 * 5632 + 1 * d.val = d.val
    rw [(map1_0 t).2]; omega

theorem blk1_1 (X : FVec Ideal S5632x2048 .bf16) (t : Fin cfg1.N) (d : Fin 5632) (b : Fin 1024) :
    (((cfg1.win 1).blk t).view.read (Elt Ideal) X : FVec Ideal S5632x1024 .bf16) (ix2 d b) = X (ix2 d (col1 t.val b)) := by
  rw [View.read_apply]
  refine congrArg X ?_
  refine funext fun e => Fin.ext ?_
  have ht : t.val < 16 := t.isLt
  match e with
  | ⟨0, _⟩ =>
    show cc1_transform_1 (cfg1.grid.coords t) 0 * 5632 + 1 * d.val = d.val
    rw [(map1_1 t).1]; omega
  | ⟨1, _⟩ =>
    show cc1_transform_1 (cfg1.grid.coords t) 1 * 1024 + 1 * b.val = 1024 * (t.val % 2) + b.val
    rw [(map1_1 t).2]; omega

theorem blk1_2 (X : FVec Ideal S4096x2048 .f32) (t : Fin cfg1.N) (a : Fin 512) (b : Fin 1024) :
    (((cfg1.win 2).blk t).view.read (Elt Ideal) X : FVec Ideal S512x1024 .f32) (ix2 a b) = X (ix2 (row1 t.val a) (col1 t.val b)) := by
  rw [View.read_apply]
  refine congrArg X ?_
  refine funext fun e => Fin.ext ?_
  have ht : t.val < 16 := t.isLt
  match e with
  | ⟨0, _⟩ =>
    show cc1_transform_2 (cfg1.grid.coords t) 0 * 512 + 1 * a.val = 512 * (t.val / 2 % 8) + a.val
    rw [(map1_2 t).1]; omega
  | ⟨1, _⟩ =>
    show cc1_transform_2 (cfg1.grid.coords t) 1 * 1024 + 1 * b.val = 1024 * (t.val % 2) + b.val
    rw [(map1_2 t).2]; omega

theorem emb1_3 (t : Fin cfg1.N) (a : Fin 512) (b : Fin 1024) :
    (((cfg1.win 3).blk t).view.emb (ix2 a b) : S4096x2048.Idx) = ix2 (row1 t.val a) (col1 t.val b) := by
  refine funext fun e => Fin.ext ?_
  have ht : t.val < 16 := t.isLt
  match e with
  | ⟨0, _⟩ =>
    show cc1_transform_3 (cfg1.grid.coords t) 0 * 512 + 1 * a.val = 512 * (t.val / 2 % 8) + a.val
    rw [(map1_3 t).1]; omega
  | ⟨1, _⟩ =>
    show cc1_transform_3 (cfg1.grid.coords t) 1 * 1024 + 1 * b.val = 1024 * (t.val % 2) + b.val
    rw [(map1_3 t).2]; omega

theorem out1_3_apply (x : FVec Ideal S512x5632 .bf16) (w : FVec Ideal S5632x1024 .bf16) (z : FVec Ideal S512x1024 .f32) (i : S512x1024.Idx) :
    out1_3 (F := Ideal) x w z i = k1_pay1 (F := Ideal) x w z i := by
  frame_out

variable (V : (c : Dev nD) → (b : Ref sig .tc) → Buf (Elt Ideal) ((c.tc : Thread nD τ).loc b)) (c : Dev nD)

theorem arr1_3 : (dat1 (F := Ideal) V c).arrAt 3 cfg1.N
    = fun i : S4096x2048.Idx => mul (mat (V c main_v4_0)) (mat (V c main_v2)) (i 0) (i 1) + mat (V c main_arg3) (i 0) (i 1) := by
  refine (dat1 (F := Ideal) V c).arrAt_eq_of_covers 3 _ (by decide +kernel) fun t hf y => ?_
  obtain ⟨a, b, rfl⟩ : ∃ (a : Fin 512) (b : Fin 1024), y = ix2 a b := ⟨y 0, y 1, eq_ix2 y⟩
  rw [emb1_3]
  refine (congrFun (after1_3 V c t) (ix2 a b)).trans ?_
  rw [out1_3_apply, pay1_1]
  exact congrArg₂ (· + ·) (Finset.sum_congr rfl fun d _ => congrArg₂ (· * ·) (blk1_0 (V c main_v4_0) t a d) (blk1_1 (V c main_v2) t d b))
    (blk1_2 (V c main_arg3) t a b)

end Cert.Feed

end
-- ==== Proof.FeedArr3.lean ====
/- The arrays of the gradient of the down weight, at an index. -/
module

public import proofs.«01_k».proof.Proof.FeedArr1

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

theorem map3_0 : ∀ t : Fin cfg3.N, cc3_transform_0 (cfg3.grid.coords t) 0 = 0 ∧ cc3_transform_0 (cfg3.grid.coords t) 1 = t.val / 2 := by
  decide +kernel
theorem map3_1 : ∀ t : Fin cfg3.N, cc3_transform_1 (cfg3.grid.coords t) 0 = 0 ∧ cc3_transform_1 (cfg3.grid.coords t) 1 = t.val % 2 := by
  decide +kernel
theorem map3_2 : ∀ t : Fin cfg3.N, cc3_transform_2 (cfg3.grid.coords t) 0 = t.val / 2 ∧ cc3_transform_2 (cfg3.grid.coords t) 1 = t.val % 2 := by
  decide +kernel
theorem map3_3 : ∀ t : Fin cfg3.N, cc3_transform_3 (cfg3.grid.coords t) 0 = t.val / 2 ∧ cc3_transform_3 (cfg3.grid.coords t) 1 = t.val % 2 := by
  decide +kernel

def row3 (n : ℕ) (a : Fin 512) : Fin 5632 := ⟨512 * (n / 2 % 11) + a.val, by omega⟩

theorem blk3_0 (X : FVec Ideal S4096x5632 .bf16) (t : Fin cfg3.N) (d : Fin 4096) (a : Fin 512) :
    (((cfg3.win 0).blk t).view.read (Elt Ideal) X : FVec Ideal S4096x512 .bf16) (ix2 d a) = X (ix2 d (row3 t.val a)) := by
  rw [View.read_apply]
  refine congrArg X ?_
  refine funext fun e => Fin.ext ?_
  have ht : t.val < 22 := t.isLt
  match e with
  | ⟨0, _⟩ =>
    show cc3_transform_0 (cfg3.grid.coords t) 0 * 4096 + 1 * d.val = d.val
    rw [(map3_0 t).1]; omega
  | ⟨1, _⟩ =>
    show cc3_transform_0 (cfg3.grid.coords t) 1 * 512 + 1 * a.val = 512 * (t.val / 2 % 11) + a.val
    rw [(map3_0 t).2]; omega

theorem blk3_1 (X : FVec Ideal S4096x2048 .bf16) (t : Fin cfg3.N) (d : Fin 4096) (b : Fin 1024) :
    (((cfg3.win 1).blk t).view.read (Elt Ideal) X : FVec Ideal S4096x1024 .bf16) (ix2 d b) = X (ix2 d (col1 t.val b)) := by
  rw [View.read_apply]
  refine congrArg X ?_
  refine funext fun e => Fin.ext ?_
  have ht : t.val < 22 := t.isLt
  match e with
  | ⟨0, _⟩ =>
    show cc3_transform_1 (cfg3.grid.coords t) 0 * 4096 + 1 * d.val = d.val
    rw [(map3_1 t).1]; omega
  | ⟨1, _⟩ =>
    show cc3_transform_1 (cfg3.grid.coords t) 1 * 1024 + 1 * b.val = 1024 * (t.val % 2) + b.val
    rw [(map3_1 t).2]; omega

theorem emb3_2 (t : Fin cfg3.N) (a : Fin 512) (b : Fin 1024) :
    (((cfg3.win 2).blk t).view.emb (ix2 a b) : S5632x2048.Idx) = ix2 (row3 t.val a) (col1 t.val b) := by
  refine funext fun e => Fin.ext ?_
  have ht : t.val < 22 := t.isLt
  match e with
  | ⟨0, _⟩ =>
    show cc3_transform_2 (cfg3.grid.coords t) 0 * 512 + 1 * a.val = 512 * (t.val / 2 % 11) + a.val
    rw [(map3_2 t).1]; omega
  | ⟨1, _⟩ =>
    show cc3_transform_2 (cfg3.grid.coords t) 1 * 1024 + 1 * b.val = 1024 * (t.val % 2) + b.val
    rw [(map3_2 t).2]; omega

theorem emb3_3 (t : Fin cfg3.N) (a : Fin 512) (b : Fin 1024) :
    (((cfg3.win 3).blk t).view.emb (ix2 a b) : S5632x2048.Idx) = ix2 (row3 t.val a) (col1 t.val b) := by
  refine funext fun e => Fin.ext ?_
  have ht : t.val < 22 := t.isLt
  match e with
  | ⟨0, _⟩ =>
    show cc3_transform_3 (cfg3.grid.coords t) 0 * 512 + 1 * a.val = 512 * (t.val / 2 % 11) + a.val
    rw [(map3_3 t).1]; omega
  | ⟨1, _⟩ =>
    show cc3_transform_3 (cfg3.grid.coords t) 1 * 1024 + 1 * b.val = 1024 * (t.val % 2) + b.val
    rw [(map3_3 t).2]; omega

theorem out3_2_apply (x : FVec Ideal S4096x512 .bf16) (w : FVec Ideal S4096x1024 .bf16) (i : S512x1024.Idx) :
    out3_2 (F := Ideal) x w i = k3_pay1 (F := Ideal) x w i := by
  frame_out

theorem out3_3_apply (x : FVec Ideal S4096x512 .bf16) (w : FVec Ideal S4096x1024 .bf16) (i : S512x1024.Idx) :
    out3_3 (F := Ideal) x w i = k3_pay2 (F := Ideal) x w i := by
  frame_out

variable (V : (c : Dev nD) → (b : Ref sig .tc) → Buf (Elt Ideal) ((c.tc : Thread nD τ).loc b)) (c : Dev nD)

theorem arr3_2 : (dat3 (F := Ideal) V c).arrAt 2 cfg3.N
    = fun i : S5632x2048.Idx => tmul (mat (V c main_v4_0)) (mat (V c main_v3)) (i 0) (i 1) := by
  refine (dat3 (F := Ideal) V c).arrAt_eq_of_covers 2 _ (by decide +kernel) fun t hf y => ?_
  obtain ⟨a, b, rfl⟩ : ∃ (a : Fin 512) (b : Fin 1024), y = ix2 a b := ⟨y 0, y 1, eq_ix2 y⟩
  rw [emb3_2]
  refine (congrFun (after3_2 V c t) (ix2 a b)).trans ?_
  rw [out3_2_apply, pay3_1]
  exact Finset.sum_congr (M := EReal) rfl fun d _ => congrArg₂ (· * ·) (blk3_0 (V c main_v4_0) t d a) (blk3_1 (V c main_v3) t d b)

theorem arr3_3 : (dat3 (F := Ideal) V c).arrAt 3 cfg3.N
    = fun i : S5632x2048.Idx => tmul (mat (V c main_v4_0)) (mat (V c main_v3)) (i 0) (i 1) := by
  refine (dat3 (F := Ideal) V c).arrAt_eq_of_covers 3 _ (by decide +kernel) fun t hf y => ?_
  obtain ⟨a, b, rfl⟩ : ∃ (a : Fin 512) (b : Fin 1024), y = ix2 a b := ⟨y 0, y 1, eq_ix2 y⟩
  rw [emb3_3]
  refine (congrFun (after3_3 V c t) (ix2 a b)).trans ?_
  rw [out3_3_apply, pay3_2]
  exact Finset.sum_congr (M := EReal) rfl fun d _ => congrArg₂ (· * ·) (blk3_0 (V c main_v4_0) t d a) (blk3_1 (V c main_v3) t d b)

end Cert.Feed

end
-- ==== Proof.FeedArr4.lean ====
/- The arrays of the gradient of the fused gate and up weight, at an index. -/
module

public import proofs.«01_k».proof.Proof.FeedArr0

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

theorem map4_0 : ∀ t : Fin cfg4.N, cc4_transform_0 (cfg4.grid.coords t) 0 = t.val / 22 ∧ cc4_transform_0 (cfg4.grid.coords t) 1 = 0 := by
  decide +kernel
theorem map4_1 : ∀ t : Fin cfg4.N, cc4_transform_1 (cfg4.grid.coords t) 0 = t.val % 22 / 11 ∧ cc4_transform_1 (cfg4.grid.coords t) 1 = 0 ∧ cc4_transform_1 (cfg4.grid.coords t) 2 = t.val % 11 := by
  decide +kernel
theorem map4_2 : ∀ t : Fin cfg4.N, cc4_transform_2 (cfg4.grid.coords t) 0 = t.val / 22 ∧ cc4_transform_2 (cfg4.grid.coords t) 1 = t.val % 22 := by
  decide +kernel
theorem map4_3 : ∀ t : Fin cfg4.N, cc4_transform_3 (cfg4.grid.coords t) 0 = t.val / 22 ∧ cc4_transform_3 (cfg4.grid.coords t) 1 = t.val % 22 := by
  decide +kernel

def row4 (n : ℕ) (a : Fin 1024) : Fin 2048 := ⟨1024 * (n / 22 % 2) + a.val, by omega⟩
def col4 (n : ℕ) (b : Fin 512) : Fin 11264 := ⟨512 * (n % 22) + b.val, by omega⟩

theorem blk4_0 (X : FVec Ideal S2048x4096 .bf16) (t : Fin cfg4.N) (a : Fin 1024) (d : Fin 4096) :
    (((cfg4.win 0).blk t).view.read (Elt Ideal) X : FVec Ideal S1024x4096 .bf16) (ix2 a d) = X (ix2 (row4 t.val a) d) := by
  rw [View.read_apply]
  refine congrArg X ?_
  refine funext fun e => Fin.ext ?_
  have ht : t.val < 44 := t.isLt
  match e with
  | ⟨0, _⟩ =>
    show cc4_transform_0 (cfg4.grid.coords t) 0 * 1024 + 1 * a.val = 1024 * (t.val / 22 % 2) + a.val
    rw [(map4_0 t).1]; omega
  | ⟨1, _⟩ =>
    show cc4_transform_0 (cfg4.grid.coords t) 1 * 4096 + 1 * d.val = d.val
    rw [(map4_0 t).2]; omega

theorem blk4_1 (X : FVec Ideal S2x4096x5632 .bf16) (t : Fin cfg4.N) (d : Fin 4096) (b : Fin 512) :
    (((cfg4.win 1).blk t).view.read (Elt Ideal) X : FVec Ideal S1x4096x512 .bf16) (ix3 0 d b) = X (ix3 (half (col4 t.val b)) d (place (col4 t.val b))) := by
  rw [View.read_apply]
  refine congrArg X ?_
  refine funext fun e => Fin.ext ?_
  have ht : t.val < 44 := t.isLt
  match e with
  | ⟨0, _⟩ =>
    show cc4_transform_1 (cfg4.grid.coords t) 0 * 1 + 1 * (0 : Fin 1).val = (512 * (t.val % 22) + b.val) / 5632
    rw [(map4_1 t).1]; omega
  | ⟨1, _⟩ =>
    show cc4_transform_1 (cfg4.grid.coords t) 1 * 4096 + 1 * d.val = d.val
    rw [(map4_1 t).2.1]; omega
  | ⟨2, _⟩ =>
    show cc4_transform_1 (cfg4.grid.coords t) 2 * 512 + 1 * b.val = (512 * (t.val % 22) + b.val) % 5632
    rw [(map4_1 t).2.2]; omega

theorem emb4_2 (t : Fin cfg4.N) (a : Fin 1024) (b : Fin 512) :
    (((cfg4.win 2).blk t).view.emb (ix2 a b) : S2048x11264.Idx) = ix2 (row4 t.val a) (col4 t.val b) := by
  refine funext fun e => Fin.ext ?_
  have ht : t.val < 44 := t.isLt
  match e with
  | ⟨0, _⟩ =>
    show cc4_transform_2 (cfg4.grid.coords t) 0 * 1024 + 1 * a.val = 1024 * (t.val / 22 % 2) + a.val
    rw [(map4_2 t).1]; omega
  | ⟨1, _⟩ =>
    show cc4_transform_2 (cfg4.grid.coords t) 1 * 512 + 1 * b.val = 512 * (t.val % 22) + b.val
    rw [(map4_2 t).2]; omega

theorem emb4_3 (t : Fin cfg4.N) (a : Fin 1024) (b : Fin 512) :
    (((cfg4.win 3).blk t).view.emb (ix2 a b) : S2048x11264.Idx) = ix2 (row4 t.val a) (col4 t.val b) := by
  refine funext fun e => Fin.ext ?_
  have ht : t.val < 44 := t.isLt
  match e with
  | ⟨0, _⟩ =>
    show cc4_transform_3 (cfg4.grid.coords t) 0 * 1024 + 1 * a.val = 1024 * (t.val / 22 % 2) + a.val
    rw [(map4_3 t).1]; omega
  | ⟨1, _⟩ =>
    show cc4_transform_3 (cfg4.grid.coords t) 1 * 512 + 1 * b.val = 512 * (t.val % 22) + b.val
    rw [(map4_3 t).2]; omega

theorem out4_2_apply (x : FVec Ideal S1024x4096 .bf16) (w : FVec Ideal S1x4096x512 .bf16) (i : S1024x512.Idx) :
    out4_2 (F := Ideal) x w i = k4_pay1 (F := Ideal) x w i := by
  frame_out

theorem out4_3_apply (x : FVec Ideal S1024x4096 .bf16) (w : FVec Ideal S1x4096x512 .bf16) (i : S1024x512.Idx) :
    out4_3 (F := Ideal) x w i = k4_pay2 (F := Ideal) x w i := by
  frame_out

variable (V : (c : Dev nD) → (b : Ref sig .tc) → Buf (Elt Ideal) ((c.tc : Thread nD τ).loc b)) (c : Dev nD)

theorem arr4_2 : (dat4 (F := Ideal) V c).arrAt 2 cfg4.N
    = fun i : S2048x11264.Idx => ∑ d : Fin 4096, mat (V c main_v8) (i 0) d
        * (V c main_v6 : S2x4096x5632.Idx → EReal) (ix3 (half (i 1)) d (place (i 1))) := by
  refine (dat4 (F := Ideal) V c).arrAt_eq_of_covers 2 _ (by decide +kernel) fun t hf y => ?_
  obtain ⟨a, b, rfl⟩ : ∃ (a : Fin 1024) (b : Fin 512), y = ix2 a b := ⟨y 0, y 1, eq_ix2 y⟩
  rw [emb4_2]
  refine (congrFun (after4_2 V c t) (ix2 a b)).trans ?_
  rw [out4_2_apply, pay4_1]
  exact Finset.sum_congr (M := EReal) rfl fun d _ => congrArg₂ (· * ·) (blk4_0 (V c main_v8) t a d) (blk4_1 (V c main_v6) t d b)

theorem arr4_3 : (dat4 (F := Ideal) V c).arrAt 3 cfg4.N
    = fun i : S2048x11264.Idx => ∑ d : Fin 4096, mat (V c main_v8) (i 0) d
        * (V c main_v6 : S2x4096x5632.Idx → EReal) (ix3 (half (i 1)) d (place (i 1))) := by
  refine (dat4 (F := Ideal) V c).arrAt_eq_of_covers 3 _ (by decide +kernel) fun t hf y => ?_
  obtain ⟨a, b, rfl⟩ : ∃ (a : Fin 1024) (b : Fin 512), y = ix2 a b := ⟨y 0, y 1, eq_ix2 y⟩
  rw [emb4_3]
  refine (congrFun (after4_3 V c t) (ix2 a b)).trans ?_
  rw [out4_3_apply, pay4_2]
  exact Finset.sum_congr (M := EReal) rfl fun d _ => congrArg₂ (· * ·) (blk4_0 (V c main_v8) t a d) (blk4_1 (V c main_v6) t d b)

end Cert.Feed

end
-- ==== Proof.FeedVal.lean ====
/- What the feed-forward program leaves: each result from the arguments. -/
module

public import proofs.«01_k».proof.Proof.FeedArr2
public import proofs.«01_k».proof.Proof.FeedArr3
public import proofs.«01_k».proof.Proof.FeedArr4
public import Idealize.ShloMosaic.Lib.StableHlo.RunRead

@[expose] public section

set_option maxRecDepth 16384

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnIdeal Cert.FfnIdeal.Gen

variable (m : (ℓ : Loc nD τ sig) → Buf (Elt Ideal) ℓ) (ρ : Dev nD → PrngReg) (c : Dev nD)

abbrev arg0 : FVec Ideal S4096x2048 .f32 := m ((c : Thread nD τ).loc main_arg0)
abbrev arg1 : FVec Ideal S2048x11264 .f32 := m ((c : Thread nD τ).loc main_arg1)
abbrev arg2 : FVec Ideal S5632x2048 .f32 := m ((c : Thread nD τ).loc main_arg2)
abbrev arg3 : FVec Ideal S4096x2048 .f32 := m ((c : Thread nD τ).loc main_arg3)
abbrev arg4 : FVec Ideal S4096x2048 .f32 := m ((c : Thread nD τ).loc main_arg4)

theorem W1_v0 : (W1 m ρ c (Proc.devRef .tc main_v0) : S4096x2048.Idx → EReal) = arg0 m c := by
  unfold W1; after_reads_simp; rfl
theorem W1_v1 : (W1 m ρ c (Proc.devRef .tc main_v1) : S2048x11264.Idx → EReal) = arg1 m c := by
  unfold W1; after_reads_simp; rfl
theorem W1_v2 : (W1 m ρ c (Proc.devRef .tc main_v2) : S5632x2048.Idx → EReal) = arg2 m c := by
  unfold W1; after_reads_simp; rfl
theorem W1_v3 : (W1 m ρ c (Proc.devRef .tc main_v3) : S4096x2048.Idx → EReal) = arg4 m c := by
  unfold W1; after_reads_simp; rfl

/-- The gated values after the first call. -/
theorem W2_act : (W2 m ρ c (Proc.devRef .tc main_v4_0) : S4096x5632.Idx → EReal)
    = fun i => act (mat (arg0 m c)) (mat (arg1 m c)) (i 0) (i 1) := by
  refine (W2_arr m ρ c 3).trans ((arr0_3 (V1 m ρ) c).trans ?_)
  show (fun i : S4096x5632.Idx => act (mat (W1 m ρ c (Proc.devRef .tc main_v0))) (mat (W1 m ρ c (Proc.devRef .tc main_v1))) (i 0) (i 1)) = _
  rw [W1_v0, W1_v1]
  rfl

/-- The kept factors after the first call. -/
theorem W2_gu : (W2 m ρ c (Proc.devRef .tc main_v4_1) : S2x4096x5632.Idx → EReal)
    = fun i => gu (mat (arg0 m c)) (mat (arg1 m c)) (i 0) (i 1) (i 2) := by
  refine (W2_arr m ρ c 4).trans ((arr0_4 (V1 m ρ) c).trans ?_)
  show (fun i : S2x4096x5632.Idx => gu (mat (W1 m ρ c (Proc.devRef .tc main_v0))) (mat (W1 m ρ c (Proc.devRef .tc main_v1))) (i 0) (i 1) (i 2)) = _
  rw [W1_v0, W1_v1]
  rfl

theorem W2_v2 : (W2 m ρ c (Proc.devRef .tc main_v2) : S5632x2048.Idx → EReal) = arg2 m c :=
  (W2_of m ρ c main_v2 (by decide +kernel)).trans (W1_v2 m ρ c)
theorem W2_arg3 : (W2 m ρ c (Proc.devRef .tc main_arg3) : S4096x2048.Idx → EReal) = arg3 m c :=
  W2_args m ρ c main_arg3 (by decide)

/-- The layer's output after the second call. -/
theorem W3_y : (W3 m ρ c (Proc.devRef .tc main_v5) : S4096x2048.Idx → EReal)
    = fun i => mul (act (mat (arg0 m c)) (mat (arg1 m c))) (mat (arg2 m c)) (i 0) (i 1) + mat (arg3 m c) (i 0) (i 1) := by
  refine (W3_arr m ρ c 3).trans ((arr1_3 (V2 m ρ) c).trans ?_)
  show (fun i : S4096x2048.Idx => mul (mat (W2 m ρ c (Proc.devRef .tc main_v4_0))) (mat (W2 m ρ c (Proc.devRef .tc main_v2))) (i 0) (i 1)
    + mat (W2 m ρ c (Proc.devRef .tc main_arg3)) (i 0) (i 1)) = _
  rw [W2_act, W2_v2, W2_arg3]
  rfl

theorem W3_gu : (W3 m ρ c (Proc.devRef .tc main_v4_1) : S2x4096x5632.Idx → EReal)
    = fun i => gu (mat (arg0 m c)) (mat (arg1 m c)) (i 0) (i 1) (i 2) :=
  (W3_of m ρ c main_v4_1 (by decide +kernel)).trans (W2_gu m ρ c)
theorem W3_act : (W3 m ρ c (Proc.devRef .tc main_v4_0) : S4096x5632.Idx → EReal)
    = fun i => act (mat (arg0 m c)) (mat (arg1 m c)) (i 0) (i 1) :=
  (W3_of m ρ c main_v4_0 (by decide +kernel)).trans (W2_act m ρ c)
theorem W3_v2 : (W3 m ρ c (Proc.devRef .tc main_v2) : S5632x2048.Idx → EReal) = arg2 m c :=
  (W3_of m ρ c main_v2 (by decide +kernel)).trans (W2_v2 m ρ c)
theorem W3_v3 : (W3 m ρ c (Proc.devRef .tc main_v3) : S4096x2048.Idx → EReal) = arg4 m c :=
  (W3_of m ρ c main_v3 (by decide +kernel)).trans ((W2_of m ρ c main_v3 (by decide +kernel)).trans (W1_v3 m ρ c))

/-- The gradients at the gate and the up product after the third call. -/
theorem W4_dgu : (W4 m ρ c (Proc.devRef .tc main_v6) : S2x4096x5632.Idx → EReal)
    = fun i => dgu (mat (arg0 m c)) (mat (arg1 m c)) (mat (arg2 m c)) (mat (arg4 m c)) (i 0) (i 1) (i 2) := by
  refine (W4_arr m ρ c 3).trans ((arr2_3 (V3 m ρ) c).trans ?_)
  show (fun i : S2x4096x5632.Idx => mulT (mat (W3 m ρ c (Proc.devRef .tc main_v3))) (mat (W3 m ρ c (Proc.devRef .tc main_v2))) (i 1) (i 2)
    * (W3 m ρ c (Proc.devRef .tc main_v4_1) : S2x4096x5632.Idx → EReal) (ix3 (i 0) (i 1) (i 2))) = _
  rw [W3_v3, W3_v2, W3_gu]
  rfl

theorem W4_act : (W4 m ρ c (Proc.devRef .tc main_v4_0) : S4096x5632.Idx → EReal)
    = fun i => act (mat (arg0 m c)) (mat (arg1 m c)) (i 0) (i 1) :=
  (W4_of m ρ c main_v4_0 (by decide +kernel)).trans (W3_act m ρ c)
theorem W4_v3 : (W4 m ρ c (Proc.devRef .tc main_v3) : S4096x2048.Idx → EReal) = arg4 m c :=
  (W4_of m ρ c main_v3 (by decide +kernel)).trans (W3_v3 m ρ c)

theorem W5_dwd0 : (W5 m ρ c (Proc.devRef .tc main_v7_0) : S5632x2048.Idx → EReal)
    = fun i => tmul (act (mat (arg0 m c)) (mat (arg1 m c))) (mat (arg4 m c)) (i 0) (i 1) := by
  refine (W5_arr m ρ c 2).trans ((arr3_2 (V4 m ρ) c).trans ?_)
  show (fun i : S5632x2048.Idx => tmul (mat (W4 m ρ c (Proc.devRef .tc main_v4_0))) (mat (W4 m ρ c (Proc.devRef .tc main_v3))) (i 0) (i 1)) = _
  rw [W4_act, W4_v3]
  rfl
theorem W5_dwd1 : (W5 m ρ c (Proc.devRef .tc main_v7_1) : S5632x2048.Idx → EReal)
    = fun i => tmul (act (mat (arg0 m c)) (mat (arg1 m c))) (mat (arg4 m c)) (i 0) (i 1) := by
  refine (W5_arr m ρ c 3).trans ((arr3_3 (V4 m ρ) c).trans ?_)
  show (fun i : S5632x2048.Idx => tmul (mat (W4 m ρ c (Proc.devRef .tc main_v4_0))) (mat (W4 m ρ c (Proc.devRef .tc main_v3))) (i 0) (i 1)) = _
  rw [W4_act, W4_v3]
  rfl

theorem W5_v0 : (W5 m ρ c (Proc.devRef .tc main_v0) : S4096x2048.Idx → EReal) = arg0 m c :=
  (W5_of m ρ c main_v0 (by decide +kernel)).trans ((W4_of m ρ c main_v0 (by decide +kernel)).trans
    ((W3_of m ρ c main_v0 (by decide +kernel)).trans ((W2_of m ρ c main_v0 (by decide +kernel)).trans (W1_v0 m ρ c))))

theorem W6_hT : (W6 m ρ c (Proc.devRef .tc main_v8) : S2048x4096.Idx → EReal)
    = transpose S2048x4096 [1, 0] (arg0 m c : S4096x2048.Idx → EReal) transposes_S4096x2048_S2048x4096_1_0 := by
  rw [← W5_v0 m ρ c]
  unfold W6; after_reads_simp
theorem W6_dgu : (W6 m ρ c (Proc.devRef .tc main_v6) : S2x4096x5632.Idx → EReal)
    = fun i => dgu (mat (arg0 m c)) (mat (arg1 m c)) (mat (arg2 m c)) (mat (arg4 m c)) (i 0) (i 1) (i 2) :=
  (W6_of m ρ c main_v6 (by decide +kernel)).trans ((W5_of m ρ c main_v6 (by decide +kernel)).trans (W4_dgu m ρ c))

/-- The gradient of the fused weight, from the arguments. -/
def dw (h : Mat 4096 2048) (w : Mat 2048 11264) (wd : Mat 5632 2048) (ct : Mat 4096 2048) : Mat 2048 11264 :=
  fun d x => ∑ t : Fin 4096, h t d * dgu h w wd ct (half x) t (place x)

theorem hT_apply (x : S4096x2048.Idx → EReal) (d : Fin 2048) (t : Fin 4096) :
    mat (transpose S2048x4096 [1, 0] x transposes_S4096x2048_S2048x4096_1_0) d t = mat x t d := by
  refine transpose_apply [1, 0] x _ (ix2 d t) (ix2 t d) fun b => ?_
  match b with
  | ⟨0, _⟩ => rfl
  | ⟨1, _⟩ => rfl

theorem W7_dw0 : (W7 m ρ c (Proc.devRef .tc main_v9_0) : S2048x11264.Idx → EReal)
    = fun i => dw (mat (arg0 m c)) (mat (arg1 m c)) (mat (arg2 m c)) (mat (arg4 m c)) (i 0) (i 1) := by
  refine (W7_arr m ρ c 2).trans ((arr4_2 (V6 m ρ) c).trans ?_)
  show (fun i : S2048x11264.Idx => ∑ d : Fin 4096, mat (W6 m ρ c (Proc.devRef .tc main_v8)) (i 0) d
        * (W6 m ρ c (Proc.devRef .tc main_v6) : S2x4096x5632.Idx → EReal) (ix3 (half (i 1)) d (place (i 1)))) = _
  rw [W6_hT, W6_dgu]
  exact funext fun i => Finset.sum_congr (M := EReal) rfl fun d _ => congrArg (· * _) (hT_apply _ _ _)
theorem W7_dw1 : (W7 m ρ c (Proc.devRef .tc main_v9_1) : S2048x11264.Idx → EReal)
    = fun i => dw (mat (arg0 m c)) (mat (arg1 m c)) (mat (arg2 m c)) (mat (arg4 m c)) (i 0) (i 1) := by
  refine (W7_arr m ρ c 3).trans ((arr4_3 (V6 m ρ) c).trans ?_)
  show (fun i : S2048x11264.Idx => ∑ d : Fin 4096, mat (W6 m ρ c (Proc.devRef .tc main_v8)) (i 0) d
        * (W6 m ρ c (Proc.devRef .tc main_v6) : S2x4096x5632.Idx → EReal) (ix3 (half (i 1)) d (place (i 1)))) = _
  rw [W6_hT, W6_dgu]
  exact funext fun i => Finset.sum_congr (M := EReal) rfl fun d _ => congrArg (· * _) (hT_apply _ _ _)

theorem W7_y : (W7 m ρ c (Proc.devRef .tc main_v5) : S4096x2048.Idx → EReal)
    = fun i => mul (act (mat (arg0 m c)) (mat (arg1 m c))) (mat (arg2 m c)) (i 0) (i 1) + mat (arg3 m c) (i 0) (i 1) :=
  (W7_of m ρ c main_v5 (by decide +kernel)).trans ((W6_of m ρ c main_v5 (by decide +kernel)).trans
    ((W5_of m ρ c main_v5 (by decide +kernel)).trans ((W4_of m ρ c main_v5 (by decide +kernel)).trans (W3_y m ρ c))))
theorem W7_dwd0 : (W7 m ρ c (Proc.devRef .tc main_v7_0) : S5632x2048.Idx → EReal)
    = fun i => tmul (act (mat (arg0 m c)) (mat (arg1 m c))) (mat (arg4 m c)) (i 0) (i 1) :=
  (W7_of m ρ c main_v7_0 (by decide +kernel)).trans ((W6_of m ρ c main_v7_0 (by decide +kernel)).trans (W5_dwd0 m ρ c))
theorem W7_dwd1 : (W7 m ρ c (Proc.devRef .tc main_v7_1) : S5632x2048.Idx → EReal)
    = fun i => tmul (act (mat (arg0 m c)) (mat (arg1 m c))) (mat (arg4 m c)) (i 0) (i 1) :=
  (W7_of m ρ c main_v7_1 (by decide +kernel)).trans ((W6_of m ρ c main_v7_1 (by decide +kernel)).trans (W5_dwd1 m ρ c))

end Cert.Feed

end
-- ==== Proof.FeedDw.lean ====
/- The reference's gradient of the fused weight, of real arrays. -/
module

public import proofs.«01_k».proof.Proof.FeedRef
public import proofs.«01_k».proof.Proof.FeedReal
public import proofs.«01_k».proof.Proof.FeedVal

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe
open Cert.FfnReferenceIdeal Cert.FfnReferenceIdeal.Gen Cert.FfnReferenceIdeal.Read

variable (x0 x4 : FVec Ideal ⟨2, ![4096, 2048]⟩ .f32) (x1 : FVec Ideal ⟨2, ![2048, 11264]⟩ .f32) (x2 : FVec Ideal ⟨2, ![5632, 2048]⟩ .f32)
variable (h0 : IsReal (mat x0)) (h1 : IsReal (mat x1)) (h2 : IsReal (mat x2)) (h4 : IsReal (mat x4))
include h0 h1 h2 h4

/-- The gradient at the gate product is the kernel's. -/
theorem ref_dgate' (t : Fin 4096) (f : Fin 5632) : (val_main_v11 (F := Ideal) x0 x1 x2 x4 (ix2 t f) : EReal)
    = dgu (mat x0) (mat x1) (mat x2) (mat x4) 0 t f := by
  refine (ref_dgate x0 x4 x1 x2 t f).trans ?_
  unfold dgu gu
  rw [if_pos rfl]
  exact (gate_eq (h4.mulT h2 t f) (h0.mul h1 t (hi f)) (h0.mul h1 t (lo f))).symm

/-- The two gradients side by side. -/
theorem ref_cat (t : Fin 4096) (x : Fin 11264) : (val_main_v12 (F := Ideal) x0 x1 x2 x4 (ix2 t x) : EReal)
    = dgu (mat x0) (mat x1) (mat x2) (mat x4) (half x) t (place x) := by
  unfold val_main_v12
  by_cases hx : x.val < 5632
  · refine (concatenate_pair_apply_left (s₁ := S4096x5632) (s₂ := S4096x5632) (t := S4096x11264) 1 _ _
      concatenates_S4096x5632_S4096x5632_S4096x11264_d1 _ rfl (ix2 t (⟨x.val, hx⟩ : Fin 5632)) (by
        intro b; match b with | ⟨0, _⟩ => rfl | ⟨1, _⟩ => rfl)).trans ?_
    refine (ref_dgate' x0 x4 x1 x2 h0 h1 h2 h4 t ⟨x.val, hx⟩).trans ?_
    rw [show half x = 0 from Fin.ext (by show x.val / 5632 = 0; omega),
      show place x = ⟨x.val, hx⟩ from Fin.ext (by show x.val % 5632 = x.val; omega)]
  · refine (concatenate_pair_apply_right (s₁ := S4096x5632) (s₂ := S4096x5632) (t := S4096x11264) 1 _ _
      concatenates_S4096x5632_S4096x5632_S4096x11264_d1 _ rfl rfl (ix2 t (⟨x.val - 5632, by omega⟩ : Fin 5632)) (by
        intro b hb; match b with | ⟨0, _⟩ => rfl | ⟨1, _⟩ => exact absurd rfl hb)
        (by show x.val - 5632 + 5632 = x.val; omega)).trans ?_
    refine (ref_dup x0 x4 x1 x2 t ⟨x.val - 5632, by omega⟩).trans ?_
    rw [show half x = 1 from Fin.ext (by show x.val / 5632 = 1; omega),
      show place x = ⟨x.val - 5632, by omega⟩ from Fin.ext (by show x.val % 5632 = x.val - 5632; omega)]

/-- The gradient of the fused weight. -/
theorem ref_dw (d : Fin 2048) (x : Fin 11264) : (val_main_v14 (F := Ideal) x0 x1 x2 x4 (ix2 d x) : EReal)
    = dw (mat x0) (mat x1) (mat x2) (mat x4) d x := by
  have e : idx_main_v14 (ix2 d x) = ix2 x d := funext fun a => by
    match a with
    | ⟨0, _⟩ => rfl
    | ⟨1, _⟩ => rfl
  refine (val_main_v14_apply (F := Ideal) x0 x1 x2 x4 _).trans ?_
  rw [e]
  refine (val_main_v13_apply x0 x1 x2 x4 _).trans (Finset.sum_congr (M := EReal) rfl fun t _ => ?_)
  refine (mul_comm (G := EReal) _ _).trans ?_
  refine congr (congrArg (fun a b : EReal => a * b) (congrArg x0 (funext fun a => ?_))) ((congrArg (val_main_v12 (F := Ideal) x0 x1 x2 x4) (funext fun a => ?_)).trans (ref_cat x0 x4 x1 x2 h0 h1 h2 h4 t x))
  · match a with
    | ⟨0, _⟩ => rfl
    | ⟨1, _⟩ => rfl
  · match a with
    | ⟨0, _⟩ => rfl
    | ⟨1, _⟩ => rfl

end Cert.Feed

end
-- ==== Proof.FeedFinal.lean ====
/- The claims about the feed-forward layer. -/
module

public import proofs.«01_k».proof.Defs
public import proofs.«01_k».proof.Proof.FeedRun
public import proofs.«01_k».proof.Proof.FeedDw
public import proofs.«01_k».proof.Proof.Finite
public import proofs.«01_k».proof.Proof.Gen.Ffn.Frame
public import proofs.«01_k».proof.Proof.Gen.FfnReferenceIdeal.Run
public import proofs.«01_k».proof.Proof.Gen.Pre_finite2
public import Idealize.ShloMosaic.Adequacy
public import Idealize.ShloMosaic.Init

@[expose] public section

noncomputable section

namespace Cert.Feed

open Idealize.ShloMosaic hiding ix1 ix2 ix3 ix4 eq_ix1 eq_ix2 eq_ix3 eq_ix4
open Idealize.ShloMosaic.ValueIdx Idealize.ShloMosaic.TcCoe Idealize.SL.Sem

/-- An array every element of which is below infinity is real. -/
theorem isReal_of_lt {a b : ℕ} (x : FVec Ideal ⟨2, ![a, b]⟩ .f32)
    (h : ∀ i, Ideal.cmp .olt (max (x i : EReal) (-(x i : EReal))) (Ideal.ofBits .f32 0x7F800000#32) = 1#1) : IsReal (mat x) := fun i j =>
  ⟨_, Cert.Attn.real_of_lt _ (h (ix2 i j))⟩

section
variable (m : (ℓ : Loc Cert.FfnIdeal.nD Cert.FfnIdeal.τ Cert.FfnIdeal.sig) → Buf (Elt Ideal) ℓ) (ρ : Dev Cert.FfnIdeal.nD → PrngReg) (c : Dev Cert.FfnIdeal.nD)

/-- The layer's result equals the reference's. -/
theorem same_y : (Cert.FfnIdeal.Gen.W7 m ρ c (Proc.devRef .tc Cert.FfnIdeal.main_v5) : FVec Ideal ⟨2, ![4096, 2048]⟩ .f32)
    = Cert.FfnReferenceIdeal.Read.val_main_v16 (F := Ideal) (arg0 m c) (arg1 m c) (arg2 m c) (arg3 m c) := by
  refine (W7_y m ρ c).trans (funext fun i => ?_)
  obtain ⟨t, j, rfl⟩ : ∃ (t : Fin 4096) (j : Fin 2048), i = ix2 t j := ⟨i 0, i 1, eq_ix2 i⟩
  exact (ref_y (arg0 m c) (arg3 m c) (arg1 m c) (arg2 m c) t j).symm

/-- The gradient of the second weight equals the reference's. -/
theorem same_dwd0 : (Cert.FfnIdeal.Gen.W7 m ρ c (Proc.devRef .tc Cert.FfnIdeal.main_v7_0) : FVec Ideal ⟨2, ![5632, 2048]⟩ .f32)
    = Cert.FfnReferenceIdeal.Read.val_main_v7 (F := Ideal) (arg0 m c) (arg1 m c) (arg4 m c) := by
  refine (W7_dwd0 m ρ c).trans (funext fun i => ?_)
  obtain ⟨t, j, rfl⟩ : ∃ (t : Fin 5632) (j : Fin 2048), i = ix2 t j := ⟨i 0, i 1, eq_ix2 i⟩
  exact (ref_dwd (arg0 m c) (arg4 m c) (arg1 m c) t j).symm

/-- Its rounded copy equals the reference's. -/
theorem same_dwd1 : (Cert.FfnIdeal.Gen.W7 m ρ c (Proc.devRef .tc Cert.FfnIdeal.main_v7_1) : FVec Ideal ⟨2, ![5632, 2048]⟩ .bf16)
    = Cert.FfnReferenceIdeal.Read.val_main_v17 (F := Ideal) (arg0 m c) (arg1 m c) (arg4 m c) := by
  refine (W7_dwd1 m ρ c).trans (funext fun i => ?_)
  obtain ⟨t, j, rfl⟩ : ∃ (t : Fin 5632) (j : Fin 2048), i = ix2 t j := ⟨i 0, i 1, eq_ix2 i⟩
  exact (ref_dwd (arg0 m c) (arg4 m c) (arg1 m c) t j).symm

variable (h0 : IsReal (mat (arg0 m c))) (h1 : IsReal (mat (arg1 m c))) (h2 : IsReal (mat (arg2 m c))) (h4 : IsReal (mat (arg4 m c)))
include h0 h1 h2 h4

/-- The gradient of the fused weight equals the reference's. -/
theorem same_dw0 : (Cert.FfnIdeal.Gen.W7 m ρ c (Proc.devRef .tc Cert.FfnIdeal.main_v9_0) : FVec Ideal ⟨2, ![2048, 11264]⟩ .f32)
    = Cert.FfnReferenceIdeal.Read.val_main_v14 (F := Ideal) (arg0 m c) (arg1 m c) (arg2 m c) (arg4 m c) := by
  refine (W7_dw0 m ρ c).trans (funext fun i => ?_)
  obtain ⟨t, j, rfl⟩ : ∃ (t : Fin 2048) (j : Fin 11264), i = ix2 t j := ⟨i 0, i 1, eq_ix2 i⟩
  exact (ref_dw (arg0 m c) (arg4 m c) (arg1 m c) (arg2 m c) h0 h1 h2 h4 t j).symm

/-- Its rounded copy equals the reference's. -/
theorem same_dw1 : (Cert.FfnIdeal.Gen.W7 m ρ c (Proc.devRef .tc Cert.FfnIdeal.main_v9_1) : FVec Ideal ⟨2, ![2048, 11264]⟩ .bf16)
    = Cert.FfnReferenceIdeal.Read.val_main_v18 (F := Ideal) (arg0 m c) (arg1 m c) (arg2 m c) (arg4 m c) := by
  refine (W7_dw1 m ρ c).trans (funext fun i => ?_)
  obtain ⟨t, j, rfl⟩ : ∃ (t : Fin 2048) (j : Fin 11264), i = ix2 t j := ⟨i 0, i 1, eq_ix2 i⟩
  exact (ref_dw (arg0 m c) (arg4 m c) (arg1 m c) (arg2 m c) h0 h1 h2 h4 t j).symm

end

/-- The kernel runs without fault and leaves its arguments. -/
theorem frame_k : Cert.quiescent_Ffn := fun m ρ _ => Cert.Ffn.Gen.frame m ρ

/-- The idealised kernel runs without fault and leaves its arguments. -/
theorem frame_ki : Cert.quiescent_FfnIdeal := fun m ρ _ => Cert.FfnIdeal.Gen.frame m ρ

/-- The same, of inputs satisfying the precondition. -/
theorem frame_kif : Cert.quiescent_FfnIdeal_pre_finite2 := fun m ρ _ => Cert.FfnIdeal.Gen.frame m ρ

/-- The reference runs without fault and leaves its arguments. -/
theorem frame_r : Cert.quiescent_FfnReferenceIdeal := fun m ρ _ =>
  (θ_run Cert.FfnReferenceIdeal.defs _ _).mono (fun r h => ⟨fun c => (h c).2.2.2.2.2,
    Idealize.ShloMosaic.sem_eq_zero_of_no_sems (by decide) r.2⟩) (Cert.FfnReferenceIdeal.Value.run (F := Ideal) m ρ)

/-- The same, of inputs satisfying the precondition. -/
theorem frame_rf : Cert.quiescent_FfnReferenceIdeal_pre_finite2 := fun m ρ _ =>
  (θ_run Cert.FfnReferenceIdeal.defs _ _).mono (fun r h => ⟨fun c => (h c).2.2.2.2.2,
    Idealize.ShloMosaic.sem_eq_zero_of_no_sems (by decide) r.2⟩) (Cert.FfnReferenceIdeal.Value.run (F := Ideal) m ρ)

/-- The idealised kernel is the kernel. -/
theorem preserves : Cert.preserves_Ffn_FfnIdeal := trivial

/-- Of finite inputs, the kernel's five results are the reference's. -/
theorem algebraic : Cert.algebraic_FfnIdeal_FfnReferenceIdeal_pre_finite2 := by
  intro m ρ m' ρ' hpre hagree
  have h0 (c : Dev Cert.FfnIdeal.nD) := isReal_of_lt (arg0 m c) fun i => congrFun (hpre c).1 i
  have h1 (c : Dev Cert.FfnIdeal.nD) := isReal_of_lt (arg1 m c) fun i => congrFun (hpre c).2.1 i
  have h2 (c : Dev Cert.FfnIdeal.nD) := isReal_of_lt (arg2 m c) fun i => congrFun (hpre c).2.2.1 i
  have h4 (c : Dev Cert.FfnIdeal.nD) := isReal_of_lt (arg4 m c) fun i => congrFun (hpre c).2.2.2 i
  refine ⟨fun c => Cert.FfnReferenceIdeal.Read.val_main_v16 (F := Ideal) (arg0 m c) (arg1 m c) (arg2 m c) (arg3 m c),
    fun c => Cert.FfnReferenceIdeal.Read.val_main_v7 (F := Ideal) (arg0 m c) (arg1 m c) (arg4 m c),
    fun c => Cert.FfnReferenceIdeal.Read.val_main_v17 (F := Ideal) (arg0 m c) (arg1 m c) (arg4 m c),
    fun c => Cert.FfnReferenceIdeal.Read.val_main_v14 (F := Ideal) (arg0 m c) (arg1 m c) (arg2 m c) (arg4 m c),
    fun c => Cert.FfnReferenceIdeal.Read.val_main_v18 (F := Ideal) (arg0 m c) (arg1 m c) (arg2 m c) (arg4 m c), ?_, ?_⟩
  · refine (θ_run Cert.FfnIdeal.defs _ _).mono (fun _ h c => ⟨(h c).1.trans (same_y m ρ c), (h c).2.1.trans (same_dwd0 m ρ c),
      (h c).2.2.1.trans (same_dwd1 m ρ c), (h c).2.2.2.1.trans (same_dw0 m ρ c (h0 c) (h1 c) (h2 c) (h4 c)),
      (h c).2.2.2.2.1.trans (same_dw1 m ρ c (h0 c) (h1 c) (h2 c) (h4 c)), (h c).2.2.2.2.2⟩) (run m ρ)
  · refine (θ_run Cert.FfnReferenceIdeal.defs _ _).mono (fun _ h c => ?_) (Cert.FfnReferenceIdeal.Value.run (F := Ideal) m' ρ')
    have e := hagree c
    refine ⟨(h c).1.trans ?_, (h c).2.1.trans ?_, (h c).2.2.1.trans ?_, (h c).2.2.2.1.trans ?_, (h c).2.2.2.2.1.trans ?_, (h c).2.2.2.2.2⟩
    · rw [Cert.FfnReferenceIdeal.Read.val_main_v16_eq, e.1, e.2.1, e.2.2.1, e.2.2.2.1]
    · rw [Cert.FfnReferenceIdeal.Read.val_main_v7_eq, e.1, e.2.1, e.2.2.2.2]
    · refine (Cert.FfnReferenceIdeal.Read.val_main_v17_eq _ _ _).trans ?_
      rw [e.1, e.2.1, e.2.2.2.2]
    · rw [Cert.FfnReferenceIdeal.Read.val_main_v14_eq, e.1, e.2.1, e.2.2.1, e.2.2.2.2]
    · refine (Cert.FfnReferenceIdeal.Read.val_main_v18_eq _ _ _ _).trans ?_
      rw [e.1, e.2.1, e.2.2.1, e.2.2.2.2]

end Cert.Feed

end
-- ==== Proof.InOut.lean ====
/- The gradient of the layer's input: what the kernel's run leaves at one grid point, and the sum it carries. -/
module

public import proofs.«01_k».proof.Proof.FeedModel
public import proofs.«01_k».proof.Proof.FeedPay
public import proofs.«01_k».proof.Proof.Gen.FfnInputIdeal.Value
public import Idealize.ShloMosaic.Lib.Tactic
public import Idealize.ShloMosaic.Lib.StableHlo.RunRead

@[expose] public section

set_option maxRecDepth 16384

noncomputable section

namespace Cert.FeedIn

open Idealize.ShloMosaic hiding ix1 ix2 ix3 ix4 eq_ix1 eq_ix2 eq_ix3 eq_ix4
open Idealize.ShloMosaic.ValueIdx Idealize.ShloMosaic.TcCoe
open Cert.Feed (Mat half place)
open Cert.FfnInputIdeal Cert.FfnInputIdeal.Gen

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A load of the whole carried sum reads what its stores left. -/
theorem readAcc {κ : Kind} {sp : Space} (v : View sig κ sp S512x2048 .f32) (L : List (View.Piece (Elt Ideal) S512x2048 .f32))
    (inb : ∀ a, (![0, 0] : Fin 2 → ℕ) a + (![512, 2048] : Fin 2 → ℕ) a ≤ S512x2048.size a) :
    v.readCov L (Rect.unit (s := S512x2048) ![0, 0] ![512, 2048] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

/-- A whole store decides what an array holds. -/
theorem canonAcc {e : EltTy} (w : S512x2048.Idx → Elt Ideal e) (L : List (View.Piece (Elt Ideal) S512x2048 e))
    (inb : ∀ a, (![0, 0] : Fin 2 → ℕ) a + (![512, 2048] : Fin 2 → ℕ) a ≤ S512x2048.size a) :
    View.canon (⟨Rect.unit (s := S512x2048) ![0, 0] ![512, 2048] inb, w⟩ :: L) = w :=
  View.canon_cons_unit_zero (S := S512x2048) zeros2 inb w L

section Runs
variable (c : Dev nD) (i : grid0.Coords) (arg3 : Memref sig .tc .vmem S1x512x2816 .bf16) (harg3 : arg3.IsWhole) (arg4 : Memref sig .tc .vmem S2048x2816 .bf16) (harg4 : arg4.IsWhole)
  (arg5 : Memref sig .tc .vmem S512x2048 .f32) (harg5 : arg5.IsWhole) (arg6 : Memref sig .tc .vmem S512x2048 .f32) (harg6 : arg6.IsWhole)
  (x0 : Vec Ideal S1x512x2816 .bf16) (x1 : Vec Ideal S2048x2816 .bf16) (xs0 : Vec Ideal S512x2048 .f32)

/-- The carried sum after the first block. -/
theorem acc_A (hc0 : cond0_0 i) (hc1 : ¬cond0_1 i) :
    sout0_A_0 (F := Ideal) c i arg3 harg3 arg4 harg4 arg5 harg5 arg6 harg6 hc0 hc1 x0 x1 = k0_pay2 (F := Ideal) (k0_pay1 (F := Ideal)) x0 x1 := by
  unfold sout0_A_0; rw [View.read_writes_junk_eq_canon]; unfold kernelRun0_A; dsimp only; sl_unfold_words
  simp only [View.readAt_eq_ld, harg3.read_unread, harg4.read_unread, View.ld_unit_zero (S := S1x512x2816) zeros3, View.ld_unit_zero (S := S2048x2816) zeros2, View.ld_unit_zero (S := S512x2048) zeros2]
  simp only [canonAcc, readAcc]

/-- The carried sum after a block between. -/
theorem acc_B (hc0 : ¬cond0_0 i) (hc1 : ¬cond0_1 i) :
    sout0_B_0 (F := Ideal) c i arg3 harg3 arg4 harg4 arg5 harg5 arg6 harg6 hc0 hc1 x0 x1 xs0 = k0_pay2 (F := Ideal) xs0 x0 x1 := by
  unfold sout0_B_0; rw [View.read_writes_junk_eq_canon]; unfold kernelRun0_B; dsimp only; sl_unfold_words
  simp only [View.readAt_eq_ld, harg3.read_unread, harg4.read_unread, harg6.read_unread, View.ld_unit_zero (S := S1x512x2816) zeros3, View.ld_unit_zero (S := S2048x2816) zeros2, View.ld_unit_zero (S := S512x2048) zeros2]
  simp only [canonAcc, readAcc]

/-- The carried sum after the last block. -/
theorem acc_C (hc0 : ¬cond0_0 i) (hc1 : cond0_1 i) :
    sout0_C_0 (F := Ideal) c i arg3 harg3 arg4 harg4 arg5 harg5 arg6 harg6 hc0 hc1 x0 x1 xs0 = k0_pay2 (F := Ideal) xs0 x0 x1 := by
  unfold sout0_C_0; rw [View.read_writes_junk_eq_canon]; unfold kernelRun0_C; dsimp only; sl_unfold_words
  simp only [View.readAt_eq_ld, harg3.read_unread, harg4.read_unread, harg6.read_unread, View.ld_unit_zero (S := S1x512x2816) zeros3, View.ld_unit_zero (S := S2048x2816) zeros2, View.ld_unit_zero (S := S512x2048) zeros2]
  simp only [canonAcc, readAcc]

/-- The block written after the last block. -/
theorem out_C (hc0 : ¬cond0_0 i) (hc1 : cond0_1 i) :
    out0_C_2 (F := Ideal) c i arg3 harg3 arg4 harg4 arg5 harg5 arg6 harg6 hc0 hc1 x0 x1 xs0 = k0_pay2 (F := Ideal) xs0 x0 x1 := by
  unfold out0_C_2; rw [View.read_writes_junk_eq_canon]; unfold kernelRun0_C; dsimp only; sl_unfold_words
  simp only [View.readAt_eq_ld, harg3.read_unread, harg4.read_unread, harg6.read_unread, View.ld_unit_zero (S := S1x512x2816) zeros3, View.ld_unit_zero (S := S2048x2816) zeros2, View.ld_unit_zero (S := S512x2048) zeros2]
  simp only [canonAcc, readAcc]

/-- The carried sum starts at zero. -/
theorem pay1_apply (j : S512x2048.Idx) : (k0_pay1 (F := Ideal) j : EReal) = 0 := by
  unfold k0_pay1
  rw [shapeCast_self, broadcast_apply]
  exact Ideal.ofBits_zero_f32

/-- What one point adds to the carried sum. -/
theorem pay2_apply (a : Fin 512) (b : Fin 2048) :
    k0_pay2 (F := Ideal) xs0 x0 x1 (ix2 a b) = (xs0 (ix2 a b) : EReal) + ∑ k : Fin 2816, (x0 (ix3 0 a k) : EReal) * (x1 (ix2 b k) : EReal) := by
  unfold k0_pay2
  simp only [shapeCast_self]
  show (xs0 (ix2 a b) : EReal) + Ideal.matmul _ _ _ _ _ = _
  rw [Ideal.matmul_apply₁_of _ (a := 1) rfl (K := 2816) rfl _ _ _ _ (fun d => ix2 a d) (fun d => ix2 b d)
    (fun k => by funext e; match e with | ⟨0, _⟩ => rfl | ⟨1, _⟩ => rfl)
    (fun k => by funext e; match e with | ⟨0, _⟩ => rfl | ⟨1, _⟩ => rfl)]
  rw [constant_apply, Ideal.ofBits_zero_f32, zero_add]
  refine congrArg (fun z : EReal => (xs0 (ix2 a b) : EReal) + z) (Finset.sum_congr (M := EReal) rfl fun k _ => ?_)
  exact congrArg (fun z : EReal => z * (x1 (ix2 b k) : EReal)) (Cert.Feed.shapeCast_drop_pre x0 _ a k)

end Runs

variable (m : (ℓ : Loc nD τ sig) → Buf (Elt Ideal) ℓ) (c : Dev nD)

/-- The gradient's block and the weights' block of point `t`. -/
def dblk (t : Fin cfg0.N) : FVec Ideal S1x512x2816 .bf16 := iblk m c 0 t
def wblk (t : Fin cfg0.N) : FVec Ideal S2048x2816 .bf16 := iblk m c 1 t

/-- What point `t` adds at a place of the carried sum. -/
def term (t : Fin cfg0.N) (j : S512x2048.Idx) : EReal :=
  ∑ k : Fin 2816, (dblk m c t (ix3 0 (j 0) k) : EReal) * (wblk m c t (ix2 (j 1) k) : EReal)

theorem step_apply (t : Fin cfg0.N) (x : Vec Ideal S512x2048 .f32) (j : S512x2048.Idx) :
    k0_pay2 (F := Ideal) x (iblk m c 0 t) (iblk m c 1 t) j = (x j : EReal) + term m c t j := by
  obtain ⟨a, b, rfl⟩ : ∃ (a : Fin 512) (b : Fin 2048), j = ix2 a b := ⟨j 0, j 1, eq_ix2 j⟩
  exact pay2_apply (iblk m c 0 t) (iblk m c 1 t) x a b

/-- The carried sum is started at the first block of a run. -/
theorem first (t : Fin cfg0.N) (h0 : t.val % 4 = 0) (j : S512x2048.Idx) :
    ((outsAt0 m c t.val t.isLt).2 j : EReal) = 0 + term m c t j := by
  rw [outsAt0_A m c t h0 (by omega)]
  dsimp only
  rw [acc_A]
  refine (step_apply m c t _ j).trans ?_
  rw [pay1_apply]

/-- Each further block adds its term. -/
theorem next (t : Fin cfg0.N) (h0 : ¬t.val % 4 = 0) (j : S512x2048.Idx) :
    ((outsAt0 m c t.val t.isLt).2 j : EReal)
      = ((outsAt0 m c (t.val - 1) (Nat.lt_of_le_of_lt (Nat.sub_le _ _) t.isLt)).2 j : EReal) + term m c t j := by
  by_cases h1 : t.val % 4 = 3
  · rw [outsAt0_C m c t h0 h1]
    dsimp only
    rw [acc_C]
    exact step_apply m c t _ j
  · rw [outsAt0_B m c t h0 h1]
    dsimp only
    rw [acc_B]
    exact step_apply m c t _ j

/-- The block written is the carried sum. -/
theorem out_eq (t : Fin cfg0.N) (h1 : t.val % 4 = 3) : (outsAt0 m c t.val t.isLt).1 = (outsAt0 m c t.val t.isLt).2 := by
  have h0 : ¬t.val % 4 = 0 := by omega
  rw [outsAt0_C m c t h0 h1]
  dsimp only
  rw [acc_C, out_C]

/-- The block written is the sum of its run's four terms. -/
theorem out_sum (t : Fin cfg0.N) (h1 : t.val % 4 = 3) (j : S512x2048.Idx) : ((outsAt0 m c t.val t.isLt).1 j : EReal)
    = ∑ s : Fin 4, term m c ⟨4 * (t.val / 4) + s.val, Pipeline.run_point_lt_of_flush t h1 s⟩ j := by
  rw [out_eq m c t h1]
  refine (Pipeline.eq_sum_fin_of_reset_step_apply_of_flush (M := EReal) (fun n h => (outsAt0 m c n h).2) 4 (fun _ => 0) (term m c)
    (fun t h0 j => first m c t h0 j) (fun t h0 j => next m c t h0 j) t h1 j).trans ?_
  exact zero_add _

end Cert.FeedIn

end
-- ==== Proof.InVal.lean ====
/- The gradient of the layer's input: the array the kernel leaves, and the reference's. -/
module

public import proofs.«01_k».proof.Proof.InOut

@[expose] public section

set_option maxRecDepth 16384

noncomputable section

namespace Cert.FeedIn

open Idealize.ShloMosaic hiding ix1 ix2 ix3 ix4 eq_ix1 eq_ix2 eq_ix3 eq_ix4
open Idealize.ShloMosaic.ValueIdx Idealize.ShloMosaic.TcCoe
open Cert.Feed (Mat half place)
open Cert.FfnInputIdeal Cert.FfnInputIdeal.Gen

/-- The gradient of the layer's input, of the gradients of the two halves and the weights. -/
def dh (D : FVec Ideal S2x4096x5632 .f32) (W : FVec Ideal S2048x11264 .f32) (i : S4096x2048.Idx) : EReal :=
  ∑ x : Fin 11264, (D (ix3 (half x) (i 0) (place x)) : EReal) * (W (ix2 (i 1) x) : EReal)

theorem map_0 : ∀ t : Fin cfg0.N, cc0_transform_0 (cfg0.grid.coords t) 0 = t.val % 4 / 2 ∧ cc0_transform_0 (cfg0.grid.coords t) 1 = t.val / 4
    ∧ cc0_transform_0 (cfg0.grid.coords t) 2 = t.val % 2 := by
  decide +kernel
theorem map_1 : ∀ t : Fin cfg0.N, cc0_transform_1 (cfg0.grid.coords t) 0 = 0 ∧ cc0_transform_1 (cfg0.grid.coords t) 1 = t.val % 4 := by
  decide +kernel
theorem map_2 : ∀ t : Fin cfg0.N, cc0_transform_2 (cfg0.grid.coords t) 0 = t.val / 4 ∧ cc0_transform_2 (cfg0.grid.coords t) 1 = 0 := by
  decide +kernel

/-- The row and the column of the fused weight that point `n` reads at a place of its blocks. -/
def rowOf (n : ℕ) (a : Fin 512) : Fin 4096 := ⟨512 * (n / 4 % 8) + a.val, by omega⟩
def colOf (n : ℕ) (k : Fin 2816) : Fin 11264 := ⟨n % 4 * 2816 + k.val, by omega⟩

theorem read_0 (X : FVec Ideal S2x4096x5632 .bf16) (t : Fin cfg0.N) (a : Fin 512) (k : Fin 2816) :
    (((cfg0.win 0).blk t).view.read (Elt Ideal) X : FVec Ideal S1x512x2816 .bf16) (ix3 0 a k)
      = X (ix3 (half (colOf t.val k)) (rowOf t.val a) (place (colOf t.val k))) := by
  rw [View.read_apply]
  refine congrArg X ?_
  refine funext fun e => Fin.ext ?_
  have ht : t.val < 32 := t.isLt
  match e with
  | ⟨0, _⟩ =>
    show cc0_transform_0 (cfg0.grid.coords t) 0 * 1 + 1 * (0 : Fin 1).val = (t.val % 4 * 2816 + k.val) / 5632
    rw [(map_0 t).1]; omega
  | ⟨1, _⟩ =>
    show cc0_transform_0 (cfg0.grid.coords t) 1 * 512 + 1 * a.val = 512 * (t.val / 4 % 8) + a.val
    rw [(map_0 t).2.1]; omega
  | ⟨2, _⟩ =>
    show cc0_transform_0 (cfg0.grid.coords t) 2 * 2816 + 1 * k.val = (t.val % 4 * 2816 + k.val) % 5632
    rw [(map_0 t).2.2]; omega

theorem read_1 (X : FVec Ideal S2048x11264 .bf16) (t : Fin cfg0.N) (b : Fin 2048) (k : Fin 2816) :
    (((cfg0.win 1).blk t).view.read (Elt Ideal) X : FVec Ideal S2048x2816 .bf16) (ix2 b k) = X (ix2 b (colOf t.val k)) := by
  rw [View.read_apply]
  refine congrArg X ?_
  refine funext fun e => Fin.ext ?_
  have ht : t.val < 32 := t.isLt
  match e with
  | ⟨0, _⟩ =>
    show cc0_transform_1 (cfg0.grid.coords t) 0 * 2048 + 1 * b.val = b.val
    rw [(map_1 t).1]; omega
  | ⟨1, _⟩ =>
    show cc0_transform_1 (cfg0.grid.coords t) 1 * 2816 + 1 * k.val = t.val % 4 * 2816 + k.val
    rw [(map_1 t).2]; omega

theorem emb_2 (t : Fin cfg0.N) (a : Fin 512) (b : Fin 2048) :
    (((cfg0.win 2).blk t).view.emb (ix2 a b) : S4096x2048.Idx) = ix2 (rowOf t.val a) b := by
  refine funext fun e => Fin.ext ?_
  have ht : t.val < 32 := t.isLt
  match e with
  | ⟨0, _⟩ =>
    show cc0_transform_2 (cfg0.grid.coords t) 0 * 512 + 1 * a.val = 512 * (t.val / 4 % 8) + a.val
    rw [(map_2 t).1]; omega
  | ⟨1, _⟩ =>
    show cc0_transform_2 (cfg0.grid.coords t) 1 * 2048 + 1 * b.val = b.val
    rw [(map_2 t).2]; omega

variable (m : (ℓ : Loc nD τ sig) → Buf (Elt Ideal) ℓ) (c : Dev nD)

/-- The weights and the gradients of one device. -/
abbrev arg1 : FVec Ideal S2048x11264 .f32 := m ((c : Thread nD τ).loc main_arg1)
abbrev arg2 : FVec Ideal S2x4096x5632 .f32 := m ((c : Thread nD τ).loc main_arg2)

theorem V_v0 : (V m c main_v0 : FVec Ideal S2x4096x5632 .bf16) = truncf .bf16 (arg2 m c) bitsLt_bf16_f32 := by
  unfold V
  after_reads_simp

theorem V_v1 : (V m c main_v1 : FVec Ideal S2048x11264 .bf16) = truncf .bf16 (arg1 m c) bitsLt_bf16_f32 := by
  unfold V
  after_reads_simp

theorem dblk_apply (t : Fin cfg0.N) (a : Fin 512) (k : Fin 2816) :
    (dblk m c t (ix3 0 a k) : EReal) = (arg2 m c (ix3 (half (colOf t.val k)) (rowOf t.val a) (place (colOf t.val k))) : EReal) := by
  refine (read_0 (V m c main_v0) t a k).trans ?_
  rw [V_v0]
  rfl

theorem wblk_apply (t : Fin cfg0.N) (b : Fin 2048) (k : Fin 2816) :
    (wblk m c t (ix2 b k) : EReal) = (arg1 m c (ix2 b (colOf t.val k)) : EReal) := by
  refine (read_1 (V m c main_v1) t b k).trans ?_
  rw [V_v1]
  rfl

/-- The array the kernel leaves. -/
theorem arr : ((dats m 0 c).arrAt 2 cfg0.N : S4096x2048.Idx → EReal) = dh (arg2 m c) (arg1 m c) := by
  refine (dats m 0 c).arrAt_eq_of_covers 2 _ (by decide +kernel) fun t hf y => ?_
  obtain ⟨a, b, rfl⟩ : ∃ (a : Fin 512) (b : Fin 2048), y = ix2 a b := ⟨y 0, y 1, eq_ix2 y⟩
  rw [emb_2]
  have h1 : t.val % 4 = 3 := (flush0_2 t).1 hf
  refine (congrFun (after0_2 m c t) (ix2 a b)).trans ((out_sum m c t h1 (ix2 a b)).trans ?_)
  refine Eq.trans ?_ (Fin.sum_mul_add_fin 4 2816 (fun x : Fin 11264 =>
    (arg2 m c (ix3 (half x) (rowOf t.val a) (place x)) : EReal) * (arg1 m c (ix2 b x) : EReal)))
  refine Finset.sum_congr (M := EReal) rfl fun s _ => Finset.sum_congr (M := EReal) rfl fun k _ => ?_
  have hs : s.val < 4 := s.isLt
  have hc : colOf (4 * (t.val / 4) + s.val) k = ⟨s.val * 2816 + k.val, by omega⟩ := Fin.ext (by
    show (4 * (t.val / 4) + s.val) % 4 * 2816 + k.val = s.val * 2816 + k.val; omega)
  have hr : rowOf (4 * (t.val / 4) + s.val) a = rowOf t.val a := Fin.ext (by
    show 512 * ((4 * (t.val / 4) + s.val) / 4 % 8) + a.val = 512 * (t.val / 4 % 8) + a.val; omega)
  refine congrArg₂ (fun u v : EReal => u * v) ((dblk_apply m c _ a k).trans ?_) ((wblk_apply m c _ b k).trans ?_)
  · show (arg2 m c (ix3 (half (colOf (4 * (t.val / 4) + s.val) k)) (rowOf (4 * (t.val / 4) + s.val) a) (place (colOf (4 * (t.val / 4) + s.val) k))) : EReal) = _
    rw [hc, hr]
  · show (arg1 m c (ix2 b (colOf (4 * (t.val / 4) + s.val) k)) : EReal) = _
    rw [hc]

end Cert.FeedIn

end
-- ==== Proof.InRef.lean ====
/- The gradient of the layer's input: the reference's array. -/
module

public import proofs.«01_k».proof.Proof.InVal
public import proofs.«01_k».proof.Proof.Gen.FfnInputReferenceIdeal.Read

@[expose] public section

set_option maxRecDepth 16384

noncomputable section

namespace Cert.FeedIn

open Idealize.ShloMosaic hiding ix1 ix2 ix3 ix4 eq_ix1 eq_ix2 eq_ix3 eq_ix4
open Idealize.ShloMosaic.ValueIdx Idealize.ShloMosaic.TcCoe
open Cert.Feed (Mat half place)
open Cert.FfnInputReferenceIdeal Cert.FfnInputReferenceIdeal.Gen Cert.FfnInputReferenceIdeal.Read

/-- The two halves side by side. -/
theorem ref_cat (D : FVec Ideal S2x4096x5632 .f32) (t : Fin 4096) (x : Fin 11264) :
    (val_main_v7 (F := Ideal) D (ix2 t x) : EReal) = D (ix3 (half x) t (place x)) := by
  unfold val_main_v7
  by_cases hx : x.val < 5632
  · refine (concatenate_pair_apply_left (s₁ := S4096x5632) (s₂ := S4096x5632) (t := S4096x11264) 1 _ _
      concatenates_S4096x5632_S4096x5632_S4096x11264_d1 _ rfl (ix2 t (⟨x.val, hx⟩ : Fin 5632)) (by
        intro b; match b with | ⟨0, _⟩ => rfl | ⟨1, _⟩ => rfl)).trans ?_
    rw [val_main_v4_apply (F := Ideal), val_main_v3_apply (F := Ideal)]
    refine congrArg D (funext fun e => Fin.ext ?_)
    match e with
    | ⟨0, _⟩ => show (0 : ℕ) = x.val / 5632; omega
    | ⟨1, _⟩ => show (t.val * 5632 + x.val) / 5632 % 4096 = t.val; omega
    | ⟨2, _⟩ => show (t.val * 5632 + x.val) % 5632 = x.val % 5632; omega
  · refine (concatenate_pair_apply_right (s₁ := S4096x5632) (s₂ := S4096x5632) (t := S4096x11264) 1 _ _
      concatenates_S4096x5632_S4096x5632_S4096x11264_d1 _ rfl rfl (ix2 t (⟨x.val - 5632, by omega⟩ : Fin 5632)) (by
        intro b hb; match b with | ⟨0, _⟩ => rfl | ⟨1, _⟩ => exact absurd rfl hb)
        (by show x.val - 5632 + 5632 = x.val; omega)).trans ?_
    rw [val_main_v6_apply (F := Ideal), val_main_v5_apply (F := Ideal)]
    refine congrArg D (funext fun e => Fin.ext ?_)
    match e with
    | ⟨0, _⟩ => show 1 + 0 = x.val / 5632; omega
    | ⟨1, _⟩ => show (t.val * 5632 + (x.val - 5632)) / 5632 % 4096 = t.val; omega
    | ⟨2, _⟩ => show (t.val * 5632 + (x.val - 5632)) % 5632 = x.val % 5632; omega

/-- The reference's gradient. -/
theorem ref_dh (W : FVec Ideal S2048x11264 .f32) (D : FVec Ideal S2x4096x5632 .f32) :
    (val_main_v8 (F := Ideal) W D : S4096x2048.Idx → EReal) = dh D W := by
  funext i
  refine (val_main_v8_apply W D i).trans ?_
  unfold dh
  refine Finset.sum_congr (M := EReal) rfl fun x _ => ?_
  refine congrArg₂ (fun u v : EReal => u * v) ?_ ?_
  · rw [show lidx_main_v8 i x = ix2 (i 0) x from funext fun e => by match e with | ⟨0, _⟩ => rfl | ⟨1, _⟩ => rfl]
    exact ref_cat D (i 0) x
  · exact congrArg W (funext fun e => by match e with | ⟨0, _⟩ => rfl | ⟨1, _⟩ => rfl)

end Cert.FeedIn

end
-- ==== Proof.InFinal.lean ====
/- The claims about the gradient of the layer's input. -/
module

public import proofs.«01_k».proof.Defs
public import proofs.«01_k».proof.Proof.InVal
public import proofs.«01_k».proof.Proof.InRef
public import proofs.«01_k».proof.Proof.Gen.FfnInput.Frame
public import proofs.«01_k».proof.Proof.Gen.FfnInputReferenceIdeal.Run
public import Idealize.ShloMosaic.Adequacy
public import Idealize.ShloMosaic.Init

@[expose] public section

noncomputable section

namespace Cert.FeedIn

open Idealize.ShloMosaic hiding ix1 ix2 ix3 ix4 eq_ix1 eq_ix2 eq_ix3 eq_ix4
open Idealize.ShloMosaic.ValueIdx Idealize.ShloMosaic.TcCoe Idealize.SL.Sem

/-- The kernel runs without fault and leaves its arguments. -/
theorem frame_k : Cert.quiescent_FfnInput := fun m ρ _ => Cert.FfnInput.Gen.frame m ρ

/-- The idealised kernel runs without fault and leaves its arguments. -/
theorem frame_ki : Cert.quiescent_FfnInputIdeal := fun m ρ _ => Cert.FfnInputIdeal.Gen.frame m ρ

/-- The reference runs without fault and leaves its arguments. -/
theorem frame_r : Cert.quiescent_FfnInputReferenceIdeal := fun m ρ _ =>
  (θ_run Cert.FfnInputReferenceIdeal.defs _ _).mono (fun r h => ⟨fun c => (h c).2,
    Idealize.ShloMosaic.sem_eq_zero_of_no_sems (by decide) r.2⟩) (Cert.FfnInputReferenceIdeal.Value.run (F := Ideal) m ρ)

/-- The idealised kernel is the kernel. -/
theorem preserves : Cert.preserves_FfnInput_FfnInputIdeal := trivial

/-- The kernel's result is the reference's. -/
theorem algebraic : Cert.algebraic_FfnInputIdeal_FfnInputReferenceIdeal := by
  intro m ρ m' ρ' _ hagree
  refine ⟨fun c => Cert.FfnInputReferenceIdeal.Read.val_main_v8 (F := Ideal) (arg1 m c) (arg2 m c), ?_, ?_⟩
  · exact (θ_run Cert.FfnInputIdeal.defs _ _).mono (fun _ h c => ⟨(h c).1.trans ((arr m c).trans (ref_dh (arg1 m c) (arg2 m c)).symm), (h c).2⟩)
      (Cert.FfnInputIdeal.Value.run_blocks (F := Ideal) m ρ)
  · refine (θ_run Cert.FfnInputReferenceIdeal.defs _ _).mono (fun _ h c => ?_) (Cert.FfnInputReferenceIdeal.Value.run (F := Ideal) m' ρ')
    have e := hagree c
    refine ⟨(h c).1.trans ?_, (h c).2⟩
    rw [Cert.FfnInputReferenceIdeal.Read.val_main_v8_eq, e.2.1, e.2.2]

end Cert.FeedIn

end
-- ==== Proof.ProdOutRun.lean ====
/- What the output projection's program leaves: its run. -/
module

public import proofs.«01_k».proof.Proof.Gen.OutIdeal.Frame
public import proofs.«01_k».proof.Proof.FeedModel

@[expose] public section

set_option maxRecDepth 16384

noncomputable section

namespace Cert.ProdOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.OutIdeal Cert.OutIdeal.Gen

variable (m : (ℓ : Loc nD τ sig) → Buf (Elt Ideal) ℓ) (ρ : Dev nD → PrngReg)

set_option backward.isDefEq.respectTransparency.types false in
/-- The program's run: its four results as left by its last call, its arguments unchanged. -/
theorem run : θ_run defs (onTc (τ := τ) (main (F := Ideal))) ⟨m, fun _ => 0, ρ⟩ (fun r => ∀ c : Dev nD,
      r.2.mem ((c.tc : Thread nD τ).loc main_v3) = W4 m ρ c (Proc.devRef .tc main_v3)
      ∧ r.2.mem ((c.tc : Thread nD τ).loc main_v4) = W4 m ρ c (Proc.devRef .tc main_v4)
      ∧ r.2.mem ((c.tc : Thread nD τ).loc main_v5_0) = W4 m ρ c (Proc.devRef .tc main_v5_0)
      ∧ r.2.mem ((c.tc : Thread nD τ).loc main_v5_1) = W4 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v3 (by decide)),
       h c _ (mem_uc main_v4 (by decide)),
       h c _ (mem_uc main_v5_0 (by decide)),
       h c _ (mem_uc main_v5_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.ProdOut

end
-- ==== Proof.ProdOutArr.lean ====
/- The arrays the output projection's calls leave, at an index. -/
module

public import proofs.«01_k».proof.Proof.FeedArr0
public import proofs.«01_k».proof.Proof.Gen.OutIdeal.Frame

@[expose] public section

noncomputable section

namespace Cert.ProdOut

open Idealize.ShloMosaic hiding ix1 ix2 ix3 ix4 eq_ix1 eq_ix2 eq_ix3 eq_ix4
open Idealize.ShloMosaic.ValueIdx Idealize.ShloMosaic.TcCoe
open Cert.Feed (mul mulT tmul mat zero32)
open Cert.OutIdeal Cert.OutIdeal.Gen

theorem map0_0 : ∀ t : Fin cfg0.N, cc0_transform_0 (cfg0.grid.coords t) 0 = t.val / 2 ∧ cc0_transform_0 (cfg0.grid.coords t) 1 = 0 := by
  decide +kernel
theorem map0_1 : ∀ t : Fin cfg0.N, cc0_transform_1 (cfg0.grid.coords t) 0 = 0 ∧ cc0_transform_1 (cfg0.grid.coords t) 1 = t.val % 2 := by
  decide +kernel
theorem map0_2 : ∀ t : Fin cfg0.N, cc0_transform_2 (cfg0.grid.coords t) 0 = t.val / 2 ∧ cc0_transform_2 (cfg0.grid.coords t) 1 = t.val % 2 := by
  decide +kernel
theorem map0_3 : ∀ t : Fin cfg0.N, cc0_transform_3 (cfg0.grid.coords t) 0 = t.val / 2 ∧ cc0_transform_3 (cfg0.grid.coords t) 1 = t.val % 2 := by
  decide +kernel

/-- The row of the result that row `a` of point `n`'s block is. -/
def row0 (n : ℕ) (a : Fin 1024) : Fin 4096 := ⟨1024 * (n / 2 % 4) + a.val, by omega⟩
/-- The column of the result that column `b` of point `n`'s block is. -/
def col0 (n : ℕ) (b : Fin 1024) : Fin 2048 := ⟨1024 * (n % 2) + b.val, by omega⟩

theorem blk0_0 (X : FVec Ideal S4096x2048 .bf16) (t : Fin cfg0.N) (a : Fin 1024) (d : Fin 2048) :
    (((cfg0.win 0).blk t).view.read (Elt Ideal) X : FVec Ideal S1024x2048 .bf16) (ix2 a d) = X (ix2 (row0 t.val a) d) := by
  rw [View.read_apply]
  refine congrArg X (funext fun e => Fin.ext ?_)
  have ht : t.val < 8 := t.isLt
  match e with
  | ⟨0, _⟩ =>
    show cc0_transform_0 (cfg0.grid.coords t) 0 * 1024 + 1 * a.val = 1024 * (t.val / 2 % 4) + a.val
    rw [(map0_0 t).1]; omega
  | ⟨1, _⟩ =>
    show cc0_transform_0 (cfg0.grid.coords t) 1 * 2048 + 1 * d.val = d.val
    rw [(map0_0 t).2]; omega

theorem blk0_1 (X : FVec Ideal S2048x2048 .bf16) (t : Fin cfg0.N) (d : Fin 2048) (b : Fin 1024) :
    (((cfg0.win 1).blk t).view.read (Elt Ideal) X : FVec Ideal S2048x1024 .bf16) (ix2 d b) = X (ix2 d (col0 t.val b)) := by
  rw [View.read_apply]
  refine congrArg X (funext fun e => Fin.ext ?_)
  have ht : t.val < 8 := t.isLt
  match e with
  | ⟨0, _⟩ =>
    show cc0_transform_1 (cfg0.grid.coords t) 0 * 2048 + 1 * d.val = d.val
    rw [(map0_1 t).1]; omega
  | ⟨1, _⟩ =>
    show cc0_transform_1 (cfg0.grid.coords t) 1 * 1024 + 1 * b.val = 1024 * (t.val % 2) + b.val
    rw [(map0_1 t).2]; omega

theorem blk0_2 (X : FVec Ideal S4096x2048 .f32) (t : Fin cfg0.N) (a : Fin 1024) (b : Fin 1024) :
    (((cfg0.win 2).blk t).view.read (Elt Ideal) X : FVec Ideal S1024x1024 .f32) (ix2 a b) = X (ix2 (row0 t.val a) (col0 t.val b)) := by
  rw [View.read_apply]
  refine congrArg X (funext fun e => Fin.ext ?_)
  have ht : t.val < 8 := t.isLt
  match e with
  | ⟨0, _⟩ =>
    show cc0_transform_2 (cfg0.grid.coords t) 0 * 1024 + 1 * a.val = 1024 * (t.val / 2 % 4) + a.val
    rw [(map0_2 t).1]; omega
  | ⟨1, _⟩ =>
    show cc0_transform_2 (cfg0.grid.coords t) 1 * 1024 + 1 * b.val = 1024 * (t.val % 2) + b.val
    rw [(map0_2 t).2]; omega

theorem emb0_3 (t : Fin cfg0.N) (a : Fin 1024) (b : Fin 1024) :
    (((cfg0.win 3).blk t).view.emb (ix2 a b) : S4096x2048.Idx) = ix2 (row0 t.val a) (col0 t.val b) := by
  refine funext fun e => Fin.ext ?_
  have ht : t.val < 8 := t.isLt
  match e with
  | ⟨0, _⟩ =>
    show cc0_transform_3 (cfg0.grid.coords t) 0 * 1024 + 1 * a.val = 1024 * (t.val / 2 % 4) + a.val
    rw [(map0_3 t).1]; omega
  | ⟨1, _⟩ =>
    show cc0_transform_3 (cfg0.grid.coords t) 1 * 1024 + 1 * b.val = 1024 * (t.val % 2) + b.val
    rw [(map0_3 t).2]; omega

/-- What the body stores, at an index. -/
theorem pay0_1 (x : FVec Ideal S1024x2048 .bf16) (w : FVec Ideal S2048x1024 .bf16) (z : FVec Ideal S1024x1024 .f32) (a : Fin 1024) (b : Fin 1024) :
    k0_pay1 (F := Ideal) x w z (ix2 a b) = (∑ d : Fin 2048, x (ix2 a d) * w (ix2 d b)) + z (ix2 a b) := by
  unfold k0_pay1
  simp only [shapeCast_self]
  show Ideal.matmul _ x w _ _ + z (ix2 a b) = _
  rw [Ideal.matmul_apply₁_of _ (a := 1) rfl (K := 2048) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem out0_3_apply (x : FVec Ideal S1024x2048 .bf16) (w : FVec Ideal S2048x1024 .bf16) (z : FVec Ideal S1024x1024 .f32) (i : S1024x1024.Idx) :
    out0_3 (F := Ideal) x w z i = k0_pay1 (F := Ideal) x w z i := by
  frame_out

/-- The array the call leaves, at an index. -/
theorem arr0_3 (V : (c : Dev nD) → (b : Ref sig .tc) → Buf (Elt Ideal) ((c.tc : Thread nD τ).loc b)) (c : Dev nD) : (dat0 (F := Ideal) V c).arrAt 3 cfg0.N
    = fun i : S4096x2048.Idx => mul (mat (V c main_v0)) (mat (V c main_v1)) (i 0) (i 1) + mat (V c main_arg2) (i 0) (i 1) := by
  refine (dat0 (F := Ideal) V c).arrAt_eq_of_covers 3 _ (by decide +kernel) fun t hf y => ?_
  obtain ⟨a, b, rfl⟩ : ∃ (a : Fin 1024) (b : Fin 1024), y = ix2 a b := ⟨y 0, y 1, eq_ix2 y⟩
  rw [emb0_3]
  refine (congrFun (after0_3 V c t) (ix2 a b)).trans ?_
  rw [out0_3_apply, pay0_1]
  exact congrArg₂ (· + ·) (Finset.sum_congr (M := EReal) rfl fun d _ => congrArg₂ (· * ·) (blk0_0 (V c main_v0) t a d) (blk0_1 (V c main_v1) t d b))
    (blk0_2 (V c main_arg2) t a b)

theorem map1_0 : ∀ t : Fin cfg1.N, cc1_transform_0 (cfg1.grid.coords t) 0 = t.val / 2 ∧ cc1_transform_0 (cfg1.grid.coords t) 1 = 0 := by
  decide +kernel
theorem map1_1 : ∀ t : Fin cfg1.N, cc1_transform_1 (cfg1.grid.coords t) 0 = t.val % 2 ∧ cc1_transform_1 (cfg1.grid.coords t) 1 = 0 := by
  decide +kernel
theorem map1_2 : ∀ t : Fin cfg1.N, cc1_transform_2 (cfg1.grid.coords t) 0 = t.val / 2 ∧ cc1_transform_2 (cfg1.grid.coords t) 1 = t.val % 2 := by
  decide +kernel

/-- The row of the result that row `a` of point `n`'s block is. -/
def row1 (n : ℕ) (a : Fin 1024) : Fin 4096 := ⟨1024 * (n / 2 % 4) + a.val, by omega⟩
/-- The column of the result that column `b` of point `n`'s block is. -/
def col1 (n : ℕ) (b : Fin 1024) : Fin 2048 := ⟨1024 * (n % 2) + b.val, by omega⟩

theorem blk1_0 (X : FVec Ideal S4096x2048 .bf16) (t : Fin cfg1.N) (a : Fin 1024) (d : Fin 2048) :
    (((cfg1.win 0).blk t).view.read (Elt Ideal) X : FVec Ideal S1024x2048 .bf16) (ix2 a d) = X (ix2 (row1 t.val a) d) := by
  rw [View.read_apply]
  refine congrArg X (funext fun e => Fin.ext ?_)
  have ht : t.val < 8 := t.isLt
  match e with
  | ⟨0, _⟩ =>
    show cc1_transform_0 (cfg1.grid.coords t) 0 * 1024 + 1 * a.val = 1024 * (t.val / 2 % 4) + a.val
    rw [(map1_0 t).1]; omega
  | ⟨1, _⟩ =>
    show cc1_transform_0 (cfg1.grid.coords t) 1 * 2048 + 1 * d.val = d.val
    rw [(map1_0 t).2]; omega

theorem blk1_1 (X : FVec Ideal S2048x2048 .bf16) (t : Fin cfg1.N) (b : Fin 1024) (d : Fin 2048) :
    (((cfg1.win 1).blk t).view.read (Elt Ideal) X : FVec Ideal S1024x2048 .bf16) (ix2 b d) = X (ix2 (col1 t.val b) d) := by
  rw [View.read_apply]
  refine congrArg X (funext fun e => Fin.ext ?_)
  have ht : t.val < 8 := t.isLt
  match e with
  | ⟨0, _⟩ =>
    show cc1_transform_1 (cfg1.grid.coords t) 0 * 1024 + 1 * b.val = 1024 * (t.val % 2) + b.val
    rw [(map1_1 t).1]; omega
  | ⟨1, _⟩ =>
    show cc1_transform_1 (cfg1.grid.coords t) 1 * 2048 + 1 * d.val = d.val
    rw [(map1_1 t).2]; omega

theorem emb1_2 (t : Fin cfg1.N) (a : Fin 1024) (b : Fin 1024) :
    (((cfg1.win 2).blk t).view.emb (ix2 a b) : S4096x2048.Idx) = ix2 (row1 t.val a) (col1 t.val b) := by
  refine funext fun e => Fin.ext ?_
  have ht : t.val < 8 := t.isLt
  match e with
  | ⟨0, _⟩ =>
    show cc1_transform_2 (cfg1.grid.coords t) 0 * 1024 + 1 * a.val = 1024 * (t.val / 2 % 4) + a.val
    rw [(map1_2 t).1]; omega
  | ⟨1, _⟩ =>
    show cc1_transform_2 (cfg1.grid.coords t) 1 * 1024 + 1 * b.val = 1024 * (t.val % 2) + b.val
    rw [(map1_2 t).2]; omega

/-- What the body stores, at an index. -/
theorem pay1_1 (x : FVec Ideal S1024x2048 .bf16) (w : FVec Ideal S1024x2048 .bf16) (a : Fin 1024) (b : Fin 1024) :
    k1_pay1 (F := Ideal) x w (ix2 a b) = ∑ d : Fin 2048, x (ix2 a d) * w (ix2 b d) := by
  unfold k1_pay1
  simp only [shapeCast_self]
  show Ideal.matmul _ x w _ _ = _
  rw [Ideal.matmul_apply₁_of _ (a := 1) rfl (K := 2048) rfl x w _ _ (fun d => ix2 a d) (fun d => ix2 b d)
    (fun k => by funext e; match e with | ⟨0, _⟩ => rfl | ⟨1, _⟩ => rfl)
    (fun k => by funext e; match e with | ⟨0, _⟩ => rfl | ⟨1, _⟩ => rfl)]
  rw [constant_apply, zero32, zero_add]

theorem out1_2_apply (x : FVec Ideal S1024x2048 .bf16) (w : FVec Ideal S1024x2048 .bf16) (i : S1024x1024.Idx) :
    out1_2 (F := Ideal) x w i = k1_pay1 (F := Ideal) x w i := by
  frame_out

/-- The array the call leaves, at an index. -/
theorem arr1_2 (V : (c : Dev nD) → (b : Ref sig .tc) → Buf (Elt Ideal) ((c.tc : Thread nD τ).loc b)) (c : Dev nD) : (dat1 (F := Ideal) V c).arrAt 2 cfg1.N
    = fun i : S4096x2048.Idx => mulT (mat (V c main_v2)) (mat (V c main_v1)) (i 0) (i 1) := by
  refine (dat1 (F := Ideal) V c).arrAt_eq_of_covers 2 _ (by decide +kernel) fun t hf y => ?_
  obtain ⟨a, b, rfl⟩ : ∃ (a : Fin 1024) (b : Fin 1024), y = ix2 a b := ⟨y 0, y 1, eq_ix2 y⟩
  rw [emb1_2]
  refine (congrFun (after1_2 V c t) (ix2 a b)).trans ?_
  rw [out1_2_apply, pay1_1]
  exact Finset.sum_congr (M := EReal) rfl fun d _ => congrArg₂ (· * ·) (blk1_0 (V c main_v2) t a d) (blk1_1 (V c main_v1) t b d)

theorem map2_0 : ∀ t : Fin cfg2.N, cc2_transform_0 (cfg2.grid.coords t) 0 = 0 ∧ cc2_transform_0 (cfg2.grid.coords t) 1 = t.val / 2 := by
  decide +kernel
theorem map2_1 : ∀ t : Fin cfg2.N, cc2_transform_1 (cfg2.grid.coords t) 0 = 0 ∧ cc2_transform_1 (cfg2.grid.coords t) 1 = t.val % 2 := by
  decide +kernel
theorem map2_2 : ∀ t : Fin cfg2.N, cc2_transform_2 (cfg2.grid.coords t) 0 = t.val / 2 ∧ cc2_transform_2 (cfg2.grid.coords t) 1 = t.val % 2 := by
  decide +kernel
theorem map2_3 : ∀ t : Fin cfg2.N, cc2_transform_3 (cfg2.grid.coords t) 0 = t.val / 2 ∧ cc2_transform_3 (cfg2.grid.coords t) 1 = t.val % 2 := by
  decide +kernel

/-- The row of the result that row `a` of point `n`'s block is. -/
def row2 (n : ℕ) (a : Fin 512) : Fin 2048 := ⟨512 * (n / 2 % 4) + a.val, by omega⟩
/-- The column of the result that column `b` of point `n`'s block is. -/
def col2 (n : ℕ) (b : Fin 1024) : Fin 2048 := ⟨1024 * (n % 2) + b.val, by omega⟩

theorem blk2_0 (X : FVec Ideal S4096x2048 .bf16) (t : Fin cfg2.N) (d : Fin 4096) (a : Fin 512) :
    (((cfg2.win 0).blk t).view.read (Elt Ideal) X : FVec Ideal S4096x512 .bf16) (ix2 d a) = X (ix2 d (row2 t.val a)) := by
  rw [View.read_apply]
  refine congrArg X (funext fun e => Fin.ext ?_)
  have ht : t.val < 8 := t.isLt
  match e with
  | ⟨0, _⟩ =>
    show cc2_transform_0 (cfg2.grid.coords t) 0 * 4096 + 1 * d.val = d.val
    rw [(map2_0 t).1]; omega
  | ⟨1, _⟩ =>
    show cc2_transform_0 (cfg2.grid.coords t) 1 * 512 + 1 * a.val = 512 * (t.val / 2 % 4) + a.val
    rw [(map2_0 t).2]; omega

theorem blk2_1 (X : FVec Ideal S4096x2048 .bf16) (t : Fin cfg2.N) (d : Fin 4096) (b : Fin 1024) :
    (((cfg2.win 1).blk t).view.read (Elt Ideal) X : FVec Ideal S4096x1024 .bf16) (ix2 d b) = X (ix2 d (col2 t.val b)) := by
  rw [View.read_apply]
  refine congrArg X (funext fun e => Fin.ext ?_)
  have ht : t.val < 8 := t.isLt
  match e with
  | ⟨0, _⟩ =>
    show cc2_transform_1 (cfg2.grid.coords t) 0 * 4096 + 1 * d.val = d.val
    rw [(map2_1 t).1]; omega
  | ⟨1, _⟩ =>
    show cc2_transform_1 (cfg2.grid.coords t) 1 * 1024 + 1 * b.val = 1024 * (t.val % 2) + b.val
    rw [(map2_1 t).2]; omega

theorem emb2_2 (t : Fin cfg2.N) (a : Fin 512) (b : Fin 1024) :
    (((cfg2.win 2).blk t).view.emb (ix2 a b) : S2048x2048.Idx) = ix2 (row2 t.val a) (col2 t.val b) := by
  refine funext fun e => Fin.ext ?_
  have ht : t.val < 8 := t.isLt
  match e with
  | ⟨0, _⟩ =>
    show cc2_transform_2 (cfg2.grid.coords t) 0 * 512 + 1 * a.val = 512 * (t.val / 2 % 4) + a.val
    rw [(map2_2 t).1]; omega
  | ⟨1, _⟩ =>
    show cc2_transform_2 (cfg2.grid.coords t) 1 * 1024 + 1 * b.val = 1024 * (t.val % 2) + b.val
    rw [(map2_2 t).2]; omega

theorem emb2_3 (t : Fin cfg2.N) (a : Fin 512) (b : Fin 1024) :
    (((cfg2.win 3).blk t).view.emb (ix2 a b) : S2048x2048.Idx) = ix2 (row2 t.val a) (col2 t.val b) := by
  refine funext fun e => Fin.ext ?_
  have ht : t.val < 8 := t.isLt
  match e with
  | ⟨0, _⟩ =>
    show cc2_transform_3 (cfg2.grid.coords t) 0 * 512 + 1 * a.val = 512 * (t.val / 2 % 4) + a.val
    rw [(map2_3 t).1]; omega
  | ⟨1, _⟩ =>
    show cc2_transform_3 (cfg2.grid.coords t) 1 * 1024 + 1 * b.val = 1024 * (t.val % 2) + b.val
    rw [(map2_3 t).2]; omega

/-- What the body stores, at an index. -/
theorem pay2_1 (x : FVec Ideal S4096x512 .bf16) (w : FVec Ideal S4096x1024 .bf16) (a : Fin 512) (b : Fin 1024) :
    k2_pay1 (F := Ideal) x w (ix2 a b) = ∑ d : Fin 4096, x (ix2 d a) * w (ix2 d b) := by
  unfold k2_pay1
  simp only [shapeCast_self]
  show Ideal.matmul _ x w _ _ = _
  rw [Ideal.matmul_apply₁_of _ (a := 0) rfl (K := 4096) rfl x w _ _ (fun d => ix2 d a) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem pay2_2 (x : FVec Ideal S4096x512 .bf16) (w : FVec Ideal S4096x1024 .bf16) (a : Fin 512) (b : Fin 1024) :
    k2_pay2 (F := Ideal) x w (ix2 a b) = ∑ d : Fin 4096, x (ix2 d a) * w (ix2 d b) :=
  (show k2_pay2 (F := Ideal) x w (ix2 a b) = k2_pay1 (F := Ideal) x w (ix2 a b) from rfl).trans (pay2_1 x w a b)

theorem out2_2_apply (x : FVec Ideal S4096x512 .bf16) (w : FVec Ideal S4096x1024 .bf16) (i : S512x1024.Idx) :
    out2_2 (F := Ideal) x w i = k2_pay1 (F := Ideal) x w i := by
  frame_out

theorem out2_3_apply (x : FVec Ideal S4096x512 .bf16) (w : FVec Ideal S4096x1024 .bf16) (i : S512x1024.Idx) :
    out2_3 (F := Ideal) x w i = k2_pay2 (F := Ideal) x w i := by
  frame_out

/-- The array the call leaves, at an index. -/
theorem arr2_2 (V : (c : Dev nD) → (b : Ref sig .tc) → Buf (Elt Ideal) ((c.tc : Thread nD τ).loc b)) (c : Dev nD) : (dat2 (F := Ideal) V c).arrAt 2 cfg2.N
    = fun i : S2048x2048.Idx => tmul (mat (V c main_v0)) (mat (V c main_v2)) (i 0) (i 1) := by
  refine (dat2 (F := Ideal) V c).arrAt_eq_of_covers 2 _ (by decide +kernel) fun t hf y => ?_
  obtain ⟨a, b, rfl⟩ : ∃ (a : Fin 512) (b : Fin 1024), y = ix2 a b := ⟨y 0, y 1, eq_ix2 y⟩
  rw [emb2_2]
  refine (congrFun (after2_2 V c t) (ix2 a b)).trans ?_
  rw [out2_2_apply, pay2_1]
  exact Finset.sum_congr (M := EReal) rfl fun d _ => congrArg₂ (· * ·) (blk2_0 (V c main_v0) t d a) (blk2_1 (V c main_v2) t d b)

/-- The array the call leaves, at an index. -/
theorem arr2_3 (V : (c : Dev nD) → (b : Ref sig .tc) → Buf (Elt Ideal) ((c.tc : Thread nD τ).loc b)) (c : Dev nD) : (dat2 (F := Ideal) V c).arrAt 3 cfg2.N
    = fun i : S2048x2048.Idx => tmul (mat (V c main_v0)) (mat (V c main_v2)) (i 0) (i 1) := by
  refine (dat2 (F := Ideal) V c).arrAt_eq_of_covers 3 _ (by decide +kernel) fun t hf y => ?_
  obtain ⟨a, b, rfl⟩ : ∃ (a : Fin 512) (b : Fin 1024), y = ix2 a b := ⟨y 0, y 1, eq_ix2 y⟩
  rw [emb2_3]
  refine (congrFun (after2_3 V c t) (ix2 a b)).trans ?_
  rw [out2_3_apply, pay2_2]
  exact Finset.sum_congr (M := EReal) rfl fun d _ => congrArg₂ (· * ·) (blk2_0 (V c main_v0) t d a) (blk2_1 (V c main_v2) t d b)

end Cert.ProdOut

end
-- ==== Proof.ProdOutVal.lean ====
/- What the output projection's program leaves: each result from the arguments. -/
module

public import proofs.«01_k».proof.Proof.ProdOutArr
public import Idealize.ShloMosaic.Lib.StableHlo.RunRead

@[expose] public section

set_option maxRecDepth 16384

noncomputable section

namespace Cert.ProdOut

open Idealize.ShloMosaic hiding ix1 ix2 ix3 ix4 eq_ix1 eq_ix2 eq_ix3 eq_ix4
open Idealize.ShloMosaic.ValueIdx Idealize.ShloMosaic.TcCoe
open Cert.Feed (mul mulT tmul mat)
open Cert.OutIdeal Cert.OutIdeal.Gen

variable (m : (ℓ : Loc nD τ sig) → Buf (Elt Ideal) ℓ) (ρ : Dev nD → PrngReg) (c : Dev nD)

abbrev arg0 : FVec Ideal S4096x2048 .f32 := m ((c : Thread nD τ).loc main_arg0)
abbrev arg1 : FVec Ideal S2048x2048 .f32 := m ((c : Thread nD τ).loc main_arg1)
abbrev arg2 : FVec Ideal S4096x2048 .f32 := m ((c : Thread nD τ).loc main_arg2)
abbrev arg3 : FVec Ideal S4096x2048 .f32 := m ((c : Thread nD τ).loc main_arg3)

theorem W1_v0 : (W1 m ρ c (Proc.devRef .tc main_v0) : S4096x2048.Idx → EReal) = arg0 m c := by
  unfold W1; after_reads_simp; rfl
theorem W1_v1 : (W1 m ρ c (Proc.devRef .tc main_v1) : S2048x2048.Idx → EReal) = arg1 m c := by
  unfold W1; after_reads_simp; rfl
theorem W1_v2 : (W1 m ρ c (Proc.devRef .tc main_v2) : S4096x2048.Idx → EReal) = arg3 m c := by
  unfold W1; after_reads_simp; rfl

theorem W1_arg2 : (W1 m ρ c (Proc.devRef .tc main_arg2) : S4096x2048.Idx → EReal) = arg2 m c :=
  W1_args m ρ c main_arg2 (by decide)

/-- The projection and what is added to it. -/
theorem W2_y : (W2 m ρ c (Proc.devRef .tc main_v3) : S4096x2048.Idx → EReal)
    = fun i => mul (mat (arg0 m c)) (mat (arg1 m c)) (i 0) (i 1) + mat (arg2 m c) (i 0) (i 1) := by
  refine (W2_arr m ρ c 3).trans ((arr0_3 (V1 m ρ) c).trans ?_)
  show (fun i : S4096x2048.Idx => mul (mat (W1 m ρ c (Proc.devRef .tc main_v0))) (mat (W1 m ρ c (Proc.devRef .tc main_v1))) (i 0) (i 1)
    + mat (W1 m ρ c (Proc.devRef .tc main_arg2)) (i 0) (i 1)) = _
  rw [W1_v0, W1_v1, W1_arg2]
  rfl

theorem W2_v2 : (W2 m ρ c (Proc.devRef .tc main_v2) : S4096x2048.Idx → EReal) = arg3 m c :=
  (W2_of m ρ c main_v2 (by decide +kernel)).trans (W1_v2 m ρ c)
theorem W2_v1 : (W2 m ρ c (Proc.devRef .tc main_v1) : S2048x2048.Idx → EReal) = arg1 m c :=
  (W2_of m ρ c main_v1 (by decide +kernel)).trans (W1_v1 m ρ c)

/-- The gradient of its input. -/
theorem W3_dx : (W3 m ρ c (Proc.devRef .tc main_v4) : S4096x2048.Idx → EReal)
    = fun i => mulT (mat (arg3 m c)) (mat (arg1 m c)) (i 0) (i 1) := by
  refine (W3_arr m ρ c 2).trans ((arr1_2 (V2 m ρ) c).trans ?_)
  show (fun i : S4096x2048.Idx => mulT (mat (W2 m ρ c (Proc.devRef .tc main_v2))) (mat (W2 m ρ c (Proc.devRef .tc main_v1))) (i 0) (i 1)) = _
  rw [W2_v2, W2_v1]
  rfl

theorem W3_v0 : (W3 m ρ c (Proc.devRef .tc main_v0) : S4096x2048.Idx → EReal) = arg0 m c :=
  (W3_of m ρ c main_v0 (by decide +kernel)).trans ((W2_of m ρ c main_v0 (by decide +kernel)).trans (W1_v0 m ρ c))
theorem W3_v2 : (W3 m ρ c (Proc.devRef .tc main_v2) : S4096x2048.Idx → EReal) = arg3 m c :=
  (W3_of m ρ c main_v2 (by decide +kernel)).trans (W2_v2 m ρ c)

/-- The gradient of its weight. -/
theorem W4_dw0 : (W4 m ρ c (Proc.devRef .tc main_v5_0) : S2048x2048.Idx → EReal)
    = fun i => tmul (mat (arg0 m c)) (mat (arg3 m c)) (i 0) (i 1) := by
  refine (W4_arr m ρ c 2).trans ((arr2_2 (V3 m ρ) c).trans ?_)
  show (fun i : S2048x2048.Idx => tmul (mat (W3 m ρ c (Proc.devRef .tc main_v0))) (mat (W3 m ρ c (Proc.devRef .tc main_v2))) (i 0) (i 1)) = _
  rw [W3_v0, W3_v2]
  rfl

/-- Its rounded copy. -/
theorem W4_dw1 : (W4 m ρ c (Proc.devRef .tc main_v5_1) : S2048x2048.Idx → EReal)
    = fun i => tmul (mat (arg0 m c)) (mat (arg3 m c)) (i 0) (i 1) := by
  refine (W4_arr m ρ c 3).trans ((arr2_3 (V3 m ρ) c).trans ?_)
  show (fun i : S2048x2048.Idx => tmul (mat (W3 m ρ c (Proc.devRef .tc main_v0))) (mat (W3 m ρ c (Proc.devRef .tc main_v2))) (i 0) (i 1)) = _
  rw [W3_v0, W3_v2]
  rfl

theorem W4_y : (W4 m ρ c (Proc.devRef .tc main_v3) : S4096x2048.Idx → EReal) = fun i => mul (mat (arg0 m c)) (mat (arg1 m c)) (i 0) (i 1) + mat (arg2 m c) (i 0) (i 1) :=
  (W4_of m ρ c main_v3 (by decide +kernel)).trans ((W3_of m ρ c main_v3 (by decide +kernel)).trans (W2_y m ρ c))
theorem W4_dx : (W4 m ρ c (Proc.devRef .tc main_v4) : S4096x2048.Idx → EReal) = fun i => mulT (mat (arg3 m c)) (mat (arg1 m c)) (i 0) (i 1) :=
  (W4_of m ρ c main_v4 (by decide +kernel)).trans (W3_dx m ρ c)

end Cert.ProdOut

end
-- ==== Proof.ProdOutRef.lean ====
/- The output projection: the reference's arrays. -/
module

public import proofs.«01_k».proof.Proof.FeedArr0
public import proofs.«01_k».proof.Proof.Gen.OutReferenceIdeal.Read

@[expose] public section

set_option maxRecDepth 16384

noncomputable section

namespace Cert.ProdOut

open Idealize.ShloMosaic hiding ix1 ix2 ix3 ix4 eq_ix1 eq_ix2 eq_ix3 eq_ix4
open Idealize.ShloMosaic.ValueIdx Idealize.ShloMosaic.TcCoe
open Cert.Feed (mul mulT tmul mat)
open Cert.OutReferenceIdeal Cert.OutReferenceIdeal.Gen Cert.OutReferenceIdeal.Read

/-- The reference's projection and what is added to it. -/
theorem ref_v4 (A : FVec Ideal S4096x2048 .f32) (B : FVec Ideal S2048x2048 .f32) (C : FVec Ideal S4096x2048 .f32) :
    (val_main_v4 (F := Ideal) A B C : S4096x2048.Idx → EReal) = fun i => mul (mat A) (mat B) (i 0) (i 1) + mat C (i 0) (i 1) := by
  funext i
  refine (show (val_main_v4 (F := Ideal) A B C i : EReal) = (C i : EReal) + (val_main_v0 (F := Ideal) A B i : EReal) from rfl).trans
    ((add_comm (G := EReal) _ _).trans ?_)
  refine congrArg₂ (fun u v : EReal => u + v) ((val_main_v0_apply A B i).trans ?_)
    (congrArg C (funext fun e => by match e with | ⟨0, _⟩ => rfl | ⟨1, _⟩ => rfl))
  exact Finset.sum_congr (M := EReal) rfl fun d _ => congrArg₂ (fun u v : EReal => u * v)
    (congrArg A (funext fun e => by match e with | ⟨0, _⟩ => rfl | ⟨1, _⟩ => rfl))
    (congrArg B (funext fun e => by match e with | ⟨0, _⟩ => rfl | ⟨1, _⟩ => rfl))

/-- The reference's gradient of the input. -/
theorem ref_v3 (B : FVec Ideal S2048x2048 .f32) (C : FVec Ideal S4096x2048 .f32) :
    (val_main_v3 (F := Ideal) B C : S4096x2048.Idx → EReal) = fun i => mulT (mat C) (mat B) (i 0) (i 1) := by
  funext i
  refine (val_main_v3_apply B C i).trans ?_
  exact Finset.sum_congr (M := EReal) rfl fun d _ => congrArg₂ (fun u v : EReal => u * v)
    (congrArg C (funext fun e => by match e with | ⟨0, _⟩ => rfl | ⟨1, _⟩ => rfl))
    (congrArg B (funext fun e => by match e with | ⟨0, _⟩ => rfl | ⟨1, _⟩ => rfl))

/-- The reference's gradient of the weight. -/
theorem ref_v2 (A C : FVec Ideal S4096x2048 .f32) :
    (val_main_v2 (F := Ideal) A C : S2048x2048.Idx → EReal) = fun i => tmul (mat A) (mat C) (i 0) (i 1) := by
  funext i
  refine (val_main_v2_apply (F := Ideal) A C i).trans ((val_main_v1_apply A C _).trans ?_)
  refine Finset.sum_congr (M := EReal) rfl fun d _ => (mul_comm (G := EReal) _ _).trans ?_
  exact congrArg₂ (fun u v : EReal => u * v)
    (congrArg A (funext fun e => by match e with | ⟨0, _⟩ => rfl | ⟨1, _⟩ => rfl))
    (congrArg C (funext fun e => by match e with | ⟨0, _⟩ => rfl | ⟨1, _⟩ => rfl))

/-- Its rounded copy. -/
theorem ref_v5 (A C : FVec Ideal S4096x2048 .f32) :
    (val_main_v5 (F := Ideal) A C : S2048x2048.Idx → EReal) = fun i => tmul (mat A) (mat C) (i 0) (i 1) :=
  ref_v2 A C

end Cert.ProdOut

end
-- ==== Proof.ProdOutFinal.lean ====
/- The claims about the output projection. -/
module

public import proofs.«01_k».proof.Defs
public import proofs.«01_k».proof.Proof.ProdOutRun
public import proofs.«01_k».proof.Proof.ProdOutVal
public import proofs.«01_k».proof.Proof.ProdOutRef
public import proofs.«01_k».proof.Proof.Gen.Out.Frame
public import proofs.«01_k».proof.Proof.Gen.OutReferenceIdeal.Run
public import Idealize.ShloMosaic.Adequacy
public import Idealize.ShloMosaic.Init

@[expose] public section

noncomputable section

namespace Cert.ProdOut

open Idealize.ShloMosaic hiding ix1 ix2 ix3 ix4 eq_ix1 eq_ix2 eq_ix3 eq_ix4
open Idealize.ShloMosaic.ValueIdx Idealize.ShloMosaic.TcCoe Idealize.SL.Sem

section
variable (m : (ℓ : Loc Cert.OutIdeal.nD Cert.OutIdeal.τ Cert.OutIdeal.sig) → Buf (Elt Ideal) ℓ) (ρ : Dev Cert.OutIdeal.nD → PrngReg) (c : Dev Cert.OutIdeal.nD)

/-- Result 0 equals the reference's. -/
theorem same0 : (Cert.OutIdeal.Gen.W4 m ρ c (Proc.devRef .tc Cert.OutIdeal.main_v3) : FVec Ideal ⟨2, ![4096, 2048]⟩ .f32)
    = Cert.OutReferenceIdeal.Read.val_main_v4 (F := Ideal) (arg0 m c) (arg1 m c) (arg2 m c) :=
  (W4_y m ρ c).trans (ref_v4 (arg0 m c) (arg1 m c) (arg2 m c)).symm

/-- Result 1 equals the reference's. -/
theorem same1 : (Cert.OutIdeal.Gen.W4 m ρ c (Proc.devRef .tc Cert.OutIdeal.main_v4) : FVec Ideal ⟨2, ![4096, 2048]⟩ .f32)
    = Cert.OutReferenceIdeal.Read.val_main_v3 (F := Ideal) (arg1 m c) (arg3 m c) :=
  (W4_dx m ρ c).trans (ref_v3 (arg1 m c) (arg3 m c)).symm

/-- Result 2 equals the reference's. -/
theorem same2 : (Cert.OutIdeal.Gen.W4 m ρ c (Proc.devRef .tc Cert.OutIdeal.main_v5_0) : FVec Ideal ⟨2, ![2048, 2048]⟩ .f32)
    = Cert.OutReferenceIdeal.Read.val_main_v2 (F := Ideal) (arg0 m c) (arg3 m c) :=
  (W4_dw0 m ρ c).trans (ref_v2 (arg0 m c) (arg3 m c)).symm

/-- Result 3 equals the reference's. -/
theorem same3 : (Cert.OutIdeal.Gen.W4 m ρ c (Proc.devRef .tc Cert.OutIdeal.main_v5_1) : FVec Ideal ⟨2, ![2048, 2048]⟩ .bf16)
    = Cert.OutReferenceIdeal.Read.val_main_v5 (F := Ideal) (arg0 m c) (arg3 m c) :=
  (W4_dw1 m ρ c).trans (ref_v5 (arg0 m c) (arg3 m c)).symm

end

/-- The kernel runs without fault and leaves its arguments. -/
theorem frame_k : Cert.quiescent_Out := fun m ρ _ => Cert.Out.Gen.frame m ρ

/-- The idealised kernel runs without fault and leaves its arguments. -/
theorem frame_ki : Cert.quiescent_OutIdeal := fun m ρ _ => Cert.OutIdeal.Gen.frame m ρ

/-- The reference runs without fault and leaves its arguments. -/
theorem frame_r : Cert.quiescent_OutReferenceIdeal := fun m ρ _ =>
  (θ_run Cert.OutReferenceIdeal.defs _ _).mono (fun r h => ⟨fun c => (h c).2.2.2.2,
    Idealize.ShloMosaic.sem_eq_zero_of_no_sems (by decide) r.2⟩) (Cert.OutReferenceIdeal.Value.run (F := Ideal) m ρ)

/-- The idealised kernel is the kernel. -/
theorem preserves : Cert.preserves_Out_OutIdeal := trivial

/-- The kernel's results are the reference's. -/
theorem algebraic : Cert.algebraic_OutIdeal_OutReferenceIdeal := by
  intro m ρ m' ρ' _ hagree
  refine ⟨fun c => Cert.OutReferenceIdeal.Read.val_main_v4 (F := Ideal) (arg0 m c) (arg1 m c) (arg2 m c),
    fun c => Cert.OutReferenceIdeal.Read.val_main_v3 (F := Ideal) (arg1 m c) (arg3 m c),
    fun c => Cert.OutReferenceIdeal.Read.val_main_v2 (F := Ideal) (arg0 m c) (arg3 m c),
    fun c => Cert.OutReferenceIdeal.Read.val_main_v5 (F := Ideal) (arg0 m c) (arg3 m c), ?_, ?_⟩
  · exact (θ_run Cert.OutIdeal.defs _ _).mono (fun _ h c => ⟨(h c).1.trans (same0 m ρ c),
      (h c).2.1.trans (same1 m ρ c),
      (h c).2.2.1.trans (same2 m ρ c),
      (h c).2.2.2.1.trans (same3 m ρ c), (h c).2.2.2.2⟩) (run m ρ)
  · refine (θ_run Cert.OutReferenceIdeal.defs _ _).mono (fun _ h c => ?_) (Cert.OutReferenceIdeal.Value.run (F := Ideal) m' ρ')
    have e := hagree c
    refine ⟨(h c).1.trans ?_, (h c).2.1.trans ?_, (h c).2.2.1.trans ?_, (h c).2.2.2.1.trans ?_, (h c).2.2.2.2⟩
    · refine (Cert.OutReferenceIdeal.Read.val_main_v4_eq _ _ _).trans ?_
      rw [e.1, e.2.1, e.2.2.1]
    · refine (Cert.OutReferenceIdeal.Read.val_main_v3_eq _ _).trans ?_
      rw [e.2.1, e.2.2.2]
    · refine (Cert.OutReferenceIdeal.Read.val_main_v2_eq _ _).trans ?_
      rw [e.1, e.2.2.2]
    · refine (Cert.OutReferenceIdeal.Read.val_main_v5_eq _ _).trans ?_
      rw [e.1, e.2.2.2]

end Cert.ProdOut

end
-- ==== Proof.ProdARun.lean ====
/- What the program of the first mixer's input projection leaves: its run. -/
module

public import proofs.«01_k».proof.Proof.Gen.InAIdeal.Frame
public import proofs.«01_k».proof.Proof.FeedModel

@[expose] public section

set_option maxRecDepth 16384

noncomputable section

namespace Cert.ProdA

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InAIdeal Cert.InAIdeal.Gen

variable (m : (ℓ : Loc nD τ sig) → Buf (Elt Ideal) ℓ) (ρ : Dev nD → PrngReg)

set_option backward.isDefEq.respectTransparency.types false in
/-- The program's run: its four results as left by its last call, its arguments unchanged. -/
theorem run : θ_run defs (onTc (τ := τ) (main (F := Ideal))) ⟨m, fun _ => 0, ρ⟩ (fun r => ∀ c : Dev nD,
      r.2.mem ((c.tc : Thread nD τ).loc main_v3) = W5 m ρ c (Proc.devRef .tc main_v3)
      ∧ r.2.mem ((c.tc : Thread nD τ).loc main_v4) = W5 m ρ c (Proc.devRef .tc main_v4)
      ∧ r.2.mem ((c.tc : Thread nD τ).loc main_v6_0) = W5 m ρ c (Proc.devRef .tc main_v6_0)
      ∧ r.2.mem ((c.tc : Thread nD τ).loc main_v6_1) = W5 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v3 (by decide)),
       h c _ (mem_uc main_v4 (by decide)),
       h c _ (mem_uc main_v6_0 (by decide)),
       h c _ (mem_uc main_v6_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.ProdA

end
-- ==== Proof.ProdAArr.lean ====
/- The arrays the calls of the first mixer's input projection leave, at an index. -/
module

public import proofs.«01_k».proof.Proof.FeedArr0
public import proofs.«01_k».proof.Proof.Gen.InAIdeal.Frame

@[expose] public section

noncomputable section

namespace Cert.ProdA

open Idealize.ShloMosaic hiding ix1 ix2 ix3 ix4 eq_ix1 eq_ix2 eq_ix3 eq_ix4
open Idealize.ShloMosaic.ValueIdx Idealize.ShloMosaic.TcCoe
open Cert.Feed (mul mulT tmul mat zero32)
open Cert.InAIdeal Cert.InAIdeal.Gen

theorem map0_0 : ∀ t : Fin cfg0.N, cc0_transform_0 (cfg0.grid.coords t) 0 = t.val / 7 ∧ cc0_transform_0 (cfg0.grid.coords t) 1 = 0 := by
  decide +kernel
theorem map0_1 : ∀ t : Fin cfg0.N, cc0_transform_1 (cfg0.grid.coords t) 0 = 0 ∧ cc0_transform_1 (cfg0.grid.coords t) 1 = t.val % 7 := by
  decide +kernel
theorem map0_2 : ∀ t : Fin cfg0.N, cc0_transform_2 (cfg0.grid.coords t) 0 = t.val / 7 ∧ cc0_transform_2 (cfg0.grid.coords t) 1 = t.val % 7 := by
  decide +kernel

/-- The row of the result that row `a` of point `n`'s block is. -/
def row0 (n : ℕ) (a : Fin 2048) : Fin 4096 := ⟨2048 * (n / 7 % 2) + a.val, by omega⟩
/-- The column of the result that column `b` of point `n`'s block is. -/
def col0 (n : ℕ) (b : Fin 512) : Fin 3584 := ⟨512 * (n % 7) + b.val, by omega⟩

theorem blk0_0 (X : FVec Ideal S4096x2048 .bf16) (t : Fin cfg0.N) (a : Fin 2048) (d : Fin 2048) :
    (((cfg0.win 0).blk t).view.read (Elt Ideal) X : FVec Ideal S2048x2048 .bf16) (ix2 a d) = X (ix2 (row0 t.val a) d) := by
  rw [View.read_apply]
  refine congrArg X (funext fun e => Fin.ext ?_)
  have ht : t.val < 14 := t.isLt
  match e with
  | ⟨0, _⟩ =>
    show cc0_transform_0 (cfg0.grid.coords t) 0 * 2048 + 1 * a.val = 2048 * (t.val / 7 % 2) + a.val
    rw [(map0_0 t).1]; omega
  | ⟨1, _⟩ =>
    show cc0_transform_0 (cfg0.grid.coords t) 1 * 2048 + 1 * d.val = d.val
    rw [(map0_0 t).2]; omega

theorem blk0_1 (X : FVec Ideal S2048x3584 .bf16) (t : Fin cfg0.N) (d : Fin 2048) (b : Fin 512) :
    (((cfg0.win 1).blk t).view.read (Elt Ideal) X : FVec Ideal S2048x512 .bf16) (ix2 d b) = X (ix2 d (col0 t.val b)) := by
  rw [View.read_apply]
  refine congrArg X (funext fun e => Fin.ext ?_)
  have ht : t.val < 14 := t.isLt
  match e with
  | ⟨0, _⟩ =>
    show cc0_transform_1 (cfg0.grid.coords t) 0 * 2048 + 1 * d.val = d.val
    rw [(map0_1 t).1]; omega
  | ⟨1, _⟩ =>
    show cc0_transform_1 (cfg0.grid.coords t) 1 * 512 + 1 * b.val = 512 * (t.val % 7) + b.val
    rw [(map0_1 t).2]; omega

theorem emb0_2 (t : Fin cfg0.N) (a : Fin 2048) (b : Fin 512) :
    (((cfg0.win 2).blk t).view.emb (ix2 a b) : S4096x3584.Idx) = ix2 (row0 t.val a) (col0 t.val b) := by
  refine funext fun e => Fin.ext ?_
  have ht : t.val < 14 := t.isLt
  match e with
  | ⟨0, _⟩ =>
    show cc0_transform_2 (cfg0.grid.coords t) 0 * 2048 + 1 * a.val = 2048 * (t.val / 7 % 2) + a.val
    rw [(map0_2 t).1]; omega
  | ⟨1, _⟩ =>
    show cc0_transform_2 (cfg0.grid.coords t) 1 * 512 + 1 * b.val = 512 * (t.val % 7) + b.val
    rw [(map0_2 t).2]; omega

/-- What the body stores, at an index. -/
theorem pay0_1 (x : FVec Ideal S2048x2048 .bf16) (w : FVec Ideal S2048x512 .bf16) (a : Fin 2048) (b : Fin 512) :
    k0_pay1 (F := Ideal) x w (ix2 a b) = ∑ d : Fin 2048, x (ix2 a d) * w (ix2 d b) := by
  unfold k0_pay1
  simp only [shapeCast_self]
  show Ideal.matmul _ x w _ _ = _
  rw [Ideal.matmul_apply₁_of _ (a := 1) rfl (K := 2048) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem out0_2_apply (x : FVec Ideal S2048x2048 .bf16) (w : FVec Ideal S2048x512 .bf16) (i : S2048x512.Idx) :
    out0_2 (F := Ideal) x w i = k0_pay1 (F := Ideal) x w i := by
  frame_out

/-- The array the call leaves, at an index. -/
theorem arr0_2 (V : (c : Dev nD) → (b : Ref sig .tc) → Buf (Elt Ideal) ((c.tc : Thread nD τ).loc b)) (c : Dev nD) : (dat0 (F := Ideal) V c).arrAt 2 cfg0.N
    = fun i : S4096x3584.Idx => mul (mat (V c main_v0)) (mat (V c main_v1)) (i 0) (i 1) := by
  refine (dat0 (F := Ideal) V c).arrAt_eq_of_covers 2 _ (by decide +kernel) fun t hf y => ?_
  obtain ⟨a, b, rfl⟩ : ∃ (a : Fin 2048) (b : Fin 512), y = ix2 a b := ⟨y 0, y 1, eq_ix2 y⟩
  rw [emb0_2]
  refine (congrFun (after0_2 V c t) (ix2 a b)).trans ?_
  rw [out0_2_apply, pay0_1]
  exact Finset.sum_congr (M := EReal) rfl fun d _ => congrArg₂ (· * ·) (blk0_0 (V c main_v0) t a d) (blk0_1 (V c main_v1) t d b)

theorem map1_0 : ∀ t : Fin cfg1.N, cc1_transform_0 (cfg1.grid.coords t) 0 = t.val / 2 ∧ cc1_transform_0 (cfg1.grid.coords t) 1 = 0 := by
  decide +kernel
theorem map1_1 : ∀ t : Fin cfg1.N, cc1_transform_1 (cfg1.grid.coords t) 0 = t.val % 2 ∧ cc1_transform_1 (cfg1.grid.coords t) 1 = 0 := by
  decide +kernel
theorem map1_2 : ∀ t : Fin cfg1.N, cc1_transform_2 (cfg1.grid.coords t) 0 = t.val / 2 ∧ cc1_transform_2 (cfg1.grid.coords t) 1 = t.val % 2 := by
  decide +kernel

/-- The row of the result that row `a` of point `n`'s block is. -/
def row1 (n : ℕ) (a : Fin 1024) : Fin 4096 := ⟨1024 * (n / 2 % 4) + a.val, by omega⟩
/-- The column of the result that column `b` of point `n`'s block is. -/
def col1 (n : ℕ) (b : Fin 1024) : Fin 2048 := ⟨1024 * (n % 2) + b.val, by omega⟩

theorem blk1_0 (X : FVec Ideal S4096x3584 .bf16) (t : Fin cfg1.N) (a : Fin 1024) (d : Fin 3584) :
    (((cfg1.win 0).blk t).view.read (Elt Ideal) X : FVec Ideal S1024x3584 .bf16) (ix2 a d) = X (ix2 (row1 t.val a) d) := by
  rw [View.read_apply]
  refine congrArg X (funext fun e => Fin.ext ?_)
  have ht : t.val < 8 := t.isLt
  match e with
  | ⟨0, _⟩ =>
    show cc1_transform_0 (cfg1.grid.coords t) 0 * 1024 + 1 * a.val = 1024 * (t.val / 2 % 4) + a.val
    rw [(map1_0 t).1]; omega
  | ⟨1, _⟩ =>
    show cc1_transform_0 (cfg1.grid.coords t) 1 * 3584 + 1 * d.val = d.val
    rw [(map1_0 t).2]; omega

theorem blk1_1 (X : FVec Ideal S2048x3584 .bf16) (t : Fin cfg1.N) (b : Fin 1024) (d : Fin 3584) :
    (((cfg1.win 1).blk t).view.read (Elt Ideal) X : FVec Ideal S1024x3584 .bf16) (ix2 b d) = X (ix2 (col1 t.val b) d) := by
  rw [View.read_apply]
  refine congrArg X (funext fun e => Fin.ext ?_)
  have ht : t.val < 8 := t.isLt
  match e with
  | ⟨0, _⟩ =>
    show cc1_transform_1 (cfg1.grid.coords t) 0 * 1024 + 1 * b.val = 1024 * (t.val % 2) + b.val
    rw [(map1_1 t).1]; omega
  | ⟨1, _⟩ =>
    show cc1_transform_1 (cfg1.grid.coords t) 1 * 3584 + 1 * d.val = d.val
    rw [(map1_1 t).2]; omega

theorem emb1_2 (t : Fin cfg1.N) (a : Fin 1024) (b : Fin 1024) :
    (((cfg1.win 2).blk t).view.emb (ix2 a b) : S4096x2048.Idx) = ix2 (row1 t.val a) (col1 t.val b) := by
  refine funext fun e => Fin.ext ?_
  have ht : t.val < 8 := t.isLt
  match e with
  | ⟨0, _⟩ =>
    show cc1_transform_2 (cfg1.grid.coords t) 0 * 1024 + 1 * a.val = 1024 * (t.val / 2 % 4) + a.val
    rw [(map1_2 t).1]; omega
  | ⟨1, _⟩ =>
    show cc1_transform_2 (cfg1.grid.coords t) 1 * 1024 + 1 * b.val = 1024 * (t.val % 2) + b.val
    rw [(map1_2 t).2]; omega

/-- What the body stores, at an index. -/
theorem pay1_1 (x : FVec Ideal S1024x3584 .bf16) (w : FVec Ideal S1024x3584 .bf16) (a : Fin 1024) (b : Fin 1024) :
    k1_pay1 (F := Ideal) x w (ix2 a b) = ∑ d : Fin 3584, x (ix2 a d) * w (ix2 b d) := by
  unfold k1_pay1
  simp only [shapeCast_self]
  show Ideal.matmul _ x w _ _ = _
  rw [Ideal.matmul_apply₁_of _ (a := 1) rfl (K := 3584) rfl x w _ _ (fun d => ix2 a d) (fun d => ix2 b d)
    (fun k => by funext e; match e with | ⟨0, _⟩ => rfl | ⟨1, _⟩ => rfl)
    (fun k => by funext e; match e with | ⟨0, _⟩ => rfl | ⟨1, _⟩ => rfl)]
  rw [constant_apply, zero32, zero_add]

theorem out1_2_apply (x : FVec Ideal S1024x3584 .bf16) (w : FVec Ideal S1024x3584 .bf16) (i : S1024x1024.Idx) :
    out1_2 (F := Ideal) x w i = k1_pay1 (F := Ideal) x w i := by
  frame_out

/-- The array the call leaves, at an index. -/
theorem arr1_2 (V : (c : Dev nD) → (b : Ref sig .tc) → Buf (Elt Ideal) ((c.tc : Thread nD τ).loc b)) (c : Dev nD) : (dat1 (F := Ideal) V c).arrAt 2 cfg1.N
    = fun i : S4096x2048.Idx => mulT (mat (V c main_v2)) (mat (V c main_v1)) (i 0) (i 1) := by
  refine (dat1 (F := Ideal) V c).arrAt_eq_of_covers 2 _ (by decide +kernel) fun t hf y => ?_
  obtain ⟨a, b, rfl⟩ : ∃ (a : Fin 1024) (b : Fin 1024), y = ix2 a b := ⟨y 0, y 1, eq_ix2 y⟩
  rw [emb1_2]
  refine (congrFun (after1_2 V c t) (ix2 a b)).trans ?_
  rw [out1_2_apply, pay1_1]
  exact Finset.sum_congr (M := EReal) rfl fun d _ => congrArg₂ (· * ·) (blk1_0 (V c main_v2) t a d) (blk1_1 (V c main_v1) t b d)

theorem map2_0 : ∀ t : Fin cfg2.N, cc2_transform_0 (cfg2.grid.coords t) 0 = t.val / 7 ∧ cc2_transform_0 (cfg2.grid.coords t) 1 = 0 := by
  decide +kernel
theorem map2_1 : ∀ t : Fin cfg2.N, cc2_transform_1 (cfg2.grid.coords t) 0 = 0 ∧ cc2_transform_1 (cfg2.grid.coords t) 1 = t.val % 7 := by
  decide +kernel
theorem map2_2 : ∀ t : Fin cfg2.N, cc2_transform_2 (cfg2.grid.coords t) 0 = t.val / 7 ∧ cc2_transform_2 (cfg2.grid.coords t) 1 = t.val % 7 := by
  decide +kernel
theorem map2_3 : ∀ t : Fin cfg2.N, cc2_transform_3 (cfg2.grid.coords t) 0 = t.val / 7 ∧ cc2_transform_3 (cfg2.grid.coords t) 1 = t.val % 7 := by
  decide +kernel

/-- The row of the result that row `a` of point `n`'s block is. -/
def row2 (n : ℕ) (a : Fin 1024) : Fin 2048 := ⟨1024 * (n / 7 % 2) + a.val, by omega⟩
/-- The column of the result that column `b` of point `n`'s block is. -/
def col2 (n : ℕ) (b : Fin 512) : Fin 3584 := ⟨512 * (n % 7) + b.val, by omega⟩

theorem blk2_0 (X : FVec Ideal S2048x4096 .bf16) (t : Fin cfg2.N) (a : Fin 1024) (d : Fin 4096) :
    (((cfg2.win 0).blk t).view.read (Elt Ideal) X : FVec Ideal S1024x4096 .bf16) (ix2 a d) = X (ix2 (row2 t.val a) d) := by
  rw [View.read_apply]
  refine congrArg X (funext fun e => Fin.ext ?_)
  have ht : t.val < 14 := t.isLt
  match e with
  | ⟨0, _⟩ =>
    show cc2_transform_0 (cfg2.grid.coords t) 0 * 1024 + 1 * a.val = 1024 * (t.val / 7 % 2) + a.val
    rw [(map2_0 t).1]; omega
  | ⟨1, _⟩ =>
    show cc2_transform_0 (cfg2.grid.coords t) 1 * 4096 + 1 * d.val = d.val
    rw [(map2_0 t).2]; omega

theorem blk2_1 (X : FVec Ideal S4096x3584 .bf16) (t : Fin cfg2.N) (d : Fin 4096) (b : Fin 512) :
    (((cfg2.win 1).blk t).view.read (Elt Ideal) X : FVec Ideal S4096x512 .bf16) (ix2 d b) = X (ix2 d (col2 t.val b)) := by
  rw [View.read_apply]
  refine congrArg X (funext fun e => Fin.ext ?_)
  have ht : t.val < 14 := t.isLt
  match e with
  | ⟨0, _⟩ =>
    show cc2_transform_1 (cfg2.grid.coords t) 0 * 4096 + 1 * d.val = d.val
    rw [(map2_1 t).1]; omega
  | ⟨1, _⟩ =>
    show cc2_transform_1 (cfg2.grid.coords t) 1 * 512 + 1 * b.val = 512 * (t.val % 7) + b.val
    rw [(map2_1 t).2]; omega

theorem emb2_2 (t : Fin cfg2.N) (a : Fin 1024) (b : Fin 512) :
    (((cfg2.win 2).blk t).view.emb (ix2 a b) : S2048x3584.Idx) = ix2 (row2 t.val a) (col2 t.val b) := by
  refine funext fun e => Fin.ext ?_
  have ht : t.val < 14 := t.isLt
  match e with
  | ⟨0, _⟩ =>
    show cc2_transform_2 (cfg2.grid.coords t) 0 * 1024 + 1 * a.val = 1024 * (t.val / 7 % 2) + a.val
    rw [(map2_2 t).1]; omega
  | ⟨1, _⟩ =>
    show cc2_transform_2 (cfg2.grid.coords t) 1 * 512 + 1 * b.val = 512 * (t.val % 7) + b.val
    rw [(map2_2 t).2]; omega

theorem emb2_3 (t : Fin cfg2.N) (a : Fin 1024) (b : Fin 512) :
    (((cfg2.win 3).blk t).view.emb (ix2 a b) : S2048x3584.Idx) = ix2 (row2 t.val a) (col2 t.val b) := by
  refine funext fun e => Fin.ext ?_
  have ht : t.val < 14 := t.isLt
  match e with
  | ⟨0, _⟩ =>
    show cc2_transform_3 (cfg2.grid.coords t) 0 * 1024 + 1 * a.val = 1024 * (t.val / 7 % 2) + a.val
    rw [(map2_3 t).1]; omega
  | ⟨1, _⟩ =>
    show cc2_transform_3 (cfg2.grid.coords t) 1 * 512 + 1 * b.val = 512 * (t.val % 7) + b.val
    rw [(map2_3 t).2]; omega

/-- What the body stores, at an index. -/
theorem pay2_1 (x : FVec Ideal S1024x4096 .bf16) (w : FVec Ideal S4096x512 .bf16) (a : Fin 1024) (b : Fin 512) :
    k2_pay1 (F := Ideal) x w (ix2 a b) = ∑ d : Fin 4096, x (ix2 a d) * w (ix2 d b) := by
  unfold k2_pay1
  simp only [shapeCast_self]
  show Ideal.matmul _ x w _ _ = _
  rw [Ideal.matmul_apply₁_of _ (a := 1) rfl (K := 4096) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem pay2_2 (x : FVec Ideal S1024x4096 .bf16) (w : FVec Ideal S4096x512 .bf16) (a : Fin 1024) (b : Fin 512) :
    k2_pay2 (F := Ideal) x w (ix2 a b) = ∑ d : Fin 4096, x (ix2 a d) * w (ix2 d b) :=
  (show k2_pay2 (F := Ideal) x w (ix2 a b) = k2_pay1 (F := Ideal) x w (ix2 a b) from rfl).trans (pay2_1 x w a b)

theorem out2_2_apply (x : FVec Ideal S1024x4096 .bf16) (w : FVec Ideal S4096x512 .bf16) (i : S1024x512.Idx) :
    out2_2 (F := Ideal) x w i = k2_pay1 (F := Ideal) x w i := by
  frame_out

theorem out2_3_apply (x : FVec Ideal S1024x4096 .bf16) (w : FVec Ideal S4096x512 .bf16) (i : S1024x512.Idx) :
    out2_3 (F := Ideal) x w i = k2_pay2 (F := Ideal) x w i := by
  frame_out

/-- The array the call leaves, at an index. -/
theorem arr2_2 (V : (c : Dev nD) → (b : Ref sig .tc) → Buf (Elt Ideal) ((c.tc : Thread nD τ).loc b)) (c : Dev nD) : (dat2 (F := Ideal) V c).arrAt 2 cfg2.N
    = fun i : S2048x3584.Idx => mul (mat (V c main_v5)) (mat (V c main_v2)) (i 0) (i 1) := by
  refine (dat2 (F := Ideal) V c).arrAt_eq_of_covers 2 _ (by decide +kernel) fun t hf y => ?_
  obtain ⟨a, b, rfl⟩ : ∃ (a : Fin 1024) (b : Fin 512), y = ix2 a b := ⟨y 0, y 1, eq_ix2 y⟩
  rw [emb2_2]
  refine (congrFun (after2_2 V c t) (ix2 a b)).trans ?_
  rw [out2_2_apply, pay2_1]
  exact Finset.sum_congr (M := EReal) rfl fun d _ => congrArg₂ (· * ·) (blk2_0 (V c main_v5) t a d) (blk2_1 (V c main_v2) t d b)

/-- The array the call leaves, at an index. -/
theorem arr2_3 (V : (c : Dev nD) → (b : Ref sig .tc) → Buf (Elt Ideal) ((c.tc : Thread nD τ).loc b)) (c : Dev nD) : (dat2 (F := Ideal) V c).arrAt 3 cfg2.N
    = fun i : S2048x3584.Idx => mul (mat (V c main_v5)) (mat (V c main_v2)) (i 0) (i 1) := by
  refine (dat2 (F := Ideal) V c).arrAt_eq_of_covers 3 _ (by decide +kernel) fun t hf y => ?_
  obtain ⟨a, b, rfl⟩ : ∃ (a : Fin 1024) (b : Fin 512), y = ix2 a b := ⟨y 0, y 1, eq_ix2 y⟩
  rw [emb2_3]
  refine (congrFun (after2_3 V c t) (ix2 a b)).trans ?_
  rw [out2_3_apply, pay2_2]
  exact Finset.sum_congr (M := EReal) rfl fun d _ => congrArg₂ (· * ·) (blk2_0 (V c main_v5) t a d) (blk2_1 (V c main_v2) t d b)

end Cert.ProdA

end
-- ==== Proof.ProdAVal.lean ====
/- What the program of the first mixer's input projection leaves: each result from the arguments. -/
module

public import proofs.«01_k».proof.Proof.ProdAArr
public import Idealize.ShloMosaic.Lib.StableHlo.RunRead

@[expose] public section

set_option maxRecDepth 16384

noncomputable section

namespace Cert.ProdA

open Idealize.ShloMosaic hiding ix1 ix2 ix3 ix4 eq_ix1 eq_ix2 eq_ix3 eq_ix4
open Idealize.ShloMosaic.ValueIdx Idealize.ShloMosaic.TcCoe
open Cert.Feed (mul mulT tmul mat)
open Cert.InAIdeal Cert.InAIdeal.Gen

variable (m : (ℓ : Loc nD τ sig) → Buf (Elt Ideal) ℓ) (ρ : Dev nD → PrngReg) (c : Dev nD)

abbrev arg0 : FVec Ideal S4096x2048 .f32 := m ((c : Thread nD τ).loc main_arg0)
abbrev arg1 : FVec Ideal S2048x3584 .f32 := m ((c : Thread nD τ).loc main_arg1)
abbrev arg2 : FVec Ideal S4096x3584 .f32 := m ((c : Thread nD τ).loc main_arg2)

theorem W1_v0 : (W1 m ρ c (Proc.devRef .tc main_v0) : S4096x2048.Idx → EReal) = arg0 m c := by
  unfold W1; after_reads_simp; rfl
theorem W1_v1 : (W1 m ρ c (Proc.devRef .tc main_v1) : S2048x3584.Idx → EReal) = arg1 m c := by
  unfold W1; after_reads_simp; rfl
theorem W1_v2 : (W1 m ρ c (Proc.devRef .tc main_v2) : S4096x3584.Idx → EReal) = arg2 m c := by
  unfold W1; after_reads_simp; rfl

/-- The projection. -/
theorem W2_z : (W2 m ρ c (Proc.devRef .tc main_v3) : S4096x3584.Idx → EReal)
    = fun i => mul (mat (arg0 m c)) (mat (arg1 m c)) (i 0) (i 1) := by
  refine (W2_arr m ρ c 2).trans ((arr0_2 (V1 m ρ) c).trans ?_)
  show (fun i : S4096x3584.Idx => mul (mat (W1 m ρ c (Proc.devRef .tc main_v0))) (mat (W1 m ρ c (Proc.devRef .tc main_v1))) (i 0) (i 1)) = _
  rw [W1_v0, W1_v1]
  rfl

theorem W2_v2 : (W2 m ρ c (Proc.devRef .tc main_v2) : S4096x3584.Idx → EReal) = arg2 m c :=
  (W2_of m ρ c main_v2 (by decide +kernel)).trans (W1_v2 m ρ c)
theorem W2_v1 : (W2 m ρ c (Proc.devRef .tc main_v1) : S2048x3584.Idx → EReal) = arg1 m c :=
  (W2_of m ρ c main_v1 (by decide +kernel)).trans (W1_v1 m ρ c)

/-- The gradient of its input. -/
theorem W3_dx : (W3 m ρ c (Proc.devRef .tc main_v4) : S4096x2048.Idx → EReal)
    = fun i => mulT (mat (arg2 m c)) (mat (arg1 m c)) (i 0) (i 1) := by
  refine (W3_arr m ρ c 2).trans ((arr1_2 (V2 m ρ) c).trans ?_)
  show (fun i : S4096x2048.Idx => mulT (mat (W2 m ρ c (Proc.devRef .tc main_v2))) (mat (W2 m ρ c (Proc.devRef .tc main_v1))) (i 0) (i 1)) = _
  rw [W2_v2, W2_v1]
  rfl

theorem W3_v0 : (W3 m ρ c (Proc.devRef .tc main_v0) : S4096x2048.Idx → EReal) = arg0 m c :=
  (W3_of m ρ c main_v0 (by decide +kernel)).trans ((W2_of m ρ c main_v0 (by decide +kernel)).trans (W1_v0 m ρ c))

theorem W4_hT : (W4 m ρ c (Proc.devRef .tc main_v5) : S2048x4096.Idx → EReal)
    = transpose S2048x4096 [1, 0] (arg0 m c : S4096x2048.Idx → EReal) transposes_S4096x2048_S2048x4096_1_0 := by
  rw [← W3_v0 m ρ c]
  unfold W4; after_reads_simp
theorem W4_v2 : (W4 m ρ c (Proc.devRef .tc main_v2) : S4096x3584.Idx → EReal) = arg2 m c :=
  (W4_of m ρ c main_v2 (by decide +kernel)).trans ((W3_of m ρ c main_v2 (by decide +kernel)).trans (W2_v2 m ρ c))

theorem hT_apply (x : S4096x2048.Idx → EReal) (d : Fin 2048) (t : Fin 4096) :
    mat (transpose S2048x4096 [1, 0] x transposes_S4096x2048_S2048x4096_1_0) d t = mat x t d := by
  refine transpose_apply [1, 0] x _ (ix2 d t) (ix2 t d) fun b => ?_
  match b with
  | ⟨0, _⟩ => rfl
  | ⟨1, _⟩ => rfl

/-- The gradient of its weight. -/
theorem W5_dw0 : (W5 m ρ c (Proc.devRef .tc main_v6_0) : S2048x3584.Idx → EReal)
    = fun i => tmul (mat (arg0 m c)) (mat (arg2 m c)) (i 0) (i 1) := by
  refine (W5_arr m ρ c 2).trans ((arr2_2 (V4 m ρ) c).trans ?_)
  show (fun i : S2048x3584.Idx => mul (mat (W4 m ρ c (Proc.devRef .tc main_v5))) (mat (W4 m ρ c (Proc.devRef .tc main_v2))) (i 0) (i 1)) = _
  rw [W4_hT, W4_v2]
  exact funext fun i => Finset.sum_congr (M := EReal) rfl fun d _ => congrArg (· * _) (hT_apply _ _ _)

/-- Its rounded copy. -/
theorem W5_dw1 : (W5 m ρ c (Proc.devRef .tc main_v6_1) : S2048x3584.Idx → EReal)
    = fun i => tmul (mat (arg0 m c)) (mat (arg2 m c)) (i 0) (i 1) := by
  refine (W5_arr m ρ c 3).trans ((arr2_3 (V4 m ρ) c).trans ?_)
  show (fun i : S2048x3584.Idx => mul (mat (W4 m ρ c (Proc.devRef .tc main_v5))) (mat (W4 m ρ c (Proc.devRef .tc main_v2))) (i 0) (i 1)) = _
  rw [W4_hT, W4_v2]
  exact funext fun i => Finset.sum_congr (M := EReal) rfl fun d _ => congrArg (· * _) (hT_apply _ _ _)

theorem W5_z : (W5 m ρ c (Proc.devRef .tc main_v3) : S4096x3584.Idx → EReal) = fun i => mul (mat (arg0 m c)) (mat (arg1 m c)) (i 0) (i 1) :=
  (W5_of m ρ c main_v3 (by decide +kernel)).trans ((W4_of m ρ c main_v3 (by decide +kernel)).trans ((W3_of m ρ c main_v3 (by decide +kernel)).trans (W2_z m ρ c)))
theorem W5_dx : (W5 m ρ c (Proc.devRef .tc main_v4) : S4096x2048.Idx → EReal) = fun i => mulT (mat (arg2 m c)) (mat (arg1 m c)) (i 0) (i 1) :=
  (W5_of m ρ c main_v4 (by decide +kernel)).trans ((W4_of m ρ c main_v4 (by decide +kernel)).trans (W3_dx m ρ c))

end Cert.ProdA

end
-- ==== Proof.ProdARef.lean ====
/- The first mixer's input projection: the reference's arrays. -/
module

public import proofs.«01_k».proof.Proof.FeedArr0
public import proofs.«01_k».proof.Proof.Gen.InAReferenceIdeal.Read

@[expose] public section

set_option maxRecDepth 16384

noncomputable section

namespace Cert.ProdA

open Idealize.ShloMosaic hiding ix1 ix2 ix3 ix4 eq_ix1 eq_ix2 eq_ix3 eq_ix4
open Idealize.ShloMosaic.ValueIdx Idealize.ShloMosaic.TcCoe
open Cert.Feed (mul mulT tmul mat)
open Cert.InAReferenceIdeal Cert.InAReferenceIdeal.Gen Cert.InAReferenceIdeal.Read

/-- The reference's projection. -/
theorem ref_v0 (A : FVec Ideal S4096x2048 .f32) (B : FVec Ideal S2048x3584 .f32) :
    (val_main_v0 (F := Ideal) A B : S4096x3584.Idx → EReal) = fun i => mul (mat A) (mat B) (i 0) (i 1) := by
  funext i
  refine (val_main_v0_apply A B i).trans ?_
  exact Finset.sum_congr (M := EReal) rfl fun d _ => congrArg₂ (fun u v : EReal => u * v)
    (congrArg A (funext fun e => by match e with | ⟨0, _⟩ => rfl | ⟨1, _⟩ => rfl))
    (congrArg B (funext fun e => by match e with | ⟨0, _⟩ => rfl | ⟨1, _⟩ => rfl))

/-- The reference's gradient of the input. -/
theorem ref_v3 (B : FVec Ideal S2048x3584 .f32) (C : FVec Ideal S4096x3584 .f32) :
    (val_main_v3 (F := Ideal) B C : S4096x2048.Idx → EReal) = fun i => mulT (mat C) (mat B) (i 0) (i 1) := by
  funext i
  refine (val_main_v3_apply B C i).trans ?_
  exact Finset.sum_congr (M := EReal) rfl fun d _ => congrArg₂ (fun u v : EReal => u * v)
    (congrArg C (funext fun e => by match e with | ⟨0, _⟩ => rfl | ⟨1, _⟩ => rfl))
    (congrArg B (funext fun e => by match e with | ⟨0, _⟩ => rfl | ⟨1, _⟩ => rfl))

/-- The reference's gradient of the weight. -/
theorem ref_v2 (A : FVec Ideal S4096x2048 .f32) (C : FVec Ideal S4096x3584 .f32) :
    (val_main_v2 (F := Ideal) A C : S2048x3584.Idx → EReal) = fun i => tmul (mat A) (mat C) (i 0) (i 1) := by
  funext i
  refine (val_main_v2_apply (F := Ideal) A C i).trans ((val_main_v1_apply A C _).trans ?_)
  refine Finset.sum_congr (M := EReal) rfl fun d _ => (mul_comm (G := EReal) _ _).trans ?_
  exact congrArg₂ (fun u v : EReal => u * v)
    (congrArg A (funext fun e => by match e with | ⟨0, _⟩ => rfl | ⟨1, _⟩ => rfl))
    (congrArg C (funext fun e => by match e with | ⟨0, _⟩ => rfl | ⟨1, _⟩ => rfl))

/-- Its rounded copy. -/
theorem ref_v4 (A : FVec Ideal S4096x2048 .f32) (C : FVec Ideal S4096x3584 .f32) :
    (val_main_v4 (F := Ideal) A C : S2048x3584.Idx → EReal) = fun i => tmul (mat A) (mat C) (i 0) (i 1) :=
  ref_v2 A C

end Cert.ProdA

end
-- ==== Proof.ProdAFinal.lean ====
/- The claims about the first mixer's input projection. -/
module

public import proofs.«01_k».proof.Defs
public import proofs.«01_k».proof.Proof.ProdARun
public import proofs.«01_k».proof.Proof.ProdAVal
public import proofs.«01_k».proof.Proof.ProdARef
public import proofs.«01_k».proof.Proof.Gen.InA.Frame
public import proofs.«01_k».proof.Proof.Gen.InAReferenceIdeal.Run
public import Idealize.ShloMosaic.Adequacy
public import Idealize.ShloMosaic.Init

@[expose] public section

noncomputable section

namespace Cert.ProdA

open Idealize.ShloMosaic hiding ix1 ix2 ix3 ix4 eq_ix1 eq_ix2 eq_ix3 eq_ix4
open Idealize.ShloMosaic.ValueIdx Idealize.ShloMosaic.TcCoe Idealize.SL.Sem

section
variable (m : (ℓ : Loc Cert.InAIdeal.nD Cert.InAIdeal.τ Cert.InAIdeal.sig) → Buf (Elt Ideal) ℓ) (ρ : Dev Cert.InAIdeal.nD → PrngReg) (c : Dev Cert.InAIdeal.nD)

/-- Result 0 equals the reference's. -/
theorem same0 : (Cert.InAIdeal.Gen.W5 m ρ c (Proc.devRef .tc Cert.InAIdeal.main_v3) : FVec Ideal ⟨2, ![4096, 3584]⟩ .f32)
    = Cert.InAReferenceIdeal.Read.val_main_v0 (F := Ideal) (arg0 m c) (arg1 m c) :=
  (W5_z m ρ c).trans (ref_v0 (arg0 m c) (arg1 m c)).symm

/-- Result 1 equals the reference's. -/
theorem same1 : (Cert.InAIdeal.Gen.W5 m ρ c (Proc.devRef .tc Cert.InAIdeal.main_v4) : FVec Ideal ⟨2, ![4096, 2048]⟩ .f32)
    = Cert.InAReferenceIdeal.Read.val_main_v3 (F := Ideal) (arg1 m c) (arg2 m c) :=
  (W5_dx m ρ c).trans (ref_v3 (arg1 m c) (arg2 m c)).symm

/-- Result 2 equals the reference's. -/
theorem same2 : (Cert.InAIdeal.Gen.W5 m ρ c (Proc.devRef .tc Cert.InAIdeal.main_v6_0) : FVec Ideal ⟨2, ![2048, 3584]⟩ .f32)
    = Cert.InAReferenceIdeal.Read.val_main_v2 (F := Ideal) (arg0 m c) (arg2 m c) :=
  (W5_dw0 m ρ c).trans (ref_v2 (arg0 m c) (arg2 m c)).symm

/-- Result 3 equals the reference's. -/
theorem same3 : (Cert.InAIdeal.Gen.W5 m ρ c (Proc.devRef .tc Cert.InAIdeal.main_v6_1) : FVec Ideal ⟨2, ![2048, 3584]⟩ .bf16)
    = Cert.InAReferenceIdeal.Read.val_main_v4 (F := Ideal) (arg0 m c) (arg2 m c) :=
  (W5_dw1 m ρ c).trans (ref_v4 (arg0 m c) (arg2 m c)).symm

end

/-- The kernel runs without fault and leaves its arguments. -/
theorem frame_k : Cert.quiescent_InA := fun m ρ _ => Cert.InA.Gen.frame m ρ

/-- The idealised kernel runs without fault and leaves its arguments. -/
theorem frame_ki : Cert.quiescent_InAIdeal := fun m ρ _ => Cert.InAIdeal.Gen.frame m ρ

/-- The reference runs without fault and leaves its arguments. -/
theorem frame_r : Cert.quiescent_InAReferenceIdeal := fun m ρ _ =>
  (θ_run Cert.InAReferenceIdeal.defs _ _).mono (fun r h => ⟨fun c => (h c).2.2.2.2,
    Idealize.ShloMosaic.sem_eq_zero_of_no_sems (by decide) r.2⟩) (Cert.InAReferenceIdeal.Value.run (F := Ideal) m ρ)

/-- The idealised kernel is the kernel. -/
theorem preserves : Cert.preserves_InA_InAIdeal := trivial

/-- The kernel's results are the reference's. -/
theorem algebraic : Cert.algebraic_InAIdeal_InAReferenceIdeal := by
  intro m ρ m' ρ' _ hagree
  refine ⟨fun c => Cert.InAReferenceIdeal.Read.val_main_v0 (F := Ideal) (arg0 m c) (arg1 m c),
    fun c => Cert.InAReferenceIdeal.Read.val_main_v3 (F := Ideal) (arg1 m c) (arg2 m c),
    fun c => Cert.InAReferenceIdeal.Read.val_main_v2 (F := Ideal) (arg0 m c) (arg2 m c),
    fun c => Cert.InAReferenceIdeal.Read.val_main_v4 (F := Ideal) (arg0 m c) (arg2 m c), ?_, ?_⟩
  · exact (θ_run Cert.InAIdeal.defs _ _).mono (fun _ h c => ⟨(h c).1.trans (same0 m ρ c),
      (h c).2.1.trans (same1 m ρ c),
      (h c).2.2.1.trans (same2 m ρ c),
      (h c).2.2.2.1.trans (same3 m ρ c), (h c).2.2.2.2⟩) (run m ρ)
  · refine (θ_run Cert.InAReferenceIdeal.defs _ _).mono (fun _ h c => ?_) (Cert.InAReferenceIdeal.Value.run (F := Ideal) m' ρ')
    have e := hagree c
    refine ⟨(h c).1.trans ?_, (h c).2.1.trans ?_, (h c).2.2.1.trans ?_, (h c).2.2.2.1.trans ?_, (h c).2.2.2.2⟩
    · refine (Cert.InAReferenceIdeal.Read.val_main_v0_eq _ _).trans ?_
      rw [e.1, e.2.1]
    · refine (Cert.InAReferenceIdeal.Read.val_main_v3_eq _ _).trans ?_
      rw [e.2.1, e.2.2]
    · refine (Cert.InAReferenceIdeal.Read.val_main_v2_eq _ _).trans ?_
      rw [e.1, e.2.2]
    · refine (Cert.InAReferenceIdeal.Read.val_main_v4_eq _ _).trans ?_
      rw [e.1, e.2.2]

end Cert.ProdA

end
-- ==== Proof.ProdBRun.lean ====
/- What the program of the second mixer's input projection leaves: its run. -/
module

public import proofs.«01_k».proof.Proof.Gen.InBIdeal.Frame
public import proofs.«01_k».proof.Proof.FeedModel

@[expose] public section

set_option maxRecDepth 16384

noncomputable section

namespace Cert.ProdB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.InBIdeal Cert.InBIdeal.Gen

variable (m : (ℓ : Loc nD τ sig) → Buf (Elt Ideal) ℓ) (ρ : Dev nD → PrngReg)

set_option backward.isDefEq.respectTransparency.types false in
/-- The program's run: its four results as left by its last call, its arguments unchanged. -/
theorem run : θ_run defs (onTc (τ := τ) (main (F := Ideal))) ⟨m, fun _ => 0, ρ⟩ (fun r => ∀ c : Dev nD,
      r.2.mem ((c.tc : Thread nD τ).loc main_v3) = W5 m ρ c (Proc.devRef .tc main_v3)
      ∧ r.2.mem ((c.tc : Thread nD τ).loc main_v4) = W5 m ρ c (Proc.devRef .tc main_v4)
      ∧ r.2.mem ((c.tc : Thread nD τ).loc main_v6_0) = W5 m ρ c (Proc.devRef .tc main_v6_0)
      ∧ r.2.mem ((c.tc : Thread nD τ).loc main_v6_1) = W5 m ρ c (Proc.devRef .tc main_v6_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v3 (by decide)),
       h c _ (mem_uc main_v4 (by decide)),
       h c _ (mem_uc main_v6_0 (by decide)),
       h c _ (mem_uc main_v6_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.ProdB

end
-- ==== Proof.ProdBArr.lean ====
/- The arrays the calls of the second mixer's input projection leave, at an index. -/
module

public import proofs.«01_k».proof.Proof.FeedArr0
public import proofs.«01_k».proof.Proof.Gen.InBIdeal.Frame

@[expose] public section

noncomputable section

namespace Cert.ProdB

open Idealize.ShloMosaic hiding ix1 ix2 ix3 ix4 eq_ix1 eq_ix2 eq_ix3 eq_ix4
open Idealize.ShloMosaic.ValueIdx Idealize.ShloMosaic.TcCoe
open Cert.Feed (mul mulT tmul mat zero32)
open Cert.InBIdeal Cert.InBIdeal.Gen

theorem map0_0 : ∀ t : Fin cfg0.N, cc0_transform_0 (cfg0.grid.coords t) 0 = t.val / 6 ∧ cc0_transform_0 (cfg0.grid.coords t) 1 = 0 := by
  decide +kernel
theorem map0_1 : ∀ t : Fin cfg0.N, cc0_transform_1 (cfg0.grid.coords t) 0 = 0 ∧ cc0_transform_1 (cfg0.grid.coords t) 1 = t.val % 6 := by
  decide +kernel
theorem map0_2 : ∀ t : Fin cfg0.N, cc0_transform_2 (cfg0.grid.coords t) 0 = t.val / 6 ∧ cc0_transform_2 (cfg0.grid.coords t) 1 = t.val % 6 := by
  decide +kernel

/-- The row of the result that row `a` of point `n`'s block is. -/
def row0 (n : ℕ) (a : Fin 2048) : Fin 4096 := ⟨2048 * (n / 6 % 2) + a.val, by omega⟩
/-- The column of the result that column `b` of point `n`'s block is. -/
def col0 (n : ℕ) (b : Fin 512) : Fin 3072 := ⟨512 * (n % 6) + b.val, by omega⟩

theorem blk0_0 (X : FVec Ideal S4096x2048 .bf16) (t : Fin cfg0.N) (a : Fin 2048) (d : Fin 2048) :
    (((cfg0.win 0).blk t).view.read (Elt Ideal) X : FVec Ideal S2048x2048 .bf16) (ix2 a d) = X (ix2 (row0 t.val a) d) := by
  rw [View.read_apply]
  refine congrArg X (funext fun e => Fin.ext ?_)
  have ht : t.val < 12 := t.isLt
  match e with
  | ⟨0, _⟩ =>
    show cc0_transform_0 (cfg0.grid.coords t) 0 * 2048 + 1 * a.val = 2048 * (t.val / 6 % 2) + a.val
    rw [(map0_0 t).1]; omega
  | ⟨1, _⟩ =>
    show cc0_transform_0 (cfg0.grid.coords t) 1 * 2048 + 1 * d.val = d.val
    rw [(map0_0 t).2]; omega

theorem blk0_1 (X : FVec Ideal S2048x3072 .bf16) (t : Fin cfg0.N) (d : Fin 2048) (b : Fin 512) :
    (((cfg0.win 1).blk t).view.read (Elt Ideal) X : FVec Ideal S2048x512 .bf16) (ix2 d b) = X (ix2 d (col0 t.val b)) := by
  rw [View.read_apply]
  refine congrArg X (funext fun e => Fin.ext ?_)
  have ht : t.val < 12 := t.isLt
  match e with
  | ⟨0, _⟩ =>
    show cc0_transform_1 (cfg0.grid.coords t) 0 * 2048 + 1 * d.val = d.val
    rw [(map0_1 t).1]; omega
  | ⟨1, _⟩ =>
    show cc0_transform_1 (cfg0.grid.coords t) 1 * 512 + 1 * b.val = 512 * (t.val % 6) + b.val
    rw [(map0_1 t).2]; omega

theorem emb0_2 (t : Fin cfg0.N) (a : Fin 2048) (b : Fin 512) :
    (((cfg0.win 2).blk t).view.emb (ix2 a b) : S4096x3072.Idx) = ix2 (row0 t.val a) (col0 t.val b) := by
  refine funext fun e => Fin.ext ?_
  have ht : t.val < 12 := t.isLt
  match e with
  | ⟨0, _⟩ =>
    show cc0_transform_2 (cfg0.grid.coords t) 0 * 2048 + 1 * a.val = 2048 * (t.val / 6 % 2) + a.val
    rw [(map0_2 t).1]; omega
  | ⟨1, _⟩ =>
    show cc0_transform_2 (cfg0.grid.coords t) 1 * 512 + 1 * b.val = 512 * (t.val % 6) + b.val
    rw [(map0_2 t).2]; omega

/-- What the body stores, at an index. -/
theorem pay0_1 (x : FVec Ideal S2048x2048 .bf16) (w : FVec Ideal S2048x512 .bf16) (a : Fin 2048) (b : Fin 512) :
    k0_pay1 (F := Ideal) x w (ix2 a b) = ∑ d : Fin 2048, x (ix2 a d) * w (ix2 d b) := by
  unfold k0_pay1
  simp only [shapeCast_self]
  show Ideal.matmul _ x w _ _ = _
  rw [Ideal.matmul_apply₁_of _ (a := 1) rfl (K := 2048) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem out0_2_apply (x : FVec Ideal S2048x2048 .bf16) (w : FVec Ideal S2048x512 .bf16) (i : S2048x512.Idx) :
    out0_2 (F := Ideal) x w i = k0_pay1 (F := Ideal) x w i := by
  frame_out

/-- The array the call leaves, at an index. -/
theorem arr0_2 (V : (c : Dev nD) → (b : Ref sig .tc) → Buf (Elt Ideal) ((c.tc : Thread nD τ).loc b)) (c : Dev nD) : (dat0 (F := Ideal) V c).arrAt 2 cfg0.N
    = fun i : S4096x3072.Idx => mul (mat (V c main_v0)) (mat (V c main_v1)) (i 0) (i 1) := by
  refine (dat0 (F := Ideal) V c).arrAt_eq_of_covers 2 _ (by decide +kernel) fun t hf y => ?_
  obtain ⟨a, b, rfl⟩ : ∃ (a : Fin 2048) (b : Fin 512), y = ix2 a b := ⟨y 0, y 1, eq_ix2 y⟩
  rw [emb0_2]
  refine (congrFun (after0_2 V c t) (ix2 a b)).trans ?_
  rw [out0_2_apply, pay0_1]
  exact Finset.sum_congr (M := EReal) rfl fun d _ => congrArg₂ (· * ·) (blk0_0 (V c main_v0) t a d) (blk0_1 (V c main_v1) t d b)

theorem map1_0 : ∀ t : Fin cfg1.N, cc1_transform_0 (cfg1.grid.coords t) 0 = t.val / 2 ∧ cc1_transform_0 (cfg1.grid.coords t) 1 = 0 := by
  decide +kernel
theorem map1_1 : ∀ t : Fin cfg1.N, cc1_transform_1 (cfg1.grid.coords t) 0 = t.val % 2 ∧ cc1_transform_1 (cfg1.grid.coords t) 1 = 0 := by
  decide +kernel
theorem map1_2 : ∀ t : Fin cfg1.N, cc1_transform_2 (cfg1.grid.coords t) 0 = t.val / 2 ∧ cc1_transform_2 (cfg1.grid.coords t) 1 = t.val % 2 := by
  decide +kernel

/-- The row of the result that row `a` of point `n`'s block is. -/
def row1 (n : ℕ) (a : Fin 1024) : Fin 4096 := ⟨1024 * (n / 2 % 4) + a.val, by omega⟩
/-- The column of the result that column `b` of point `n`'s block is. -/
def col1 (n : ℕ) (b : Fin 1024) : Fin 2048 := ⟨1024 * (n % 2) + b.val, by omega⟩

theorem blk1_0 (X : FVec Ideal S4096x3072 .bf16) (t : Fin cfg1.N) (a : Fin 1024) (d : Fin 3072) :
    (((cfg1.win 0).blk t).view.read (Elt Ideal) X : FVec Ideal S1024x3072 .bf16) (ix2 a d) = X (ix2 (row1 t.val a) d) := by
  rw [View.read_apply]
  refine congrArg X (funext fun e => Fin.ext ?_)
  have ht : t.val < 8 := t.isLt
  match e with
  | ⟨0, _⟩ =>
    show cc1_transform_0 (cfg1.grid.coords t) 0 * 1024 + 1 * a.val = 1024 * (t.val / 2 % 4) + a.val
    rw [(map1_0 t).1]; omega
  | ⟨1, _⟩ =>
    show cc1_transform_0 (cfg1.grid.coords t) 1 * 3072 + 1 * d.val = d.val
    rw [(map1_0 t).2]; omega

theorem blk1_1 (X : FVec Ideal S2048x3072 .bf16) (t : Fin cfg1.N) (b : Fin 1024) (d : Fin 3072) :
    (((cfg1.win 1).blk t).view.read (Elt Ideal) X : FVec Ideal S1024x3072 .bf16) (ix2 b d) = X (ix2 (col1 t.val b) d) := by
  rw [View.read_apply]
  refine congrArg X (funext fun e => Fin.ext ?_)
  have ht : t.val < 8 := t.isLt
  match e with
  | ⟨0, _⟩ =>
    show cc1_transform_1 (cfg1.grid.coords t) 0 * 1024 + 1 * b.val = 1024 * (t.val % 2) + b.val
    rw [(map1_1 t).1]; omega
  | ⟨1, _⟩ =>
    show cc1_transform_1 (cfg1.grid.coords t) 1 * 3072 + 1 * d.val = d.val
    rw [(map1_1 t).2]; omega

theorem emb1_2 (t : Fin cfg1.N) (a : Fin 1024) (b : Fin 1024) :
    (((cfg1.win 2).blk t).view.emb (ix2 a b) : S4096x2048.Idx) = ix2 (row1 t.val a) (col1 t.val b) := by
  refine funext fun e => Fin.ext ?_
  have ht : t.val < 8 := t.isLt
  match e with
  | ⟨0, _⟩ =>
    show cc1_transform_2 (cfg1.grid.coords t) 0 * 1024 + 1 * a.val = 1024 * (t.val / 2 % 4) + a.val
    rw [(map1_2 t).1]; omega
  | ⟨1, _⟩ =>
    show cc1_transform_2 (cfg1.grid.coords t) 1 * 1024 + 1 * b.val = 1024 * (t.val % 2) + b.val
    rw [(map1_2 t).2]; omega

/-- What the body stores, at an index. -/
theorem pay1_1 (x : FVec Ideal S1024x3072 .bf16) (w : FVec Ideal S1024x3072 .bf16) (a : Fin 1024) (b : Fin 1024) :
    k1_pay1 (F := Ideal) x w (ix2 a b) = ∑ d : Fin 3072, x (ix2 a d) * w (ix2 b d) := by
  unfold k1_pay1
  simp only [shapeCast_self]
  show Ideal.matmul _ x w _ _ = _
  rw [Ideal.matmul_apply₁_of _ (a := 1) rfl (K := 3072) rfl x w _ _ (fun d => ix2 a d) (fun d => ix2 b d)
    (fun k => by funext e; match e with | ⟨0, _⟩ => rfl | ⟨1, _⟩ => rfl)
    (fun k => by funext e; match e with | ⟨0, _⟩ => rfl | ⟨1, _⟩ => rfl)]
  rw [constant_apply, zero32, zero_add]

theorem out1_2_apply (x : FVec Ideal S1024x3072 .bf16) (w : FVec Ideal S1024x3072 .bf16) (i : S1024x1024.Idx) :
    out1_2 (F := Ideal) x w i = k1_pay1 (F := Ideal) x w i := by
  frame_out

/-- The array the call leaves, at an index. -/
theorem arr1_2 (V : (c : Dev nD) → (b : Ref sig .tc) → Buf (Elt Ideal) ((c.tc : Thread nD τ).loc b)) (c : Dev nD) : (dat1 (F := Ideal) V c).arrAt 2 cfg1.N
    = fun i : S4096x2048.Idx => mulT (mat (V c main_v2)) (mat (V c main_v1)) (i 0) (i 1) := by
  refine (dat1 (F := Ideal) V c).arrAt_eq_of_covers 2 _ (by decide +kernel) fun t hf y => ?_
  obtain ⟨a, b, rfl⟩ : ∃ (a : Fin 1024) (b : Fin 1024), y = ix2 a b := ⟨y 0, y 1, eq_ix2 y⟩
  rw [emb1_2]
  refine (congrFun (after1_2 V c t) (ix2 a b)).trans ?_
  rw [out1_2_apply, pay1_1]
  exact Finset.sum_congr (M := EReal) rfl fun d _ => congrArg₂ (· * ·) (blk1_0 (V c main_v2) t a d) (blk1_1 (V c main_v1) t b d)

theorem map2_0 : ∀ t : Fin cfg2.N, cc2_transform_0 (cfg2.grid.coords t) 0 = t.val / 6 ∧ cc2_transform_0 (cfg2.grid.coords t) 1 = 0 := by
  decide +kernel
theorem map2_1 : ∀ t : Fin cfg2.N, cc2_transform_1 (cfg2.grid.coords t) 0 = 0 ∧ cc2_transform_1 (cfg2.grid.coords t) 1 = t.val % 6 := by
  decide +kernel
theorem map2_2 : ∀ t : Fin cfg2.N, cc2_transform_2 (cfg2.grid.coords t) 0 = t.val / 6 ∧ cc2_transform_2 (cfg2.grid.coords t) 1 = t.val % 6 := by
  decide +kernel
theorem map2_3 : ∀ t : Fin cfg2.N, cc2_transform_3 (cfg2.grid.coords t) 0 = t.val / 6 ∧ cc2_transform_3 (cfg2.grid.coords t) 1 = t.val % 6 := by
  decide +kernel

/-- The row of the result that row `a` of point `n`'s block is. -/
def row2 (n : ℕ) (a : Fin 1024) : Fin 2048 := ⟨1024 * (n / 6 % 2) + a.val, by omega⟩
/-- The column of the result that column `b` of point `n`'s block is. -/
def col2 (n : ℕ) (b : Fin 512) : Fin 3072 := ⟨512 * (n % 6) + b.val, by omega⟩

theorem blk2_0 (X : FVec Ideal S2048x4096 .bf16) (t : Fin cfg2.N) (a : Fin 1024) (d : Fin 4096) :
    (((cfg2.win 0).blk t).view.read (Elt Ideal) X : FVec Ideal S1024x4096 .bf16) (ix2 a d) = X (ix2 (row2 t.val a) d) := by
  rw [View.read_apply]
  refine congrArg X (funext fun e => Fin.ext ?_)
  have ht : t.val < 12 := t.isLt
  match e with
  | ⟨0, _⟩ =>
    show cc2_transform_0 (cfg2.grid.coords t) 0 * 1024 + 1 * a.val = 1024 * (t.val / 6 % 2) + a.val
    rw [(map2_0 t).1]; omega
  | ⟨1, _⟩ =>
    show cc2_transform_0 (cfg2.grid.coords t) 1 * 4096 + 1 * d.val = d.val
    rw [(map2_0 t).2]; omega

theorem blk2_1 (X : FVec Ideal S4096x3072 .bf16) (t : Fin cfg2.N) (d : Fin 4096) (b : Fin 512) :
    (((cfg2.win 1).blk t).view.read (Elt Ideal) X : FVec Ideal S4096x512 .bf16) (ix2 d b) = X (ix2 d (col2 t.val b)) := by
  rw [View.read_apply]
  refine congrArg X (funext fun e => Fin.ext ?_)
  have ht : t.val < 12 := t.isLt
  match e with
  | ⟨0, _⟩ =>
    show cc2_transform_1 (cfg2.grid.coords t) 0 * 4096 + 1 * d.val = d.val
    rw [(map2_1 t).1]; omega
  | ⟨1, _⟩ =>
    show cc2_transform_1 (cfg2.grid.coords t) 1 * 512 + 1 * b.val = 512 * (t.val % 6) + b.val
    rw [(map2_1 t).2]; omega

theorem emb2_2 (t : Fin cfg2.N) (a : Fin 1024) (b : Fin 512) :
    (((cfg2.win 2).blk t).view.emb (ix2 a b) : S2048x3072.Idx) = ix2 (row2 t.val a) (col2 t.val b) := by
  refine funext fun e => Fin.ext ?_
  have ht : t.val < 12 := t.isLt
  match e with
  | ⟨0, _⟩ =>
    show cc2_transform_2 (cfg2.grid.coords t) 0 * 1024 + 1 * a.val = 1024 * (t.val / 6 % 2) + a.val
    rw [(map2_2 t).1]; omega
  | ⟨1, _⟩ =>
    show cc2_transform_2 (cfg2.grid.coords t) 1 * 512 + 1 * b.val = 512 * (t.val % 6) + b.val
    rw [(map2_2 t).2]; omega

theorem emb2_3 (t : Fin cfg2.N) (a : Fin 1024) (b : Fin 512) :
    (((cfg2.win 3).blk t).view.emb (ix2 a b) : S2048x3072.Idx) = ix2 (row2 t.val a) (col2 t.val b) := by
  refine funext fun e => Fin.ext ?_
  have ht : t.val < 12 := t.isLt
  match e with
  | ⟨0, _⟩ =>
    show cc2_transform_3 (cfg2.grid.coords t) 0 * 1024 + 1 * a.val = 1024 * (t.val / 6 % 2) + a.val
    rw [(map2_3 t).1]; omega
  | ⟨1, _⟩ =>
    show cc2_transform_3 (cfg2.grid.coords t) 1 * 512 + 1 * b.val = 512 * (t.val % 6) + b.val
    rw [(map2_3 t).2]; omega

/-- What the body stores, at an index. -/
theorem pay2_1 (x : FVec Ideal S1024x4096 .bf16) (w : FVec Ideal S4096x512 .bf16) (a : Fin 1024) (b : Fin 512) :
    k2_pay1 (F := Ideal) x w (ix2 a b) = ∑ d : Fin 4096, x (ix2 a d) * w (ix2 d b) := by
  unfold k2_pay1
  simp only [shapeCast_self]
  show Ideal.matmul _ x w _ _ = _
  rw [Ideal.matmul_apply₁_of _ (a := 1) rfl (K := 4096) rfl x w _ _ (fun d => ix2 a d) (fun d => ix2 d b)
    (fun k => by funext e; match e with | ⟨0, _⟩ => rfl | ⟨1, _⟩ => rfl)
    (fun k => by funext e; match e with | ⟨0, _⟩ => rfl | ⟨1, _⟩ => rfl)]
  rw [constant_apply, zero32, zero_add]

theorem pay2_2 (x : FVec Ideal S1024x4096 .bf16) (w : FVec Ideal S4096x512 .bf16) (a : Fin 1024) (b : Fin 512) :
    k2_pay2 (F := Ideal) x w (ix2 a b) = ∑ d : Fin 4096, x (ix2 a d) * w (ix2 d b) :=
  (show k2_pay2 (F := Ideal) x w (ix2 a b) = k2_pay1 (F := Ideal) x w (ix2 a b) from rfl).trans (pay2_1 x w a b)

theorem out2_2_apply (x : FVec Ideal S1024x4096 .bf16) (w : FVec Ideal S4096x512 .bf16) (i : S1024x512.Idx) :
    out2_2 (F := Ideal) x w i = k2_pay1 (F := Ideal) x w i := by
  frame_out

theorem out2_3_apply (x : FVec Ideal S1024x4096 .bf16) (w : FVec Ideal S4096x512 .bf16) (i : S1024x512.Idx) :
    out2_3 (F := Ideal) x w i = k2_pay2 (F := Ideal) x w i := by
  frame_out

/-- The array the call leaves, at an index. -/
theorem arr2_2 (V : (c : Dev nD) → (b : Ref sig .tc) → Buf (Elt Ideal) ((c.tc : Thread nD τ).loc b)) (c : Dev nD) : (dat2 (F := Ideal) V c).arrAt 2 cfg2.N
    = fun i : S2048x3072.Idx => mul (mat (V c main_v5)) (mat (V c main_v2)) (i 0) (i 1) := by
  refine (dat2 (F := Ideal) V c).arrAt_eq_of_covers 2 _ (by decide +kernel) fun t hf y => ?_
  obtain ⟨a, b, rfl⟩ : ∃ (a : Fin 1024) (b : Fin 512), y = ix2 a b := ⟨y 0, y 1, eq_ix2 y⟩
  rw [emb2_2]
  refine (congrFun (after2_2 V c t) (ix2 a b)).trans ?_
  rw [out2_2_apply, pay2_1]
  exact Finset.sum_congr (M := EReal) rfl fun d _ => congrArg₂ (· * ·) (blk2_0 (V c main_v5) t a d) (blk2_1 (V c main_v2) t d b)

/-- The array the call leaves, at an index. -/
theorem arr2_3 (V : (c : Dev nD) → (b : Ref sig .tc) → Buf (Elt Ideal) ((c.tc : Thread nD τ).loc b)) (c : Dev nD) : (dat2 (F := Ideal) V c).arrAt 3 cfg2.N
    = fun i : S2048x3072.Idx => mul (mat (V c main_v5)) (mat (V c main_v2)) (i 0) (i 1) := by
  refine (dat2 (F := Ideal) V c).arrAt_eq_of_covers 3 _ (by decide +kernel) fun t hf y => ?_
  obtain ⟨a, b, rfl⟩ : ∃ (a : Fin 1024) (b : Fin 512), y = ix2 a b := ⟨y 0, y 1, eq_ix2 y⟩
  rw [emb2_3]
  refine (congrFun (after2_3 V c t) (ix2 a b)).trans ?_
  rw [out2_3_apply, pay2_2]
  exact Finset.sum_congr (M := EReal) rfl fun d _ => congrArg₂ (· * ·) (blk2_0 (V c main_v5) t a d) (blk2_1 (V c main_v2) t d b)

end Cert.ProdB

end
-- ==== Proof.ProdBVal.lean ====
/- What the program of the second mixer's input projection leaves: each result from the arguments. -/
module

public import proofs.«01_k».proof.Proof.ProdBArr
public import Idealize.ShloMosaic.Lib.StableHlo.RunRead

@[expose] public section

set_option maxRecDepth 16384

noncomputable section

namespace Cert.ProdB

open Idealize.ShloMosaic hiding ix1 ix2 ix3 ix4 eq_ix1 eq_ix2 eq_ix3 eq_ix4
open Idealize.ShloMosaic.ValueIdx Idealize.ShloMosaic.TcCoe
open Cert.Feed (mul mulT tmul mat)
open Cert.InBIdeal Cert.InBIdeal.Gen

variable (m : (ℓ : Loc nD τ sig) → Buf (Elt Ideal) ℓ) (ρ : Dev nD → PrngReg) (c : Dev nD)

abbrev arg0 : FVec Ideal S4096x2048 .f32 := m ((c : Thread nD τ).loc main_arg0)
abbrev arg1 : FVec Ideal S2048x3072 .f32 := m ((c : Thread nD τ).loc main_arg1)
abbrev arg2 : FVec Ideal S4096x3072 .f32 := m ((c : Thread nD τ).loc main_arg2)

theorem W1_v0 : (W1 m ρ c (Proc.devRef .tc main_v0) : S4096x2048.Idx → EReal) = arg0 m c := by
  unfold W1; after_reads_simp; rfl
theorem W1_v1 : (W1 m ρ c (Proc.devRef .tc main_v1) : S2048x3072.Idx → EReal) = arg1 m c := by
  unfold W1; after_reads_simp; rfl
theorem W1_v2 : (W1 m ρ c (Proc.devRef .tc main_v2) : S4096x3072.Idx → EReal) = arg2 m c := by
  unfold W1; after_reads_simp; rfl

/-- The projection. -/
theorem W2_z : (W2 m ρ c (Proc.devRef .tc main_v3) : S4096x3072.Idx → EReal)
    = fun i => mul (mat (arg0 m c)) (mat (arg1 m c)) (i 0) (i 1) := by
  refine (W2_arr m ρ c 2).trans ((arr0_2 (V1 m ρ) c).trans ?_)
  show (fun i : S4096x3072.Idx => mul (mat (W1 m ρ c (Proc.devRef .tc main_v0))) (mat (W1 m ρ c (Proc.devRef .tc main_v1))) (i 0) (i 1)) = _
  rw [W1_v0, W1_v1]
  rfl

theorem W2_v2 : (W2 m ρ c (Proc.devRef .tc main_v2) : S4096x3072.Idx → EReal) = arg2 m c :=
  (W2_of m ρ c main_v2 (by decide +kernel)).trans (W1_v2 m ρ c)
theorem W2_v1 : (W2 m ρ c (Proc.devRef .tc main_v1) : S2048x3072.Idx → EReal) = arg1 m c :=
  (W2_of m ρ c main_v1 (by decide +kernel)).trans (W1_v1 m ρ c)

/-- The gradient of its input. -/
theorem W3_dx : (W3 m ρ c (Proc.devRef .tc main_v4) : S4096x2048.Idx → EReal)
    = fun i => mulT (mat (arg2 m c)) (mat (arg1 m c)) (i 0) (i 1) := by
  refine (W3_arr m ρ c 2).trans ((arr1_2 (V2 m ρ) c).trans ?_)
  show (fun i : S4096x2048.Idx => mulT (mat (W2 m ρ c (Proc.devRef .tc main_v2))) (mat (W2 m ρ c (Proc.devRef .tc main_v1))) (i 0) (i 1)) = _
  rw [W2_v2, W2_v1]
  rfl

theorem W3_v0 : (W3 m ρ c (Proc.devRef .tc main_v0) : S4096x2048.Idx → EReal) = arg0 m c :=
  (W3_of m ρ c main_v0 (by decide +kernel)).trans ((W2_of m ρ c main_v0 (by decide +kernel)).trans (W1_v0 m ρ c))

theorem W4_hT : (W4 m ρ c (Proc.devRef .tc main_v5) : S2048x4096.Idx → EReal)
    = transpose S2048x4096 [1, 0] (arg0 m c : S4096x2048.Idx → EReal) transposes_S4096x2048_S2048x4096_1_0 := by
  rw [← W3_v0 m ρ c]
  unfold W4; after_reads_simp
theorem W4_v2 : (W4 m ρ c (Proc.devRef .tc main_v2) : S4096x3072.Idx → EReal) = arg2 m c :=
  (W4_of m ρ c main_v2 (by decide +kernel)).trans ((W3_of m ρ c main_v2 (by decide +kernel)).trans (W2_v2 m ρ c))

theorem hT_apply (x : S4096x2048.Idx → EReal) (d : Fin 2048) (t : Fin 4096) :
    mat (transpose S2048x4096 [1, 0] x transposes_S4096x2048_S2048x4096_1_0) d t = mat x t d := by
  refine transpose_apply [1, 0] x _ (ix2 d t) (ix2 t d) fun b => ?_
  match b with
  | ⟨0, _⟩ => rfl
  | ⟨1, _⟩ => rfl

/-- The gradient of its weight. -/
theorem W5_dw0 : (W5 m ρ c (Proc.devRef .tc main_v6_0) : S2048x3072.Idx → EReal)
    = fun i => tmul (mat (arg0 m c)) (mat (arg2 m c)) (i 0) (i 1) := by
  refine (W5_arr m ρ c 2).trans ((arr2_2 (V4 m ρ) c).trans ?_)
  show (fun i : S2048x3072.Idx => mul (mat (W4 m ρ c (Proc.devRef .tc main_v5))) (mat (W4 m ρ c (Proc.devRef .tc main_v2))) (i 0) (i 1)) = _
  rw [W4_hT, W4_v2]
  exact funext fun i => Finset.sum_congr (M := EReal) rfl fun d _ => congrArg (· * _) (hT_apply _ _ _)

/-- Its rounded copy. -/
theorem W5_dw1 : (W5 m ρ c (Proc.devRef .tc main_v6_1) : S2048x3072.Idx → EReal)
    = fun i => tmul (mat (arg0 m c)) (mat (arg2 m c)) (i 0) (i 1) := by
  refine (W5_arr m ρ c 3).trans ((arr2_3 (V4 m ρ) c).trans ?_)
  show (fun i : S2048x3072.Idx => mul (mat (W4 m ρ c (Proc.devRef .tc main_v5))) (mat (W4 m ρ c (Proc.devRef .tc main_v2))) (i 0) (i 1)) = _
  rw [W4_hT, W4_v2]
  exact funext fun i => Finset.sum_congr (M := EReal) rfl fun d _ => congrArg (· * _) (hT_apply _ _ _)

theorem W5_z : (W5 m ρ c (Proc.devRef .tc main_v3) : S4096x3072.Idx → EReal) = fun i => mul (mat (arg0 m c)) (mat (arg1 m c)) (i 0) (i 1) :=
  (W5_of m ρ c main_v3 (by decide +kernel)).trans ((W4_of m ρ c main_v3 (by decide +kernel)).trans ((W3_of m ρ c main_v3 (by decide +kernel)).trans (W2_z m ρ c)))
theorem W5_dx : (W5 m ρ c (Proc.devRef .tc main_v4) : S4096x2048.Idx → EReal) = fun i => mulT (mat (arg2 m c)) (mat (arg1 m c)) (i 0) (i 1) :=
  (W5_of m ρ c main_v4 (by decide +kernel)).trans ((W4_of m ρ c main_v4 (by decide +kernel)).trans (W3_dx m ρ c))

end Cert.ProdB

end
-- ==== Proof.ProdBRef.lean ====
/- The second mixer's input projection: the reference's arrays. -/
module

public import proofs.«01_k».proof.Proof.FeedArr0
public import proofs.«01_k».proof.Proof.Gen.InBReferenceIdeal.Read

@[expose] public section

set_option maxRecDepth 16384

noncomputable section

namespace Cert.ProdB

open Idealize.ShloMosaic hiding ix1 ix2 ix3 ix4 eq_ix1 eq_ix2 eq_ix3 eq_ix4
open Idealize.ShloMosaic.ValueIdx Idealize.ShloMosaic.TcCoe
open Cert.Feed (mul mulT tmul mat)
open Cert.InBReferenceIdeal Cert.InBReferenceIdeal.Gen Cert.InBReferenceIdeal.Read

/-- The reference's projection. -/
theorem ref_v0 (A : FVec Ideal S4096x2048 .f32) (B : FVec Ideal S2048x3072 .f32) :
    (val_main_v0 (F := Ideal) A B : S4096x3072.Idx → EReal) = fun i => mul (mat A) (mat B) (i 0) (i 1) := by
  funext i
  refine (val_main_v0_apply A B i).trans ?_
  exact Finset.sum_congr (M := EReal) rfl fun d _ => congrArg₂ (fun u v : EReal => u * v)
    (congrArg A (funext fun e => by match e with | ⟨0, _⟩ => rfl | ⟨1, _⟩ => rfl))
    (congrArg B (funext fun e => by match e with | ⟨0, _⟩ => rfl | ⟨1, _⟩ => rfl))

/-- The reference's gradient of the input. -/
theorem ref_v3 (B : FVec Ideal S2048x3072 .f32) (C : FVec Ideal S4096x3072 .f32) :
    (val_main_v3 (F := Ideal) B C : S4096x2048.Idx → EReal) = fun i => mulT (mat C) (mat B) (i 0) (i 1) := by
  funext i
  refine (val_main_v3_apply B C i).trans ?_
  exact Finset.sum_congr (M := EReal) rfl fun d _ => congrArg₂ (fun u v : EReal => u * v)
    (congrArg C (funext fun e => by match e with | ⟨0, _⟩ => rfl | ⟨1, _⟩ => rfl))
    (congrArg B (funext fun e => by match e with | ⟨0, _⟩ => rfl | ⟨1, _⟩ => rfl))

/-- The reference's gradient of the weight. -/
theorem ref_v2 (A : FVec Ideal S4096x2048 .f32) (C : FVec Ideal S4096x3072 .f32) :
    (val_main_v2 (F := Ideal) A C : S2048x3072.Idx → EReal) = fun i => tmul (mat A) (mat C) (i 0) (i 1) := by
  funext i
  refine (val_main_v2_apply (F := Ideal) A C i).trans ((val_main_v1_apply A C _).trans ?_)
  refine Finset.sum_congr (M := EReal) rfl fun d _ => (mul_comm (G := EReal) _ _).trans ?_
  exact congrArg₂ (fun u v : EReal => u * v)
    (congrArg A (funext fun e => by match e with | ⟨0, _⟩ => rfl | ⟨1, _⟩ => rfl))
    (congrArg C (funext fun e => by match e with | ⟨0, _⟩ => rfl | ⟨1, _⟩ => rfl))

/-- Its rounded copy. -/
theorem ref_v4 (A : FVec Ideal S4096x2048 .f32) (C : FVec Ideal S4096x3072 .f32) :
    (val_main_v4 (F := Ideal) A C : S2048x3072.Idx → EReal) = fun i => tmul (mat A) (mat C) (i 0) (i 1) :=
  ref_v2 A C

end Cert.ProdB

end
-- ==== Proof.ProdBFinal.lean ====
/- The claims about the second mixer's input projection. -/
module

public import proofs.«01_k».proof.Defs
public import proofs.«01_k».proof.Proof.ProdBRun
public import proofs.«01_k».proof.Proof.ProdBVal
public import proofs.«01_k».proof.Proof.ProdBRef
public import proofs.«01_k».proof.Proof.Gen.InB.Frame
public import proofs.«01_k».proof.Proof.Gen.InBReferenceIdeal.Run
public import Idealize.ShloMosaic.Adequacy
public import Idealize.ShloMosaic.Init

@[expose] public section

noncomputable section

namespace Cert.ProdB

open Idealize.ShloMosaic hiding ix1 ix2 ix3 ix4 eq_ix1 eq_ix2 eq_ix3 eq_ix4
open Idealize.ShloMosaic.ValueIdx Idealize.ShloMosaic.TcCoe Idealize.SL.Sem

section
variable (m : (ℓ : Loc Cert.InBIdeal.nD Cert.InBIdeal.τ Cert.InBIdeal.sig) → Buf (Elt Ideal) ℓ) (ρ : Dev Cert.InBIdeal.nD → PrngReg) (c : Dev Cert.InBIdeal.nD)

/-- Result 0 equals the reference's. -/
theorem same0 : (Cert.InBIdeal.Gen.W5 m ρ c (Proc.devRef .tc Cert.InBIdeal.main_v3) : FVec Ideal ⟨2, ![4096, 3072]⟩ .f32)
    = Cert.InBReferenceIdeal.Read.val_main_v0 (F := Ideal) (arg0 m c) (arg1 m c) :=
  (W5_z m ρ c).trans (ref_v0 (arg0 m c) (arg1 m c)).symm

/-- Result 1 equals the reference's. -/
theorem same1 : (Cert.InBIdeal.Gen.W5 m ρ c (Proc.devRef .tc Cert.InBIdeal.main_v4) : FVec Ideal ⟨2, ![4096, 2048]⟩ .f32)
    = Cert.InBReferenceIdeal.Read.val_main_v3 (F := Ideal) (arg1 m c) (arg2 m c) :=
  (W5_dx m ρ c).trans (ref_v3 (arg1 m c) (arg2 m c)).symm

/-- Result 2 equals the reference's. -/
theorem same2 : (Cert.InBIdeal.Gen.W5 m ρ c (Proc.devRef .tc Cert.InBIdeal.main_v6_0) : FVec Ideal ⟨2, ![2048, 3072]⟩ .f32)
    = Cert.InBReferenceIdeal.Read.val_main_v2 (F := Ideal) (arg0 m c) (arg2 m c) :=
  (W5_dw0 m ρ c).trans (ref_v2 (arg0 m c) (arg2 m c)).symm

/-- Result 3 equals the reference's. -/
theorem same3 : (Cert.InBIdeal.Gen.W5 m ρ c (Proc.devRef .tc Cert.InBIdeal.main_v6_1) : FVec Ideal ⟨2, ![2048, 3072]⟩ .bf16)
    = Cert.InBReferenceIdeal.Read.val_main_v4 (F := Ideal) (arg0 m c) (arg2 m c) :=
  (W5_dw1 m ρ c).trans (ref_v4 (arg0 m c) (arg2 m c)).symm

end

/-- The kernel runs without fault and leaves its arguments. -/
theorem frame_k : Cert.quiescent_InB := fun m ρ _ => Cert.InB.Gen.frame m ρ

/-- The idealised kernel runs without fault and leaves its arguments. -/
theorem frame_ki : Cert.quiescent_InBIdeal := fun m ρ _ => Cert.InBIdeal.Gen.frame m ρ

/-- The reference runs without fault and leaves its arguments. -/
theorem frame_r : Cert.quiescent_InBReferenceIdeal := fun m ρ _ =>
  (θ_run Cert.InBReferenceIdeal.defs _ _).mono (fun r h => ⟨fun c => (h c).2.2.2.2,
    Idealize.ShloMosaic.sem_eq_zero_of_no_sems (by decide) r.2⟩) (Cert.InBReferenceIdeal.Value.run (F := Ideal) m ρ)

/-- The idealised kernel is the kernel. -/
theorem preserves : Cert.preserves_InB_InBIdeal := trivial

/-- The kernel's results are the reference's. -/
theorem algebraic : Cert.algebraic_InBIdeal_InBReferenceIdeal := by
  intro m ρ m' ρ' _ hagree
  refine ⟨fun c => Cert.InBReferenceIdeal.Read.val_main_v0 (F := Ideal) (arg0 m c) (arg1 m c),
    fun c => Cert.InBReferenceIdeal.Read.val_main_v3 (F := Ideal) (arg1 m c) (arg2 m c),
    fun c => Cert.InBReferenceIdeal.Read.val_main_v2 (F := Ideal) (arg0 m c) (arg2 m c),
    fun c => Cert.InBReferenceIdeal.Read.val_main_v4 (F := Ideal) (arg0 m c) (arg2 m c), ?_, ?_⟩
  · exact (θ_run Cert.InBIdeal.defs _ _).mono (fun _ h c => ⟨(h c).1.trans (same0 m ρ c),
      (h c).2.1.trans (same1 m ρ c),
      (h c).2.2.1.trans (same2 m ρ c),
      (h c).2.2.2.1.trans (same3 m ρ c), (h c).2.2.2.2⟩) (run m ρ)
  · refine (θ_run Cert.InBReferenceIdeal.defs _ _).mono (fun _ h c => ?_) (Cert.InBReferenceIdeal.Value.run (F := Ideal) m' ρ')
    have e := hagree c
    refine ⟨(h c).1.trans ?_, (h c).2.1.trans ?_, (h c).2.2.1.trans ?_, (h c).2.2.2.1.trans ?_, (h c).2.2.2.2⟩
    · refine (Cert.InBReferenceIdeal.Read.val_main_v0_eq _ _).trans ?_
      rw [e.1, e.2.1]
    · refine (Cert.InBReferenceIdeal.Read.val_main_v3_eq _ _).trans ?_
      rw [e.2.1, e.2.2]
    · refine (Cert.InBReferenceIdeal.Read.val_main_v2_eq _ _).trans ?_
      rw [e.1, e.2.2]
    · refine (Cert.InBReferenceIdeal.Read.val_main_v4_eq _ _).trans ?_
      rw [e.1, e.2.2]

end Cert.ProdB

end
-- ==== Proof.AttnFPay.lean ====
/- What one sub-tile of the attention's forward kernel computes, 256 rows of one query head against a whole key head, on blocks of real queries and keys and any values. -/
module

public import proofs.«01_k».proof.Proof.Out
public import proofs.«01_k».proof.Proof.Fwd
public import proofs.«01_k».proof.Proof.Gen.AttnFwdIdeal.Skeleton

@[expose] public section

noncomputable section

namespace Cert.AttnF

open Idealize.ShloMosaic hiding ix1 ix2 ix3 ix4 eq_ix1 eq_ix2 eq_ix3 eq_ix4
open Idealize.ShloMosaic.ValueIdx
open Cert.AttnFwdIdeal Cert.AttnFwdIdeal.Gen
open Cert.Attn (scale scale2 coe_sum coe_dot expSum expSum_pos prob prob_shift lse_shift fold_max_coe ofBits_zero ofBits_one ofBits_negInf)

theorem named_scale2 : (Named.named (F := Ideal) κ "scale_log2e" (φ := .f32) 0x3E0293EE#32) = ((scale2 : ℝ) : EReal) := by
  refine (IdealRules.named_const.ideal_named_scalar _ _ _ _ rfl).trans ?_
  rfl

theorem named_inv_log2 : (Named.named (F := Ideal) κ "inv_log2" (φ := .f32) 0x3FB8AA3B#32) = (((Real.log 2)⁻¹ : ℝ) : EReal) := by
  refine (IdealRules.named_const.ideal_named_scalar _ _ _ _ rfl).trans ?_
  rfl

theorem named_log2_scale : (Named.named (F := Ideal) κ "log2_scale" (φ := .f32) 0x40FAF233#32) = ((scale⁻¹ * Real.log 2 : ℝ) : EReal) := by
  refine (IdealRules.named_const.ideal_named_scalar _ _ _ _ rfl).trans ?_
  rfl

/-- The product of a row block with the transposed key head, at an index. -/
theorem nt_apply {φ φ' : FTy} (x : FVec Ideal S256x128 φ) (y : FVec Ideal S4096x128 φ') (a : Fin 256) (s : Fin 4096) :
    matmul dot_S256x128_S4096x128_S256x4096_1_1_0_0_n_n none x y (constant S256x4096 .f32 0x00000000#32) (ix2 a s)
      = ∑ d : Fin 128, x (ix2 a d) * y (ix2 s d) := by
  show Ideal.matmul _ x y _ _ = _
  rw [Ideal.matmul_apply₁_of _ (a := 1) rfl (K := 128) rfl x y _ _ (fun d => ix2 a d) (fun d => ix2 s d)
    (fun k => by funext b; match b with | ⟨0, _⟩ => rfl | ⟨1, _⟩ => rfl)
    (fun k => by funext b; match b with | ⟨0, _⟩ => rfl | ⟨1, _⟩ => rfl)]
  rw [constant_apply, ofBits_zero, zero_add]

/-- The product of a block of exponentials with the values beside their ones, at an index. -/
theorem nn_apply {φ φ' : FTy} (x : FVec Ideal S256x4096 φ) (y : FVec Ideal S4096x256 φ') (a : Fin 256) (b : Fin 256) :
    matmul dot_S256x4096_S4096x256_S256x256_1_0_0_1_n_n none x y (constant S256x256 .f32 0x00000000#32) (ix2 a b)
      = ∑ s : Fin 4096, x (ix2 a s) * y (ix2 s b) := by
  show Ideal.matmul _ x y _ _ = _
  rw [Ideal.matmul_apply₁_of _ (a := 1) rfl (K := 4096) rfl x y _ _ (fun s => ix2 a s) (fun s => ix2 s b)
    (fun k => by funext b; match b with | ⟨0, _⟩ => rfl | ⟨1, _⟩ => rfl)
    (fun k => by funext b; match b with | ⟨0, _⟩ => rfl | ⟨1, _⟩ => rfl)]
  rw [constant_apply, ofBits_zero, zero_add]

/-- A column spread over the scores, at an index. -/
theorem spread_apply (x : FVec Ideal S256x1 .f32) (a : Fin 256) (s : Fin 4096) :
    broadcastTo S256x4096 x Facts₀.broadcasts_S256x1_S256x4096 (ix2 a s) = x (ix2 a 0) := by
  refine broadcastTo_apply x _ _ _ fun b => ?_
  match b with
  | ⟨0, _⟩ => rfl
  | ⟨1, _⟩ => rfl

/-- A column spread over a head's lanes, at an index. -/
theorem spread_apply' (x : FVec Ideal S256x1 .f32) (a : Fin 256) (d : Fin 128) :
    broadcastTo S256x128 x Facts₀.broadcasts_S256x1_S256x128 (ix2 a d) = x (ix2 a 0) := by
  refine broadcastTo_apply x _ _ _ fun b => ?_
  match b with
  | ⟨0, _⟩ => rfl
  | ⟨1, _⟩ => rfl

/-- A row's greatest entry, where the row is real. -/
theorem rowMax_real (x : FVec Ideal S256x4096 .f32) (X : Fin 4096 → ℝ) (a : Fin 256) (h : ∀ s, x (ix2 a s) = (X s : EReal)) :
    ∃ M : ℝ, shapeCast S256x1 (multiReduction .maximumf [1] S256 x 0xFF800000#32 Facts₀.reduces_S256x4096_S256 (.inl rfl) rfl)
        Facts₀.shapeCasts_S256_S256x1 (ix2 a 0) = (M : EReal) := by
  rw [shapeCast_apply _ _ (ix2 a 0) (ix1 a) (by
    rw [Shape.rowMajor_val_two, Shape.rowMajor_val_one]; show a.val = a.val * 1 + 0; omega)]
  obtain ⟨M, hM⟩ := fold_max_coe (Finset.univ : Finset (Fin 4096)) ⟨0, Finset.mem_univ _⟩ X
  refine ⟨M, Eq.trans ?_ hM⟩
  refine (Ideal.multiReduction_maximumf_single x _ _ _ _ (ix1 a)).trans ?_
  refine (congrArg (fun b => Finset.fold max b _ _) (show (FloatOps.ofBits .f32 0xFF800000#32 : Ideal .f32) = ⊥ from ofBits_negInf)).trans ?_
  refine congrArg (fun f => Finset.fold max (⊥ : EReal) f _) (funext fun s => ?_)
  refine Eq.trans ?_ (h s)
  exact congrArg x (funext fun b => by match b with | ⟨0, _⟩ => rfl | ⟨1, _⟩ => rfl)

/-- The power of two of a score less another, in the kernel's scale, is the exponential of their scaled difference. -/
theorem rpow_scale (x M : ℝ) : Real.rpow 2 ((x - M) * scale2) = Real.exp (x * scale - M * scale) := by
  have h2 : Real.log 2 ≠ 0 := (Real.log_pos (by norm_num)).ne'
  rw [Real.rpow_eq_pow, Real.rpow_def_of_pos (by norm_num : (0 : ℝ) < 2)]
  congr 1
  unfold scale2
  field_simp

/-- A sum times a nonnegative real number, by terms. -/
theorem sum_mul_real {ι : Type} (t : Finset ι) (f : ι → EReal) {c : ℝ} (hc : 0 ≤ c) : (∑ s ∈ t, f s) * (c : EReal) = ∑ s ∈ t, f s * (c : EReal) := by
  classical
  induction t using Finset.induction_on with
  | empty => rw [Finset.sum_empty, Finset.sum_empty, zero_mul]
  | insert a t ha ih =>
    rw [Finset.sum_insert ha, Finset.sum_insert ha, EReal.right_distrib_of_nonneg_of_ne_top (EReal.coe_nonneg.mpr hc) (EReal.coe_ne_top c), ih]

section Real
variable (Q : S256x128.Idx → ℝ) (K : S4096x128.Idx → ℝ) (V : S4096x128.Idx → EReal)

/-- One row of the sub-tile's scores, scaled. -/
def tileRow (a : Fin 256) (s : Fin 4096) : ℝ := (∑ d : Fin 128, Q (ix2 a d) * K (ix2 s d)) * scale

/-- The sub-tile's outputs. -/
def tileO (a : Fin 256) (d : Fin 128) : EReal := ∑ s : Fin 4096, V (ix2 s d) * (prob (tileRow Q K a) s : EReal)

/-- The sub-tile's row constants. -/
def tileS (a : Fin 256) : ℝ := Real.log (expSum (tileRow Q K a)) * (1 / scale)

variable {Q K V}
variable {q : Vec Ideal S256x128 .bf16} {k : Vec Ideal S4096x128 .bf16} {w : Vec Ideal S4096x256 .bf16}

theorem pay5_apply (hq : ∀ j, q j = (Q j : EReal)) (hk : ∀ j, k j = (K j : EReal)) (a : Fin 256) (s : Fin 4096) :
    k0_pay5 (F := Ideal) k q (ix2 a s) = ((∑ d : Fin 128, Q (ix2 a d) * K (ix2 s d) : ℝ) : EReal) := by
  unfold k0_pay5 k0_pay4
  dsimp only
  rw [nt_apply, shapeCast_self, shapeCast_self]
  simp only [hq, hk, coe_dot]

theorem pay6_real (hq : ∀ j, q j = (Q j : EReal)) (hk : ∀ j, k j = (K j : EReal)) (a : Fin 256) :
    ∃ M : ℝ, k0_pay6 (F := Ideal) k q (ix2 a 0) = (M : EReal) := by
  unfold k0_pay6
  exact rowMax_real _ _ a fun s => pay5_apply hq hk a s

theorem pay7_apply (hq : ∀ j, q j = (Q j : EReal)) (hk : ∀ j, k j = (K j : EReal)) (a : Fin 256) {M : ℝ}
    (hM : k0_pay6 (F := Ideal) k q (ix2 a 0) = (M : EReal)) (b : Fin 256) (W : Fin 4096 → EReal) (hw : ∀ s, w (ix2 s b) = W s) :
    k0_pay7 (F := Ideal) k w q (ix2 a b) = ∑ s : Fin 4096, (Real.exp (tileRow Q K a s - M * scale) : EReal) * W s := by
  unfold k0_pay7
  rw [nn_apply]
  refine Finset.sum_congr rfl fun s _ => ?_
  refine congrArg₂ (fun x y : EReal => x * y) ?_ (hw s)
  refine (congrArg Ideal.exp2 (?_ : _ = (((∑ d : Fin 128, Q (ix2 a d) * K (ix2 s d) - M) * scale2 : ℝ) : EReal))).trans
    ((Ideal.exp2_coe _).trans (congrArg (fun r : ℝ => (r : EReal)) (rpow_scale _ _)))
  simp only [mulf_apply, subf_apply, broadcast_apply]
  rw [pay5_apply hq hk, spread_apply, hM, named_scale2, ← EReal.coe_sub, ← EReal.coe_mul]

theorem pay8_apply (hq : ∀ j, q j = (Q j : EReal)) (hk : ∀ j, k j = (K j : EReal)) (hw : ∀ s, w (ix2 s 128) = 1) (a : Fin 256) {M : ℝ}
    (hM : k0_pay6 (F := Ideal) k q (ix2 a 0) = (M : EReal)) :
    k0_pay8 (F := Ideal) k w q (ix2 a 0) = ((expSum (fun s => tileRow Q K a s - M * scale) : ℝ) : EReal) := by
  unfold k0_pay8
  rw [extractStridedSlice_apply _ _ _ _ (ix2 a 128) (fun b => by match b with | ⟨0, _⟩ => exact (Nat.zero_add _).symm | ⟨1, _⟩ => rfl),
    pay7_apply hq hk a hM 128 (fun _ => 1) hw]
  simp only [mul_one]
  rw [expSum, coe_sum]

/-- The sub-tile's outputs, at an index. -/
theorem pay9_apply (hq : ∀ j, q j = (Q j : EReal)) (hk : ∀ j, k j = (K j : EReal)) (hw : ∀ s, w (ix2 s 128) = 1)
    (hv : ∀ s (d : Fin 128), w (ix2 s ⟨d.val, by omega⟩) = V (ix2 s d)) (a : Fin 256) (d : Fin 128) :
    k0_pay9 (F := Ideal) k w q (ix2 a d) = tileO Q K V a d := by
  obtain ⟨M, hM⟩ := pay6_real hq hk a
  have hp := expSum_pos fun s => tileRow Q K a s - M * scale
  unfold k0_pay9
  simp only [truncf_apply, mulf_apply]
  rw [extractStridedSlice_apply _ _ _ _ (ix2 a ⟨d.val, by omega⟩) (fun b => by match b with | ⟨0, _⟩ => exact (Nat.zero_add _).symm | ⟨1, _⟩ => exact (Nat.zero_add _).symm),
    pay7_apply hq hk a hM _ (fun s => V (ix2 s d)) (fun s => hv s d), spread_apply']
  refine (congrArg (_ * ·) (show _ = Ideal.div (Ideal.ofBits .f32 0x3F800000#32) (k0_pay8 (F := Ideal) k w q (ix2 a 0)) from rfl)).trans ?_
  rw [pay8_apply hq hk hw a hM, ofBits_one, Ideal.div_coe hp.ne', ← EReal.coe_mul, tileO, sum_mul_real _ _ (by rw [one_mul]; exact (one_div_pos.mpr hp).le)]
  refine Finset.sum_congr rfl fun s _ => ?_
  rw [← prob_shift (tileRow Q K a) (M * scale) s, mul_comm (_ : EReal) (V _), mul_assoc, ← EReal.coe_mul, one_mul, mul_one_div]

/-- The sub-tile's row constants, at an index. -/
theorem pay10_apply (hq : ∀ j, q j = (Q j : EReal)) (hk : ∀ j, k j = (K j : EReal)) (hw : ∀ s, w (ix2 s 128) = 1) (a : Fin 256) :
    k0_pay10 (F := Ideal) k w q (ix3 0 a 0) = (tileS Q K a : EReal) := by
  obtain ⟨M, hM⟩ := pay6_real hq hk a
  have hp := expSum_pos fun s => tileRow Q K a s - M * scale
  have h2 : Real.log 2 ≠ 0 := (Real.log_pos (by norm_num)).ne'
  unfold k0_pay10
  rw [shapeCast_apply _ _ (ix3 0 a 0) (ix2 a 0) (by
    rw [Shape.rowMajor_val_three, Shape.rowMajor_val_two]
    show a.val * 1 + 0 = (0 * 256 + a.val) * 1 + 0
    omega)]
  simp only [addf_apply, mulf_apply, broadcast_apply]
  refine (congrArg (fun y => _ + y * _ * _) (show _ = Ideal.log (k0_pay8 (F := Ideal) k w q (ix2 a 0)) from rfl)).trans ?_
  rw [hM, pay8_apply hq hk hw a hM, named_inv_log2, named_log2_scale, Ideal.log_coe, if_neg (not_le.mpr hp), ← EReal.coe_mul, ← EReal.coe_mul, ← EReal.coe_add]
  refine congrArg (fun r : ℝ => (r : EReal)) ?_
  have hs := Cert.Attn.scale_ne
  rw [tileS, ← lse_shift (tileRow Q K a) (M * scale)]
  field_simp

end Real

end Cert.AttnF

end
-- ==== Proof.AttnFOut.lean ====
/- What the attention's forward kernel leaves at one grid point: the first row block of a key head, which sets the values beside their ones, and a row block after it. -/
module

public import proofs.«01_k».proof.Proof.AttnFPay
public import proofs.«01_k».proof.Proof.Gen.AttnFwdIdeal.Frame
public import Idealize.ShloMosaic.Lib.Tactic

@[expose] public section

set_option maxRecDepth 16384

noncomputable section

namespace Cert.AttnF

open Idealize.ShloMosaic hiding ix1 ix2 ix3 ix4 eq_ix1 eq_ix2 eq_ix3 eq_ix4
open Idealize.ShloMosaic.ValueIdx
open Cert.AttnFwdIdeal Cert.AttnFwdIdeal.Gen
open Cert.Attn (scale expSum prob hcol headOf laneOf zeros2)

theorem one16 : Ideal.ofBits .bf16 0x3F80#16 = ((1 : ℝ) : EReal) := by
  simp [Ideal.ofBits, Ideal.ieee, -EReal.coe_mul]; norm_num

/-- The scratch holds the values in its first 128 columns and one in the next. -/
structure Beside (w : Vec Ideal S4096x256 .bf16) (X2 : S4096x128.Idx → EReal) : Prop where
  one : ∀ s, w (ix2 s 128) = 1
  val : ∀ s (d : Fin 128), w (ix2 s ⟨d.val, by omega⟩) = X2 (ix2 s d)

section Block
variable (X0 : S1024x384.Idx → ℝ) (X1 : S4096x128.Idx → ℝ) (X2 : S4096x128.Idx → EReal)

/-- One row of scores of the block, of its query head `g`, scaled. -/
def blockRow (i : Fin 1024) (g : Fin 3) (s : Fin 4096) : ℝ := (∑ d : Fin 128, X0 (ix2 i (hcol g d)) * X1 (ix2 s d)) * scale

/-- The block's outputs. -/
def blockO (y : S1024x384.Idx) : EReal := ∑ s : Fin 4096, X2 (ix2 s (laneOf (y 1))) * (prob (blockRow X0 X1 (y 0) (headOf (y 1))) s : EReal)

/-- The block's row constants. -/
def blockS (y : S1x1024x3.Idx) : ℝ := Real.log (expSum (blockRow X0 X1 (y 1) (y 2))) * (1 / scale)

variable {X0 X1 X2}
variable {x0 : Vec Ideal S1024x384 .bf16} {x1 : Vec Ideal S4096x128 .bf16} {w : Vec Ideal S4096x256 .bf16}

/-- Where a sub-tile of 256 rows and one head sits in the block. -/
theorem sub_idx {o0 o1 : ℕ} (inb : ∀ a, (![o0, o1] : Fin 2 → ℕ) a + S256x128.size a ≤ S1024x384.size a) (g : Fin 3)
    (ho : o1 = 128 * g.val) (i : Fin 1024) (a : Fin 256) (hi : i.val = o0 + a.val) (d : Fin 128) :
    (Rect.unit (s := S1024x384) ![o0, o1] S256x128.size inb).idx (ix2 a d) = ix2 i (hcol g d) := by
  funext b
  apply Fin.ext
  rw [Rect.idx_unit_val]
  match b with
  | ⟨0, _⟩ => exact hi.symm
  | ⟨1, _⟩ => exact congrArg (· + d.val) ho

/-- Where the row constants of a sub-tile sit in their block. -/
theorem stat_idx {o0 o2 : ℕ} (inb : ∀ a, (![0, o0, o2] : Fin 3 → ℕ) a + S1x256x1.size a ≤ S1x1024x3.size a) (g : Fin 3)
    (ho : o2 = g.val) (i : Fin 1024) (a : Fin 256) (hi : i.val = o0 + a.val) :
    (Rect.unit (s := S1x1024x3) ![0, o0, o2] S1x256x1.size inb).idx (ix3 0 a 0) = ix3 0 i g := by
  funext b
  apply Fin.ext
  rw [Rect.idx_unit_val]
  match b with
  | ⟨0, _⟩ => rfl
  | ⟨1, _⟩ => exact hi.symm
  | ⟨2, _⟩ => exact ho

/-- A sub-tile of the block's queries is real. -/
theorem sub_real (h0 : ∀ j, x0 j = (X0 j : EReal)) {o0 o1 : ℕ}
    (inb : ∀ a, (![o0, o1] : Fin 2 → ℕ) a + S256x128.size a ≤ S1024x384.size a) (g : Fin 3) (ho : o1 = 128 * g.val) (hb : o0 ≤ 768) (j : S256x128.Idx) :
    View.ld x0 (Rect.unit (s := S1024x384) ![o0, o1] S256x128.size inb) j
      = ((fun j : S256x128.Idx => X0 (ix2 (⟨o0 + (j 0).val, by have := (j 0).isLt; change (j 0).val < 256 at this; omega⟩ : Fin 1024) (hcol g (j 1)))) j : EReal) := by
  obtain ⟨a, d, rfl⟩ : ∃ (a : Fin 256) (d : Fin 128), j = ix2 a d := ⟨j 0, j 1, eq_ix2 j⟩
  exact (congrArg x0 (sub_idx inb g ho ⟨o0 + a.val, by omega⟩ a rfl d)).trans (h0 _)

/-- One of the twelve stores of outputs writes the rows and the head it covers. -/
theorem piece_o {o0 o1 : ℕ} (inb : ∀ a, (![o0, o1] : Fin 2 → ℕ) a + S256x128.size a ≤ S1024x384.size a)
    (h0 : ∀ j, x0 j = (X0 j : EReal)) (h1 : ∀ j, x1 j = (X1 j : EReal)) (hw : Beside w X2)
    (g : Fin 3) (ho : o1 = 128 * g.val) (hb : o0 ≤ 768) (x : S256x128.Idx) :
    k0_pay9 (F := Ideal) x1 w (View.ld x0 (Rect.unit (s := S1024x384) ![o0, o1] S256x128.size inb)) x
      = blockO X0 X1 X2 ((Rect.unit (s := S1024x384) ![o0, o1] S256x128.size inb).emb x) := by
  obtain ⟨a, d, rfl⟩ : ∃ (a : Fin 256) (d : Fin 128), x = ix2 a d := ⟨x 0, x 1, eq_ix2 x⟩
  have ha := a.isLt
  rw [pay9_apply (sub_real h0 inb g ho hb) h1 hw.one hw.val]
  have e1 : headOf (hcol g d) = g := Fin.ext (by show (128 * g.val + d.val) / 128 = g.val; omega)
  have e2 : laneOf (hcol g d) = d := Fin.ext (by show (128 * g.val + d.val) % 128 = d.val; omega)
  refine Eq.trans ?_ (congrArg (blockO X0 X1 X2) (sub_idx inb g ho ⟨o0 + a.val, by omega⟩ a rfl d).symm)
  show _ = ∑ s : Fin 4096, X2 (ix2 s (laneOf (hcol g d))) * (prob (blockRow X0 X1 _ (headOf (hcol g d))) s : EReal)
  rw [e1, e2]
  rfl

/-- One of the twelve stores of row constants writes the rows and the head it covers. -/
theorem piece_s {o0 o1 o2 : ℕ} (inb : ∀ a, (![o0, o1] : Fin 2 → ℕ) a + S256x128.size a ≤ S1024x384.size a)
    (inb' : ∀ a, (![0, o0, o2] : Fin 3 → ℕ) a + S1x256x1.size a ≤ S1x1024x3.size a)
    (h0 : ∀ j, x0 j = (X0 j : EReal)) (h1 : ∀ j, x1 j = (X1 j : EReal)) (hw : Beside w X2)
    (g : Fin 3) (ho : o1 = 128 * g.val) (ho2 : o2 = g.val) (hb : o0 ≤ 768) (x : S1x256x1.Idx) :
    k0_pay10 (F := Ideal) x1 w (View.ld x0 (Rect.unit (s := S1024x384) ![o0, o1] S256x128.size inb)) x
      = (blockS X0 X1 ((Rect.unit (s := S1x1024x3) ![0, o0, o2] S1x256x1.size inb').emb x) : EReal) := by
  obtain ⟨a, rfl⟩ : ∃ a : Fin 256, x = ix3 0 a 0 := ⟨x 1, (eq_ix3 x).trans (by
    rw [show x 0 = (0 : Fin 1) from Fin.ext (by have := (x 0).isLt; change (x 0).val < 1 at this; show (x 0).val = 0; omega),
      show x 2 = (0 : Fin 1) from Fin.ext (by have := (x 2).isLt; change (x 2).val < 1 at this; show (x 2).val = 0; omega)]; rfl)⟩
  have ha := a.isLt
  rw [pay10_apply (sub_real h0 inb g ho hb) h1 hw.one]
  refine congrArg (fun r : ℝ => (r : EReal)) ?_
  refine Eq.trans ?_ (congrArg (blockS X0 X1) (stat_idx inb' g ho2 ⟨o0 + a.val, by omega⟩ a rfl).symm)
  show _ = Real.log (expSum (blockRow X0 X1 _ g)) * (1 / scale)
  rfl

end Block

/-- A statement about three axes is three statements. -/
theorem forall_three {P : Fin 3 → Prop} : (∀ a, P a) ↔ P 0 ∧ P 1 ∧ P 2 :=
  ⟨fun h => ⟨h 0, h 1, h 2⟩, fun h a => match a with | ⟨0, _⟩ => h.1 | ⟨1, _⟩ => h.2.1 | ⟨2, _⟩ => h.2.2⟩

section Lists
variable (x0 : Vec Ideal S1024x384 .bf16) (x1 : Vec Ideal S4096x128 .bf16) (w : Vec Ideal S4096x256 .bf16)

/-- The twelve stores of outputs, the last first. -/
def storesO : List (View.Piece (Elt Ideal) S1024x384 .bf16) := [
  ⟨Rect.unit (s := S1024x384) ![768, 256] S256x128.size inb_S1024x384_S256x128_768_256, k0_pay9 x1 w (View.ld x0 (Rect.unit (s := S1024x384) ![768, 256] S256x128.size inb_S1024x384_S256x128_768_256))⟩,
  ⟨Rect.unit (s := S1024x384) ![512, 256] S256x128.size inb_S1024x384_S256x128_512_256, k0_pay9 x1 w (View.ld x0 (Rect.unit (s := S1024x384) ![512, 256] S256x128.size inb_S1024x384_S256x128_512_256))⟩,
  ⟨Rect.unit (s := S1024x384) ![256, 256] S256x128.size inb_S1024x384_S256x128_256_256, k0_pay9 x1 w (View.ld x0 (Rect.unit (s := S1024x384) ![256, 256] S256x128.size inb_S1024x384_S256x128_256_256))⟩,
  ⟨Rect.unit (s := S1024x384) ![0, 256] S256x128.size inb_S1024x384_S256x128_0_256, k0_pay9 x1 w (View.ld x0 (Rect.unit (s := S1024x384) ![0, 256] S256x128.size inb_S1024x384_S256x128_0_256))⟩,
  ⟨Rect.unit (s := S1024x384) ![768, 128] S256x128.size inb_S1024x384_S256x128_768_128, k0_pay9 x1 w (View.ld x0 (Rect.unit (s := S1024x384) ![768, 128] S256x128.size inb_S1024x384_S256x128_768_128))⟩,
  ⟨Rect.unit (s := S1024x384) ![512, 128] S256x128.size inb_S1024x384_S256x128_512_128, k0_pay9 x1 w (View.ld x0 (Rect.unit (s := S1024x384) ![512, 128] S256x128.size inb_S1024x384_S256x128_512_128))⟩,
  ⟨Rect.unit (s := S1024x384) ![256, 128] S256x128.size inb_S1024x384_S256x128_256_128, k0_pay9 x1 w (View.ld x0 (Rect.unit (s := S1024x384) ![256, 128] S256x128.size inb_S1024x384_S256x128_256_128))⟩,
  ⟨Rect.unit (s := S1024x384) ![0, 128] S256x128.size inb_S1024x384_S256x128_0_128, k0_pay9 x1 w (View.ld x0 (Rect.unit (s := S1024x384) ![0, 128] S256x128.size inb_S1024x384_S256x128_0_128))⟩,
  ⟨Rect.unit (s := S1024x384) ![768, 0] S256x128.size inb_S1024x384_S256x128_768_0, k0_pay9 x1 w (View.ld x0 (Rect.unit (s := S1024x384) ![768, 0] S256x128.size inb_S1024x384_S256x128_768_0))⟩,
  ⟨Rect.unit (s := S1024x384) ![512, 0] S256x128.size inb_S1024x384_S256x128_512_0, k0_pay9 x1 w (View.ld x0 (Rect.unit (s := S1024x384) ![512, 0] S256x128.size inb_S1024x384_S256x128_512_0))⟩,
  ⟨Rect.unit (s := S1024x384) ![256, 0] S256x128.size inb_S1024x384_S256x128_256_0, k0_pay9 x1 w (View.ld x0 (Rect.unit (s := S1024x384) ![256, 0] S256x128.size inb_S1024x384_S256x128_256_0))⟩,
  ⟨Rect.unit (s := S1024x384) ![0, 0] S256x128.size inb_S1024x384_S256x128_0_0, k0_pay9 x1 w (View.ld x0 (Rect.unit (s := S1024x384) ![0, 0] S256x128.size inb_S1024x384_S256x128_0_0))⟩]

/-- The twelve stores of row constants, the last first. -/
def storesS : List (View.Piece (Elt Ideal) S1x1024x3 .f32) := [
  ⟨Rect.unit (s := S1x1024x3) ![0, 768, 2] S1x256x1.size inb_S1x1024x3_S1x256x1_0_768_2, k0_pay10 x1 w (View.ld x0 (Rect.unit (s := S1024x384) ![768, 256] S256x128.size inb_S1024x384_S256x128_768_256))⟩,
  ⟨Rect.unit (s := S1x1024x3) ![0, 512, 2] S1x256x1.size inb_S1x1024x3_S1x256x1_0_512_2, k0_pay10 x1 w (View.ld x0 (Rect.unit (s := S1024x384) ![512, 256] S256x128.size inb_S1024x384_S256x128_512_256))⟩,
  ⟨Rect.unit (s := S1x1024x3) ![0, 256, 2] S1x256x1.size inb_S1x1024x3_S1x256x1_0_256_2, k0_pay10 x1 w (View.ld x0 (Rect.unit (s := S1024x384) ![256, 256] S256x128.size inb_S1024x384_S256x128_256_256))⟩,
  ⟨Rect.unit (s := S1x1024x3) ![0, 0, 2] S1x256x1.size inb_S1x1024x3_S1x256x1_0_0_2, k0_pay10 x1 w (View.ld x0 (Rect.unit (s := S1024x384) ![0, 256] S256x128.size inb_S1024x384_S256x128_0_256))⟩,
  ⟨Rect.unit (s := S1x1024x3) ![0, 768, 1] S1x256x1.size inb_S1x1024x3_S1x256x1_0_768_1, k0_pay10 x1 w (View.ld x0 (Rect.unit (s := S1024x384) ![768, 128] S256x128.size inb_S1024x384_S256x128_768_128))⟩,
  ⟨Rect.unit (s := S1x1024x3) ![0, 512, 1] S1x256x1.size inb_S1x1024x3_S1x256x1_0_512_1, k0_pay10 x1 w (View.ld x0 (Rect.unit (s := S1024x384) ![512, 128] S256x128.size inb_S1024x384_S256x128_512_128))⟩,
  ⟨Rect.unit (s := S1x1024x3) ![0, 256, 1] S1x256x1.size inb_S1x1024x3_S1x256x1_0_256_1, k0_pay10 x1 w (View.ld x0 (Rect.unit (s := S1024x384) ![256, 128] S256x128.size inb_S1024x384_S256x128_256_128))⟩,
  ⟨Rect.unit (s := S1x1024x3) ![0, 0, 1] S1x256x1.size inb_S1x1024x3_S1x256x1_0_0_1, k0_pay10 x1 w (View.ld x0 (Rect.unit (s := S1024x384) ![0, 128] S256x128.size inb_S1024x384_S256x128_0_128))⟩,
  ⟨Rect.unit (s := S1x1024x3) ![0, 768, 0] S1x256x1.size inb_S1x1024x3_S1x256x1_0_768_0, k0_pay10 x1 w (View.ld x0 (Rect.unit (s := S1024x384) ![768, 0] S256x128.size inb_S1024x384_S256x128_768_0))⟩,
  ⟨Rect.unit (s := S1x1024x3) ![0, 512, 0] S1x256x1.size inb_S1x1024x3_S1x256x1_0_512_0, k0_pay10 x1 w (View.ld x0 (Rect.unit (s := S1024x384) ![512, 0] S256x128.size inb_S1024x384_S256x128_512_0))⟩,
  ⟨Rect.unit (s := S1x1024x3) ![0, 256, 0] S1x256x1.size inb_S1x1024x3_S1x256x1_0_256_0, k0_pay10 x1 w (View.ld x0 (Rect.unit (s := S1024x384) ![256, 0] S256x128.size inb_S1024x384_S256x128_256_0))⟩,
  ⟨Rect.unit (s := S1x1024x3) ![0, 0, 0] S1x256x1.size inb_S1x1024x3_S1x256x1_0_0_0, k0_pay10 x1 w (View.ld x0 (Rect.unit (s := S1024x384) ![0, 0] S256x128.size inb_S1024x384_S256x128_0_0))⟩]

variable {x0 x1 w} {X0 : S1024x384.Idx → ℝ} {X1 : S4096x128.Idx → ℝ} {X2 : S4096x128.Idx → EReal}

/-- The block of outputs after its twelve stores. -/
theorem canon_o (h0 : ∀ j, x0 j = (X0 j : EReal)) (h1 : ∀ j, x1 j = (X1 j : EReal)) (hw : Beside w X2) (y : S1024x384.Idx) :
    View.canon (storesO x0 x1 w) y = blockO X0 X1 X2 y := by
  unfold storesO
  refine View.canon_apply_of_pieces (Val := Elt Ideal) (e := .bf16) (fun y => blockO X0 X1 X2 y) _ ?_ y ?_
  · intro p hp x
    simp only [List.mem_cons, List.not_mem_nil, or_false] at hp
    rcases hp with rfl | rfl | rfl | rfl | rfl | rfl | rfl | rfl | rfl | rfl | rfl | rfl
    · exact piece_o _ h0 h1 hw 2 rfl (by decide) x
    · exact piece_o _ h0 h1 hw 2 rfl (by decide) x
    · exact piece_o _ h0 h1 hw 2 rfl (by decide) x
    · exact piece_o _ h0 h1 hw 2 rfl (by decide) x
    · exact piece_o _ h0 h1 hw 1 rfl (by decide) x
    · exact piece_o _ h0 h1 hw 1 rfl (by decide) x
    · exact piece_o _ h0 h1 hw 1 rfl (by decide) x
    · exact piece_o _ h0 h1 hw 1 rfl (by decide) x
    · exact piece_o _ h0 h1 hw 0 rfl (by decide) x
    · exact piece_o _ h0 h1 hw 0 rfl (by decide) x
    · exact piece_o _ h0 h1 hw 0 rfl (by decide) x
    · exact piece_o _ h0 h1 hw 0 rfl (by decide) x
  · have hy0 : (y 0).val < 1024 := (y 0).isLt
    have hy1 : (y 1).val < 384 := (y 1).isLt
    simp only [List.exists_mem_cons_iff, List.not_mem_nil, false_and, exists_false, or_false, Rect.mem_set_unit]
    simp only [Fin.forall_fin_two, Matrix.cons_val_zero, Matrix.cons_val_one]
    omega

/-- The block of row constants after its twelve stores. -/
theorem canon_s (h0 : ∀ j, x0 j = (X0 j : EReal)) (h1 : ∀ j, x1 j = (X1 j : EReal)) (hw : Beside w X2) (y : S1x1024x3.Idx) :
    View.canon (storesS x0 x1 w) y = (blockS X0 X1 y : EReal) := by
  unfold storesS
  refine View.canon_apply_of_pieces (Val := Elt Ideal) (e := .f32) (fun y => (blockS X0 X1 y : EReal)) _ ?_ y ?_
  · intro p hp x
    simp only [List.mem_cons, List.not_mem_nil, or_false] at hp
    rcases hp with rfl | rfl | rfl | rfl | rfl | rfl | rfl | rfl | rfl | rfl | rfl | rfl
    · exact piece_s _ inb_S1x1024x3_S1x256x1_0_768_2 h0 h1 hw 2 rfl rfl (by decide) x
    · exact piece_s _ inb_S1x1024x3_S1x256x1_0_512_2 h0 h1 hw 2 rfl rfl (by decide) x
    · exact piece_s _ inb_S1x1024x3_S1x256x1_0_256_2 h0 h1 hw 2 rfl rfl (by decide) x
    · exact piece_s _ inb_S1x1024x3_S1x256x1_0_0_2 h0 h1 hw 2 rfl rfl (by decide) x
    · exact piece_s _ inb_S1x1024x3_S1x256x1_0_768_1 h0 h1 hw 1 rfl rfl (by decide) x
    · exact piece_s _ inb_S1x1024x3_S1x256x1_0_512_1 h0 h1 hw 1 rfl rfl (by decide) x
    · exact piece_s _ inb_S1x1024x3_S1x256x1_0_256_1 h0 h1 hw 1 rfl rfl (by decide) x
    · exact piece_s _ inb_S1x1024x3_S1x256x1_0_0_1 h0 h1 hw 1 rfl rfl (by decide) x
    · exact piece_s _ inb_S1x1024x3_S1x256x1_0_768_0 h0 h1 hw 0 rfl rfl (by decide) x
    · exact piece_s _ inb_S1x1024x3_S1x256x1_0_512_0 h0 h1 hw 0 rfl rfl (by decide) x
    · exact piece_s _ inb_S1x1024x3_S1x256x1_0_256_0 h0 h1 hw 0 rfl rfl (by decide) x
    · exact piece_s _ inb_S1x1024x3_S1x256x1_0_0_0 h0 h1 hw 0 rfl rfl (by decide) x
  · have hy0 : (y 0).val < 1 := (y 0).isLt
    have hy1 : (y 1).val < 1024 := (y 1).isLt
    have hy2 : (y 2).val < 3 := (y 2).isLt
    simp only [List.exists_mem_cons_iff, List.not_mem_nil, false_and, exists_false, or_false, Rect.mem_set_unit]
    simp only [forall_three, Matrix.cons_val_zero, Matrix.cons_val_one, Matrix.cons_val]
    omega

end Lists

/-- The two stores that set the values beside their ones. -/
def storesW (x2 : Vec Ideal S4096x128 .bf16) : List (View.Piece (Elt Ideal) S4096x256 .bf16) := [
  ⟨Rect.unit (s := S4096x256) ![0, 128] S4096x128.size inb_S4096x256_S4096x128_0_128, k0_pay3 (F := Ideal)⟩,
  ⟨Rect.unit (s := S4096x256) ![0, 0] S4096x128.size inb_S4096x256_S4096x128_0_0, k0_pay2 (F := Ideal) x2⟩]

/-- What they leave. -/
def wide (X2 : S4096x128.Idx → EReal) (y : S4096x256.Idx) : EReal :=
  if h : (y 1).val < 128 then X2 (ix2 (y 0) (⟨(y 1).val, h⟩ : Fin 128)) else 1

theorem pay3_apply (x : S4096x128.Idx) : k0_pay3 (F := Ideal) x = 1 := by
  unfold k0_pay3
  rw [shapeCast_self]
  exact one16.trans EReal.coe_one

theorem pay2_apply (x2 : Vec Ideal S4096x128 .bf16) : k0_pay2 (F := Ideal) x2 = x2 := by
  unfold k0_pay2
  exact (shapeCast_self _ _).trans (shapeCast_self _ _)

theorem canon_w {x2 : Vec Ideal S4096x128 .bf16} {X2 : S4096x128.Idx → EReal} (h2 : ∀ j, x2 j = X2 j) (y : S4096x256.Idx) :
    View.canon (storesW x2) y = wide X2 y := by
  unfold storesW
  refine View.canon_apply_of_pieces (Val := Elt Ideal) (e := .bf16) (fun y => wide X2 y) _ ?_ y ?_
  · intro p hp x
    simp only [List.mem_cons, List.not_mem_nil, or_false] at hp
    rcases hp with rfl | rfl
    · refine (pay3_apply x).trans ?_
      have h : ¬ (((Rect.unit (s := S4096x256) ![0, 128] S4096x128.size inb_S4096x256_S4096x128_0_128).emb x) 1).val < 128 := by
        show ¬ (128 + 1 * (x 1).val < 128)
        omega
      have e : wide X2 ((Rect.unit (s := S4096x256) ![0, 128] S4096x128.size inb_S4096x256_S4096x128_0_128).emb x) = 1 := by
        unfold wide
        exact dif_neg h
      exact e.symm
    · refine (congrFun (pay2_apply x2) x).trans ((h2 x).trans ?_)
      have hx : (x 1).val < 128 := (x 1).isLt
      have h : (((Rect.unit (s := S4096x256) ![0, 0] S4096x128.size inb_S4096x256_S4096x128_0_0).emb x) 1).val < 128 := by
        show 0 + 1 * (x 1).val < 128
        omega
      refine Eq.symm ((show wide X2 _ = _ from by unfold wide; exact dif_pos h).trans (congrArg X2 ?_))
      funext b
      match b with
      | ⟨0, _⟩ => exact Fin.ext (by show 0 + 1 * (x 0).val = (x 0).val; omega)
      | ⟨1, _⟩ => exact Fin.ext (by show 0 + 1 * (x 1).val = (x 1).val; omega)
  · have hy0 : (y 0).val < 4096 := (y 0).isLt
    have hy1 : (y 1).val < 256 := (y 1).isLt
    simp only [List.exists_mem_cons_iff, List.not_mem_nil, false_and, exists_false, or_false, Rect.mem_set_unit]
    simp only [Fin.forall_fin_two, Matrix.cons_val_zero, Matrix.cons_val_one]
    omega

theorem beside_w {x2 : Vec Ideal S4096x128 .bf16} {X2 : S4096x128.Idx → EReal} (h2 : ∀ j, x2 j = X2 j) : Beside (View.canon (storesW x2)) X2 where
  one s := (canon_w h2 _).trans (dif_neg (by show ¬ ((128 : ℕ) < 128); omega))
  val s d := (canon_w h2 _).trans (dif_pos d.isLt)

/-- A load of the whole scratch reads what its stores left. -/
theorem readWide {κ : Kind} {sp : Space} (v : View sig κ sp S4096x256 .bf16) (L : List (View.Piece (Elt Ideal) S4096x256 .bf16))
    (inb : ∀ a, (![0, 0] : Fin 2 → ℕ) a + (![4096, 256] : Fin 2 → ℕ) a ≤ S4096x256.size a) :
    v.readCov L (Rect.unit (s := S4096x256) ![0, 0] ![4096, 256] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

section Cases
variable (c : Dev nD) (i : grid0.Coords) (arg2 : Memref sig .tc .vmem S1024x384 .bf16) (harg2 : arg2.IsWhole) (arg3 : Memref sig .tc .vmem S4096x128 .bf16) (harg3 : arg3.IsWhole) (arg4 : Memref sig .tc .vmem S4096x128 .bf16) (harg4 : arg4.IsWhole) (arg5 : Memref sig .tc .vmem S1024x384 .bf16) (harg5 : arg5.IsWhole) (arg6 : Memref sig .tc .vmem S1x1024x3 .f32) (harg6 : arg6.IsWhole) (arg7 : Memref sig .tc .vmem S4096x256 .bf16) (harg7 : arg7.IsWhole)
  (x0 : Vec Ideal S1024x384 .bf16) (x1 : Vec Ideal S4096x128 .bf16) (x2 : Vec Ideal S4096x128 .bf16) (xs0 : Vec Ideal S4096x256 .bf16)

/-- The scratch after a key head's first row block. -/
theorem w_A (hc0 : cond0_0 i) :
    sout0_A_0 (F := Ideal) c i arg2 harg2 arg3 harg3 arg4 harg4 arg5 harg5 arg6 harg6 arg7 harg7 hc0 x0 x1 x2 = View.canon (storesW x2) := by
  unfold sout0_A_0; rw [View.read_writes_junk_eq_canon]; unfold kernelRun0_A; dsimp only; sl_unfold_words
  simp only [View.readAt_eq_ld, harg2.read_unread, harg3.read_unread, harg4.read_unread, View.ld_unit_zero (S := S4096x128) zeros2]
  rfl

/-- The outputs of a key head's first row block. -/
theorem o_A (hc0 : cond0_0 i) :
    out0_A_3 (F := Ideal) c i arg2 harg2 arg3 harg3 arg4 harg4 arg5 harg5 arg6 harg6 arg7 harg7 hc0 x0 x1 x2 = View.canon (storesO x0 x1 (View.canon (storesW x2))) := by
  unfold out0_A_3; rw [View.read_writes_junk_eq_canon]; unfold kernelRun0_A; dsimp only; sl_unfold_words
  simp only [View.readAt_eq_ld, harg2.read_unread, harg3.read_unread, harg4.read_unread, View.ld_unit_zero (S := S4096x128) zeros2]
  simp only [readWide]
  rfl

/-- The row constants of a key head's first row block. -/
theorem s_A (hc0 : cond0_0 i) :
    out0_A_4 (F := Ideal) c i arg2 harg2 arg3 harg3 arg4 harg4 arg5 harg5 arg6 harg6 arg7 harg7 hc0 x0 x1 x2 = View.canon (storesS x0 x1 (View.canon (storesW x2))) := by
  unfold out0_A_4; rw [View.read_writes_junk_eq_canon]; unfold kernelRun0_A; dsimp only; sl_unfold_words
  simp only [View.readAt_eq_ld, harg2.read_unread, harg3.read_unread, harg4.read_unread, View.ld_unit_zero (S := S4096x128) zeros2]
  simp only [readWide]
  rfl

/-- The outputs of a later row block. -/
theorem o_B (hc0 : ¬cond0_0 i) :
    out0_B_3 (F := Ideal) c i arg2 harg2 arg3 harg3 arg4 harg4 arg5 harg5 arg6 harg6 arg7 harg7 hc0 x0 x1 x2 xs0 = View.canon (storesO x0 x1 xs0) := by
  unfold out0_B_3; rw [View.read_writes_junk_eq_canon]; unfold kernelRun0_B; dsimp only; sl_unfold_words
  simp only [View.readAt_eq_ld, harg2.read_unread, harg3.read_unread, harg4.read_unread, harg7.read_unread, View.ld_unit_zero (S := S4096x128) zeros2, View.ld_unit_zero (S := S4096x256) zeros2]
  rfl

/-- The row constants of a later row block. -/
theorem s_B (hc0 : ¬cond0_0 i) :
    out0_B_4 (F := Ideal) c i arg2 harg2 arg3 harg3 arg4 harg4 arg5 harg5 arg6 harg6 arg7 harg7 hc0 x0 x1 x2 xs0 = View.canon (storesS x0 x1 xs0) := by
  unfold out0_B_4; rw [View.read_writes_junk_eq_canon]; unfold kernelRun0_B; dsimp only; sl_unfold_words
  simp only [View.readAt_eq_ld, harg2.read_unread, harg3.read_unread, harg4.read_unread, harg7.read_unread, View.ld_unit_zero (S := S4096x128) zeros2, View.ld_unit_zero (S := S4096x256) zeros2]
  rfl

end Cases

end Cert.AttnF

end
-- ==== Proof.AttnFArr.lean ====
/- The two arrays the attention's forward kernel leaves, over real queries and keys and any values. -/
module

public import proofs.«01_k».proof.Proof.AttnFOut
public import proofs.«01_k».proof.Proof.Gen.AttnFwdIdeal.Value
public import Idealize.ShloMosaic.Lib.StableHlo.RunRead

@[expose] public section

noncomputable section

namespace Cert.AttnF

open Idealize.ShloMosaic hiding ix1 ix2 ix3 ix4 eq_ix1 eq_ix2 eq_ix3 eq_ix4
open Idealize.ShloMosaic.ValueIdx Idealize.ShloMosaic.TcCoe
open Cert.AttnFwdIdeal Cert.AttnFwdIdeal.Gen
open Cert.Attn (scale expSum prob hcol headOf laneOf qcol kcol Arrays)

/-- The row of the arrays that row `i` of point `n`'s block is. -/
def rowAt (n : ℕ) (i : Fin 1024) : Fin 4096 := ⟨1024 * (n % 4) + i.val, by omega⟩

/-- The key head of point `n`. -/
def headAt (n : ℕ) : Fin 4 := ⟨n / 4 % 4, Nat.mod_lt _ (by omega)⟩

/-- The column of the queries that column `x` of point `n`'s block is. -/
def qAt (n : ℕ) (x : Fin 384) : Fin 1536 := ⟨384 * (n / 4 % 4) + x.val, by omega⟩

/-- The column of the keys that lane `x` of point `n`'s block is. -/
def kAt (n : ℕ) (x : Fin 128) : Fin 512 := ⟨128 * (n / 4 % 4) + x.val, by omega⟩

theorem qAt_hcol (n : ℕ) (g : Fin 3) (d : Fin 128) : qAt n (hcol g d) = qcol (headAt n) g d :=
  Fin.ext (by show 384 * (n / 4 % 4) + (128 * g.val + d.val) = ((n / 4 % 4) * 3 + g.val) * 128 + d.val; omega)

theorem kAt_eq (n : ℕ) (d : Fin 128) : kAt n d = kcol (headAt n) d :=
  Fin.ext (by show 128 * (n / 4 % 4) + d.val = (n / 4 % 4) * 128 + d.val; omega)

theorem map0 : ∀ t : Fin cfg0.N, cc0_transform_0 (cfg0.grid.coords t) 0 = t.val % 4 ∧ cc0_transform_0 (cfg0.grid.coords t) 1 = t.val / 4 := by
  decide +kernel
theorem map1 : ∀ t : Fin cfg0.N, cc0_transform_1 (cfg0.grid.coords t) 0 = 0 ∧ cc0_transform_1 (cfg0.grid.coords t) 1 = t.val / 4 := by
  decide +kernel
theorem map2 : ∀ t : Fin cfg0.N, cc0_transform_2 (cfg0.grid.coords t) 0 = 0 ∧ cc0_transform_2 (cfg0.grid.coords t) 1 = t.val / 4 := by
  decide +kernel
theorem map3 : ∀ t : Fin cfg0.N, cc0_transform_3 (cfg0.grid.coords t) 0 = t.val % 4 ∧ cc0_transform_3 (cfg0.grid.coords t) 1 = t.val / 4 := by
  decide +kernel
theorem map4 : ∀ t : Fin cfg0.N, cc0_transform_4 (cfg0.grid.coords t) 0 = t.val / 4 ∧ cc0_transform_4 (cfg0.grid.coords t) 1 = t.val % 4
    ∧ cc0_transform_4 (cfg0.grid.coords t) 2 = 0 := by
  decide +kernel

/-- The queries' block. -/
theorem blk0 (X : FVec Ideal S4096x1536 .bf16) (t : Fin cfg0.N) (i : Fin 1024) (x : Fin 384) :
    (((cfg0.win 0).blk t).view.read (Elt Ideal) X : FVec Ideal S1024x384 .bf16) (ix2 i x) = X (ix2 (rowAt t.val i) (qAt t.val x)) := by
  rw [View.read_apply]
  refine congrArg X (funext fun a => Fin.ext ?_)
  have ht : t.val < 16 := t.isLt
  match a with
  | ⟨0, _⟩ =>
    show cc0_transform_0 (cfg0.grid.coords t) 0 * 1024 + 1 * i.val = 1024 * (t.val % 4) + i.val
    rw [(map0 t).1]; omega
  | ⟨1, _⟩ =>
    show cc0_transform_0 (cfg0.grid.coords t) 1 * 384 + 1 * x.val = 384 * (t.val / 4 % 4) + x.val
    rw [(map0 t).2]; omega

/-- The keys' block. -/
theorem blk1 (X : FVec Ideal S4096x512 .bf16) (t : Fin cfg0.N) (s : Fin 4096) (x : Fin 128) :
    (((cfg0.win 1).blk t).view.read (Elt Ideal) X : FVec Ideal S4096x128 .bf16) (ix2 s x) = X (ix2 s (kAt t.val x)) := by
  rw [View.read_apply]
  refine congrArg X (funext fun a => Fin.ext ?_)
  have ht : t.val < 16 := t.isLt
  match a with
  | ⟨0, _⟩ =>
    show cc0_transform_1 (cfg0.grid.coords t) 0 * 4096 + 1 * s.val = s.val
    rw [(map1 t).1]; omega
  | ⟨1, _⟩ =>
    show cc0_transform_1 (cfg0.grid.coords t) 1 * 128 + 1 * x.val = 128 * (t.val / 4 % 4) + x.val
    rw [(map1 t).2]; omega

/-- The values' block. -/
theorem blk2 (X : FVec Ideal S4096x512 .bf16) (t : Fin cfg0.N) (s : Fin 4096) (x : Fin 128) :
    (((cfg0.win 2).blk t).view.read (Elt Ideal) X : FVec Ideal S4096x128 .bf16) (ix2 s x) = X (ix2 s (kAt t.val x)) := by
  rw [View.read_apply]
  refine congrArg X (funext fun a => Fin.ext ?_)
  have ht : t.val < 16 := t.isLt
  match a with
  | ⟨0, _⟩ =>
    show cc0_transform_2 (cfg0.grid.coords t) 0 * 4096 + 1 * s.val = s.val
    rw [(map2 t).1]; omega
  | ⟨1, _⟩ =>
    show cc0_transform_2 (cfg0.grid.coords t) 1 * 128 + 1 * x.val = 128 * (t.val / 4 % 4) + x.val
    rw [(map2 t).2]; omega

/-- No block of the outputs is cut. -/
theorem len3 : ∀ (t : Fin cfg0.N) (a : Fin 2), (cfg0.win 3).xsize (cfg0.grid.coords t) a = S1024x384.size a := by
  decide +kernel

/-- An index of the outputs' block, as one of what is written of it. -/
def at3 (t : Fin cfg0.N) (y : S1024x384.Idx) : ((cfg0.win 3).xblock (cfg0.grid.coords t)).Idx :=
  fun a => ⟨(y a).val, (y a).isLt.trans_eq (len3 t a).symm⟩

/-- Where the outputs' block sits. -/
theorem emb3 (t : Fin cfg0.N) (i : Fin 1024) (x : Fin 384) :
    (((cfg0.win 3).blk t).view.emb (at3 t (ix2 i x)) : S4096x2048.Idx) = ix2 (rowAt t.val i) ⟨(qAt t.val x).val, by omega⟩ := by
  refine funext fun a => Fin.ext ?_
  have ht : t.val < 16 := t.isLt
  match a with
  | ⟨0, _⟩ =>
    show cc0_transform_3 (cfg0.grid.coords t) 0 * 1024 + 1 * i.val = 1024 * (t.val % 4) + i.val
    rw [(map3 t).1]; omega
  | ⟨1, _⟩ =>
    show cc0_transform_3 (cfg0.grid.coords t) 1 * 384 + 1 * x.val = 384 * (t.val / 4 % 4) + x.val
    rw [(map3 t).2]; omega

/-- Where the row constants' block sits. -/
theorem emb4 (t : Fin cfg0.N) (z : Fin 1) (i : Fin 1024) (g : Fin 3) :
    (((cfg0.win 4).blk t).view.emb (ix3 z i g) : S4x4096x3.Idx) = ix3 (headAt t.val) (rowAt t.val i) g := by
  refine funext fun a => Fin.ext ?_
  have ht : t.val < 16 := t.isLt
  match a with
  | ⟨0, _⟩ =>
    show cc0_transform_4 (cfg0.grid.coords t) 0 * 1 + 1 * z.val = t.val / 4 % 4
    rw [(map4 t).1]; omega
  | ⟨1, _⟩ =>
    show cc0_transform_4 (cfg0.grid.coords t) 1 * 1024 + 1 * i.val = 1024 * (t.val % 4) + i.val
    rw [(map4 t).2.1]; omega
  | ⟨2, _⟩ =>
    show cc0_transform_4 (cfg0.grid.coords t) 2 * 3 + 1 * g.val = g.val
    rw [(map4 t).2.2]; omega

section Real
variable (A : Arrays) (W : FVec Ideal S4096x512 .f32)

/-- The attention's outputs, of any values. -/
def outO (h : Fin 4) (g : Fin 3) (t : Fin 4096) (d : Fin 128) : EReal := ∑ s : Fin 4096, W (ix2 s (kcol h d)) * (A.P h g t s : EReal)

/-- The blocks of point `n`. -/
def R0 (n : ℕ) (j : S1024x384.Idx) : ℝ := A.Q (rowAt n (j 0)) (qAt n (j 1))
def R1 (n : ℕ) (j : S4096x128.Idx) : ℝ := A.K (j 0) (kAt n (j 1))
def R2 (n : ℕ) (j : S4096x128.Idx) : EReal := W (ix2 (j 0) (kAt n (j 1)))

theorem blockRow_eq (n : ℕ) (i : Fin 1024) (g : Fin 3) : blockRow (R0 A n) (R1 A n) i g = A.row (headAt n) g (rowAt n i) := by
  funext s
  show (∑ d : Fin 128, A.Q (rowAt n i) (qAt n (hcol g d)) * A.K s (kAt n d)) * scale = _
  simp only [qAt_hcol, kAt_eq]
  rfl

/-- The block of outputs is the attention's. -/
theorem blockO_eq (n : ℕ) (i : Fin 1024) (g : Fin 3) (d : Fin 128) :
    blockO (R0 A n) (R1 A n) (R2 W n) (ix2 i (hcol g d)) = outO A W (headAt n) g (rowAt n i) d := by
  have e1 : headOf (hcol g d) = g := Fin.ext (by show (128 * g.val + d.val) / 128 = g.val; omega)
  have e2 : laneOf (hcol g d) = d := Fin.ext (by show (128 * g.val + d.val) % 128 = d.val; omega)
  show ∑ s : Fin 4096, W (ix2 s (kAt n (laneOf (hcol g d)))) * (prob (blockRow (R0 A n) (R1 A n) i (headOf (hcol g d))) s : EReal) = _
  rw [e1, e2, blockRow_eq, kAt_eq]
  rfl

/-- The block of row constants is the attention's. -/
theorem blockS_eq (n : ℕ) (z : Fin 1) (i : Fin 1024) (g : Fin 3) :
    blockS (R0 A n) (R1 A n) (ix3 z i g) = Real.log (expSum (A.row (headAt n) g (rowAt n i))) * (1 / scale) := by
  show Real.log (expSum (blockRow (R0 A n) (R1 A n) i g)) * (1 / scale) = _
  rw [blockRow_eq]

end Real

variable (m : (ℓ : Loc nD τ sig) → Buf (Elt Ideal) ℓ) (c : Dev nD) {A : Arrays}

/-- The arguments of one device. -/
abbrev arg0 : FVec Ideal S4096x1536 .f32 := m ((c : Thread nD τ).loc main_arg0)
abbrev arg1 : FVec Ideal S4096x512 .f32 := m ((c : Thread nD τ).loc main_arg1)
abbrev arg2 : FVec Ideal S4096x512 .f32 := m ((c : Thread nD τ).loc main_arg2)

theorem V_v0 : (V m c main_v0 : FVec Ideal S4096x1536 .bf16) = truncf .bf16 (arg0 m c) bitsLt_bf16_f32 := by
  unfold V; after_reads_simp
theorem V_v1 : (V m c main_v1 : FVec Ideal S4096x512 .bf16) = truncf .bf16 (arg1 m c) bitsLt_bf16_f32 := by
  unfold V; after_reads_simp
theorem V_v2 : (V m c main_v2 : FVec Ideal S4096x512 .bf16) = truncf .bf16 (arg2 m c) bitsLt_bf16_f32 := by
  unfold V; after_reads_simp

/-- The argument arrays hold the real queries and keys. -/
structure Holds (A : Arrays) (x0 : FVec Ideal S4096x1536 .f32) (x1 : FVec Ideal S4096x512 .f32) : Prop where
  q : ∀ t j, x0 (ix2 t j) = ((A.Q t j : ℝ) : EReal)
  k : ∀ t j, x1 (ix2 t j) = ((A.K t j : ℝ) : EReal)

theorem in2 (t : Fin cfg0.N) (j : S4096x128.Idx) : (iblk m c 2 t : Vec Ideal S4096x128 .bf16) j = R2 (arg2 m c) t.val j := by
  rw [eq_ix2 j]
  exact (blk2 _ t (j 0) (j 1)).trans (congrFun (V_v2 m c) _)

/-- The values' block is the same at every point of one key head. -/
theorem R2_same (W : FVec Ideal S4096x512 .f32) {n n' : ℕ} (h : n / 4 = n' / 4) : R2 W n = R2 W n' := by
  funext j
  unfold R2 kAt
  simp only [h]

/-- After every point the scratch holds the values of the point's key head beside their ones. -/
theorem kept (n : ℕ) (hn : n < cfg0.N) : Beside (outsAt0 m c n hn).2.2 (R2 (arg2 m c) n) := by
  induction n with
  | zero =>
    rw [outsAt0_A m c ⟨0, hn⟩ (Nat.zero_mod _)]
    dsimp only
    rw [w_A]
    exact beside_w (in2 m c ⟨0, hn⟩)
  | succ n ih =>
    by_cases h0 : (n + 1) % 4 = 0
    · rw [outsAt0_A m c ⟨n + 1, hn⟩ h0]
      dsimp only
      rw [w_A]
      exact beside_w (in2 m c ⟨n + 1, hn⟩)
    · rw [outsAt0_B m c ⟨n + 1, hn⟩ h0]
      have e := R2_same (arg2 m c) (n := n + 1) (n' := n) (by omega)
      rw [e]
      exact ih (Nat.lt_of_succ_lt hn)

variable (H : Holds A (arg0 m c) (arg1 m c))
include H

theorem in0 (t : Fin cfg0.N) (j : S1024x384.Idx) : (iblk m c 0 t : Vec Ideal S1024x384 .bf16) j = (R0 A t.val j : EReal) := by
  rw [eq_ix2 j]
  exact (blk0 _ t (j 0) (j 1)).trans ((congrFun (V_v0 m c) _).trans (H.q _ _))
theorem in1 (t : Fin cfg0.N) (j : S4096x128.Idx) : (iblk m c 1 t : Vec Ideal S4096x128 .bf16) j = (R1 A t.val j : EReal) := by
  rw [eq_ix2 j]
  exact (blk1 _ t (j 0) (j 1)).trans ((congrFun (V_v1 m c) _).trans (H.k _ _))

/-- The outputs' block after each point. -/
theorem after_o (t : Fin cfg0.N) (y : S1024x384.Idx) :
    ((outsAt0 m c t.val t.isLt).1 : Vec Ideal S1024x384 .bf16) y = blockO (R0 A t.val) (R1 A t.val) (R2 (arg2 m c) t.val) y := by
  by_cases h0 : t.val % 4 = 0
  · rw [outsAt0_A m c t h0]
    dsimp only
    rw [o_A]
    exact canon_o (in0 m c H t) (in1 m c H t) (beside_w (in2 m c t)) y
  · have hk := kept m c (t.val - 1) (Nat.lt_of_le_of_lt (Nat.sub_le _ _) t.isLt)
    have e := R2_same (arg2 m c) (n := t.val) (n' := t.val - 1) (by omega)
    rw [outsAt0_B m c t h0]
    dsimp only
    rw [o_B, e]
    exact canon_o (in0 m c H t) (in1 m c H t) hk y

/-- The row constants' block after each point. -/
theorem after_s (t : Fin cfg0.N) (y : S1x1024x3.Idx) :
    ((outsAt0 m c t.val t.isLt).2.1 : Vec Ideal S1x1024x3 .f32) y = (blockS (R0 A t.val) (R1 A t.val) y : EReal) := by
  by_cases h0 : t.val % 4 = 0
  · rw [outsAt0_A m c t h0]
    dsimp only
    rw [s_A]
    exact canon_s (in0 m c H t) (in1 m c H t) (beside_w (in2 m c t)) y
  · have hk := kept m c (t.val - 1) (Nat.lt_of_le_of_lt (Nat.sub_le _ _) t.isLt)
    rw [outsAt0_B m c t h0]
    dsimp only
    rw [s_B]
    exact canon_s (in0 m c H t) (in1 m c H t) hk y

end Cert.AttnF

end
-- ==== Proof.AttnFRef.lean ====
/- The reference's two arrays of the attention's forward pass, over real queries and keys and any values. -/
module

public import proofs.«01_k».proof.Proof.Host
public import proofs.«01_k».proof.Proof.AttnFArr
public import proofs.«01_k».proof.Proof.Gen.AttnFwdReferenceIdeal.Read

@[expose] public section

-- the reference's operations are read one inside the other
set_option maxRecDepth 16384

noncomputable section

namespace Cert.AttnF

open Idealize.ShloMosaic hiding ix1 ix2 ix3 ix4 eq_ix1 eq_ix2 eq_ix3 eq_ix4
open Idealize.ShloMosaic.ValueIdx Idealize.ShloMosaic.TcCoe
open Cert.AttnFwdReferenceIdeal Cert.AttnFwdReferenceIdeal.Gen Cert.AttnFwdReferenceIdeal.Read
open Cert.Attn (scale expSum prob qcol kcol Arrays rowMax hostExp hostExp_eq)

section Same
variable (x0 : FVec Ideal S4096x1536 .f32) (x1 x2 : FVec Ideal S4096x512 .f32)

/-- The rows' greatest scores are the backward pass's. -/
theorem v7_same : val_main_v7 (F := Ideal) x0 x1 = Cert.ReferenceIdeal.Read.val_main_v7 (F := Ideal) x0 x1 := rfl

/-- So are the rows' sums of exponentials. -/
theorem v12_same : val_main_v12 (F := Ideal) x0 x1 = Cert.ReferenceIdeal.Read.val_main_v28 (F := Ideal) x0 x1 := by
  have e : val_main_v11 (F := Ideal) x0 x1 = Cert.ReferenceIdeal.Read.val_main_v27 (F := Ideal) x0 x1 :=
    Eq.trans (b := hostExp x0 x1) rfl (hostExp_eq x0 x1)
  unfold val_main_v12
  rw [e]
  rfl

/-- So are the outputs before they are padded. -/
theorem v44_same : val_main_v44 (F := Ideal) x0 x1 x2 = Cert.ReferenceIdeal.Read.val_main_v37 (F := Ideal) x0 x1 x2 := rfl

end Same

section
variable {A : Arrays} {x0 : FVec Ideal S4096x1536 .f32} {x1 x2 : FVec Ideal S4096x512 .f32} (H : Holds A x0 x1)
include H

/-- The same queries and keys beside zeros. -/
theorem zeroD : Cert.Attn.Holds ⟨A.Q, A.K, fun _ _ => 0, fun _ _ => 0⟩ x0 x1 (fun _ => ((0 : ℝ) : EReal)) (fun _ => ((0 : ℝ) : EReal)) where
  q := H.q
  k := H.k
  v _ _ := rfl
  d _ _ := rfl

/-- The outputs before they are padded. -/
theorem at_out (t : Fin 4096) (h : Fin 4) (g : Fin 3) (d : Fin 128) :
    Cert.ReferenceIdeal.Read.val_main_v37 (F := Ideal) x0 x1 x2 (ix2 t (qcol h g d)) = outO A x2 h g t d := by
  rw [Cert.ReferenceIdeal.Read.val_main_v37_apply, Cert.ReferenceIdeal.Read.val_main_v36_apply]
  refine (congrArg (Cert.ReferenceIdeal.Read.val_main_v35 (F := Ideal) x0 x1 x2) (?_ : _ = ix4 h d g t)).trans ?_
  · funext a
    match a with
    | ⟨0, _⟩ => exact Fin.ext (show (t.val * 1536 + ((h.val * 3 + g.val) * 128 + d.val)) / 384 % 4 = h.val by omega)
    | ⟨1, _⟩ => exact Fin.ext (show (t.val * 1536 + ((h.val * 3 + g.val) * 128 + d.val)) % 128 = d.val by omega)
    | ⟨2, _⟩ => exact Fin.ext (show (t.val * 1536 + ((h.val * 3 + g.val) * 128 + d.val)) / 128 % 3 = g.val by omega)
    | ⟨3, _⟩ => exact Fin.ext (show (t.val * 1536 + ((h.val * 3 + g.val) * 128 + d.val)) / 1536 = t.val by omega)
  rw [Cert.ReferenceIdeal.Read.val_main_v35_apply, outO]
  refine Finset.sum_congr rfl fun s _ => ?_
  rw [show Cert.ReferenceIdeal.Read.lidx_main_v35 (ix4 h d g t) s = ix3 s h d from by funext a; match a with | ⟨0, _⟩ => rfl | ⟨1, _⟩ => rfl | ⟨2, _⟩ => rfl,
    show Cert.ReferenceIdeal.Read.ridx_main_v35 (ix4 h d g t) s = ix4 h g t s from by funext a; match a with | ⟨0, _⟩ => rfl | ⟨1, _⟩ => rfl | ⟨2, _⟩ => rfl | ⟨3, _⟩ => rfl,
    Cert.ReferenceIdeal.Read.val_main_v2_apply]
  refine congrArg₂ (fun x y : EReal => x * y) (congrArg x2 ?_) (Cert.Attn.at_v31 (zeroD H) h g t s)
  funext a
  match a with
  | ⟨0, _⟩ => exact Fin.ext (show ((s.val * 4 + h.val) * 128 + d.val) / 512 = s.val by omega)
  | ⟨1, _⟩ => exact Fin.ext (show ((s.val * 4 + h.val) * 128 + d.val) % 512 = h.val * 128 + d.val by omega)

/-- The reference's outputs. -/
theorem ref_o (t : Fin 4096) (h : Fin 4) (g : Fin 3) (d : Fin 128) :
    val_main_v46 (F := Ideal) x0 x1 x2 (ix2 t ⟨(qcol h g d).val, by omega⟩) = outO A x2 h g t d := by
  rw [val_main_v46_apply]
  unfold val_main_v45
  refine (pad_apply_of_inside (s := S4096x1536) (t := S4096x2048) ![0, 0] ![0, 512] ![0, 0] _ _ _ _ _ (ix2 t (qcol h g d)) (by
    intro a; match a with
    | ⟨0, _⟩ => show t.val = 0 + t.val * (0 + 1); omega
    | ⟨1, _⟩ => show (qcol h g d).val = 0 + (qcol h g d).val * (0 + 1); omega)).trans ?_
  rw [v44_same]
  exact at_out H t h g d

/-- The reference's row constants. -/
theorem ref_s (h : Fin 4) (t : Fin 4096) (g : Fin 3) :
    val_main_v23 (F := Ideal) x0 x1 (ix3 h t g) = ((Real.log (expSum (A.row h g t)) * (1 / scale) : ℝ) : EReal) := by
  unfold val_main_v23
  refine (transpose_apply (s := S4x3x4096) (t := S4x4096x3) _ _ transposes_S4x3x4096_S4x4096x3_0_2_1 _ (ix3 h g t)
    (by intro b; match b with | ⟨0, _⟩ => rfl | ⟨1, _⟩ => rfl | ⟨2, _⟩ => rfl)).trans ?_
  unfold val_main_v22 val_main_v20 val_main_v19 val_main_v21 val_main_cst_2
  rw [v7_same, v12_same]
  refine (Cert.Attn.stat_form _ _ _).trans ?_
  have hp := Cert.Attn.expSum_pos fun s => A.row h g t s - rowMax x0 x1 h g t
  rw [Cert.Attn.at_v7 (zeroD H), Cert.Attn.at_v28 (zeroD H)]
  show Ideal.div (((rowMax x0 x1 h g t : ℝ) : EReal) + Ideal.log ((expSum (fun s => A.row h g t s - rowMax x0 x1 h g t) : ℝ) : EReal)) _ = _
  rw [Ideal.log_coe, if_neg (not_le.mpr hp), ← EReal.coe_add, Cert.Attn.lse_shift, Cert.Attn.ofBits_scale, Cert.Attn.div_real _ _ Cert.Attn.scale_ne, mul_one_div]

end

end Cert.AttnF

end
-- ==== Proof.AttnFFinal.lean ====
/- The claims about the attention's forward pass. -/
module

public import proofs.«01_k».proof.Defs
public import proofs.«01_k».proof.Proof.AttnFRef
public import proofs.«01_k».proof.Proof.Finite
public import proofs.«01_k».proof.Proof.Gen.AttnFwd.Frame
public import proofs.«01_k».proof.Proof.Gen.AttnFwdIdeal.Frame
public import proofs.«01_k».proof.Proof.Gen.AttnFwdReferenceIdeal.Run
public import proofs.«01_k».proof.Proof.Gen.Pre_finite7
public import proofs.«01_k».proof.Proof.Gen.On_written7
public import Idealize.ShloMosaic.Adequacy
public import Idealize.ShloMosaic.Init

@[expose] public section

noncomputable section

namespace Cert.AttnF

open Idealize.ShloMosaic hiding ix1 ix2 ix3 ix4 eq_ix1 eq_ix2 eq_ix3 eq_ix4
open Idealize.ShloMosaic.ValueIdx Idealize.ShloMosaic.TcCoe Idealize.SL.Sem
open Cert.Attn (scale expSum hcol qcol Arrays)

section
variable (m : (ℓ : Loc Cert.AttnFwdIdeal.nD Cert.AttnFwdIdeal.τ Cert.AttnFwdIdeal.sig) → Buf (Elt Ideal) ℓ) (c : Dev Cert.AttnFwdIdeal.nD)

/-- The array of outputs the kernel leaves. -/
abbrev kerO : FVec Ideal ⟨2, ![4096, 2048]⟩ .bf16 := (Cert.AttnFwdIdeal.Gen.dats m 0 c).arrAt 3 Cert.AttnFwdIdeal.cfg0.N

/-- The array of row constants the kernel leaves. -/
abbrev kerS : FVec Ideal ⟨3, ![4, 4096, 3]⟩ .f32 := (Cert.AttnFwdIdeal.Gen.dats m 0 c).arrAt 4 Cert.AttnFwdIdeal.cfg0.N

/-- The point whose block holds row `t` of key head `h`. -/
def pointOf (h : Fin 4) (t : Fin 4096) : Fin Cert.AttnFwdIdeal.cfg0.N := ⟨4 * h.val + t.val / 1024, by show _ < 16; omega⟩

/-- The row of that block. -/
def inBlock (t : Fin 4096) : Fin 1024 := ⟨t.val % 1024, Nat.mod_lt _ (by omega)⟩

theorem rowAt_pointOf (h : Fin 4) (t : Fin 4096) : rowAt (pointOf h t).val (inBlock t) = t :=
  Fin.ext (by show 1024 * ((4 * h.val + t.val / 1024) % 4) + t.val % 1024 = t.val; omega)

theorem headAt_pointOf (h : Fin 4) (t : Fin 4096) : headAt (pointOf h t).val = h :=
  Fin.ext (by show (4 * h.val + t.val / 1024) / 4 % 4 = h.val; omega)

variable {A : Arrays} (H : Holds A (arg0 m c) (arg1 m c))
include H

/-- The kernel's outputs. -/
theorem ker_o (t : Fin 4096) (h : Fin 4) (g : Fin 3) (d : Fin 128) :
    kerO m c (ix2 t ⟨(qcol h g d).val, by omega⟩) = outO A (arg2 m c) h g t d := by
  have e := congrFun (Cert.AttnFwdIdeal.Value.blocks3 m c (pointOf h t) (Cert.AttnFwdIdeal.Gen.flush0_3 _))
    (at3 (pointOf h t) (ix2 (inBlock t) (hcol g d)))
  rw [View.read_apply, Cert.AttnFwdIdeal.Value.flushed3] at e
  have i : (((Cert.AttnFwdIdeal.cfg0.win 3).blk (pointOf h t)).view.emb (at3 (pointOf h t) (ix2 (inBlock t) (hcol g d))) : (⟨2, ![4096, 2048]⟩ : Shape).Idx)
      = ix2 t ⟨(qcol h g d).val, by omega⟩ := by
    refine (emb3 _ _ _).trans ?_
    simp only [qAt_hcol, headAt_pointOf, rowAt_pointOf]
  refine (congrArg (kerO m c) i).symm.trans (e.trans ?_)
  refine (after_o m c H (pointOf h t) (ix2 (inBlock t) (hcol g d))).trans ?_
  rw [blockO_eq, headAt_pointOf, rowAt_pointOf]

/-- The kernel's row constants. -/
theorem ker_s (h : Fin 4) (t : Fin 4096) (g : Fin 3) :
    kerS m c (ix3 h t g) = ((Real.log (expSum (A.row h g t)) * (1 / scale) : ℝ) : EReal) := by
  have e := congrFun (Cert.AttnFwdIdeal.Value.blocks4 m c (pointOf h t) (Cert.AttnFwdIdeal.Gen.flush0_4 _)) (ix3 (0 : Fin 1) (inBlock t) g)
  rw [View.read_apply, Cert.AttnFwdIdeal.Value.flushed4] at e
  have i : (((Cert.AttnFwdIdeal.cfg0.win 4).blk (pointOf h t)).view.emb (ix3 (0 : Fin 1) (inBlock t) g) : (⟨3, ![4, 4096, 3]⟩ : Shape).Idx)
      = ix3 h t g := by
    refine (emb4 _ _ _ _).trans ?_
    rw [headAt_pointOf, rowAt_pointOf]
  refine (congrArg (kerS m c) i).symm.trans (e.trans ?_)
  refine (after_s m c H (pointOf h t) (ix3 (0 : Fin 1) (inBlock t) g)).trans ?_
  rw [blockS_eq, headAt_pointOf, rowAt_pointOf]

/-- The first result equals the reference's on the columns it is written on. -/
theorem same_o (t : Fin 4096) (j : Fin 2048) (hj : j.val < 1536) :
    kerO m c (ix2 t j) = Cert.AttnFwdReferenceIdeal.Read.val_main_v46 (F := Ideal) (arg0 m c) (arg1 m c) (arg2 m c) (ix2 t j) := by
  obtain ⟨h, g, d, e⟩ : ∃ (h : Fin 4) (g : Fin 3) (d : Fin 128), j = (⟨(qcol h g d).val, by omega⟩ : Fin 2048) :=
    ⟨⟨j.val / 384, by omega⟩, ⟨j.val / 128 % 3, by omega⟩, ⟨j.val % 128, by omega⟩,
      Fin.ext (by show j.val = (j.val / 384 * 3 + j.val / 128 % 3) * 128 + j.val % 128; omega)⟩
  rw [e]
  exact (ker_o m c H t h g d).trans (ref_o H t h g d).symm

/-- The second result equals the reference's. -/
theorem same_s (i : (⟨3, ![4, 4096, 3]⟩ : Shape).Idx) :
    kerS m c i = Cert.AttnFwdReferenceIdeal.Read.val_main_v23 (F := Ideal) (arg0 m c) (arg1 m c) i := by
  obtain ⟨h, t, g, rfl⟩ : ∃ (h : Fin 4) (t : Fin 4096) (g : Fin 3), i = ix3 h t g := ⟨i 0, i 1, i 2, eq_ix3 i⟩
  exact (ker_s m c H h t g).trans (ref_s H h t g).symm

end

/-- Where the precondition holds, the first two arrays are real. -/
theorem holds_of_finite (x0 : FVec Ideal ⟨2, ![4096, 1536]⟩ .f32) (x1 x2 : FVec Ideal ⟨2, ![4096, 512]⟩ .f32)
    (h0 : (Cert.Pre_finite7.fn x0 x1 x2).1 = fun _ => 1#1) (h1 : (Cert.Pre_finite7.fn x0 x1 x2).2 = fun _ => 1#1) :
    Holds ⟨fun t j => (x0 (ix2 t j)).toReal, fun t j => (x1 (ix2 t j)).toReal, fun _ _ => 0, fun _ _ => 0⟩ x0 x1 where
  q t j := Cert.Attn.real_of_lt _ (congrFun h0 (ix2 t j))
  k t j := Cert.Attn.real_of_lt _ (congrFun h1 (ix2 t j))

/-- The mask of the first result admits only the first 1536 columns. -/
theorem mask_cols (x0 : FVec Ideal ⟨2, ![4096, 1536]⟩ .f32) (x1 x2 : FVec Ideal ⟨2, ![4096, 512]⟩ .f32)
    (t : Fin 4096) (j : Fin 2048) (h : (Cert.On_written7.fn x0 x1 x2).1 (ix2 t j) = 1#1) : j.val < 1536 := by
  have h' : IntOp.cmpi .slt (BitVec.ofNat 32 j.val) (BitVec.ofNat 32 1536) = 1#1 := h
  replace h' := (WordCmp.cmpi_slt_ofNat (w := 32) (a := j.val) (b := 1536) (by omega) (by norm_num)).symm.trans h'
  have one : ∀ p : Bool, BitVec.ofBool p = 1#1 → p = true := by decide
  exact of_decide_eq_true (one _ h')

/-- The kernel runs without fault and leaves its arguments. -/
theorem frame_k : Cert.quiescent_AttnFwd := fun m ρ _ => Cert.AttnFwd.Gen.frame m ρ

/-- The idealised kernel runs without fault and leaves its arguments. -/
theorem frame_ki : Cert.quiescent_AttnFwdIdeal := fun m ρ _ => Cert.AttnFwdIdeal.Gen.frame m ρ

/-- The same, of inputs satisfying the precondition. -/
theorem frame_kif : Cert.quiescent_AttnFwdIdeal_pre_finite7 := fun m ρ _ => Cert.AttnFwdIdeal.Gen.frame m ρ

/-- The reference runs without fault and leaves its arguments. -/
theorem frame_r : Cert.quiescent_AttnFwdReferenceIdeal := fun m ρ _ =>
  (θ_run Cert.AttnFwdReferenceIdeal.defs _ _).mono (fun r h => ⟨fun c => (h c).2.2,
    Idealize.ShloMosaic.sem_eq_zero_of_no_sems (by decide) r.2⟩) (Cert.AttnFwdReferenceIdeal.Value.run (F := Ideal) m ρ)

/-- The same, of inputs satisfying the precondition. -/
theorem frame_rf : Cert.quiescent_AttnFwdReferenceIdeal_pre_finite7 := fun m ρ _ =>
  (θ_run Cert.AttnFwdReferenceIdeal.defs _ _).mono (fun r h => ⟨fun c => (h c).2.2,
    Idealize.ShloMosaic.sem_eq_zero_of_no_sems (by decide) r.2⟩) (Cert.AttnFwdReferenceIdeal.Value.run (F := Ideal) m ρ)

/-- The idealised kernel is the kernel with three constants named. -/
theorem preserves : Cert.preserves_AttnFwd_AttnFwdIdeal :=
  ⟨IdealRules.named_const.statement Cert.AttnFwdIdeal.κ "scale_log2e" .f32 0x3E0293EE#32 _ rfl,
    IdealRules.named_const.statement Cert.AttnFwdIdeal.κ "inv_log2" .f32 0x3FB8AA3B#32 _ rfl,
    IdealRules.named_const.statement Cert.AttnFwdIdeal.κ "log2_scale" .f32 0x40FAF233#32 _ rfl⟩

/-- Of finite queries and keys, the kernel's two results are the reference's, wherever the kernel writes them. -/
theorem algebraic : Cert.algebraic_AttnFwdIdeal_AttnFwdReferenceIdeal_on_written7_pre_finite7 := by
  intro m ρ m' ρ' hpre hagree
  have H (c : Dev Cert.AttnFwdIdeal.nD) := holds_of_finite (arg0 m c) (arg1 m c) (arg2 m c) (hpre c).1 (hpre c).2
  refine ⟨fun c => Cert.AttnFwdReferenceIdeal.Read.val_main_v46 (F := Ideal) (arg0 m c) (arg1 m c) (arg2 m c),
    fun c => Cert.AttnFwdReferenceIdeal.Read.val_main_v23 (F := Ideal) (arg0 m c) (arg1 m c), ?_, ?_⟩
  · refine (θ_run Cert.AttnFwdIdeal.defs _ _).mono (fun _ h c => ⟨fun i hi => ?_,
      fun i _ => (congrFun (h c).2.1 i).trans (same_s m c (H c) i), (h c).2.2⟩)
      (Cert.AttnFwdIdeal.Value.run_blocks (F := Ideal) m ρ)
    obtain ⟨t, j, rfl⟩ : ∃ (t : Fin 4096) (j : Fin 2048), i = ix2 t j := ⟨i 0, i 1, eq_ix2 i⟩
    exact (congrFun (h c).1 _).trans (same_o m c (H c) t j (mask_cols _ _ _ t j hi))
  · refine (θ_run Cert.AttnFwdReferenceIdeal.defs _ _).mono (fun _ h c => ?_) (Cert.AttnFwdReferenceIdeal.Value.run (F := Ideal) m' ρ')
    have e := hagree c
    refine ⟨fun i _ => congrFun ((h c).1.trans ?_) i, fun i _ => congrFun ((h c).2.1.trans ?_) i, (h c).2.2⟩
    · rw [Cert.AttnFwdReferenceIdeal.Read.val_main_v46_eq, e.1, e.2.1, e.2.2]
    · refine (Cert.AttnFwdReferenceIdeal.Read.val_main_v23_eq _ _).trans ?_
      rw [e.1, e.2.1]

end Cert.AttnF

end
-- ==== Proof.NormRun.lean ====
/- What the program of the norm leaves: its run. -/
module

public import proofs.«01_k».proof.Proof.Gen.NormIdeal.Frame
public import proofs.«01_k».proof.Proof.FeedModel

@[expose] public section

set_option maxRecDepth 16384

noncomputable section

namespace Cert.Nrm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormIdeal Cert.NormIdeal.Gen

variable (m : (ℓ : Loc nD τ sig) → Buf (Elt Ideal) ℓ) (ρ : Dev nD → PrngReg)

set_option backward.isDefEq.respectTransparency.types false in
/-- The program's run: its five results as left by its last operation, its arguments unchanged. -/
theorem run : θ_run defs (onTc (τ := τ) (main (F := Ideal))) ⟨m, fun _ => 0, ρ⟩ (fun r => ∀ c : Dev nD,
      r.2.mem ((c.tc : Thread nD τ).loc main_v1_0) = W5 m ρ c (Proc.devRef .tc main_v1_0)
      ∧ r.2.mem ((c.tc : Thread nD τ).loc main_v1_1) = W5 m ρ c (Proc.devRef .tc main_v1_1)
      ∧ r.2.mem ((c.tc : Thread nD τ).loc main_v3_0) = W5 m ρ c (Proc.devRef .tc main_v3_0)
      ∧ r.2.mem ((c.tc : Thread nD τ).loc main_v3_1) = W5 m ρ c (Proc.devRef .tc main_v3_1)
      ∧ r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨h c _ (mem_uc main_v1_0 (by decide)),
       h c _ (mem_uc main_v1_1 (by decide)),
       h c _ (mem_uc main_v3_0 (by decide)),
       h c _ (mem_uc main_v3_1 (by decide)),
       h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Nrm

end
-- ==== Proof.NormModel.lean ====
/- The norm of a row and its gradient, and the two ways of writing the gradient agreeing. -/
module

public import proofs.«01_k».proof.Proof.AttnFPay

@[expose] public section

noncomputable section

namespace Cert.Nrm

open Idealize.ShloMosaic

/-- The number of entries of a row, as the programs write it. -/
def cnt : EReal := Ideal.ofBits .f32 0x45000000#32
/-- What is added to the mean of squares, as the programs write it. -/
def eps : EReal := Ideal.ofBits .f32 0x358637BD#32
/-- Minus one half, as the reference writes it. -/
def mhalf : EReal := Ideal.ofBits .f32 0xBF000000#32

/-- The value of `eps`. -/
def epsR : ℝ := 8796093 / 8796093022208

theorem cnt_eq : cnt = ((2048 : ℝ) : EReal) := by
  unfold cnt; simp [Ideal.ofBits, Ideal.ieee, -EReal.coe_mul]; norm_num
theorem eps_eq : eps = ((epsR : ℝ) : EReal) := by
  unfold eps epsR; simp [Ideal.ofBits, Ideal.ieee, -EReal.coe_mul]; norm_num
theorem mhalf_eq : mhalf = ((-(1 / 2) : ℝ) : EReal) := by
  unfold mhalf; simp [Ideal.ofBits, Ideal.ieee, -EReal.coe_mul]; norm_num
theorem epsR_pos : 0 < epsR := by unfold epsR; norm_num

/-- The mean of squares of a row, raised by `eps`. -/
def ms (x : Fin 2048 → EReal) : EReal := Ideal.div (∑ d, x d * x d) cnt + eps
/-- The reciprocal of the root of that mean. -/
def rs (x : Fin 2048 → EReal) : EReal := Ideal.rsqrt (ms x)

/-- The gradient of a row's entry through the norm, as the kernel takes it. -/
def kgrad (x y : Fin 2048 → EReal) (j : Fin 2048) : EReal :=
  rs x * (y j - x j * rs x * Ideal.div (∑ d, y d * (x d * rs x)) cnt)

/-- The factor of a row's entry in the reference's gradient. -/
def rfac (x y : Fin 2048 → EReal) : EReal := Ideal.div ((∑ d, x d * y d) * (mhalf * Ideal.div (rs x) (ms x))) cnt

/-- The same gradient as the reference takes it. -/
def rgrad (x y : Fin 2048 → EReal) (j : Fin 2048) : EReal := y j * rs x + x j * rfac x y + rfac x y * x j

theorem sq_nonneg' (a : EReal) : 0 ≤ a * a := by
  rcases le_total 0 a with h | h
  · exact mul_nonneg h h
  · exact EReal.mul_nonneg_iff.mpr (.inr ⟨h, h⟩)

theorem div_cnt (a : EReal) : Ideal.div a cnt = a * ((1 / 2048 : ℝ) : EReal) := by
  rw [cnt_eq, Ideal.div_coe (by norm_num)]

/-- A row is either of real numbers with a positive real mean, or its mean is infinite. -/
theorem row_cases (x : Fin 2048 → EReal) :
    ms x = ⊤ ∨ ∃ (a : Fin 2048 → ℝ) (v : ℝ), 0 < v ∧ ms x = (v : EReal) ∧ ∀ d, x d = (a d : EReal) := by
  have h0 : ∀ d ∈ Finset.univ, 0 ≤ x d * x d := fun d _ => sq_nonneg' _
  by_cases hs : (∑ d, x d * x d) = ⊤
  · left
    unfold ms
    rw [hs, div_cnt, EReal.top_mul_coe_of_pos (by norm_num), eps_eq, EReal.top_add_coe]
  · right
    have hS := Finset.sum_nonneg h0
    have hb : (∑ d, x d * x d) ≠ ⊥ := fun e => by rw [e] at hS; exact absurd hS (by simp)
    have hx : ∀ d, ∃ r : ℝ, x d = (r : EReal) := fun d => by
      have hle := Finset.single_le_sum h0 (Finset.mem_univ d)
      induction hx : x d with
      | bot => rw [hx, EReal.bot_mul_bot, top_le_iff] at hle; exact absurd hle hs
      | top => rw [hx, EReal.top_mul_top, top_le_iff] at hle; exact absurd hle hs
      | coe r => exact ⟨r, rfl⟩
    choose a ha using hx
    obtain ⟨s, hs'⟩ : ∃ s : ℝ, (∑ d, x d * x d) = (s : EReal) := ⟨_, (EReal.coe_toReal hs hb).symm⟩
    have hs0 : 0 ≤ s := by rw [hs'] at hS; exact EReal.coe_nonneg.mp hS
    refine ⟨a, s * (1 / 2048) + epsR, by have := epsR_pos; positivity, ?_, ha⟩
    unfold ms
    rw [hs', div_cnt, eps_eq, EReal.coe_add, EReal.coe_mul]

theorem add_same (a : EReal) : a + a = a * ((2 : ℝ) : EReal) := by
  have h := EReal.right_distrib_of_nonneg (a := 1) (b := 1) (c := a) zero_le_one zero_le_one
  rw [one_mul] at h
  rw [← h, mul_comm]
  refine congrArg (a * ·) ?_
  rw [← EReal.coe_one, ← EReal.coe_add]
  norm_num

/-- The two ways of writing the gradient agree on every row, finite or not. -/
theorem grad_eq (x y : Fin 2048 → EReal) (j : Fin 2048) : kgrad x y j = rgrad x y j := by
  rcases row_cases x with h | ⟨a, v, hv, hms, ha⟩
  · have hr : rs x = 0 := by unfold rs; rw [h]; exact Ideal.rsqrt_top
    unfold kgrad rgrad rfac
    rw [hr, zero_mul, h]
    have hd : Ideal.div 0 ⊤ = 0 := by unfold Ideal.div; simp
    rw [hd, mul_zero, mul_zero, div_cnt]
    simp
  · obtain ⟨ρ, hρ, hrs, hρ2⟩ : ∃ ρ : ℝ, 0 < ρ ∧ rs x = (ρ : EReal) ∧ ρ * v⁻¹ = ρ * (ρ * ρ) := by
      refine ⟨(Real.sqrt v)⁻¹, inv_pos.mpr (Real.sqrt_pos.mpr hv), ?_, ?_⟩
      · unfold rs; rw [hms, Ideal.rsqrt_coe, if_neg hv.not_gt, if_neg hv.ne']
      · rw [← mul_inv (Real.sqrt v) (Real.sqrt v), Real.mul_self_sqrt hv.le]
    have hS : (∑ d, y d * (x d * rs x)) = (∑ d, x d * y d) * (ρ : EReal) := by
      rw [Cert.AttnF.sum_mul_real _ _ hρ.le, hrs]
      exact Finset.sum_congr rfl fun d _ => by rw [mul_comm (x d) (y d), mul_assoc]
    unfold kgrad rgrad rfac
    rw [hS, div_cnt, div_cnt, hms, Ideal.div_coe hv.ne', hrs, mhalf_eq, ha j]
    generalize (∑ d, x d * y d) = S
    have e1 : (a j : EReal) * ρ * (S * ρ * ((1 / 2048 : ℝ) : EReal)) = S * ((a j * ρ * ρ * (1 / 2048) : ℝ) : EReal) := by
      simp only [EReal.coe_mul]; ac_rfl
    have e2 : S * (((-(1 / 2) : ℝ) : EReal) * (ρ * ((1 / v : ℝ) : EReal))) * ((1 / 2048 : ℝ) : EReal)
        = S * ((-(1 / 2) * (ρ * (1 / v)) * (1 / 2048) : ℝ) : EReal) := by
      rw [← EReal.coe_mul, ← EReal.coe_mul, mul_assoc, ← EReal.coe_mul]
    rw [e1, e2, sub_eq_add_neg, EReal.left_distrib_of_nonneg_of_ne_top (EReal.coe_nonneg.mpr hρ.le) (EReal.coe_ne_top ρ),
      add_assoc, mul_comm (ρ : EReal) (y j), mul_comm (a j : EReal) (S * _), add_same]
    refine congrArg (y j * (ρ : EReal) + ·) ?_
    have e3 : ∀ b : ℝ, S * (b : EReal) * (a j : EReal) * ((2 : ℝ) : EReal) = S * ((b * a j * 2 : ℝ) : EReal) := fun b => by
      simp only [EReal.coe_mul]; ac_rfl
    rw [e3, ← mul_neg, ← EReal.coe_neg, mul_left_comm, ← EReal.coe_mul]
    refine congrArg (fun z : ℝ => S * (z : EReal)) ?_
    rw [one_div v, hρ2]
    ring

/-- The normed rows, scaled by the gain. -/
def hN (x : Fin 4096 → Fin 2048 → EReal) (g : Fin 2048 → EReal) (t : Fin 4096) (j : Fin 2048) : EReal := x t j * rs (x t) * g j

/-- The gradient of the rows, added to the residual's. -/
def dxN (x : Fin 4096 → Fin 2048 → EReal) (g : Fin 2048 → EReal) (dh dr : Fin 4096 → Fin 2048 → EReal) (t : Fin 4096) (j : Fin 2048) : EReal :=
  kgrad (x t) (fun d => dh t d * g d) j + dr t j

/-- The gradient of the gain. -/
def dgN (x dh : Fin 4096 → Fin 2048 → EReal) (j : Fin 2048) : EReal := ∑ t, dh t j * (x t j * rs (x t))

end Cert.Nrm

end
-- ==== Proof.NormArr.lean ====
/- The arrays the norm's call leaves, at an index. -/
module

public import proofs.«01_k».proof.Proof.NormModel
public import proofs.«01_k».proof.Proof.FeedArr0
public import proofs.«01_k».proof.Proof.Gen.NormIdeal.Frame

@[expose] public section

noncomputable section

namespace Cert.Nrm

open Idealize.ShloMosaic hiding ix1 ix2 ix3 ix4 eq_ix1 eq_ix2 eq_ix3 eq_ix4
open Idealize.ShloMosaic.ValueIdx Idealize.ShloMosaic.TcCoe
open Cert.Feed (mat)
open Cert.NormIdeal Cert.NormIdeal.Gen

/-- The row of the arrays that row `a` of point `n`'s block is. -/
def row (n : ℕ) (a : Fin 512) : Fin 4096 := ⟨n % 8 * 512 + a.val, by omega⟩

/-- A column spread over the columns of a block. -/
theorem spread_col (x : FVec Ideal S512x1 .f32) (a : Fin 512) (b : Fin 2048) :
    broadcastTo S512x2048 x Facts₀.broadcasts_S512x1_S512x2048 (ix2 a b) = x (ix2 a 0) := by
  refine broadcastTo_apply x _ _ _ fun e => ?_
  match e with
  | ⟨0, _⟩ => rfl
  | ⟨1, _⟩ => rfl

/-- A row spread over the rows of a block. -/
theorem spread_row (x : FVec Ideal S1x2048 .f32) (a : Fin 512) (b : Fin 2048) :
    broadcastTo S512x2048 x Facts₀.broadcasts_S1x2048_S512x2048 (ix2 a b) = x (ix2 0 b) := by
  refine broadcastTo_apply x _ _ _ fun e => ?_
  match e with
  | ⟨0, _⟩ => rfl
  | ⟨1, _⟩ => rfl

/-- The row sums of a block, as a column. -/
theorem sum_row (x : FVec Ideal S512x2048 .f32) (a : Fin 512) :
    shapeCast S512x1 (multiReduction .add [1] S512 x 0x00000000#32 Facts₀.reduces_S512x2048_S512 (.inl rfl) rfl)
        Facts₀.shapeCasts_S512_S512x1 (ix2 a 0) = ∑ d : Fin 2048, x (ix2 a d) := by
  rw [shapeCast_apply _ _ (ix2 a 0) (ix1 a) (by
    rw [Shape.rowMajor_val_two, Shape.rowMajor_val_one]; show a.val = a.val * 1 + 0; omega)]
  refine (Ideal.multiReduction_add_single x _ _ _ _ (ix1 a)).trans ?_
  refine Finset.sum_congr rfl fun d _ => congrArg x ?_
  funext b; match b with | ⟨0, _⟩ => rfl | ⟨1, _⟩ => rfl

/-- The column sums of a block, as a row. -/
theorem sum_col (x : FVec Ideal S512x2048 .f32) (b : Fin 2048) :
    shapeCast S1x2048 (multiReduction .add [0] S2048 x 0x00000000#32 Facts₀.reduces_S512x2048_S2048 (.inl rfl) rfl)
        Facts₀.shapeCasts_S2048_S1x2048 (ix2 0 b) = ∑ a : Fin 512, x (ix2 a b) := by
  rw [shapeCast_apply _ _ (ix2 0 b) (ix1 b) (by
    rw [Shape.rowMajor_val_two, Shape.rowMajor_val_one]; show b.val = 0 * 2048 + b.val; omega)]
  refine (Ideal.multiReduction_add_single x _ _ _ _ (ix1 b)).trans ?_
  refine Finset.sum_congr rfl fun d _ => congrArg x ?_
  funext e; match e with | ⟨0, _⟩ => rfl | ⟨1, _⟩ => rfl

theorem map0_0 : ∀ t : Fin cfg0.N, cc0_transform_0 (cfg0.grid.coords t) 0 = t.val ∧ cc0_transform_0 (cfg0.grid.coords t) 1 = 0 := by
  decide +kernel
theorem map0_1 : ∀ t : Fin cfg0.N, cc0_transform_1 (cfg0.grid.coords t) 0 = 0 ∧ cc0_transform_1 (cfg0.grid.coords t) 1 = 0 := by
  decide +kernel
theorem map0_2 : ∀ t : Fin cfg0.N, cc0_transform_2 (cfg0.grid.coords t) 0 = t.val ∧ cc0_transform_2 (cfg0.grid.coords t) 1 = 0 := by
  decide +kernel
theorem map0_3 : ∀ t : Fin cfg0.N, cc0_transform_3 (cfg0.grid.coords t) 0 = 0 ∧ cc0_transform_3 (cfg0.grid.coords t) 1 = t.val := by
  decide +kernel
theorem map0_4 : ∀ t : Fin cfg0.N, cc0_transform_4 (cfg0.grid.coords t) 0 = t.val ∧ cc0_transform_4 (cfg0.grid.coords t) 1 = 0 := by
  decide +kernel

theorem blk0_0 (X : FVec Ideal S4096x2048 .f32) (t : Fin cfg0.N) (a : Fin 512) (b : Fin 2048) :
    (((cfg0.win 0).blk t).view.read (Elt Ideal) X : FVec Ideal S512x2048 .f32) (ix2 a b) = X (ix2 (row t.val a) b) := by
  rw [View.read_apply]
  refine congrArg X (funext fun e => Fin.ext ?_)
  have ht : t.val < 8 := t.isLt
  match e with
  | ⟨0, _⟩ =>
    show cc0_transform_0 (cfg0.grid.coords t) 0 * 512 + 1 * a.val = t.val % 8 * 512 + a.val
    rw [(map0_0 t).1]; omega
  | ⟨1, _⟩ =>
    show cc0_transform_0 (cfg0.grid.coords t) 1 * 2048 + 1 * b.val = b.val
    rw [(map0_0 t).2]; omega

theorem blk0_1 (X : FVec Ideal S1x2048 .f32) (t : Fin cfg0.N) (b : Fin 2048) :
    (((cfg0.win 1).blk t).view.read (Elt Ideal) X : FVec Ideal S1x2048 .f32) (ix2 0 b) = X (ix2 0 b) := by
  rw [View.read_apply]
  refine congrArg X (funext fun e => Fin.ext ?_)
  match e with
  | ⟨0, _⟩ =>
    show cc0_transform_1 (cfg0.grid.coords t) 0 * 1 + 1 * 0 = 0
    rw [(map0_1 t).1]
  | ⟨1, _⟩ =>
    show cc0_transform_1 (cfg0.grid.coords t) 1 * 2048 + 1 * b.val = b.val
    rw [(map0_1 t).2]; omega

theorem emb0_2 (t : Fin cfg0.N) (a : Fin 512) (b : Fin 2048) :
    (((cfg0.win 2).blk t).view.emb (ix2 a b) : S4096x2048.Idx) = ix2 (row t.val a) b := by
  refine funext fun e => Fin.ext ?_
  have ht : t.val < 8 := t.isLt
  match e with
  | ⟨0, _⟩ =>
    show cc0_transform_2 (cfg0.grid.coords t) 0 * 512 + 1 * a.val = t.val % 8 * 512 + a.val
    rw [(map0_2 t).1]; omega
  | ⟨1, _⟩ =>
    show cc0_transform_2 (cfg0.grid.coords t) 1 * 2048 + 1 * b.val = b.val
    rw [(map0_2 t).2]; omega

theorem emb0_3 (t : Fin cfg0.N) (b : Fin 2048) (a : Fin 512) :
    (((cfg0.win 3).blk t).view.emb (ix2 b a) : S2048x4096.Idx) = ix2 b (row t.val a) := by
  refine funext fun e => Fin.ext ?_
  have ht : t.val < 8 := t.isLt
  match e with
  | ⟨0, _⟩ =>
    show cc0_transform_3 (cfg0.grid.coords t) 0 * 2048 + 1 * b.val = b.val
    rw [(map0_3 t).1]; omega
  | ⟨1, _⟩ =>
    show cc0_transform_3 (cfg0.grid.coords t) 1 * 512 + 1 * a.val = t.val % 8 * 512 + a.val
    rw [(map0_3 t).2]; omega

theorem emb0_4 (t : Fin cfg0.N) (a : Fin 512) :
    (((cfg0.win 4).blk t).view.emb (ix2 a 0) : S4096x1.Idx) = ix2 (row t.val a) 0 := by
  refine funext fun e => Fin.ext ?_
  have ht : t.val < 8 := t.isLt
  match e with
  | ⟨0, _⟩ =>
    show cc0_transform_4 (cfg0.grid.coords t) 0 * 512 + 1 * a.val = t.val % 8 * 512 + a.val
    rw [(map0_4 t).1]; omega
  | ⟨1, _⟩ =>
    show cc0_transform_4 (cfg0.grid.coords t) 1 * 1 + 1 * 0 = 0
    rw [(map0_4 t).2]

theorem pay0_1 (x : FVec Ideal S512x2048 .f32) (a : Fin 512) :
    (k0_pay1 (F := Ideal) x (ix2 a 0) : EReal) = rs (mat x a) := by
  unfold k0_pay1
  show Ideal.rsqrt (Ideal.div (shapeCast S512x1 (multiReduction .add [1] S512 (mulf x x) 0x00000000#32 Facts₀.reduces_S512x2048_S512 (.inl rfl) rfl)
        Facts₀.shapeCasts_S512_S512x1 (ix2 a 0)) cnt + eps) = _
  rw [sum_row]
  rfl

theorem pay0_2 (x : FVec Ideal S512x2048 .f32) (g : FVec Ideal S1x2048 .f32) (a : Fin 512) (b : Fin 2048) :
    (k0_pay2 (F := Ideal) x g (ix2 a b) : EReal) = x (ix2 a b) * rs (mat x a) * g (ix2 0 b) := by
  unfold k0_pay2
  show (x (ix2 a b) : EReal) * (broadcastTo S512x2048 (k0_pay1 (F := Ideal) x) Facts₀.broadcasts_S512x1_S512x2048 (ix2 a b) : EReal)
    * (broadcastTo S512x2048 (shapeCast S1x2048 g _) Facts₀.broadcasts_S1x2048_S512x2048 (ix2 a b) : EReal) = _
  rw [spread_col, spread_row, pay0_1, shapeCast_self]

theorem pay0_3 (x : FVec Ideal S512x2048 .f32) (g : FVec Ideal S1x2048 .f32) (b : Fin 2048) (a : Fin 512) :
    (k0_pay3 (F := Ideal) x g (ix2 b a) : EReal) = k0_pay2 (F := Ideal) x g (ix2 a b) := by
  unfold k0_pay3
  refine transpose_apply [1, 0] _ _ (ix2 b a) (ix2 a b) fun e => ?_
  match e with
  | ⟨0, _⟩ => rfl
  | ⟨1, _⟩ => rfl

theorem out0_2_apply (x : FVec Ideal S512x2048 .f32) (g : FVec Ideal S1x2048 .f32) (i : S512x2048.Idx) :
    out0_2 (F := Ideal) x g i = k0_pay2 (F := Ideal) x g i := by
  frame_out
theorem out0_3_apply (x : FVec Ideal S512x2048 .f32) (g : FVec Ideal S1x2048 .f32) (i : S2048x512.Idx) :
    out0_3 (F := Ideal) x g i = k0_pay3 (F := Ideal) x g i := by
  frame_out
theorem out0_4_apply (x : FVec Ideal S512x2048 .f32) (g : FVec Ideal S1x2048 .f32) (i : S512x1.Idx) :
    out0_4 (F := Ideal) x g i = k0_pay1 (F := Ideal) x i := by
  frame_out

variable (V : (c : Dev nD) → (b : Ref sig .tc) → Buf (Elt Ideal) ((c.tc : Thread nD τ).loc b)) (c : Dev nD)

/-- The one row of an array of one row. -/
def row1 (x : FVec Ideal S1x2048 .f32) : Fin 2048 → EReal := fun j => x (ix2 0 j)

theorem mat0_0 (t : Fin cfg0.N) (a : Fin 512) :
    mat (((cfg0.win 0).blk t).view.read (Elt Ideal) (V c main_arg0) : FVec Ideal S512x2048 .f32) a = mat (V c main_arg0 : FVec Ideal S4096x2048 .f32) (row t.val a) :=
  funext fun d => blk0_0 (V c main_arg0) t a d

theorem val0_2 (t : Fin cfg0.N) (a : Fin 512) (b : Fin 2048) :
    (k0_pay2 (F := Ideal) (iblk0 V c 0 t) (iblk0 V c 1 t) (ix2 a b) : EReal)
      = hN (mat (V c main_arg0)) (row1 (V c main_v0)) (row t.val a) b := by
  refine (pay0_2 _ _ a b).trans ?_
  refine congrArg₂ (fun p q : EReal => p * q) (congrArg₂ (fun p q : EReal => p * q) (blk0_0 (V c main_arg0) t a b) (congrArg rs (mat0_0 V c t a))) (blk0_1 (V c main_v0) t b)

/-- The normed rows. -/
theorem arr0_2 : (dat0 (F := Ideal) V c).arrAt 2 cfg0.N
    = fun i : S4096x2048.Idx => hN (mat (V c main_arg0)) (row1 (V c main_v0)) (i 0) (i 1) := by
  refine (dat0 (F := Ideal) V c).arrAt_eq_of_covers 2 _ (by decide +kernel) fun t hf y => ?_
  obtain ⟨a, b, rfl⟩ : ∃ (a : Fin 512) (b : Fin 2048), y = ix2 a b := ⟨y 0, y 1, eq_ix2 y⟩
  rw [emb0_2]
  refine (congrFun (after0_2 V c t) (ix2 a b)).trans ?_
  rw [out0_2_apply]
  exact val0_2 V c t a b

/-- The normed rows, transposed. -/
theorem arr0_3 : (dat0 (F := Ideal) V c).arrAt 3 cfg0.N
    = fun i : S2048x4096.Idx => hN (mat (V c main_arg0)) (row1 (V c main_v0)) (i 1) (i 0) := by
  refine (dat0 (F := Ideal) V c).arrAt_eq_of_covers 3 _ (by decide +kernel) fun t hf y => ?_
  obtain ⟨b, a, rfl⟩ : ∃ (b : Fin 2048) (a : Fin 512), y = ix2 b a := ⟨y 0, y 1, eq_ix2 y⟩
  rw [emb0_3]
  refine (congrFun (after0_3 V c t) (ix2 b a)).trans ?_
  rw [out0_3_apply]
  exact (pay0_3 _ _ b a).trans (val0_2 V c t a b)

/-- The saved reciprocals. -/
theorem arr0_4 : (dat0 (F := Ideal) V c).arrAt 4 cfg0.N
    = fun i : S4096x1.Idx => rs (mat (V c main_arg0 : FVec Ideal S4096x2048 .f32) (i 0)) := by
  refine (dat0 (F := Ideal) V c).arrAt_eq_of_covers 4 _ (by decide +kernel) fun t hf y => ?_
  obtain ⟨a, z, rfl⟩ : ∃ (a : Fin 512) (z : Fin 1), y = ix2 a z := ⟨y 0, y 1, eq_ix2 y⟩
  obtain rfl : z = 0 := Subsingleton.elim _ _
  rw [emb0_4]
  refine (congrFun (after0_4 V c t) (ix2 a 0)).trans ?_
  rw [out0_4_apply]
  exact (pay0_1 _ a).trans (congrArg rs (mat0_0 V c t a))

end Cert.Nrm

end
-- ==== Proof.NormGrad.lean ====
/- The arrays the norm's gradient's call leaves, at an index. -/
module

public import proofs.«01_k».proof.Proof.NormArr
public import Idealize.ShloMosaic.Lib.Tactic
public import Idealize.ShloMosaic.Lib.StableHlo.RunRead

@[expose] public section

set_option maxRecDepth 16384

noncomputable section

namespace Cert.Nrm

open Idealize.ShloMosaic hiding ix1 ix2 ix3 ix4 eq_ix1 eq_ix2 eq_ix3 eq_ix4
open Idealize.ShloMosaic.ValueIdx Idealize.ShloMosaic.TcCoe
open Cert.Feed (mat)
open Cert.NormIdeal Cert.NormIdeal.Gen

theorem zeros2 : (![0, 0] : Fin 2 → ℕ) = fun _ => 0 := funext fun a => by fin_cases a <;> rfl

theorem map1_0 : ∀ t : Fin cfg1.N, cc1_transform_0 (cfg1.grid.coords t) 0 = t.val ∧ cc1_transform_0 (cfg1.grid.coords t) 1 = 0 := by
  decide +kernel
theorem map1_1 : ∀ t : Fin cfg1.N, cc1_transform_1 (cfg1.grid.coords t) 0 = 0 ∧ cc1_transform_1 (cfg1.grid.coords t) 1 = 0 := by
  decide +kernel
theorem map1_2 : ∀ t : Fin cfg1.N, cc1_transform_2 (cfg1.grid.coords t) 0 = t.val ∧ cc1_transform_2 (cfg1.grid.coords t) 1 = 0 := by
  decide +kernel
theorem map1_3 : ∀ t : Fin cfg1.N, cc1_transform_3 (cfg1.grid.coords t) 0 = t.val ∧ cc1_transform_3 (cfg1.grid.coords t) 1 = 0 := by
  decide +kernel
theorem map1_4 : ∀ t : Fin cfg1.N, cc1_transform_4 (cfg1.grid.coords t) 0 = t.val ∧ cc1_transform_4 (cfg1.grid.coords t) 1 = 0 := by
  decide +kernel
theorem map1_5 : ∀ t : Fin cfg1.N, cc1_transform_5 (cfg1.grid.coords t) 0 = t.val ∧ cc1_transform_5 (cfg1.grid.coords t) 1 = 0 := by
  decide +kernel
theorem map1_6 : ∀ t : Fin cfg1.N, cc1_transform_6 (cfg1.grid.coords t) 0 = t.val ∧ cc1_transform_6 (cfg1.grid.coords t) 1 = 0 := by
  decide +kernel
theorem map1_7 : ∀ t : Fin cfg1.N, cc1_transform_7 (cfg1.grid.coords t) 0 = 0 ∧ cc1_transform_7 (cfg1.grid.coords t) 1 = 0 := by
  decide +kernel

theorem blk1_0 (X : FVec Ideal S4096x2048 .f32) (t : Fin cfg1.N) (a : Fin 512) (b : Fin 2048) :
    (((cfg1.win 0).blk t).view.read (Elt Ideal) X : FVec Ideal S512x2048 .f32) (ix2 a b) = X (ix2 (row t.val a) b) := by
  rw [View.read_apply]
  refine congrArg X (funext fun e => Fin.ext ?_)
  have ht : t.val < 8 := t.isLt
  match e with
  | ⟨0, _⟩ =>
    show cc1_transform_0 (cfg1.grid.coords t) 0 * 512 + 1 * a.val = t.val % 8 * 512 + a.val
    rw [(map1_0 t).1]; omega
  | ⟨1, _⟩ =>
    show cc1_transform_0 (cfg1.grid.coords t) 1 * 2048 + 1 * b.val = b.val
    rw [(map1_0 t).2]; omega

theorem blk1_2 (X : FVec Ideal S4096x2048 .f32) (t : Fin cfg1.N) (a : Fin 512) (b : Fin 2048) :
    (((cfg1.win 2).blk t).view.read (Elt Ideal) X : FVec Ideal S512x2048 .f32) (ix2 a b) = X (ix2 (row t.val a) b) := by
  rw [View.read_apply]
  refine congrArg X (funext fun e => Fin.ext ?_)
  have ht : t.val < 8 := t.isLt
  match e with
  | ⟨0, _⟩ =>
    show cc1_transform_2 (cfg1.grid.coords t) 0 * 512 + 1 * a.val = t.val % 8 * 512 + a.val
    rw [(map1_2 t).1]; omega
  | ⟨1, _⟩ =>
    show cc1_transform_2 (cfg1.grid.coords t) 1 * 2048 + 1 * b.val = b.val
    rw [(map1_2 t).2]; omega

theorem blk1_3 (X : FVec Ideal S4096x2048 .f32) (t : Fin cfg1.N) (a : Fin 512) (b : Fin 2048) :
    (((cfg1.win 3).blk t).view.read (Elt Ideal) X : FVec Ideal S512x2048 .f32) (ix2 a b) = X (ix2 (row t.val a) b) := by
  rw [View.read_apply]
  refine congrArg X (funext fun e => Fin.ext ?_)
  have ht : t.val < 8 := t.isLt
  match e with
  | ⟨0, _⟩ =>
    show cc1_transform_3 (cfg1.grid.coords t) 0 * 512 + 1 * a.val = t.val % 8 * 512 + a.val
    rw [(map1_3 t).1]; omega
  | ⟨1, _⟩ =>
    show cc1_transform_3 (cfg1.grid.coords t) 1 * 2048 + 1 * b.val = b.val
    rw [(map1_3 t).2]; omega

theorem blk1_1 (X : FVec Ideal S1x2048 .f32) (t : Fin cfg1.N) (b : Fin 2048) :
    (((cfg1.win 1).blk t).view.read (Elt Ideal) X : FVec Ideal S1x2048 .f32) (ix2 0 b) = X (ix2 0 b) := by
  rw [View.read_apply]
  refine congrArg X (funext fun e => Fin.ext ?_)
  match e with
  | ⟨0, _⟩ =>
    show cc1_transform_1 (cfg1.grid.coords t) 0 * 1 + 1 * 0 = 0
    rw [(map1_1 t).1]
  | ⟨1, _⟩ =>
    show cc1_transform_1 (cfg1.grid.coords t) 1 * 2048 + 1 * b.val = b.val
    rw [(map1_1 t).2]; omega

theorem blk1_4 (X : FVec Ideal S4096x1 .f32) (t : Fin cfg1.N) (a : Fin 512) :
    (((cfg1.win 4).blk t).view.read (Elt Ideal) X : FVec Ideal S512x1 .f32) (ix2 a 0) = X (ix2 (row t.val a) 0) := by
  rw [View.read_apply]
  refine congrArg X (funext fun e => Fin.ext ?_)
  have ht : t.val < 8 := t.isLt
  match e with
  | ⟨0, _⟩ =>
    show cc1_transform_4 (cfg1.grid.coords t) 0 * 512 + 1 * a.val = t.val % 8 * 512 + a.val
    rw [(map1_4 t).1]; omega
  | ⟨1, _⟩ =>
    show cc1_transform_4 (cfg1.grid.coords t) 1 * 1 + 1 * 0 = 0
    rw [(map1_4 t).2]

theorem emb1_5 (t : Fin cfg1.N) (a : Fin 512) (b : Fin 2048) :
    (((cfg1.win 5).blk t).view.emb (ix2 a b) : S4096x2048.Idx) = ix2 (row t.val a) b := by
  refine funext fun e => Fin.ext ?_
  have ht : t.val < 8 := t.isLt
  match e with
  | ⟨0, _⟩ =>
    show cc1_transform_5 (cfg1.grid.coords t) 0 * 512 + 1 * a.val = t.val % 8 * 512 + a.val
    rw [(map1_5 t).1]; omega
  | ⟨1, _⟩ =>
    show cc1_transform_5 (cfg1.grid.coords t) 1 * 2048 + 1 * b.val = b.val
    rw [(map1_5 t).2]; omega

theorem emb1_6 (t : Fin cfg1.N) (a : Fin 512) (b : Fin 2048) :
    (((cfg1.win 6).blk t).view.emb (ix2 a b) : S4096x2048.Idx) = ix2 (row t.val a) b := by
  refine funext fun e => Fin.ext ?_
  have ht : t.val < 8 := t.isLt
  match e with
  | ⟨0, _⟩ =>
    show cc1_transform_6 (cfg1.grid.coords t) 0 * 512 + 1 * a.val = t.val % 8 * 512 + a.val
    rw [(map1_6 t).1]; omega
  | ⟨1, _⟩ =>
    show cc1_transform_6 (cfg1.grid.coords t) 1 * 2048 + 1 * b.val = b.val
    rw [(map1_6 t).2]; omega

theorem emb1_7 (t : Fin cfg1.N) (b : Fin 2048) :
    (((cfg1.win 7).blk t).view.emb (ix2 0 b) : S1x2048.Idx) = ix2 0 b := by
  refine funext fun e => Fin.ext ?_
  match e with
  | ⟨0, _⟩ =>
    show cc1_transform_7 (cfg1.grid.coords t) 0 * 1 + 1 * 0 = 0
    rw [(map1_7 t).1]
  | ⟨1, _⟩ =>
    show cc1_transform_7 (cfg1.grid.coords t) 1 * 2048 + 1 * b.val = b.val
    rw [(map1_7 t).2]; omega

section Pay
variable (x dh dr : FVec Ideal S512x2048 .f32) (g acc : FVec Ideal S1x2048 .f32) (r : FVec Ideal S512x1 .f32)

theorem pay1_3 (a : Fin 512) (b : Fin 2048) : (k1_pay3 (F := Ideal) x r (ix2 a b) : EReal) = x (ix2 a b) * r (ix2 a 0) := by
  unfold k1_pay3 k1_pay2
  show (x (ix2 a b) : EReal) * (broadcastTo S512x2048 (shapeCast S512x1 r _) Facts₀.broadcasts_S512x1_S512x2048 (ix2 a b) : EReal) = _
  rw [spread_col, shapeCast_self]

theorem pay1_4 (b : Fin 2048) : (k1_pay4 (F := Ideal) x r dh acc (ix2 0 b) : EReal)
    = acc (ix2 0 b) + ∑ a : Fin 512, dh (ix2 a b) * (x (ix2 a b) * r (ix2 a 0) : EReal) := by
  unfold k1_pay4
  show (shapeCast S1x2048 acc _ (ix2 0 b) : EReal) + shapeCast S1x2048 (multiReduction .add [0] S2048 (mulf dh (k1_pay3 (F := Ideal) x r)) 0x00000000#32 Facts₀.reduces_S512x2048_S2048 (.inl rfl) rfl)
        Facts₀.shapeCasts_S2048_S1x2048 (ix2 0 b) = _
  rw [sum_col, shapeCast_self]
  exact congrArg (fun z : EReal => (acc (ix2 0 b) : EReal) + z) (Finset.sum_congr (M := EReal) rfl fun a _ => congrArg (fun z : EReal => (dh (ix2 a b) : EReal) * z) (pay1_3 x r a b))

theorem pay1_5 (a : Fin 512) (b : Fin 2048) : (k1_pay5 (F := Ideal) x r dh g dr (ix2 a b) : EReal)
    = r (ix2 a 0) * (dh (ix2 a b) * g (ix2 0 b) - x (ix2 a b) * r (ix2 a 0)
      * Ideal.div (∑ d : Fin 2048, dh (ix2 a d) * g (ix2 0 d) * (x (ix2 a d) * r (ix2 a 0) : EReal)) cnt) + dr (ix2 a b) := by
  have e : ∀ d : Fin 2048, (broadcastTo S512x2048 (shapeCast S1x2048 g Facts₀.shapeCasts_S1x2048_S1x2048) Facts₀.broadcasts_S1x2048_S512x2048 (ix2 a d) : EReal) = g (ix2 0 d) :=
    fun d => by rw [spread_row, shapeCast_self]
  unfold k1_pay5
  show (broadcastTo S512x2048 (k1_pay2 (F := Ideal) r) Facts₀.broadcasts_S512x1_S512x2048 (ix2 a b) : EReal)
    * ((dh (ix2 a b) : EReal) * (broadcastTo S512x2048 (shapeCast S1x2048 g Facts₀.shapeCasts_S1x2048_S1x2048) Facts₀.broadcasts_S1x2048_S512x2048 (ix2 a b) : EReal)
      - (k1_pay3 (F := Ideal) x r (ix2 a b) : EReal) * (broadcastTo S512x2048 (divf (shapeCast S512x1 (multiReduction .add [1] S512
          (mulf (mulf dh (broadcastTo S512x2048 (shapeCast S1x2048 g Facts₀.shapeCasts_S1x2048_S1x2048) Facts₀.broadcasts_S1x2048_S512x2048)) (k1_pay3 (F := Ideal) x r))
          0x00000000#32 Facts₀.reduces_S512x2048_S512 (.inl rfl) rfl) Facts₀.shapeCasts_S512_S512x1)
        (broadcast S512x1 (Scalar.ofBits .f32 0x45000000#32))) Facts₀.broadcasts_S512x1_S512x2048 (ix2 a b) : EReal)) + (dr (ix2 a b) : EReal) = _
  rw [spread_col, spread_col, e, pay1_3]
  unfold k1_pay2
  rw [shapeCast_self]
  refine congrArg (fun z : EReal => (r (ix2 a 0) : EReal) * ((dh (ix2 a b) : EReal) * (g (ix2 0 b) : EReal) - (x (ix2 a b) : EReal) * (r (ix2 a 0) : EReal) * Ideal.div z cnt) + (dr (ix2 a b) : EReal)) ?_
  rw [sum_row]
  exact Finset.sum_congr (M := EReal) rfl fun d _ => congrArg₂ (fun p q : EReal => p * q) (congrArg (fun z : EReal => (dh (ix2 a d) : EReal) * z) (e d)) (pay1_3 x r a d)

end Pay

/-- A load of the whole carried sum reads what its stores left. -/
theorem readAcc {κ : Kind} {sp : Space} (v : View sig κ sp S1x2048 .f32) (L : List (View.Piece (Elt Ideal) S1x2048 .f32))
    (inb : ∀ a, (![0, 0] : Fin 2 → ℕ) a + (![1, 2048] : Fin 2 → ℕ) a ≤ S1x2048.size a) :
    v.readCov L (Rect.unit (s := S1x2048) ![0, 0] ![1, 2048] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

/-- A whole store decides what the carried sum's array holds. -/
theorem canonAcc {e : EltTy} (w : S1x2048.Idx → Elt Ideal e) (L : List (View.Piece (Elt Ideal) S1x2048 e))
    (inb : ∀ a, (![0, 0] : Fin 2 → ℕ) a + (![1, 2048] : Fin 2 → ℕ) a ≤ S1x2048.size a) :
    View.canon (⟨Rect.unit (s := S1x2048) ![0, 0] ![1, 2048] inb, w⟩ :: L) = w :=
  View.canon_cons_unit_zero (S := S1x2048) zeros2 inb w L

/-- A whole store decides what a block's array holds. -/
theorem canonBlk {e : EltTy} (w : S512x2048.Idx → Elt Ideal e) (L : List (View.Piece (Elt Ideal) S512x2048 e))
    (inb : ∀ a, (![0, 0] : Fin 2 → ℕ) a + (![512, 2048] : Fin 2 → ℕ) a ≤ S512x2048.size a) :
    View.canon (⟨Rect.unit (s := S512x2048) ![0, 0] ![512, 2048] inb, w⟩ :: L) = w :=
  View.canon_cons_unit_zero (S := S512x2048) zeros2 inb w L

section Runs
variable (c : Dev nD) (i : grid1.Coords) (arg1 : Memref sig .tc .vmem S512x2048 .f32) (harg1 : arg1.IsWhole) (arg2 : Memref sig .tc .vmem S1x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x1 .f32) (harg5 : arg5.IsWhole) (arg6 : Memref sig .tc .vmem S512x2048 .f32) (harg6 : arg6.IsWhole) (arg7 : Memref sig .tc .vmem S512x2048 .bf16) (harg7 : arg7.IsWhole) (arg8 : Memref sig .tc .vmem S1x2048 .f32) (harg8 : arg8.IsWhole)
  (x0 : Vec Ideal S512x2048 .f32) (x1 : Vec Ideal S1x2048 .f32) (x2 : Vec Ideal S512x2048 .f32) (x3 : Vec Ideal S512x2048 .f32) (x4 : Vec Ideal S512x1 .f32) (xo7 : Vec Ideal S1x2048 .f32)

theorem run_A_5 (hc0 : cond1_0 i) :
    out1_A_5 (F := Ideal) c i arg1 harg1 arg2 harg2 arg3 harg3 arg4 harg4 arg5 harg5 arg6 harg6 arg7 harg7 arg8 harg8 hc0 x0 x1 x2 x3 x4 = k1_pay5 (F := Ideal) x0 x4 x2 x1 x3 := by
  unfold out1_A_5; rw [View.read_writes_junk_eq_canon]; unfold kernelRun1_A; dsimp only; sl_unfold_words
  simp only [View.readAt_eq_ld, harg1.read_unread, harg2.read_unread, harg3.read_unread, harg4.read_unread, harg5.read_unread, harg8.read_unread, View.ld_unit_zero (S := S512x2048) zeros2, View.ld_unit_zero (S := S1x2048) zeros2, View.ld_unit_zero (S := S512x1) zeros2]
  simp only [canonAcc, canonBlk, readAcc]

theorem run_A_6 (hc0 : cond1_0 i) :
    out1_A_6 (F := Ideal) c i arg1 harg1 arg2 harg2 arg3 harg3 arg4 harg4 arg5 harg5 arg6 harg6 arg7 harg7 arg8 harg8 hc0 x0 x1 x2 x3 x4 = k1_pay6 (F := Ideal) x0 x4 x2 x1 x3 := by
  unfold out1_A_6; rw [View.read_writes_junk_eq_canon]; unfold kernelRun1_A; dsimp only; sl_unfold_words
  simp only [View.readAt_eq_ld, harg1.read_unread, harg2.read_unread, harg3.read_unread, harg4.read_unread, harg5.read_unread, harg8.read_unread, View.ld_unit_zero (S := S512x2048) zeros2, View.ld_unit_zero (S := S1x2048) zeros2, View.ld_unit_zero (S := S512x1) zeros2]
  simp only [canonAcc, canonBlk, readAcc]

theorem run_A_7 (hc0 : cond1_0 i) :
    out1_A_7 (F := Ideal) c i arg1 harg1 arg2 harg2 arg3 harg3 arg4 harg4 arg5 harg5 arg6 harg6 arg7 harg7 arg8 harg8 hc0 x0 x1 x2 x3 x4 = k1_pay4 (F := Ideal) x0 x4 x2 (k1_pay1 (F := Ideal)) := by
  unfold out1_A_7; rw [View.read_writes_junk_eq_canon]; unfold kernelRun1_A; dsimp only; sl_unfold_words
  simp only [View.readAt_eq_ld, harg1.read_unread, harg2.read_unread, harg3.read_unread, harg4.read_unread, harg5.read_unread, harg8.read_unread, View.ld_unit_zero (S := S512x2048) zeros2, View.ld_unit_zero (S := S1x2048) zeros2, View.ld_unit_zero (S := S512x1) zeros2]
  simp only [canonAcc, canonBlk, readAcc]

theorem run_B_5 (hc0 : ¬cond1_0 i) :
    out1_B_5 (F := Ideal) c i arg1 harg1 arg2 harg2 arg3 harg3 arg4 harg4 arg5 harg5 arg6 harg6 arg7 harg7 arg8 harg8 hc0 x0 x1 x2 x3 x4 xo7 = k1_pay5 (F := Ideal) x0 x4 x2 x1 x3 := by
  unfold out1_B_5; rw [View.read_writes_junk_eq_canon]; unfold kernelRun1_B; dsimp only; sl_unfold_words
  simp only [View.readAt_eq_ld, harg1.read_unread, harg2.read_unread, harg3.read_unread, harg4.read_unread, harg5.read_unread, harg8.read_unread, View.ld_unit_zero (S := S512x2048) zeros2, View.ld_unit_zero (S := S1x2048) zeros2, View.ld_unit_zero (S := S512x1) zeros2]
  simp only [canonAcc, canonBlk, readAcc]

theorem run_B_6 (hc0 : ¬cond1_0 i) :
    out1_B_6 (F := Ideal) c i arg1 harg1 arg2 harg2 arg3 harg3 arg4 harg4 arg5 harg5 arg6 harg6 arg7 harg7 arg8 harg8 hc0 x0 x1 x2 x3 x4 xo7 = k1_pay6 (F := Ideal) x0 x4 x2 x1 x3 := by
  unfold out1_B_6; rw [View.read_writes_junk_eq_canon]; unfold kernelRun1_B; dsimp only; sl_unfold_words
  simp only [View.readAt_eq_ld, harg1.read_unread, harg2.read_unread, harg3.read_unread, harg4.read_unread, harg5.read_unread, harg8.read_unread, View.ld_unit_zero (S := S512x2048) zeros2, View.ld_unit_zero (S := S1x2048) zeros2, View.ld_unit_zero (S := S512x1) zeros2]
  simp only [canonAcc, canonBlk, readAcc]

theorem run_B_7 (hc0 : ¬cond1_0 i) :
    out1_B_7 (F := Ideal) c i arg1 harg1 arg2 harg2 arg3 harg3 arg4 harg4 arg5 harg5 arg6 harg6 arg7 harg7 arg8 harg8 hc0 x0 x1 x2 x3 x4 xo7 = k1_pay4 (F := Ideal) x0 x4 x2 xo7 := by
  unfold out1_B_7; rw [View.read_writes_junk_eq_canon]; unfold kernelRun1_B; dsimp only; sl_unfold_words
  simp only [View.readAt_eq_ld, harg1.read_unread, harg2.read_unread, harg3.read_unread, harg4.read_unread, harg5.read_unread, harg8.read_unread, View.ld_unit_zero (S := S512x2048) zeros2, View.ld_unit_zero (S := S1x2048) zeros2, View.ld_unit_zero (S := S512x1) zeros2]
  simp only [canonAcc, canonBlk, readAcc]

end Runs

end Cert.Nrm

end
-- ==== Proof.NormGradArr.lean ====
/- The gradients the norm's second call leaves, from the arrays it reads. -/
module

public import proofs.«01_k».proof.Proof.NormGrad

@[expose] public section

set_option maxRecDepth 16384

noncomputable section

namespace Cert.Nrm

open Idealize.ShloMosaic hiding ix1 ix2 ix3 ix4 eq_ix1 eq_ix2 eq_ix3 eq_ix4
open Idealize.ShloMosaic.ValueIdx Idealize.ShloMosaic.TcCoe
open Cert.Feed (mat)
open Cert.NormIdeal Cert.NormIdeal.Gen

/-- The one column of an array of one column. -/
def col1 {n : ℕ} (x : (⟨2, ![n, 1]⟩ : Shape).Idx → EReal) : Fin n → EReal := fun t => x (ix2 t 0)

/-- The gradient of the rows, from any reciprocals. -/
def dxG (x : Fin 4096 → Fin 2048 → EReal) (g : Fin 2048 → EReal) (dh dr : Fin 4096 → Fin 2048 → EReal) (r : Fin 4096 → EReal)
    (t : Fin 4096) (j : Fin 2048) : EReal :=
  r t * (dh t j * g j - x t j * r t * Ideal.div (∑ d, dh t d * g d * (x t d * r t)) cnt) + dr t j

/-- The gradient of the gain, from any reciprocals. -/
def dgG (x dh : Fin 4096 → Fin 2048 → EReal) (r : Fin 4096 → EReal) (j : Fin 2048) : EReal := ∑ t, dh t j * (x t j * r t)

variable (V : (c : Dev nD) → (b : Ref sig .tc) → Buf (Elt Ideal) ((c.tc : Thread nD τ).loc b)) (c : Dev nD)

theorem val1_5 (t : Fin cfg1.N) (a : Fin 512) (b : Fin 2048) :
    (k1_pay5 (F := Ideal) (iblk1 V c 0 t) (iblk1 V c 4 t) (iblk1 V c 2 t) (iblk1 V c 1 t) (iblk1 V c 3 t) (ix2 a b) : EReal)
      = dxG (mat (V c main_arg0)) (row1 (V c main_v2)) (mat (V c main_arg2)) (mat (V c main_arg3)) (col1 (V c main_v1_2)) (row t.val a) b := by
  have ex : ∀ d, ((iblk1 V c 0 t : FVec Ideal S512x2048 .f32) (ix2 a d) : EReal) = mat (V c main_arg0) (row t.val a) d := fun d => blk1_0 (V c main_arg0) t a d
  have eg : ∀ d, ((iblk1 V c 1 t : FVec Ideal S1x2048 .f32) (ix2 0 d) : EReal) = row1 (V c main_v2) d := fun d => blk1_1 (V c main_v2) t d
  have eh : ∀ d, ((iblk1 V c 2 t : FVec Ideal S512x2048 .f32) (ix2 a d) : EReal) = mat (V c main_arg2) (row t.val a) d := fun d => blk1_2 (V c main_arg2) t a d
  have ed : ∀ d, ((iblk1 V c 3 t : FVec Ideal S512x2048 .f32) (ix2 a d) : EReal) = mat (V c main_arg3) (row t.val a) d := fun d => blk1_3 (V c main_arg3) t a d
  have er : ((iblk1 V c 4 t : FVec Ideal S512x1 .f32) (ix2 a 0) : EReal) = col1 (V c main_v1_2) (row t.val a) := blk1_4 (V c main_v1_2) t a
  refine (pay1_5 _ _ _ _ _ a b).trans ?_
  simp only [ex, eg, eh, ed, er]
  rfl

theorem outs_5 (t : Fin cfg1.N) : (outsAt1 V c t.val t.isLt).1
    = k1_pay5 (F := Ideal) (iblk1 V c 0 t) (iblk1 V c 4 t) (iblk1 V c 2 t) (iblk1 V c 1 t) (iblk1 V c 3 t) := by
  by_cases h0 : t.val % 8 = 0
  · rw [outsAt1_A V c t h0]; dsimp only; rw [run_A_5]
  · rw [outsAt1_B V c t h0]; dsimp only; rw [run_B_5]

theorem outs_6 (t : Fin cfg1.N) : (outsAt1 V c t.val t.isLt).2.1
    = k1_pay6 (F := Ideal) (iblk1 V c 0 t) (iblk1 V c 4 t) (iblk1 V c 2 t) (iblk1 V c 1 t) (iblk1 V c 3 t) := by
  by_cases h0 : t.val % 8 = 0
  · rw [outsAt1_A V c t h0]; dsimp only; rw [run_A_6]
  · rw [outsAt1_B V c t h0]; dsimp only; rw [run_B_6]

/-- The gradient of the rows. -/
theorem arr1_5 : (dat1 (F := Ideal) V c).arrAt 5 cfg1.N = fun i : S4096x2048.Idx =>
    dxG (mat (V c main_arg0)) (row1 (V c main_v2)) (mat (V c main_arg2)) (mat (V c main_arg3)) (col1 (V c main_v1_2)) (i 0) (i 1) := by
  refine (dat1 (F := Ideal) V c).arrAt_eq_of_covers 5 _ (by decide +kernel) fun t hf y => ?_
  obtain ⟨a, b, rfl⟩ : ∃ (a : Fin 512) (b : Fin 2048), y = ix2 a b := ⟨y 0, y 1, eq_ix2 y⟩
  rw [emb1_5]
  refine (congrFun (after1_5 V c t) (ix2 a b)).trans ?_
  rw [outs_5]
  exact val1_5 V c t a b

/-- Its rounded copy. -/
theorem arr1_6 : (dat1 (F := Ideal) V c).arrAt 6 cfg1.N = fun i : S4096x2048.Idx =>
    dxG (mat (V c main_arg0)) (row1 (V c main_v2)) (mat (V c main_arg2)) (mat (V c main_arg3)) (col1 (V c main_v1_2)) (i 0) (i 1) := by
  refine (dat1 (F := Ideal) V c).arrAt_eq_of_covers 6 _ (by decide +kernel) fun t hf y => ?_
  obtain ⟨a, b, rfl⟩ : ∃ (a : Fin 512) (b : Fin 2048), y = ix2 a b := ⟨y 0, y 1, eq_ix2 y⟩
  rw [emb1_6]
  refine (congrFun (after1_6 V c t) (ix2 a b)).trans ?_
  rw [outs_6]
  exact val1_5 V c t a b

/-- What point `t` adds at a place of the carried sum. -/
def term (t : Fin cfg1.N) (j : S1x2048.Idx) : EReal :=
  ∑ a : Fin 512, mat (V c main_arg2) (row t.val a) (j 1) * (mat (V c main_arg0) (row t.val a) (j 1) * col1 (V c main_v1_2) (row t.val a))

theorem step_apply (t : Fin cfg1.N) (acc : Vec Ideal S1x2048 .f32) (j : S1x2048.Idx) :
    (k1_pay4 (F := Ideal) (iblk1 V c 0 t) (iblk1 V c 4 t) (iblk1 V c 2 t) acc j : EReal) = (acc j : EReal) + term V c t j := by
  obtain ⟨z, b, rfl⟩ : ∃ (z : Fin 1) (b : Fin 2048), j = ix2 z b := ⟨j 0, j 1, eq_ix2 j⟩
  obtain rfl : z = 0 := Subsingleton.elim _ _
  have ex : ∀ a, ((iblk1 V c 0 t : FVec Ideal S512x2048 .f32) (ix2 a b) : EReal) = mat (V c main_arg0) (row t.val a) b := fun a => blk1_0 (V c main_arg0) t a b
  have eh : ∀ a, ((iblk1 V c 2 t : FVec Ideal S512x2048 .f32) (ix2 a b) : EReal) = mat (V c main_arg2) (row t.val a) b := fun a => blk1_2 (V c main_arg2) t a b
  have er : ∀ a, ((iblk1 V c 4 t : FVec Ideal S512x1 .f32) (ix2 a 0) : EReal) = col1 (V c main_v1_2) (row t.val a) := fun a => blk1_4 (V c main_v1_2) t a
  refine (pay1_4 _ _ _ _ b).trans ?_
  simp only [ex, eh, er]
  rfl

theorem first (t : Fin cfg1.N) (h0 : t.val % 8 = 0) (j : S1x2048.Idx) :
    ((outsAt1 V c t.val t.isLt).2.2 j : EReal) = 0 + term V c t j := by
  rw [outsAt1_A V c t h0]
  dsimp only
  rw [run_A_7]
  refine (step_apply V c t _ j).trans (congrArg (· + term V c t j) ?_)
  exact Ideal.ofBits_zero_f32

theorem next (t : Fin cfg1.N) (h0 : ¬t.val % 8 = 0) (j : S1x2048.Idx) :
    ((outsAt1 V c t.val t.isLt).2.2 j : EReal)
      = ((outsAt1 V c (t.val - 1) (Nat.lt_of_le_of_lt (Nat.sub_le _ _) t.isLt)).2.2 j : EReal) + term V c t j := by
  rw [outsAt1_B V c t h0]
  dsimp only
  rw [run_B_7]
  exact step_apply V c t _ j

theorem out_sum (t : Fin cfg1.N) (h1 : t.val % 8 = 7) (j : S1x2048.Idx) : ((outsAt1 V c t.val t.isLt).2.2 j : EReal)
    = ∑ s : Fin 8, term V c ⟨8 * (t.val / 8) + s.val, Pipeline.run_point_lt_of_flush t h1 s⟩ j := by
  refine (Pipeline.eq_sum_fin_of_reset_step_apply_of_flush (M := EReal) (fun n h => (outsAt1 V c n h).2.2) 8 (fun _ => 0) (term V c)
    (fun t h0 j => first V c t h0 j) (fun t h0 j => next V c t h0 j) t h1 j).trans ?_
  exact zero_add _

/-- The gradient of the gain. -/
theorem arr1_7 : (dat1 (F := Ideal) V c).arrAt 7 cfg1.N = fun i : S1x2048.Idx =>
    dgG (mat (V c main_arg0)) (mat (V c main_arg2)) (col1 (V c main_v1_2)) (i 1) := by
  refine (dat1 (F := Ideal) V c).arrAt_eq_of_covers 7 _ (by decide +kernel) fun t hf y => ?_
  obtain ⟨z, b, rfl⟩ : ∃ (z : Fin 1) (b : Fin 2048), y = ix2 z b := ⟨y 0, y 1, eq_ix2 y⟩
  obtain rfl : z = 0 := Subsingleton.elim _ _
  rw [emb1_7]
  have h1 : t.val % 8 = 7 := (flush1_7 t).1 hf
  refine (congrFun (after1_7 V c t) (ix2 0 b)).trans ((out_sum V c t h1 (ix2 0 b)).trans ?_)
  refine Eq.trans ?_ (Fin.sum_mul_add_fin 8 512 (fun x : Fin 4096 =>
    mat (V c main_arg2) x b * (mat (V c main_arg0) x b * col1 (V c main_v1_2) x : EReal)))
  refine Finset.sum_congr (M := EReal) rfl fun s _ => Finset.sum_congr (M := EReal) rfl fun a _ => ?_
  have hs : s.val < 8 := s.isLt
  have hr : row (8 * (t.val / 8) + s.val) a = ⟨s.val * 512 + a.val, by omega⟩ := Fin.ext (by
    show (8 * (t.val / 8) + s.val) % 8 * 512 + a.val = s.val * 512 + a.val; omega)
  exact congrArg (fun x : Fin 4096 => mat (V c main_arg2) x b * (mat (V c main_arg0) x b * col1 (V c main_v1_2) x : EReal)) hr

end Cert.Nrm

end
-- ==== Proof.NormRef.lean ====
/- The reference's norm and its gradients at an index. -/
module

public import proofs.«01_k».proof.Proof.NormModel
public import proofs.«01_k».proof.Proof.FeedArr0
public import proofs.«01_k».proof.Proof.Gen.NormReferenceIdeal.Read
public import Idealize.ShloMosaic.Lib.IdealHost

@[expose] public section

noncomputable section

namespace Cert.Nrm

open Idealize.ShloMosaic hiding ix1 ix2 ix3 ix4 eq_ix1 eq_ix2 eq_ix3 eq_ix4
open Idealize.ShloMosaic.ValueIdx Idealize.ShloMosaic.TcCoe
open Cert.Feed (mat)
open Cert.NormReferenceIdeal Cert.NormReferenceIdeal.Read

variable (x0 x2 x3 : FVec Ideal ⟨2, ![4096, 2048]⟩ .f32) (x1 : FVec Ideal ⟨1, ![2048]⟩ .f32)

/-- A stored row of numbers. -/
def vec {n : ℕ} (x : (⟨1, ![n]⟩ : Shape).Idx → EReal) : Fin n → EReal := fun j => x (ix1 j)

theorem ref_ms (t : Fin 4096) : (val_main_v6 (F := Ideal) x0 (ix2 t 0) : EReal) = ms (mat x0 t) := by
  have e : (val_main_v2 (F := Ideal) x0 (ix2 t 0) : EReal) = ∑ d, mat x0 t d * mat x0 t d := by
    refine (val_main_v2_apply (F := Ideal) x0 _).trans ((val_main_v1_apply x0 _).trans ?_)
    refine (congrArg (· + _) (show (_ : EReal) = 0 from Ideal.ofBits_zero_f32)).trans ((zero_add _).trans ?_)
    refine Finset.sum_congr (M := EReal) rfl fun d _ => ?_
    refine congrArg (fun i => (x0 i : EReal) * x0 i) (funext fun a => ?_)
    match a with
    | ⟨0, _⟩ => rfl
    | ⟨1, _⟩ => rfl
  have e3 : (val_main_v3 (F := Ideal) (ix2 t 0) : EReal) = cnt := val_main_v3_apply (F := Ideal) _
  have e5 : (val_main_v5 (F := Ideal) (ix2 t 0) : EReal) = eps := val_main_v5_apply (F := Ideal) _
  show Ideal.div (val_main_v2 (F := Ideal) x0 (ix2 t 0) : EReal) (val_main_v3 (F := Ideal) (ix2 t 0)) + (val_main_v5 (F := Ideal) (ix2 t 0) : EReal) = _
  rw [e, e3, e5]
  rfl

theorem ref_r (t : Fin 4096) : (val_main_v7 (F := Ideal) x0 (ix2 t 0) : EReal) = rs (mat x0 t) :=
  congrArg Ideal.rsqrt (ref_ms x0 t)

theorem ref_v11 (t : Fin 4096) (j : Fin 2048) : (val_main_v11 (F := Ideal) x0 (ix2 t j) : EReal) = rs (mat x0 t) := by
  refine (val_main_v11_apply (F := Ideal) x0 _).trans ((congrArg (val_main_v7 (F := Ideal) x0) (funext fun a => ?_)).trans (ref_r x0 t))
  match a with
  | ⟨0, _⟩ => rfl
  | ⟨1, _⟩ => rfl

theorem ref_v25 (t : Fin 4096) (j : Fin 2048) : (val_main_v25 (F := Ideal) x0 (ix2 t j) : EReal) = rs (mat x0 t) := by
  refine (val_main_v25_apply (F := Ideal) x0 _).trans ((congrArg (val_main_v7 (F := Ideal) x0) (funext fun a => ?_)).trans (ref_r x0 t))
  match a with
  | ⟨0, _⟩ => rfl
  | ⟨1, _⟩ => rfl

theorem ref_v14 (t : Fin 4096) (j : Fin 2048) : (val_main_v14 (F := Ideal) x1 (ix2 t j) : EReal) = vec x1 j := by
  refine (val_main_v14_apply (F := Ideal) x1 _).trans ((val_main_v13_apply (F := Ideal) x1 _).trans (congrArg x1 (funext fun a => ?_)))
  match a with
  | ⟨0, _⟩ => rfl

theorem ref_v19 (t : Fin 4096) (j : Fin 2048) : (val_main_v19 (F := Ideal) x1 (ix2 t j) : EReal) = vec x1 j := by
  refine (val_main_v19_apply (F := Ideal) x1 _).trans ((val_main_v13_apply (F := Ideal) x1 _).trans (congrArg x1 (funext fun a => ?_)))
  match a with
  | ⟨0, _⟩ => rfl

theorem ref_v15 (t : Fin 4096) (j : Fin 2048) : (val_main_v15 (F := Ideal) x0 x1 (ix2 t j) : EReal) = hN (mat x0) (vec x1) t j := by
  show (x0 (ix2 t j) : EReal) * (val_main_v11 (F := Ideal) x0 (ix2 t j) : EReal) * (val_main_v14 (F := Ideal) x1 (ix2 t j) : EReal) = _
  rw [ref_v11, ref_v14]
  rfl

theorem ref_v20 (t : Fin 4096) (j : Fin 2048) : (val_main_v20 (F := Ideal) x1 x2 (ix2 t j) : EReal) = mat x2 t j * vec x1 j := by
  show (x2 (ix2 t j) : EReal) * (val_main_v19 (F := Ideal) x1 (ix2 t j) : EReal) = _
  rw [ref_v19]
  rfl

theorem ref_v24 (t : Fin 4096) : (val_main_v24 (F := Ideal) x0 x1 x2 (ix2 t 0) : EReal) = ∑ d, mat x0 t d * (mat x2 t d * vec x1 d) := by
  refine (val_main_v24_apply (F := Ideal) x0 x1 x2 _).trans ((val_main_v23_apply x0 x1 x2 _).trans ?_)
  refine (congrArg (· + _) (show (_ : EReal) = 0 from Ideal.ofBits_zero_f32)).trans ((zero_add _).trans ?_)
  refine Finset.sum_congr (M := EReal) rfl fun d _ => ?_
  refine (congrArg (val_main_v22 (F := Ideal) x0 x1 x2) (show _ = ix2 t d from funext fun a => ?_)).trans ?_
  · match a with
    | ⟨0, _⟩ => exact Fin.ext (show t.val * 1 + 0 = t.val by omega)
    | ⟨1, _⟩ => rfl
  · exact congrArg (fun z : EReal => (x0 (ix2 t d) : EReal) * z) (ref_v20 x2 x1 t d)

theorem ref_v31 (t : Fin 4096) (j : Fin 2048) : (val_main_v31 (F := Ideal) x0 x1 x2 (ix2 t j) : EReal)
    = rfac (mat x0 t) (fun d => mat x2 t d * vec x1 d) := by
  refine (val_main_v31_apply (F := Ideal) x0 x1 x2 _).trans ((val_main_v30_apply x0 x1 x2 _).trans ?_)
  refine (congrArg (· + _) (show (_ : EReal) = 0 from Ideal.ofBits_zero_f32)).trans ((zero_add _).trans ?_)
  refine (Fin.sum_univ_one (M := EReal) _).trans ?_
  refine (congrArg (val_main_v29 (F := Ideal) x0 x1 x2) (show _ = ix2 t 0 from funext fun a => ?_)).trans ?_
  · match a with
    | ⟨0, _⟩ => rfl
    | ⟨1, _⟩ => rfl
  · have e9 : (val_main_v9 (F := Ideal) (ix2 t 0) : EReal) = mhalf := val_main_v9_apply (F := Ideal) _
    have e28 : (val_main_v28 (F := Ideal) (ix2 t 0) : EReal) = cnt := val_main_v28_apply (F := Ideal) _
    show Ideal.div ((val_main_v24 (F := Ideal) x0 x1 x2 (ix2 t 0) : EReal) * ((val_main_v9 (F := Ideal) (ix2 t 0) : EReal)
      * Ideal.div (val_main_v7 (F := Ideal) x0 (ix2 t 0)) (val_main_v6 (F := Ideal) x0 (ix2 t 0)))) (val_main_v28 (F := Ideal) (ix2 t 0)) = _
    rw [ref_v24, e9, ref_r, ref_ms, e28]
    rfl

theorem ref_v39 (t : Fin 4096) (j : Fin 2048) : (val_main_v39 (F := Ideal) x0 x1 x2 x3 (ix2 t j) : EReal)
    = dxN (mat x0) (vec x1) (mat x2) (mat x3) t j := by
  show (val_main_v20 (F := Ideal) x1 x2 (ix2 t j) : EReal) * (val_main_v25 (F := Ideal) x0 (ix2 t j) : EReal)
    + (x0 (ix2 t j) : EReal) * (val_main_v31 (F := Ideal) x0 x1 x2 (ix2 t j) : EReal)
    + (val_main_v31 (F := Ideal) x0 x1 x2 (ix2 t j) : EReal) * (x0 (ix2 t j) : EReal) + (x3 (ix2 t j) : EReal) = _
  rw [ref_v20, ref_v25, ref_v31]
  exact congrArg (· + (x3 (ix2 t j) : EReal)) (grad_eq (mat x0 t) (fun d => mat x2 t d * vec x1 d) j).symm

/-- The normed rows. -/
theorem ref_h : val_main_v36 (F := Ideal) x0 x1 = fun i => hN (mat x0) (vec x1) (i 0) (i 1) := by
  funext i
  obtain ⟨t, j, rfl⟩ : ∃ (t : Fin 4096) (j : Fin 2048), i = ix2 t j := ⟨i 0, i 1, eq_ix2 i⟩
  exact ref_v15 x0 x1 t j

/-- The normed rows, transposed. -/
theorem ref_hT : val_main_v38 (F := Ideal) x0 x1 = fun i => hN (mat x0) (vec x1) (i 1) (i 0) := by
  funext i
  obtain ⟨j, t, rfl⟩ : ∃ (j : Fin 2048) (t : Fin 4096), i = ix2 j t := ⟨i 0, i 1, eq_ix2 i⟩
  refine (val_main_v38_apply (F := Ideal) x0 x1 _).trans ((congrArg (val_main_v37 (F := Ideal) x0 x1) (show _ = ix2 t j from funext fun a => ?_)).trans (ref_v15 x0 x1 t j))
  match a with
  | ⟨0, _⟩ => rfl
  | ⟨1, _⟩ => rfl

/-- The gradient of the rows. -/
theorem ref_dx : val_main_v39 (F := Ideal) x0 x1 x2 x3 = fun i => dxN (mat x0) (vec x1) (mat x2) (mat x3) (i 0) (i 1) := by
  funext i
  obtain ⟨t, j, rfl⟩ : ∃ (t : Fin 4096) (j : Fin 2048), i = ix2 t j := ⟨i 0, i 1, eq_ix2 i⟩
  exact ref_v39 x0 x2 x3 x1 t j

/-- Its rounded copy. -/
theorem ref_dxm : val_main_v41 (F := Ideal) x0 x1 x2 x3 = fun i => dxN (mat x0) (vec x1) (mat x2) (mat x3) (i 0) (i 1) := by
  funext i
  obtain ⟨t, j, rfl⟩ : ∃ (t : Fin 4096) (j : Fin 2048), i = ix2 t j := ⟨i 0, i 1, eq_ix2 i⟩
  exact ref_v39 x0 x2 x3 x1 t j

/-- The gradient of the gain. -/
theorem ref_dg : val_main_v21 (F := Ideal) x0 x2 = fun i => dgN (mat x0) (mat x2) (i 0) := by
  funext i
  obtain ⟨j, rfl⟩ : ∃ j : Fin 2048, i = ix1 j := ⟨i 0, eq_ix1 i⟩
  refine (val_main_v21_apply x0 x2 _).trans ?_
  refine (congrArg (· + _) (show (_ : EReal) = 0 from Ideal.ofBits_zero_f32)).trans ((zero_add _).trans ?_)
  refine (Fin.sum_univ_one (M := EReal) _).trans ?_
  refine (val_main_v18_apply (F := Ideal) x0 x2 _).trans ((val_main_v17_apply x0 x2 _).trans ?_)
  refine (congrArg (· + _) (show (_ : EReal) = 0 from Ideal.ofBits_zero_f32)).trans ((zero_add _).trans ?_)
  refine Finset.sum_congr (M := EReal) rfl fun t _ => ?_
  refine (congrArg (val_main_v16 (F := Ideal) x0 x2) (show _ = ix2 t j from funext fun a => ?_)).trans ?_
  · match a with
    | ⟨0, _⟩ => rfl
    | ⟨1, _⟩ => exact Fin.ext (show 0 * 2048 + j.val = j.val by omega)
  · show (x0 (ix2 t j) : EReal) * (val_main_v11 (F := Ideal) x0 (ix2 t j) : EReal) * (x2 (ix2 t j) : EReal) = _
    rw [ref_v11]
    exact mul_comm _ _

end Cert.Nrm

end
-- ==== Proof.NormVal.lean ====
/- What the program of the norm leaves: each result from the arguments. -/
module

public import proofs.«01_k».proof.Proof.NormGradArr
public import proofs.«01_k».proof.Proof.NormRef

@[expose] public section

set_option maxRecDepth 16384

noncomputable section

namespace Cert.Nrm

open Idealize.ShloMosaic hiding ix1 ix2 ix3 ix4 eq_ix1 eq_ix2 eq_ix3 eq_ix4
open Idealize.ShloMosaic.ValueIdx Idealize.ShloMosaic.TcCoe
open Cert.Feed (mat)
open Cert.NormIdeal Cert.NormIdeal.Gen

variable (m : (ℓ : Loc nD τ sig) → Buf (Elt Ideal) ℓ) (ρ : Dev nD → PrngReg) (c : Dev nD)

abbrev arg0 : FVec Ideal S4096x2048 .f32 := m ((c : Thread nD τ).loc main_arg0)
abbrev arg1 : FVec Ideal S2048 .f32 := m ((c : Thread nD τ).loc main_arg1)
abbrev arg2 : FVec Ideal S4096x2048 .f32 := m ((c : Thread nD τ).loc main_arg2)
abbrev arg3 : FVec Ideal S4096x2048 .f32 := m ((c : Thread nD τ).loc main_arg3)

/-- A vector stored as one row. -/
theorem row1_cast (x : FVec Ideal S2048 .f32) : row1 (shapeCast S1x2048 x Facts₀.shapeCasts_S2048_S1x2048) = vec x := by
  funext j
  refine shapeCast_apply x _ _ _ ?_
  rw [Shape.rowMajor_val_two, Shape.rowMajor_val_one]
  show j.val = 0 * 2048 + j.val
  omega

theorem W1_g : (W1 m ρ c (Proc.devRef .tc main_v0) : S1x2048.Idx → EReal) = shapeCast S1x2048 (arg1 m c) Facts₀.shapeCasts_S2048_S1x2048 := by
  unfold W1; after_reads_simp; rfl
theorem W1_x : (W1 m ρ c (Proc.devRef .tc main_arg0) : S4096x2048.Idx → EReal) = arg0 m c :=
  W1_of m ρ c main_arg0 (by decide +kernel)

theorem W2_h : (W2 m ρ c (Proc.devRef .tc main_v1_0) : S4096x2048.Idx → EReal)
    = fun i => hN (mat (arg0 m c)) (vec (arg1 m c)) (i 0) (i 1) := by
  refine (W2_arr m ρ c 2).trans ((arr0_2 (V1 m ρ) c).trans ?_)
  show (fun i : S4096x2048.Idx => hN (mat (W1 m ρ c (Proc.devRef .tc main_arg0))) (row1 (W1 m ρ c (Proc.devRef .tc main_v0))) (i 0) (i 1)) = _
  rw [W1_x, W1_g, row1_cast]
  rfl

theorem W2_hT : (W2 m ρ c (Proc.devRef .tc main_v1_1) : S2048x4096.Idx → EReal)
    = fun i => hN (mat (arg0 m c)) (vec (arg1 m c)) (i 1) (i 0) := by
  refine (W2_arr m ρ c 3).trans ((arr0_3 (V1 m ρ) c).trans ?_)
  show (fun i : S2048x4096.Idx => hN (mat (W1 m ρ c (Proc.devRef .tc main_arg0))) (row1 (W1 m ρ c (Proc.devRef .tc main_v0))) (i 1) (i 0)) = _
  rw [W1_x, W1_g, row1_cast]
  rfl

theorem W2_r : (W2 m ρ c (Proc.devRef .tc main_v1_2) : S4096x1.Idx → EReal) = fun i => rs (mat (arg0 m c) (i 0)) := by
  refine (W2_arr m ρ c 4).trans ((arr0_4 (V1 m ρ) c).trans ?_)
  show (fun i : S4096x1.Idx => rs (mat (W1 m ρ c (Proc.devRef .tc main_arg0) : FVec Ideal S4096x2048 .f32) (i 0))) = _
  rw [W1_x]
  rfl

theorem W3_g : (W3 m ρ c (Proc.devRef .tc main_v2) : S1x2048.Idx → EReal) = shapeCast S1x2048 (arg1 m c) Facts₀.shapeCasts_S2048_S1x2048 := by
  have e : (W2 m ρ c (Proc.devRef .tc main_arg1) : S2048.Idx → EReal) = arg1 m c :=
    (W2_of m ρ c main_arg1 (by decide +kernel)).trans (W1_of m ρ c main_arg1 (by decide +kernel))
  rw [← e]
  unfold W3; after_reads_simp; rfl
theorem W3_x : (W3 m ρ c (Proc.devRef .tc main_arg0) : S4096x2048.Idx → EReal) = arg0 m c :=
  (W3_of m ρ c main_arg0 (by decide +kernel)).trans ((W2_of m ρ c main_arg0 (by decide +kernel)).trans (W1_x m ρ c))
theorem W3_dh : (W3 m ρ c (Proc.devRef .tc main_arg2) : S4096x2048.Idx → EReal) = arg2 m c :=
  (W3_of m ρ c main_arg2 (by decide +kernel)).trans ((W2_of m ρ c main_arg2 (by decide +kernel)).trans (W1_of m ρ c main_arg2 (by decide +kernel)))
theorem W3_dr : (W3 m ρ c (Proc.devRef .tc main_arg3) : S4096x2048.Idx → EReal) = arg3 m c :=
  (W3_of m ρ c main_arg3 (by decide +kernel)).trans ((W2_of m ρ c main_arg3 (by decide +kernel)).trans (W1_of m ρ c main_arg3 (by decide +kernel)))
theorem W3_r : (W3 m ρ c (Proc.devRef .tc main_v1_2) : S4096x1.Idx → EReal) = fun i => rs (mat (arg0 m c) (i 0)) :=
  (W3_of m ρ c main_v1_2 (by decide +kernel)).trans (W2_r m ρ c)

theorem W4_dx : (W4 m ρ c (Proc.devRef .tc main_v3_0) : S4096x2048.Idx → EReal)
    = fun i => dxN (mat (arg0 m c)) (vec (arg1 m c)) (mat (arg2 m c)) (mat (arg3 m c)) (i 0) (i 1) := by
  refine (W4_arr m ρ c 5).trans ((arr1_5 (V3 m ρ) c).trans ?_)
  show (fun i : S4096x2048.Idx => dxG (mat (W3 m ρ c (Proc.devRef .tc main_arg0))) (row1 (W3 m ρ c (Proc.devRef .tc main_v2)))
    (mat (W3 m ρ c (Proc.devRef .tc main_arg2))) (mat (W3 m ρ c (Proc.devRef .tc main_arg3))) (col1 (W3 m ρ c (Proc.devRef .tc main_v1_2))) (i 0) (i 1)) = _
  rw [W3_x, W3_g, W3_dh, W3_dr, W3_r, row1_cast]
  rfl

theorem W4_dxm : (W4 m ρ c (Proc.devRef .tc main_v3_1) : S4096x2048.Idx → EReal)
    = fun i => dxN (mat (arg0 m c)) (vec (arg1 m c)) (mat (arg2 m c)) (mat (arg3 m c)) (i 0) (i 1) := by
  refine (W4_arr m ρ c 6).trans ((arr1_6 (V3 m ρ) c).trans ?_)
  show (fun i : S4096x2048.Idx => dxG (mat (W3 m ρ c (Proc.devRef .tc main_arg0))) (row1 (W3 m ρ c (Proc.devRef .tc main_v2)))
    (mat (W3 m ρ c (Proc.devRef .tc main_arg2))) (mat (W3 m ρ c (Proc.devRef .tc main_arg3))) (col1 (W3 m ρ c (Proc.devRef .tc main_v1_2))) (i 0) (i 1)) = _
  rw [W3_x, W3_g, W3_dh, W3_dr, W3_r, row1_cast]
  rfl

theorem W4_dg : (W4 m ρ c (Proc.devRef .tc main_v3_2) : S1x2048.Idx → EReal)
    = fun i => dgN (mat (arg0 m c)) (mat (arg2 m c)) (i 1) := by
  refine (W4_arr m ρ c 7).trans ((arr1_7 (V3 m ρ) c).trans ?_)
  show (fun i : S1x2048.Idx => dgG (mat (W3 m ρ c (Proc.devRef .tc main_arg0)))
    (mat (W3 m ρ c (Proc.devRef .tc main_arg2))) (col1 (W3 m ρ c (Proc.devRef .tc main_v1_2))) (i 1)) = _
  rw [W3_x, W3_dh, W3_r]
  rfl

theorem W5_dg : (W5 m ρ c (Proc.devRef .tc main_v4) : S2048.Idx → EReal)
    = fun i => dgN (mat (arg0 m c)) (mat (arg2 m c)) (i 0) := by
  have e : (W5 m ρ c (Proc.devRef .tc main_v4) : S2048.Idx → EReal)
      = shapeCast S2048 (W4 m ρ c (Proc.devRef .tc main_v3_2) : S1x2048.Idx → EReal) Facts₀.shapeCasts_S1x2048_S2048 := by
    unfold W5; after_reads_simp; rfl
  rw [e, W4_dg]
  funext i
  obtain ⟨j, rfl⟩ : ∃ j : Fin 2048, i = ix1 j := ⟨i 0, eq_ix1 i⟩
  refine shapeCast_apply _ _ (ix1 j) (ix2 0 j) ?_
  rw [Shape.rowMajor_val_two, Shape.rowMajor_val_one]
  show 0 * 2048 + j.val = j.val
  omega

theorem W5_h : (W5 m ρ c (Proc.devRef .tc main_v1_0) : S4096x2048.Idx → EReal)
    = fun i => hN (mat (arg0 m c)) (vec (arg1 m c)) (i 0) (i 1) :=
  (W5_of m ρ c main_v1_0 (by decide +kernel)).trans ((W4_of m ρ c main_v1_0 (by decide +kernel)).trans
    ((W3_of m ρ c main_v1_0 (by decide +kernel)).trans (W2_h m ρ c)))
theorem W5_hT : (W5 m ρ c (Proc.devRef .tc main_v1_1) : S2048x4096.Idx → EReal)
    = fun i => hN (mat (arg0 m c)) (vec (arg1 m c)) (i 1) (i 0) :=
  (W5_of m ρ c main_v1_1 (by decide +kernel)).trans ((W4_of m ρ c main_v1_1 (by decide +kernel)).trans
    ((W3_of m ρ c main_v1_1 (by decide +kernel)).trans (W2_hT m ρ c)))
theorem W5_dx : (W5 m ρ c (Proc.devRef .tc main_v3_0) : S4096x2048.Idx → EReal)
    = fun i => dxN (mat (arg0 m c)) (vec (arg1 m c)) (mat (arg2 m c)) (mat (arg3 m c)) (i 0) (i 1) :=
  (W5_of m ρ c main_v3_0 (by decide +kernel)).trans (W4_dx m ρ c)
theorem W5_dxm : (W5 m ρ c (Proc.devRef .tc main_v3_1) : S4096x2048.Idx → EReal)
    = fun i => dxN (mat (arg0 m c)) (vec (arg1 m c)) (mat (arg2 m c)) (mat (arg3 m c)) (i 0) (i 1) :=
  (W5_of m ρ c main_v3_1 (by decide +kernel)).trans (W4_dxm m ρ c)

end Cert.Nrm

end
-- ==== Proof.NormFinal.lean ====
/- The claims about the norm. -/
module

public import proofs.«01_k».proof.Defs
public import proofs.«01_k».proof.Proof.NormRun
public import proofs.«01_k».proof.Proof.NormVal
public import proofs.«01_k».proof.Proof.NormRef
public import proofs.«01_k».proof.Proof.Gen.Norm.Frame
public import proofs.«01_k».proof.Proof.Gen.NormReferenceIdeal.Run
public import Idealize.ShloMosaic.Adequacy
public import Idealize.ShloMosaic.Init

@[expose] public section

noncomputable section

namespace Cert.Nrm

open Idealize.ShloMosaic hiding ix1 ix2 ix3 ix4 eq_ix1 eq_ix2 eq_ix3 eq_ix4
open Idealize.ShloMosaic.ValueIdx Idealize.ShloMosaic.TcCoe Idealize.SL.Sem

section
variable (m : (ℓ : Loc Cert.NormIdeal.nD Cert.NormIdeal.τ Cert.NormIdeal.sig) → Buf (Elt Ideal) ℓ) (ρ : Dev Cert.NormIdeal.nD → PrngReg) (c : Dev Cert.NormIdeal.nD)

/-- Result 0 equals the reference's. -/
theorem same0 : (Cert.NormIdeal.Gen.W5 m ρ c (Proc.devRef .tc Cert.NormIdeal.main_v1_0) : FVec Ideal ⟨2, ![4096, 2048]⟩ .bf16)
    = Cert.NormReferenceIdeal.Read.val_main_v36 (F := Ideal) (arg0 m c) (arg1 m c) :=
  (W5_h m ρ c).trans (ref_h (arg0 m c) (arg1 m c)).symm

/-- Result 1 equals the reference's. -/
theorem same1 : (Cert.NormIdeal.Gen.W5 m ρ c (Proc.devRef .tc Cert.NormIdeal.main_v1_1) : FVec Ideal ⟨2, ![2048, 4096]⟩ .bf16)
    = Cert.NormReferenceIdeal.Read.val_main_v38 (F := Ideal) (arg0 m c) (arg1 m c) :=
  (W5_hT m ρ c).trans (ref_hT (arg0 m c) (arg1 m c)).symm

/-- Result 2 equals the reference's. -/
theorem same2 : (Cert.NormIdeal.Gen.W5 m ρ c (Proc.devRef .tc Cert.NormIdeal.main_v3_0) : FVec Ideal ⟨2, ![4096, 2048]⟩ .f32)
    = Cert.NormReferenceIdeal.Read.val_main_v39 (F := Ideal) (arg0 m c) (arg1 m c) (arg2 m c) (arg3 m c) :=
  (W5_dx m ρ c).trans (ref_dx (arg0 m c) (arg2 m c) (arg3 m c) (arg1 m c)).symm

/-- Result 3 equals the reference's. -/
theorem same3 : (Cert.NormIdeal.Gen.W5 m ρ c (Proc.devRef .tc Cert.NormIdeal.main_v3_1) : FVec Ideal ⟨2, ![4096, 2048]⟩ .bf16)
    = Cert.NormReferenceIdeal.Read.val_main_v41 (F := Ideal) (arg0 m c) (arg1 m c) (arg2 m c) (arg3 m c) :=
  (W5_dxm m ρ c).trans (ref_dxm (arg0 m c) (arg2 m c) (arg3 m c) (arg1 m c)).symm

/-- Result 4 equals the reference's. -/
theorem same4 : (Cert.NormIdeal.Gen.W5 m ρ c (Proc.devRef .tc Cert.NormIdeal.main_v4) : FVec Ideal ⟨1, ![2048]⟩ .f32)
    = Cert.NormReferenceIdeal.Read.val_main_v21 (F := Ideal) (arg0 m c) (arg2 m c) :=
  (W5_dg m ρ c).trans (ref_dg (arg0 m c) (arg2 m c)).symm

end

/-- The kernel runs without fault and leaves its arguments. -/
theorem frame_k : Cert.quiescent_Norm := fun m ρ _ => Cert.Norm.Gen.frame m ρ

/-- The idealised kernel runs without fault and leaves its arguments. -/
theorem frame_ki : Cert.quiescent_NormIdeal := fun m ρ _ => Cert.NormIdeal.Gen.frame m ρ

/-- The reference runs without fault and leaves its arguments. -/
theorem frame_r : Cert.quiescent_NormReferenceIdeal := fun m ρ _ =>
  (θ_run Cert.NormReferenceIdeal.defs _ _).mono (fun r h => ⟨fun c => (h c).2.2.2.2.2,
    Idealize.ShloMosaic.sem_eq_zero_of_no_sems (by decide) r.2⟩) (Cert.NormReferenceIdeal.Value.run (F := Ideal) m ρ)

/-- The idealised kernel is the kernel. -/
theorem preserves : Cert.preserves_Norm_NormIdeal := trivial

/-- The kernel's results are the reference's. -/
theorem algebraic : Cert.algebraic_NormIdeal_NormReferenceIdeal := by
  intro m ρ m' ρ' _ hagree
  refine ⟨fun c => Cert.NormReferenceIdeal.Read.val_main_v36 (F := Ideal) (arg0 m c) (arg1 m c),
    fun c => Cert.NormReferenceIdeal.Read.val_main_v38 (F := Ideal) (arg0 m c) (arg1 m c),
    fun c => Cert.NormReferenceIdeal.Read.val_main_v39 (F := Ideal) (arg0 m c) (arg1 m c) (arg2 m c) (arg3 m c),
    fun c => Cert.NormReferenceIdeal.Read.val_main_v41 (F := Ideal) (arg0 m c) (arg1 m c) (arg2 m c) (arg3 m c),
    fun c => Cert.NormReferenceIdeal.Read.val_main_v21 (F := Ideal) (arg0 m c) (arg2 m c), ?_, ?_⟩
  · exact (θ_run Cert.NormIdeal.defs _ _).mono (fun _ h c => ⟨(h c).1.trans (same0 m ρ c),
      (h c).2.1.trans (same1 m ρ c),
      (h c).2.2.1.trans (same2 m ρ c),
      (h c).2.2.2.1.trans (same3 m ρ c),
      (h c).2.2.2.2.1.trans (same4 m ρ c), (h c).2.2.2.2.2⟩) (run m ρ)
  · refine (θ_run Cert.NormReferenceIdeal.defs _ _).mono (fun _ h c => ?_) (Cert.NormReferenceIdeal.Value.run (F := Ideal) m' ρ')
    have e := hagree c
    refine ⟨(h c).1.trans ?_, (h c).2.1.trans ?_, (h c).2.2.1.trans ?_, (h c).2.2.2.1.trans ?_, (h c).2.2.2.2.1.trans ?_, (h c).2.2.2.2.2⟩
    · refine (Cert.NormReferenceIdeal.Read.val_main_v36_eq _ _).trans ?_
      rw [e.1, e.2.1]
    · refine (Cert.NormReferenceIdeal.Read.val_main_v38_eq _ _).trans ?_
      rw [e.1, e.2.1]
    · refine (Cert.NormReferenceIdeal.Read.val_main_v39_eq _ _ _ _).trans ?_
      rw [e.1, e.2.1, e.2.2.1, e.2.2.2]
    · refine (Cert.NormReferenceIdeal.Read.val_main_v41_eq _ _ _ _).trans ?_
      rw [e.1, e.2.1, e.2.2.1, e.2.2.2]
    · refine (Cert.NormReferenceIdeal.Read.val_main_v21_eq _ _).trans ?_
      rw [e.1, e.2.2.1]

end Cert.Nrm

end
-- ==== Proof.LossArr.lean ====
/- The arrays the loss head's call leaves, at an index. -/
module

public import proofs.«01_k».proof.Proof.NormModel
public import proofs.«01_k».proof.Proof.FeedArr0
public import proofs.«01_k».proof.Proof.Gen.LossIdeal.Frame
public import Idealize.ShloMosaic.Lib.Tactic
public import Idealize.ShloMosaic.Lib.StableHlo.RunRead

@[expose] public section

set_option maxRecDepth 16384

noncomputable section

namespace Cert.Lss

open Idealize.ShloMosaic hiding ix1 ix2 ix3 ix4 eq_ix1 eq_ix2 eq_ix3 eq_ix4
open Idealize.ShloMosaic.ValueIdx Idealize.ShloMosaic.TcCoe
open Cert.Feed (mat)
open Cert.LossIdeal Cert.LossIdeal.Gen

/-- One over the number of entries of a row, as the kernel writes it. -/
def icnt : EReal := Ideal.ofBits .f32 0x3A000000#32

/-- The gradient of an entry of the output. -/
def dyL (y t : Fin 4096 → Fin 2048 → EReal) (i : Fin 4096) (j : Fin 2048) : EReal := (y i j - t i j) * icnt

/-- The sum of squares of a row's errors. -/
def sqL (y t : Fin 4096 → Fin 2048 → EReal) (i : Fin 4096) : EReal := ∑ d, (y i d - t i d) * (y i d - t i d)

/-- The row of the arrays that row `a` of point `n`'s block is. -/
def row (n : ℕ) (a : Fin 512) : Fin 4096 := ⟨n % 8 * 512 + a.val, by omega⟩

theorem zeros2 : (![0, 0] : Fin 2 → ℕ) = fun _ => 0 := funext fun a => by fin_cases a <;> rfl

/-- The row sums of a block, as a column. -/
theorem sum_row (x : FVec Ideal S512x2048 .f32) (a : Fin 512) :
    shapeCast S512x1 (multiReduction .add [1] S512 x 0x00000000#32 Facts₀.reduces_S512x2048_S512 (.inl rfl) rfl)
        Facts₀.shapeCasts_S512_S512x1 (ix2 a 0) = ∑ d : Fin 2048, x (ix2 a d) := by
  rw [shapeCast_apply _ _ (ix2 a 0) (ix1 a) (by
    rw [Shape.rowMajor_val_two, Shape.rowMajor_val_one]; show a.val = a.val * 1 + 0; omega)]
  refine (Ideal.multiReduction_add_single x _ _ _ _ (ix1 a)).trans ?_
  refine Finset.sum_congr rfl fun d _ => congrArg x ?_
  funext b; match b with | ⟨0, _⟩ => rfl | ⟨1, _⟩ => rfl

/-- The sum of a column. -/
theorem sum_col (x : FVec Ideal S512x1 .f32) :
    shapeCast S1x1 (multiReduction .add [0] S1 x 0x00000000#32 Facts₀.reduces_S512x1_S1 (.inl rfl) rfl)
        Facts₀.shapeCasts_S1_S1x1 (ix2 0 0) = ∑ a : Fin 512, x (ix2 a 0) := by
  rw [shapeCast_apply _ _ (ix2 0 0) (ix1 0) (by
    rw [Shape.rowMajor_val_two, Shape.rowMajor_val_one]; rfl)]
  refine (Ideal.multiReduction_add_single x _ _ _ _ (ix1 0)).trans ?_
  refine Finset.sum_congr rfl fun d _ => congrArg x ?_
  funext e; match e with | ⟨0, _⟩ => rfl | ⟨1, _⟩ => rfl

/-- A number spread over a row. -/
theorem spread_one (x : FVec Ideal S1x1 .f32) (b : Fin 128) :
    broadcastTo S1x128 x Facts₀.broadcasts_S1x1_S1x128 (ix2 0 b) = x (ix2 0 0) := by
  refine broadcastTo_apply x _ _ _ fun e => ?_
  match e with
  | ⟨0, _⟩ => rfl
  | ⟨1, _⟩ => rfl

theorem map0_0 : ∀ t : Fin cfg0.N, cc0_transform_0 (cfg0.grid.coords t) 0 = t.val ∧ cc0_transform_0 (cfg0.grid.coords t) 1 = 0 := by
  decide +kernel
theorem map0_1 : ∀ t : Fin cfg0.N, cc0_transform_1 (cfg0.grid.coords t) 0 = t.val ∧ cc0_transform_1 (cfg0.grid.coords t) 1 = 0 := by
  decide +kernel
theorem map0_2 : ∀ t : Fin cfg0.N, cc0_transform_2 (cfg0.grid.coords t) 0 = t.val ∧ cc0_transform_2 (cfg0.grid.coords t) 1 = 0 := by
  decide +kernel
theorem map0_3 : ∀ t : Fin cfg0.N, cc0_transform_3 (cfg0.grid.coords t) 0 = t.val ∧ cc0_transform_3 (cfg0.grid.coords t) 1 = 0 := by
  decide +kernel
theorem map0_4 : ∀ t : Fin cfg0.N, cc0_transform_4 (cfg0.grid.coords t) 0 = 0 ∧ cc0_transform_4 (cfg0.grid.coords t) 1 = 0 := by
  decide +kernel

theorem blk0_0 (X : FVec Ideal S4096x2048 .f32) (t : Fin cfg0.N) (a : Fin 512) (b : Fin 2048) :
    (((cfg0.win 0).blk t).view.read (Elt Ideal) X : FVec Ideal S512x2048 .f32) (ix2 a b) = X (ix2 (row t.val a) b) := by
  rw [View.read_apply]
  refine congrArg X (funext fun e => Fin.ext ?_)
  have ht : t.val < 8 := t.isLt
  match e with
  | ⟨0, _⟩ =>
    show cc0_transform_0 (cfg0.grid.coords t) 0 * 512 + 1 * a.val = t.val % 8 * 512 + a.val
    rw [(map0_0 t).1]; omega
  | ⟨1, _⟩ =>
    show cc0_transform_0 (cfg0.grid.coords t) 1 * 2048 + 1 * b.val = b.val
    rw [(map0_0 t).2]; omega

theorem blk0_1 (X : FVec Ideal S4096x2048 .f32) (t : Fin cfg0.N) (a : Fin 512) (b : Fin 2048) :
    (((cfg0.win 1).blk t).view.read (Elt Ideal) X : FVec Ideal S512x2048 .f32) (ix2 a b) = X (ix2 (row t.val a) b) := by
  rw [View.read_apply]
  refine congrArg X (funext fun e => Fin.ext ?_)
  have ht : t.val < 8 := t.isLt
  match e with
  | ⟨0, _⟩ =>
    show cc0_transform_1 (cfg0.grid.coords t) 0 * 512 + 1 * a.val = t.val % 8 * 512 + a.val
    rw [(map0_1 t).1]; omega
  | ⟨1, _⟩ =>
    show cc0_transform_1 (cfg0.grid.coords t) 1 * 2048 + 1 * b.val = b.val
    rw [(map0_1 t).2]; omega

theorem emb0_2 (t : Fin cfg0.N) (a : Fin 512) (b : Fin 2048) :
    (((cfg0.win 2).blk t).view.emb (ix2 a b) : S4096x2048.Idx) = ix2 (row t.val a) b := by
  refine funext fun e => Fin.ext ?_
  have ht : t.val < 8 := t.isLt
  match e with
  | ⟨0, _⟩ =>
    show cc0_transform_2 (cfg0.grid.coords t) 0 * 512 + 1 * a.val = t.val % 8 * 512 + a.val
    rw [(map0_2 t).1]; omega
  | ⟨1, _⟩ =>
    show cc0_transform_2 (cfg0.grid.coords t) 1 * 2048 + 1 * b.val = b.val
    rw [(map0_2 t).2]; omega

theorem emb0_3 (t : Fin cfg0.N) (a : Fin 512) (b : Fin 2048) :
    (((cfg0.win 3).blk t).view.emb (ix2 a b) : S4096x2048.Idx) = ix2 (row t.val a) b := by
  refine funext fun e => Fin.ext ?_
  have ht : t.val < 8 := t.isLt
  match e with
  | ⟨0, _⟩ =>
    show cc0_transform_3 (cfg0.grid.coords t) 0 * 512 + 1 * a.val = t.val % 8 * 512 + a.val
    rw [(map0_3 t).1]; omega
  | ⟨1, _⟩ =>
    show cc0_transform_3 (cfg0.grid.coords t) 1 * 2048 + 1 * b.val = b.val
    rw [(map0_3 t).2]; omega

theorem emb0_4 (t : Fin cfg0.N) (b : Fin 128) :
    (((cfg0.win 4).blk t).view.emb (ix2 0 b) : S1x128.Idx) = ix2 0 b := by
  refine funext fun e => Fin.ext ?_
  match e with
  | ⟨0, _⟩ =>
    show cc0_transform_4 (cfg0.grid.coords t) 0 * 1 + 1 * 0 = 0
    rw [(map0_4 t).1]
  | ⟨1, _⟩ =>
    show cc0_transform_4 (cfg0.grid.coords t) 1 * 128 + 1 * b.val = b.val
    rw [(map0_4 t).2]; omega

section Pay
variable (x y : FVec Ideal S512x2048 .f32) (acc : FVec Ideal S1x128 .f32)

theorem pay0_4 (a : Fin 512) (b : Fin 2048) : (k0_pay4 (F := Ideal) x y (ix2 a b) : EReal)
    = ((x (ix2 a b) : EReal) - (y (ix2 a b) : EReal)) * icnt := rfl

theorem pay0_3 (b : Fin 128) : (k0_pay3 (F := Ideal) x y acc (ix2 0 b) : EReal)
    = (acc (ix2 0 b) : EReal) + ∑ a : Fin 512, ∑ d : Fin 2048,
      ((x (ix2 a d) : EReal) - (y (ix2 a d) : EReal)) * ((x (ix2 a d) : EReal) - (y (ix2 a d) : EReal)) := by
  unfold k0_pay3
  show (shapeCast S1x128 acc _ (ix2 0 b) : EReal) + (broadcastTo S1x128 (shapeCast S1x1 (multiReduction .add [0] S1
      (shapeCast S512x1 (multiReduction .add [1] S512 (mulf (k0_pay2 (F := Ideal) x y) (k0_pay2 (F := Ideal) x y)) 0x00000000#32 Facts₀.reduces_S512x2048_S512 (.inl rfl) rfl)
        Facts₀.shapeCasts_S512_S512x1) 0x00000000#32 Facts₀.reduces_S512x1_S1 (.inl rfl) rfl)
        Facts₀.shapeCasts_S1_S1x1) Facts₀.broadcasts_S1x1_S1x128 (ix2 0 b) : EReal) = _
  rw [spread_one, sum_col, shapeCast_self]
  exact congrArg (fun z : EReal => (acc (ix2 0 b) : EReal) + z) (Finset.sum_congr (M := EReal) rfl fun a _ => sum_row _ a)

end Pay

/-- A load of the whole carried sum reads what its stores left. -/
theorem readAcc {κ : Kind} {sp : Space} (v : View sig κ sp S1x128 .f32) (L : List (View.Piece (Elt Ideal) S1x128 .f32))
    (inb : ∀ a, (![0, 0] : Fin 2 → ℕ) a + (![1, 128] : Fin 2 → ℕ) a ≤ S1x128.size a) :
    v.readCov L (Rect.unit (s := S1x128) ![0, 0] ![1, 128] inb).toLoadRect = View.canon L := by
  rw [View.readCov_eq_canon']
  funext j
  exact congrArg (View.canon L) (funext fun a => Fin.ext (by
    show (![0, 0] : Fin 2 → ℕ) a + 1 * (j a).val = (j a).val
    rw [congrFun zeros2 a]; omega))

/-- A whole store decides what the carried sum's array holds. -/
theorem canonAcc {e : EltTy} (w : S1x128.Idx → Elt Ideal e) (L : List (View.Piece (Elt Ideal) S1x128 e))
    (inb : ∀ a, (![0, 0] : Fin 2 → ℕ) a + (![1, 128] : Fin 2 → ℕ) a ≤ S1x128.size a) :
    View.canon (⟨Rect.unit (s := S1x128) ![0, 0] ![1, 128] inb, w⟩ :: L) = w :=
  View.canon_cons_unit_zero (S := S1x128) zeros2 inb w L

/-- A whole store decides what a block's array holds. -/
theorem canonBlk {e : EltTy} (w : S512x2048.Idx → Elt Ideal e) (L : List (View.Piece (Elt Ideal) S512x2048 e))
    (inb : ∀ a, (![0, 0] : Fin 2 → ℕ) a + (![512, 2048] : Fin 2 → ℕ) a ≤ S512x2048.size a) :
    View.canon (⟨Rect.unit (s := S512x2048) ![0, 0] ![512, 2048] inb, w⟩ :: L) = w :=
  View.canon_cons_unit_zero (S := S512x2048) zeros2 inb w L

section Runs
variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S512x2048 .bf16) (harg4 : arg4.IsWhole) (arg5 : Memref sig .tc .vmem S1x128 .f32) (harg5 : arg5.IsWhole)
  (x0 : Vec Ideal S512x2048 .f32) (x1 : Vec Ideal S512x2048 .f32) (xo4 : Vec Ideal S1x128 .f32)

theorem run_A_2 (hc0 : cond0_0 i) :
    out0_A_2 (F := Ideal) c i arg1 harg1 arg2 harg2 arg3 harg3 arg4 harg4 arg5 harg5 hc0 x0 x1 = k0_pay4 (F := Ideal) x0 x1 := by
  unfold out0_A_2; rw [View.read_writes_junk_eq_canon]; unfold kernelRun0_A; dsimp only; sl_unfold_words
  simp only [View.readAt_eq_ld, harg1.read_unread, harg2.read_unread, harg5.read_unread, View.ld_unit_zero (S := S512x2048) zeros2, View.ld_unit_zero (S := S1x128) zeros2]
  simp only [canonAcc, canonBlk, readAcc]

theorem run_A_3 (hc0 : cond0_0 i) :
    out0_A_3 (F := Ideal) c i arg1 harg1 arg2 harg2 arg3 harg3 arg4 harg4 arg5 harg5 hc0 x0 x1 = k0_pay5 (F := Ideal) x0 x1 := by
  unfold out0_A_3; rw [View.read_writes_junk_eq_canon]; unfold kernelRun0_A; dsimp only; sl_unfold_words
  simp only [View.readAt_eq_ld, harg1.read_unread, harg2.read_unread, harg5.read_unread, View.ld_unit_zero (S := S512x2048) zeros2, View.ld_unit_zero (S := S1x128) zeros2]
  simp only [canonAcc, canonBlk, readAcc]

theorem run_A_4 (hc0 : cond0_0 i) :
    out0_A_4 (F := Ideal) c i arg1 harg1 arg2 harg2 arg3 harg3 arg4 harg4 arg5 harg5 hc0 x0 x1 = k0_pay3 (F := Ideal) x0 x1 (k0_pay1 (F := Ideal)) := by
  unfold out0_A_4; rw [View.read_writes_junk_eq_canon]; unfold kernelRun0_A; dsimp only; sl_unfold_words
  simp only [View.readAt_eq_ld, harg1.read_unread, harg2.read_unread, harg5.read_unread, View.ld_unit_zero (S := S512x2048) zeros2, View.ld_unit_zero (S := S1x128) zeros2]
  simp only [canonAcc, canonBlk, readAcc]

theorem run_B_2 (hc0 : ¬cond0_0 i) :
    out0_B_2 (F := Ideal) c i arg1 harg1 arg2 harg2 arg3 harg3 arg4 harg4 arg5 harg5 hc0 x0 x1 xo4 = k0_pay4 (F := Ideal) x0 x1 := by
  unfold out0_B_2; rw [View.read_writes_junk_eq_canon]; unfold kernelRun0_B; dsimp only; sl_unfold_words
  simp only [View.readAt_eq_ld, harg1.read_unread, harg2.read_unread, harg5.read_unread, View.ld_unit_zero (S := S512x2048) zeros2, View.ld_unit_zero (S := S1x128) zeros2]
  simp only [canonAcc, canonBlk, readAcc]

theorem run_B_3 (hc0 : ¬cond0_0 i) :
    out0_B_3 (F := Ideal) c i arg1 harg1 arg2 harg2 arg3 harg3 arg4 harg4 arg5 harg5 hc0 x0 x1 xo4 = k0_pay5 (F := Ideal) x0 x1 := by
  unfold out0_B_3; rw [View.read_writes_junk_eq_canon]; unfold kernelRun0_B; dsimp only; sl_unfold_words
  simp only [View.readAt_eq_ld, harg1.read_unread, harg2.read_unread, harg5.read_unread, View.ld_unit_zero (S := S512x2048) zeros2, View.ld_unit_zero (S := S1x128) zeros2]
  simp only [canonAcc, canonBlk, readAcc]

theorem run_B_4 (hc0 : ¬cond0_0 i) :
    out0_B_4 (F := Ideal) c i arg1 harg1 arg2 harg2 arg3 harg3 arg4 harg4 arg5 harg5 hc0 x0 x1 xo4 = k0_pay3 (F := Ideal) x0 x1 xo4 := by
  unfold out0_B_4; rw [View.read_writes_junk_eq_canon]; unfold kernelRun0_B; dsimp only; sl_unfold_words
  simp only [View.readAt_eq_ld, harg1.read_unread, harg2.read_unread, harg5.read_unread, View.ld_unit_zero (S := S512x2048) zeros2, View.ld_unit_zero (S := S1x128) zeros2]
  simp only [canonAcc, canonBlk, readAcc]

end Runs

variable (m : (ℓ : Loc nD τ sig) → Buf (Elt Ideal) ℓ) (c : Dev nD)

abbrev arg0 : FVec Ideal S4096x2048 .f32 := m ((c : Thread nD τ).loc main_arg0)
abbrev arg1 : FVec Ideal S4096x2048 .f32 := m ((c : Thread nD τ).loc main_arg1)

theorem in0 (t : Fin cfg0.N) (a : Fin 512) (b : Fin 2048) :
    ((iblk m c 0 t : FVec Ideal S512x2048 .f32) (ix2 a b) : EReal) = mat (arg0 m c) (row t.val a) b := blk0_0 (arg0 m c) t a b
theorem in1 (t : Fin cfg0.N) (a : Fin 512) (b : Fin 2048) :
    ((iblk m c 1 t : FVec Ideal S512x2048 .f32) (ix2 a b) : EReal) = mat (arg1 m c) (row t.val a) b := blk0_1 (arg1 m c) t a b

theorem val0_4 (t : Fin cfg0.N) (a : Fin 512) (b : Fin 2048) :
    (k0_pay4 (F := Ideal) (iblk m c 0 t) (iblk m c 1 t) (ix2 a b) : EReal) = dyL (mat (arg0 m c)) (mat (arg1 m c)) (row t.val a) b := by
  refine (pay0_4 _ _ a b).trans ?_
  rw [in0, in1]
  rfl

theorem outs_2 (t : Fin cfg0.N) : (outsAt0 m c t.val t.isLt).1 = k0_pay4 (F := Ideal) (iblk m c 0 t) (iblk m c 1 t) := by
  by_cases h0 : t.val % 8 = 0
  · rw [outsAt0_A m c t h0]; dsimp only; rw [run_A_2]
  · rw [outsAt0_B m c t h0]; dsimp only; rw [run_B_2]

theorem outs_3 (t : Fin cfg0.N) : (outsAt0 m c t.val t.isLt).2.1 = k0_pay5 (F := Ideal) (iblk m c 0 t) (iblk m c 1 t) := by
  by_cases h0 : t.val % 8 = 0
  · rw [outsAt0_A m c t h0]; dsimp only; rw [run_A_3]
  · rw [outsAt0_B m c t h0]; dsimp only; rw [run_B_3]

/-- The gradient of the output. -/
theorem arr0_2 : (dats (F := Ideal) m 0 c).arrAt 2 cfg0.N
    = fun i : S4096x2048.Idx => dyL (mat (arg0 m c)) (mat (arg1 m c)) (i 0) (i 1) := by
  refine (dats (F := Ideal) m 0 c).arrAt_eq_of_covers 2 _ (by decide +kernel) fun t hf y => ?_
  obtain ⟨a, b, rfl⟩ : ∃ (a : Fin 512) (b : Fin 2048), y = ix2 a b := ⟨y 0, y 1, eq_ix2 y⟩
  rw [emb0_2]
  refine (congrFun (after0_2 m c t) (ix2 a b)).trans ?_
  rw [outs_2]
  exact val0_4 m c t a b

/-- Its rounded copy. -/
theorem arr0_3 : (dats (F := Ideal) m 0 c).arrAt 3 cfg0.N
    = fun i : S4096x2048.Idx => dyL (mat (arg0 m c)) (mat (arg1 m c)) (i 0) (i 1) := by
  refine (dats (F := Ideal) m 0 c).arrAt_eq_of_covers 3 _ (by decide +kernel) fun t hf y => ?_
  obtain ⟨a, b, rfl⟩ : ∃ (a : Fin 512) (b : Fin 2048), y = ix2 a b := ⟨y 0, y 1, eq_ix2 y⟩
  rw [emb0_3]
  refine (congrFun (after0_3 m c t) (ix2 a b)).trans ?_
  rw [outs_3]
  exact val0_4 m c t a b

/-- What point `t` adds to the carried sum. -/
def term (t : Fin cfg0.N) (j : S1x128.Idx) : EReal := ∑ a : Fin 512, sqL (mat (arg0 m c)) (mat (arg1 m c)) (row t.val a)

theorem step_apply (t : Fin cfg0.N) (acc : Vec Ideal S1x128 .f32) (j : S1x128.Idx) :
    (k0_pay3 (F := Ideal) (iblk m c 0 t) (iblk m c 1 t) acc j : EReal) = (acc j : EReal) + term m c t j := by
  obtain ⟨z, b, rfl⟩ : ∃ (z : Fin 1) (b : Fin 128), j = ix2 z b := ⟨j 0, j 1, eq_ix2 j⟩
  obtain rfl : z = 0 := Subsingleton.elim _ _
  refine (pay0_3 _ _ _ b).trans ?_
  simp only [in0, in1]
  rfl

theorem first (t : Fin cfg0.N) (h0 : t.val % 8 = 0) (j : S1x128.Idx) :
    ((outsAt0 m c t.val t.isLt).2.2 j : EReal) = 0 + term m c t j := by
  rw [outsAt0_A m c t h0]
  dsimp only
  rw [run_A_4]
  refine (step_apply m c t _ j).trans (congrArg (· + term m c t j) ?_)
  exact Ideal.ofBits_zero_f32

theorem next (t : Fin cfg0.N) (h0 : ¬t.val % 8 = 0) (j : S1x128.Idx) :
    ((outsAt0 m c t.val t.isLt).2.2 j : EReal)
      = ((outsAt0 m c (t.val - 1) (Nat.lt_of_le_of_lt (Nat.sub_le _ _) t.isLt)).2.2 j : EReal) + term m c t j := by
  rw [outsAt0_B m c t h0]
  dsimp only
  rw [run_B_4]
  exact step_apply m c t _ j

theorem out_sum (t : Fin cfg0.N) (h1 : t.val % 8 = 7) (j : S1x128.Idx) : ((outsAt0 m c t.val t.isLt).2.2 j : EReal)
    = ∑ s : Fin 8, term m c ⟨8 * (t.val / 8) + s.val, Pipeline.run_point_lt_of_flush t h1 s⟩ j := by
  refine (Pipeline.eq_sum_fin_of_reset_step_apply_of_flush (M := EReal) (fun n h => (outsAt0 m c n h).2.2) 8 (fun _ => 0) (term m c)
    (fun t h0 j => first m c t h0 j) (fun t h0 j => next m c t h0 j) t h1 j).trans ?_
  exact zero_add _

/-- The sum of the squares of all errors. -/
theorem arr0_4 : (dats (F := Ideal) m 0 c).arrAt 4 cfg0.N
    = fun _ : S1x128.Idx => ∑ i, sqL (mat (arg0 m c)) (mat (arg1 m c)) i := by
  refine (dats (F := Ideal) m 0 c).arrAt_eq_of_covers 4 _ (by decide +kernel) fun t hf y => ?_
  obtain ⟨z, b, rfl⟩ : ∃ (z : Fin 1) (b : Fin 128), y = ix2 z b := ⟨y 0, y 1, eq_ix2 y⟩
  obtain rfl : z = 0 := Subsingleton.elim _ _
  have h1 : t.val % 8 = 7 := (flush0_4 t).1 hf
  refine (congrFun (after0_4 m c t) (ix2 0 b)).trans ((out_sum m c t h1 (ix2 0 b)).trans ?_)
  refine Eq.trans ?_ (Fin.sum_mul_add_fin 8 512 (sqL (mat (arg0 m c)) (mat (arg1 m c))))
  refine Finset.sum_congr (M := EReal) rfl fun s _ => Finset.sum_congr (M := EReal) rfl fun a _ => ?_
  have hs : s.val < 8 := s.isLt
  have hr : row (8 * (t.val / 8) + s.val) a = ⟨s.val * 512 + a.val, by omega⟩ := Fin.ext (by
    show (8 * (t.val / 8) + s.val) % 8 * 512 + a.val = s.val * 512 + a.val; omega)
  exact congrArg (sqL (mat (arg0 m c)) (mat (arg1 m c))) hr

end Cert.Lss

end
-- ==== Proof.LossFinal.lean ====
/- The claims about the loss head. -/
module

public import proofs.«01_k».proof.Defs
public import proofs.«01_k».proof.Proof.LossArr
public import proofs.«01_k».proof.Proof.Gen.Loss.Frame
public import proofs.«01_k».proof.Proof.Gen.LossReferenceIdeal.Run
public import proofs.«01_k».proof.Proof.Gen.LossReferenceIdeal.Read
public import Idealize.ShloMosaic.Adequacy
public import Idealize.ShloMosaic.Init

@[expose] public section

set_option maxRecDepth 16384

noncomputable section

namespace Cert.Lss

open Idealize.ShloMosaic hiding ix1 ix2 ix3 ix4 eq_ix1 eq_ix2 eq_ix3 eq_ix4
open Idealize.ShloMosaic.ValueIdx Idealize.ShloMosaic.TcCoe Idealize.SL.Sem
open Cert.Feed (mat)
open Cert.Nrm (cnt cnt_eq div_cnt)

/-- One half, as the reference writes it. -/
def half : EReal := Ideal.ofBits .f32 0x3F000000#32
/-- One half over the number of entries of a row, as the kernel writes it. -/
def hcnt : EReal := Ideal.ofBits .f32 0x39800000#32
/-- Two, as the reference writes it. -/
def two : EReal := Ideal.ofBits .f32 0x40000000#32
/-- One, as the reference writes it. -/
def one : EReal := Ideal.ofBits .f32 0x3F800000#32

theorem icnt_eq : icnt = ((1 / 2048 : ℝ) : EReal) := by
  unfold icnt; simp [Ideal.ofBits, Ideal.ieee, -EReal.coe_mul]; norm_num
theorem half_eq : half = ((1 / 2 : ℝ) : EReal) := by
  unfold half; simp [Ideal.ofBits, Ideal.ieee, -EReal.coe_mul]; norm_num
theorem hcnt_eq : hcnt = ((1 / 4096 : ℝ) : EReal) := by
  unfold hcnt; simp [Ideal.ofBits, Ideal.ieee, -EReal.coe_mul]; norm_num
theorem two_eq : two = ((2 : ℝ) : EReal) := by
  unfold two; simp [Ideal.ofBits, Ideal.ieee, -EReal.coe_mul]; norm_num
theorem one_eq : one = ((1 : ℝ) : EReal) := Ideal.ofBits_one_f32.trans EReal.coe_one.symm

/-- The loss: the sum of all squares by the constant is half the sum of the rows' means. -/
theorem loss_eq {n : ℕ} (s : Fin n → EReal) : (∑ i, s i) * hcnt = half * ∑ i, Ideal.div (s i) cnt := by
  have e : (∑ i, Ideal.div (s i) cnt) = (∑ i, s i) * ((1 / 2048 : ℝ) : EReal) := by
    rw [Cert.AttnF.sum_mul_real _ _ (by norm_num)]
    exact Finset.sum_congr rfl fun i _ => div_cnt (s i)
  rw [e, half_eq, hcnt_eq, mul_left_comm, ← EReal.coe_mul]
  norm_num

/-- The gradient: the reference's constants are the kernel's. -/
theorem grad_eq (z : EReal) : z * icnt = Ideal.div (half * one) cnt * (two * z) := by
  rw [div_cnt, half_eq, one_eq, two_eq, icnt_eq, ← mul_assoc, ← EReal.coe_mul, ← EReal.coe_mul, ← EReal.coe_mul, mul_comm]
  norm_num

section Ref
open Cert.LossReferenceIdeal Cert.LossReferenceIdeal.Read
variable (x0 x1 : FVec Ideal ⟨2, ![4096, 2048]⟩ .f32)

theorem ref_v4 (i : Fin 4096) : (val_main_v4 (F := Ideal) x0 x1 (ix1 i) : EReal) = sqL (mat x0) (mat x1) i := by
  refine (val_main_v4_apply x0 x1 _).trans ?_
  refine (congrArg (· + _) (show (_ : EReal) = 0 from Ideal.ofBits_zero_f32)).trans ((zero_add _).trans ?_)
  refine Finset.sum_congr (M := EReal) rfl fun d _ => ?_
  refine congrArg (val_main_v1 (F := Ideal) x0 x1) (show _ = ix2 i d from funext fun a => ?_)
  match a with
  | ⟨0, _⟩ => rfl
  | ⟨1, _⟩ => rfl

theorem ref_v6 (i : Fin 4096) : (val_main_v6 (F := Ideal) x0 x1 (ix1 i) : EReal) = Ideal.div (sqL (mat x0) (mat x1) i) cnt := by
  have e5 : (val_main_v5 (F := Ideal) (ix1 i) : EReal) = cnt := val_main_v5_apply (F := Ideal) _
  show Ideal.div (val_main_v4 (F := Ideal) x0 x1 (ix1 i) : EReal) (val_main_v5 (F := Ideal) (ix1 i)) = _
  rw [ref_v4, e5]

/-- The indices of an array of one axis are its positions. -/
def pos : S4096.Idx ≃ Fin 4096 := ⟨fun j => j 0, fun i => ix1 i, fun j => (eq_ix1 j).symm, fun _ => rfl⟩

/-- The loss. -/
theorem ref_loss : val_main_v8 (F := Ideal) x0 x1 = fun _ => (∑ i, sqL (mat x0) (mat x1) i) * hcnt := by
  funext j
  have e7 : (val_main_v7 (F := Ideal) x0 x1 j : EReal) = ∑ i : Fin 4096, Ideal.div (sqL (mat x0) (mat x1) i) cnt := by
    refine (val_main_v7_apply x0 x1 _).trans ?_
    refine (congrArg (· + _) (show (_ : EReal) = 0 from Ideal.ofBits_zero_f32)).trans ((zero_add _).trans ?_)
    refine Fintype.sum_equiv (M := EReal) pos _ _ fun k => ?_
    obtain ⟨i, rfl⟩ : ∃ i : Fin 4096, k = ix1 i := ⟨k 0, eq_ix1 k⟩
    exact ref_v6 x0 x1 i
  show half * (val_main_v7 (F := Ideal) x0 x1 j : EReal) = _
  rw [e7, loss_eq]

theorem ref_v14 (i : Fin 4096) (j : Fin 2048) : (val_main_v14 (F := Ideal) x0 x1 (ix2 i j) : EReal) = dyL (mat x0) (mat x1) i j := by
  have e2 : (val_main_v2 (F := Ideal) (ix2 i j) : EReal) = two := val_main_v2_apply (F := Ideal) _
  have e10 : ∀ k, (val_main_v10 (F := Ideal) k : EReal) = half * one := fun k => val_main_v10_apply (F := Ideal) k
  have e11 : ∀ k, (val_main_v11 (F := Ideal) k : EReal) = cnt := fun k => val_main_v11_apply (F := Ideal) k
  have e13 : (val_main_v13 (F := Ideal) (ix2 i j) : EReal) = Ideal.div (half * one) cnt := by
    refine (val_main_v13_apply (F := Ideal) _).trans ?_
    show Ideal.div (val_main_v10 (F := Ideal) _ : EReal) (val_main_v11 (F := Ideal) _) = _
    rw [e10, e11]
  show (val_main_v13 (F := Ideal) (ix2 i j) : EReal) * ((val_main_v2 (F := Ideal) (ix2 i j) : EReal) * ((x0 (ix2 i j) : EReal) - (x1 (ix2 i j) : EReal))) = _
  rw [e13, e2]
  exact (grad_eq _).symm

/-- The gradient of the output. -/
theorem ref_dx : val_main_v14 (F := Ideal) x0 x1 = fun i => dyL (mat x0) (mat x1) (i 0) (i 1) := by
  funext i
  obtain ⟨t, j, rfl⟩ : ∃ (t : Fin 4096) (j : Fin 2048), i = ix2 t j := ⟨i 0, i 1, eq_ix2 i⟩
  exact ref_v14 x0 x1 t j

/-- Its rounded copy. -/
theorem ref_dxm : val_main_v15 (F := Ideal) x0 x1 = fun i => dyL (mat x0) (mat x1) (i 0) (i 1) := by
  funext i
  obtain ⟨t, j, rfl⟩ : ∃ (t : Fin 4096) (j : Fin 2048), i = ix2 t j := ⟨i 0, i 1, eq_ix2 i⟩
  exact ref_v14 x0 x1 t j

end Ref

section Run
open Cert.LossIdeal Cert.LossIdeal.Gen
variable (m : (ℓ : Loc nD τ sig) → Buf (Elt Ideal) ℓ) (ρ : Dev nD → PrngReg) (c : Dev nD)

/-- What the host leaves as the loss. -/
theorem tail_loss : (Pipeline.afterTail₀ cfgs (dats (F := Ideal) m) 0 (V0 m) [hostOps1] c main_v3 : S_.Idx → EReal)
    = fun _ => (∑ i, sqL (mat (arg0 m c)) (mat (arg1 m c)) i) * hcnt := by
  have e : ∀ Z : Valuation τ sig (Elt Ideal), (StableHlo.after [hostOps1].flatten Z (Proc.devRef .tc main_v3) : S_.Idx → EReal)
      = (mulf (shapeCast S_ (extractStridedSlice S1x1 ![0, 0] (Z (Proc.devRef .tc main_v0_2) : FVec Ideal S1x128 .f32) Facts₀.slices_S1x128_S1x1_0_0) Facts₀.shapeCasts_S1x1_S_)
        (constant S_ .f32 0x39800000#32) : FVec Ideal S_ .f32) := by
    intro Z
    after_reads_simp
    rfl
  refine (e _).trans ?_
  rw [show (Pipeline.withArrays (cfgs 0).spec c (V0 m c) (fun w => (dats (F := Ideal) m 0 c).arrAt w (cfgs 0).N) (Proc.devRef .tc main_v0_2) : S1x128.Idx → EReal)
    = fun _ => ∑ i, sqL (mat (arg0 m c)) (mat (arg1 m c)) i from (Pipeline.withArrays_arr spec0 winFacts0.arr_inj c _ _ 4).trans (arr0_4 m c)]
  funext j
  refine congrArg (fun z : EReal => z * hcnt) ?_
  refine (shapeCast_apply _ _ j (ix2 0 0) ?_).trans (extractStridedSlice_apply _ _ _ _ (ix2 0 0) fun a => ?_)
  · have h := (S_.rowMajor j).isLt
    have h1 : S_.numel = 1 := by decide
    rw [Shape.rowMajor_val_two]
    show 0 * 1 + 0 = _
    omega
  · match a with
    | ⟨0, _⟩ => rfl
    | ⟨1, _⟩ => rfl

/-- The program's run: its three results, its arguments unchanged. -/
theorem run : θ_run defs (onTc (τ := τ) (main (F := Ideal))) ⟨m, fun _ => 0, ρ⟩ (fun r => ∀ c : Dev nD,
      r.2.mem ((c.tc : Thread nD τ).loc main_v3) = (fun _ : S_.Idx => (∑ i, sqL (mat (arg0 m c)) (mat (arg1 m c)) i) * hcnt)
      ∧ r.2.mem ((c.tc : Thread nD τ).loc main_v0_0) = (fun i : S4096x2048.Idx => dyL (mat (arg0 m c)) (mat (arg1 m c)) (i 0) (i 1))
      ∧ r.2.mem ((c.tc : Thread nD τ).loc main_v0_1) = (fun i : S4096x2048.Idx => dyL (mat (arg0 m c)) (mat (arg1 m c)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 (by decide) (by decide))).trans (tail_loss m c),
      ((h c).1 2).trans (arr0_2 m c), ((h c).1 3).trans (arr0_3 m c),
      ((h c).1 0).trans (((dats (F := Ideal) m 0 c).arrAt_in 0 rfl _).trans ((A_eq m c 0).trans (V_main_arg0 m c))),
      ((h c).1 1).trans (((dats (F := Ideal) m 0 c).arrAt_in 1 rfl _).trans ((A_eq m c 1).trans (V_main_arg1 m c)))⟩)
    (run_main m ρ)

end Run

/-- The kernel runs without fault and leaves its arguments. -/
theorem frame_k : Cert.quiescent_Loss := fun m ρ _ => Cert.Loss.Gen.frame m ρ

/-- The idealised kernel runs without fault and leaves its arguments. -/
theorem frame_ki : Cert.quiescent_LossIdeal := fun m ρ _ => Cert.LossIdeal.Gen.frame m ρ

/-- The reference runs without fault and leaves its arguments. -/
theorem frame_r : Cert.quiescent_LossReferenceIdeal := fun m ρ _ =>
  (θ_run Cert.LossReferenceIdeal.defs _ _).mono (fun r h => ⟨fun c => (h c).2.2.2,
    Idealize.ShloMosaic.sem_eq_zero_of_no_sems (by decide) r.2⟩) (Cert.LossReferenceIdeal.Value.run (F := Ideal) m ρ)

/-- The idealised kernel is the kernel. -/
theorem preserves : Cert.preserves_Loss_LossIdeal := trivial

/-- The kernel's results are the reference's. -/
theorem algebraic : Cert.algebraic_LossIdeal_LossReferenceIdeal := by
  intro m ρ m' ρ' _ hagree
  refine ⟨fun c => Cert.LossReferenceIdeal.Read.val_main_v8 (F := Ideal) (arg0 m c) (arg1 m c),
    fun c => Cert.LossReferenceIdeal.Read.val_main_v14 (F := Ideal) (arg0 m c) (arg1 m c),
    fun c => Cert.LossReferenceIdeal.Read.val_main_v15 (F := Ideal) (arg0 m c) (arg1 m c), ?_, ?_⟩
  · exact (θ_run Cert.LossIdeal.defs _ _).mono (fun _ h c => ⟨(h c).1.trans (ref_loss (arg0 m c) (arg1 m c)).symm,
      (h c).2.1.trans (ref_dx (arg0 m c) (arg1 m c)).symm,
      (h c).2.2.1.trans (ref_dxm (arg0 m c) (arg1 m c)).symm, (h c).2.2.2⟩) (run m ρ)
  · refine (θ_run Cert.LossReferenceIdeal.defs _ _).mono (fun _ h c => ?_) (Cert.LossReferenceIdeal.Value.run (F := Ideal) m' ρ')
    have e := hagree c
    refine ⟨(h c).1.trans ?_, (h c).2.1.trans ?_, (h c).2.2.1.trans ?_, (h c).2.2.2⟩
    · refine (Cert.LossReferenceIdeal.Read.val_main_v8_eq _ _).trans ?_
      rw [e.1, e.2]
    · refine (Cert.LossReferenceIdeal.Read.val_main_v14_eq _ _).trans ?_
      rw [e.1, e.2]
    · refine (Cert.LossReferenceIdeal.Read.val_main_v15_eq _ _).trans ?_
      rw [e.1, e.2]

end Cert.Lss

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.On_written
public import proofs.«01_k».proof.Proof.Final
public import proofs.«01_k».proof.Proof.FeedFinal
public import proofs.«01_k».proof.Proof.InFinal
public import proofs.«01_k».proof.Proof.ProdOutFinal
public import proofs.«01_k».proof.Proof.ProdAFinal
public import proofs.«01_k».proof.Proof.ProdBFinal
public import proofs.«01_k».proof.Proof.AttnFFinal
public import proofs.«01_k».proof.Proof.NormFinal
public import proofs.«01_k».proof.Proof.LossFinal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnInput
public import proofs.«01_k».proof.Proof.Gen.FfnInput.Skeleton
public import proofs.«01_k».proof.Proof.Gen.FfnInput.Launch
public import proofs.«01_k».proof.Proof.Gen.FfnInput.Points
public import proofs.«01_k».proof.Proof.Gen.FfnInput.Frame
public import proofs.«01_k».proof.Proof.Gen.FfnInputIdeal
public import proofs.«01_k».proof.Proof.Gen.FfnInputIdeal.Skeleton
public import proofs.«01_k».proof.Proof.Gen.FfnInputIdeal.Launch
public import proofs.«01_k».proof.Proof.Gen.FfnInputIdeal.Points
public import proofs.«01_k».proof.Proof.Gen.FfnInputIdeal.Frame
public import proofs.«01_k».proof.Proof.Gen.FfnInputIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.FfnInputReferenceIdeal
public import proofs.«01_k».proof.Proof.Gen.FfnInputReferenceIdeal.Run
public import proofs.«01_k».proof.Proof.Gen.FfnInputReferenceIdeal.Read
public import proofs.«01_k».proof.Proof.Gen.Pre_finite2
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutReferenceIdeal
public import proofs.«01_k».proof.Proof.Gen.OutReferenceIdeal.Run
public import proofs.«01_k».proof.Proof.Gen.OutReferenceIdeal.Read
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.InAReferenceIdeal
public import proofs.«01_k».proof.Proof.Gen.InAReferenceIdeal.Run
public import proofs.«01_k».proof.Proof.Gen.InAReferenceIdeal.Read
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.InBReferenceIdeal
public import proofs.«01_k».proof.Proof.Gen.InBReferenceIdeal.Run
public import proofs.«01_k».proof.Proof.Gen.InBReferenceIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdReferenceIdeal
public import proofs.«01_k».proof.Proof.Gen.AttnFwdReferenceIdeal.Run
public import proofs.«01_k».proof.Proof.Gen.AttnFwdReferenceIdeal.Read
public import proofs.«01_k».proof.Proof.Gen.Pre_finite7
public import proofs.«01_k».proof.Proof.Gen.On_written7
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossReferenceIdeal
public import proofs.«01_k».proof.Proof.Gen.LossReferenceIdeal.Run
public import proofs.«01_k».proof.Proof.Gen.LossReferenceIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.FfnInput.Gen.facts, Cert.FfnInputIdeal.Gen.facts, Cert.FfnInputReferenceIdeal.Gen.facts,
  Cert.Out.Gen.facts, Cert.OutIdeal.Gen.facts, Cert.OutReferenceIdeal.Gen.facts,
  Cert.InA.Gen.facts, Cert.InAIdeal.Gen.facts, Cert.InAReferenceIdeal.Gen.facts,
  Cert.InB.Gen.facts, Cert.InBIdeal.Gen.facts, Cert.InBReferenceIdeal.Gen.facts,
  Cert.AttnFwd.Gen.facts, Cert.AttnFwdIdeal.Gen.facts, Cert.AttnFwdReferenceIdeal.Gen.facts,
  Cert.Norm.Gen.facts, Cert.NormIdeal.Gen.facts, Cert.NormReferenceIdeal.Gen.facts,
  Cert.Loss.Gen.facts, Cert.LossIdeal.Gen.facts, Cert.LossReferenceIdeal.Gen.facts,
  Cert.Pre_finite.Gen.facts, Cert.Pre_finite2.Gen.facts, Cert.Pre_finite7.Gen.facts, Cert.On_written.Gen.facts, Cert.On_written7.Gen.facts,
  Cert.Attn.frame_k, Cert.Attn.frame_ki, Cert.Attn.frame_kif, Cert.Attn.frame_r, Cert.Attn.frame_rf,
  Cert.Feed.frame_k, Cert.Feed.frame_ki, Cert.Feed.frame_kif, Cert.Feed.frame_r, Cert.Feed.frame_rf,
  Cert.FeedIn.frame_k, Cert.FeedIn.frame_ki, Cert.FeedIn.frame_r,
  Cert.ProdOut.frame_k, Cert.ProdOut.frame_ki, Cert.ProdOut.frame_r,
  Cert.ProdA.frame_k, Cert.ProdA.frame_ki, Cert.ProdA.frame_r,
  Cert.ProdB.frame_k, Cert.ProdB.frame_ki, Cert.ProdB.frame_r,
  Cert.AttnF.frame_k, Cert.AttnF.frame_ki, Cert.AttnF.frame_kif, Cert.AttnF.frame_r, Cert.AttnF.frame_rf,
  Cert.Nrm.frame_k, Cert.Nrm.frame_ki, Cert.Nrm.frame_r,
  Cert.Lss.frame_k, Cert.Lss.frame_ki, Cert.Lss.frame_r,
  Cert.Attn.preserves, Cert.Attn.algebraic, Cert.Feed.preserves, Cert.Feed.algebraic,
  Cert.FeedIn.preserves, Cert.FeedIn.algebraic, Cert.ProdOut.preserves, Cert.ProdOut.algebraic,
  Cert.ProdA.preserves, Cert.ProdA.algebraic, Cert.ProdB.preserves, Cert.ProdB.algebraic,
  Cert.AttnF.preserves, Cert.AttnF.algebraic,
  Cert.Nrm.preserves, Cert.Nrm.algebraic,
  Cert.Lss.preserves, Cert.Lss.algebraic⟩

end Cert.Proof

end
